-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v129_0)) (v1 : (c : Dev Cert.KernelIdeal.nD) → Buf (Elt Ideal) ((c.tc : Thread Cert.KernelIdeal.nD Cert.KernelIdeal.τ).loc Cert.KernelIdeal.main_v129_1)) (v2 : (c : Dev Cert.KernelIdeal.nD) → Buf (Elt Ideal) ((c.tc : Thread Cert.KernelIdeal.nD Cert.KernelIdeal.τ).loc Cert.KernelIdeal.main_v129_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129_0) = v0 c
          ∧ r.2.mem ((c.tc : Thread Cert.KernelIdeal.nD Cert.KernelIdeal.τ).loc Cert.KernelIdeal.main_v129_1) = v1 c
          ∧ r.2.mem ((c.tc : Thread Cert.KernelIdeal.nD Cert.KernelIdeal.τ).loc Cert.KernelIdeal.main_v129_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)) (v4 : (c : Dev Cert.Kernel2Ideal.nD) → Buf (Elt Ideal) ((c.tc : Thread Cert.Kernel2Ideal.nD Cert.Kernel2Ideal.τ).loc Cert.Kernel2Ideal.main_v3_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_v3_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_v54) = v1 c
          ∧ r.2.mem ((c.tc : Thread Cert.Reference2Ideal.nD Cert.Reference2Ideal.τ).loc Cert.Reference2Ideal.main_v53) = v2 c
          ∧ r.2.mem ((c.tc : Thread Cert.Reference2Ideal.nD Cert.Reference2Ideal.τ).loc Cert.Reference2Ideal.main_v55) = v3 c
          ∧ r.2.mem ((c.tc : Thread Cert.Reference2Ideal.nD Cert.Reference2Ideal.τ).loc Cert.Reference2Ideal.main_v57) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v15_0)) (v1 : (c : Dev Cert.Kernel4Ideal.nD) → Buf (Elt Ideal) ((c.tc : Thread Cert.Kernel4Ideal.nD Cert.Kernel4Ideal.τ).loc Cert.Kernel4Ideal.main_v15_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15_0) = v0 c
          ∧ r.2.mem ((c.tc : Thread Cert.Kernel4Ideal.nD Cert.Kernel4Ideal.τ).loc Cert.Kernel4Ideal.main_v15_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v40) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v15_0)) (v1 : (c : Dev Cert.Kernel5Ideal.nD) → Buf (Elt Ideal) ((c.tc : Thread Cert.Kernel5Ideal.nD Cert.Kernel5Ideal.τ).loc Cert.Kernel5Ideal.main_v15_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15_0) = v0 c
          ∧ r.2.mem ((c.tc : Thread Cert.Kernel5Ideal.nD Cert.Kernel5Ideal.τ).loc Cert.Kernel5Ideal.main_v15_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v45) = v0 c
          ∧ r.2.mem ((c.tc : Thread Cert.Reference5Ideal.nD Cert.Reference5Ideal.τ).loc Cert.Reference5Ideal.main_v46) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_v5) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)) (v3 : (c : Dev Cert.Kernel7Ideal.nD) → Buf (Elt Ideal) ((c.tc : Thread Cert.Kernel7Ideal.nD Cert.Kernel7Ideal.τ).loc Cert.Kernel7Ideal.main_v2_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_v2_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v27) = v1 c
          ∧ r.2.mem ((c.tc : Thread Cert.Reference7Ideal.nD Cert.Reference7Ideal.τ).loc Cert.Reference7Ideal.main_v8) = v2 c
          ∧ r.2.mem ((c.tc : Thread Cert.Reference7Ideal.nD Cert.Reference7Ideal.τ).loc Cert.Reference7Ideal.main_v14) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)) (v3 : (c : Dev Cert.Kernel8Ideal.nD) → Buf (Elt Ideal) ((c.tc : Thread Cert.Kernel8Ideal.nD Cert.Kernel8Ideal.τ).loc Cert.Kernel8Ideal.main_v2_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_v2_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_v28) = v1 c
          ∧ r.2.mem ((c.tc : Thread Cert.Reference8Ideal.nD Cert.Reference8Ideal.τ).loc Cert.Reference8Ideal.main_v9) = v2 c
          ∧ r.2.mem ((c.tc : Thread Cert.Reference8Ideal.nD Cert.Reference8Ideal.τ).loc Cert.Reference8Ideal.main_v15) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v68) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite_inputs.lean ====
abbrev S4096x1024 : Shape := ⟨2, ![4096, 1024]⟩
abbrev S4096x8 : Shape := ⟨2, ![4096, 8]⟩
abbrev S8 : Shape := ⟨1, ![8]⟩
abbrev S64x8x128x128 : Shape := ⟨4, ![64, 8, 128, 128]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S8 : S_.BroadcastsInDim S8 (![] : Fin 0 → Fin S8.rank)
  reducesTo_S8_S_d0 : S8.ReducesTo [0] S_
  bcast_S_S64x8x128x128 : S_.BroadcastsInDim S64x8x128x128 (![] : Fin 0 → Fin S64x8x128x128.rank)
  reducesTo_S64x8x128x128_S_d0_1_2_3 : S64x8x128x128.ReducesTo [0, 1, 2, 3] S_

variable [Facts]

def fn_part2 {F : FTy → Type} [FloatOps F] (main_arg7 : FVec F S64x8x128x128 .f32) (main_arg8 : FVec F S4096x1024 .f32) (main_v33 : IVec S_ 1) : IVec S_ 1 :=
  let main_v34 : FVec F S64x8x128x128 .f32 := Host.absf main_arg7
  let main_cst_12 : FVec F S_ .f32 := constant S_ .f32 0x7F800000#32
  let main_v35 : FVec F S64x8x128x128 .f32 := broadcastInDim S64x8x128x128 ![] bcast_S_S64x8x128x128 main_cst_12
  let main_v36 : IVec S64x8x128x128 1 := cmpf .olt main_v34 main_v35
  let main_c_13 : IVec S_ 1 := constantI S_ 1 1#1
  let main_v37 : IVec S_ 1 := (fun x v => Host.reduce IntOp.andi x v reducesTo_S64x8x128x128_S_d0_1_2_3 h_S_) main_v36 main_c_13
  let main_v38 : IVec S_ 1 := andi main_v33 main_v37
  let main_v39 : FVec F S4096x1024 .f32 := Host.absf main_arg8
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  main_v43

def fn_part1 {F : FTy → Type} [FloatOps F] (main_arg4 : FVec F S4096x8 .f32) (main_arg5 : FVec F S8 .f32) (main_arg6 : FVec F S8 .f32) (main_arg7 : FVec F S64x8x128x128 .f32) (main_arg8 : FVec F S4096x1024 .f32) (main_v13 : IVec S_ 1) (main_v16 : IVec S4096x8 1) : IVec S_ 1 :=
  let main_c_5 : IVec S_ 1 := constantI S_ 1 1#1
  let main_v17 : IVec S_ 1 := (fun x v => Host.reduce IntOp.andi x v reducesTo_S4096x8_S_d0_1 h_S_) main_v16 main_c_5
  let main_v18 : IVec S_ 1 := andi main_v13 main_v17
  let main_v19 : FVec F S4096x8 .f32 := Host.absf main_arg4
  let main_cst_6 : FVec F S_ .f32 := constant S_ .f32 0x7F800000#32
  let main_v20 : FVec F S4096x8 .f32 := broadcastInDim S4096x8 ![] bcast_S_S4096x8 main_cst_6
  let main_v21 : IVec S4096x8 1 := cmpf .olt main_v19 main_v20
  let main_c_7 : IVec S_ 1 := constantI S_ 1 1#1
  let main_v22 : IVec S_ 1 := (fun x v => Host.reduce IntOp.andi x v reducesTo_S4096x8_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S4096x1024 .f32) (main_arg2 : FVec F S4096x1024 .f32) (main_arg3 : FVec F S4096x8 .f32) (main_arg4 : FVec F S4096x8 .f32) (main_arg5 : FVec F S8 .f32) (main_arg6 : FVec F S8 .f32) (main_arg7 : FVec F S64x8x128x128 .f32) (main_arg8 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x8 .f32 := Host.absf main_arg3
  let main_cst_4 : FVec F S_ .f32 := constant S_ .f32 0x7F800000#32
  let main_v15 : FVec F S4096x8 .f32 := broadcastInDim S4096x8 ![] bcast_S_S4096x8 main_cst_4
  let main_v16 : IVec S4096x8 1 := cmpf .olt main_v14 main_v15
  fn_part1 (F := F) main_arg4 main_arg5 main_arg6 main_arg7 main_arg8 main_v13 main_v16
-- ==== Kernel.lean ====
abbrev S4096x1024 : Shape := ⟨2, ![4096, 1024]⟩
abbrev S4096x8 : Shape := ⟨2, ![4096, 8]⟩
abbrev S8 : Shape := ⟨1, ![8]⟩
abbrev S64x8x128x128 : Shape := ⟨4, ![64, 8, 128, 128]⟩
abbrev S_ : Shape := ⟨0, ![]⟩
abbrev S1x8 : Shape := ⟨2, ![1, 8]⟩
abbrev S64x64x8x128 : Shape := ⟨4, ![64, 64, 8, 128]⟩
abbrev S64x8x64x128 : Shape := ⟨4, ![64, 8, 64, 128]⟩
abbrev S64x64x8 : Shape := ⟨3, ![64, 64, 8]⟩
abbrev S64x8x64 : Shape := ⟨3, ![64, 8, 64]⟩
abbrev S64x8x64x1 : Shape := ⟨4, ![64, 8, 64, 1]⟩
abbrev S64x64 : Shape := ⟨2, ![64, 64]⟩
abbrev S64x8x1x64 : Shape := ⟨4, ![64, 8, 1, 64]⟩
abbrev S64x8x64x64 : Shape := ⟨4, ![64, 8, 64, 64]⟩
abbrev S64x8x64x256 : Shape := ⟨4, ![64, 8, 64, 256]⟩
abbrev S1x1x64x64 : Shape := ⟨4, ![1, 1, 64, 64]⟩
abbrev S4096x104 : Shape := ⟨2, ![4096, 104]⟩
abbrev S4096x128 : Shape := ⟨2, ![4096, 128]⟩
abbrev S64x64x128 : Shape := ⟨3, ![64, 64, 128]⟩
abbrev S64x128x64 : Shape := ⟨3, ![64, 128, 64]⟩
abbrev S64x32x64 : Shape := ⟨3, ![64, 32, 64]⟩
abbrev S4096x16 : Shape := ⟨2, ![4096, 16]⟩
abbrev S1x16 : Shape := ⟨2, ![1, 16]⟩
abbrev S1x128 : Shape := ⟨2, ![1, 128]⟩
abbrev S8x128 : Shape := ⟨2, ![8, 128]⟩
abbrev S128x1024 : Shape := ⟨2, ![128, 1024]⟩
abbrev S128x128 : Shape := ⟨2, ![128, 128]⟩
abbrev S2x32x64 : Shape := ⟨3, ![2, 32, 64]⟩
abbrev S2x8x128x128 : Shape := ⟨4, ![2, 8, 128, 128]⟩
abbrev S2x8x64x64 : Shape := ⟨4, ![2, 8, 64, 64]⟩
abbrev S8x128x128 : Shape := ⟨3, ![8, 128, 128]⟩
abbrev S64x128 : Shape := ⟨2, ![64, 128]⟩
abbrev S64x1 : Shape := ⟨2, ![64, 1]⟩
abbrev S1x128x128 : Shape := ⟨3, ![1, 128, 128]⟩
abbrev S1x1x128x128 : Shape := ⟨4, ![1, 1, 128, 128]⟩
abbrev S1x32x64 : Shape := ⟨3, ![1, 32, 64]⟩
abbrev S32x64 : Shape := ⟨2, ![32, 64]⟩
abbrev S1x64 : Shape := ⟨2, ![1, 64]⟩
abbrev S1x1 : Shape := ⟨2, ![1, 1]⟩
abbrev S128 : Shape := ⟨1, ![128]⟩
abbrev S128x1 : Shape := ⟨2, ![128, 1]⟩
abbrev S1 : Shape := ⟨1, ![1]⟩
abbrev S64 : Shape := ⟨1, ![64]⟩

abbrev nBuf : Space → Nat
  | .hbm => 205
  | .vmem => 32
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x8, .f32⟩
  | 4 => ⟨S4096x8, .f32⟩
  | 5 => ⟨S8, .f32⟩
  | 6 => ⟨S8, .f32⟩
  | 7 => ⟨S64x8x128x128, .f32⟩
  | 8 => ⟨S4096x1024, .f32⟩
  | 9 => ⟨S4096x8, .f32⟩
  | 10 => ⟨S4096x8, .f32⟩
  | 11 => ⟨S_, .f32⟩
  | 12 => ⟨S4096x8, .f32⟩
  | 13 => ⟨S4096x8, .f32⟩
  | 14 => ⟨S_, .f32⟩
  | 15 => ⟨S4096x8, .f32⟩
  | 16 => ⟨S4096x8, .f32⟩
  | 17 => ⟨S8, .f32⟩
  | 18 => ⟨S8, .f32⟩
  | 19 => ⟨S1x8, .f32⟩
  | 20 => ⟨S4096x8, .f32⟩
  | 21 => ⟨S4096x8, .f32⟩
  | 22 => ⟨S_, .f32⟩
  | 23 => ⟨S4096x8, .f32⟩
  | 24 => ⟨S4096x8, .f32⟩
  | 25 => ⟨S4096x8, .f32⟩
  | 26 => ⟨S4096x8, .f32⟩
  | 27 => ⟨S4096x8, .i1⟩
  | 28 => ⟨S4096x8, .f32⟩
  | 29 => ⟨S4096x8, .f32⟩
  | 30 => ⟨S4096x8, .f32⟩
  | 31 => ⟨S4096x8, .f32⟩
  | 32 => ⟨S4096x8, .f32⟩
  | 33 => ⟨S4096x8, .f32⟩
  | 34 => ⟨S4096x8, .f32⟩
  | 35 => ⟨S4096x8, .f32⟩
  | 36 => ⟨S1x8, .f32⟩
  | 37 => ⟨S4096x8, .f32⟩
  | 38 => ⟨S4096x8, .f32⟩
  | 39 => ⟨S64x64x8x128, .f32⟩
  | 40 => ⟨S64x8x64x128, .f32⟩
  | 41 => ⟨S64x64x8x128, .f32⟩
  | 42 => ⟨S64x8x64x128, .f32⟩
  | 43 => ⟨S64x64x8x128, .f32⟩
  | 44 => ⟨S64x8x64x128, .f32⟩
  | 45 => ⟨S64x64x8, .f32⟩
  | 46 => ⟨S64x8x64, .f32⟩
  | 47 => ⟨S64x64x8, .f32⟩
  | 48 => ⟨S64x8x64, .f32⟩
  | 49 => ⟨S64x8x64x1, .f32⟩
  | 50 => ⟨S64x8x64x128, .f32⟩
  | 51 => ⟨S64x8x64x128, .f32⟩
  | 52 => ⟨S64x8x64x1, .f32⟩
  | 53 => ⟨S64x8x64x128, .f32⟩
  | 54 => ⟨S64x8x64x128, .f32⟩
  | 55 => ⟨S_, .f32⟩
  | 56 => ⟨S_, .f32⟩
  | 57 => ⟨S64x8x64, .f32⟩
  | 58 => ⟨S_, .i1⟩
  | 59 => ⟨S64x64, .i1⟩
  | 60 => ⟨S64x64, .i32⟩
  | 61 => ⟨S_, .i32⟩
  | 62 => ⟨S64x64, .i32⟩
  | 63 => ⟨S64x64, .i32⟩
  | 64 => ⟨S64x64, .i32⟩
  | 65 => ⟨S64x64, .i1⟩
  | 66 => ⟨S_, .i1⟩
  | 67 => ⟨S64x64, .i1⟩
  | 68 => ⟨S64x64, .i1⟩
  | 69 => ⟨S_, .i1⟩
  | 70 => ⟨S64x64, .i1⟩
  | 71 => ⟨S64x64, .i32⟩
  | 72 => ⟨S_, .i32⟩
  | 73 => ⟨S64x64, .i32⟩
  | 74 => ⟨S64x64, .i32⟩
  | 75 => ⟨S64x64, .i32⟩
  | 76 => ⟨S64x64, .i1⟩
  | 77 => ⟨S_, .i1⟩
  | 78 => ⟨S64x64, .i1⟩
  | 79 => ⟨S64x64, .i1⟩
  | 80 => ⟨S64x8x64x1, .f32⟩
  | 81 => ⟨S64x8x1x64, .f32⟩
  | 82 => ⟨S64x8x64x64, .f32⟩
  | 83 => ⟨S64x8x64x64, .f32⟩
  | 84 => ⟨S64x8x64x64, .f32⟩
  | 85 => ⟨S_, .f32⟩
  | 86 => ⟨S_, .f32⟩
  | 87 => ⟨S64x8x64x64, .i1⟩
  | 88 => ⟨S64x8x64x64, .f32⟩
  | 89 => ⟨S64x8x64x64, .f32⟩
  | 90 => ⟨S64x8x64x64, .f32⟩
  | 91 => ⟨S_, .f32⟩
  | 92 => ⟨S_, .f32⟩
  | 93 => ⟨S64x8x64x64, .i1⟩
  | 94 => ⟨S64x8x64x64, .f32⟩
  | 95 => ⟨S64x8x64x64, .f32⟩
  | 96 => ⟨S64x8x64x64, .f32⟩
  | 97 => ⟨S64x8x64x64, .f32⟩
  | 98 => ⟨S_, .f32⟩
  | 99 => ⟨S_, .f32⟩
  | 100 => ⟨S64x8x64x64, .i1⟩
  | 101 => ⟨S64x8x64x64, .f32⟩
  | 102 => ⟨S64x8x64x64, .f32⟩
  | 103 => ⟨S64x8x64, .f32⟩
  | 104 => ⟨S64x8x64x1, .f32⟩
  | 105 => ⟨S64x8x64x128, .f32⟩
  | 106 => ⟨S64x8x64x128, .f32⟩
  | 107 => ⟨S64x8x64x256, .f32⟩
  | 108 => ⟨S64x8x64x64, .f32⟩
  | 109 => ⟨S64x64, .i32⟩
  | 110 => ⟨S64x64, .i32⟩
  | 111 => ⟨S_, .i32⟩
  | 112 => ⟨S64x64, .i32⟩
  | 113 => ⟨S64x64, .i32⟩
  | 114 => ⟨S64x64, .i1⟩
  | 115 => ⟨S64x64, .f32⟩
  | 116 => ⟨S1x1x64x64, .f32⟩
  | 117 => ⟨S64x8x64x64, .f32⟩
  | 118 => ⟨S64x8x64x64, .f32⟩
  | 119 => ⟨S64x8x64x64, .f32⟩
  | 120 => ⟨S64x8x64x64, .f32⟩
  | 121 => ⟨S64x8x64x64, .f32⟩
  | 122 => ⟨S64x8x64x64, .f32⟩
  | 123 => ⟨S64x8x64x64, .f32⟩
  | 124 => ⟨S64x8x64x64, .f32⟩
  | 125 => ⟨S64x8x64x64, .f32⟩
  | 126 => ⟨S64x8x64x64, .f32⟩
  | 127 => ⟨S64x8x64x64, .f32⟩
  | _ => ⟨S4096x1024, .f32⟩

abbrev hbmTy0_1 (i : Nat) : BufTy := match i % 128 with
  | 0 => ⟨S64x8x64x64, .f32⟩
  | 1 => ⟨S64x8x64x64, .f32⟩
  | 2 => ⟨S64x8x64x64, .f32⟩
  | 3 => ⟨S64x8x64x64, .f32⟩
  | 4 => ⟨S64x8x64x64, .f32⟩
  | 5 => ⟨S64x8x64x64, .f32⟩
  | 6 => ⟨S64x8x64x256, .f32⟩
  | 7 => ⟨S64x8x64x128, .f32⟩
  | 8 => ⟨S64x8x64x128, .f32⟩
  | 9 => ⟨S64x8x64x64, .f32⟩
  | 10 => ⟨S64x8x64x64, .f32⟩
  | 11 => ⟨S_, .f32⟩
  | 12 => ⟨S_, .f32⟩
  | 13 => ⟨S64x8x64x64, .i1⟩
  | 14 => ⟨S64x8x64x64, .f32⟩
  | 15 => ⟨S64x8x64x64, .f32⟩
  | 16 => ⟨S64x8x64x128, .f32⟩
  | 17 => ⟨S64x8x64x128, .f32⟩
  | 18 => ⟨S64x64x8x128, .f32⟩
  | 19 => ⟨S4096x1024, .f32⟩
  | 20 => ⟨S64x64x8, .f32⟩
  | 21 => ⟨S4096x8, .f32⟩
  | 22 => ⟨S_, .f32⟩
  | 23 => ⟨S4096x104, .f32⟩
  | 24 => ⟨S4096x128, .f32⟩
  | 25 => ⟨S64x64x128, .f32⟩
  | 26 => ⟨S64x128x64, .f32⟩
  | 27 => ⟨S64x32x64, .f32⟩
  | 28 => ⟨S4096x16, .f32⟩
  | 29 => ⟨S_, .i32⟩
  | 30 => ⟨S_, .f32⟩
  | 31 => ⟨S4096x128, .f32⟩
  | 32 => ⟨S64x8x64x64, .f32⟩
  | 33 => ⟨S64x64, .i32⟩
  | 34 => ⟨S64x64, .i32⟩
  | 35 => ⟨S_, .i32⟩
  | 36 => ⟨S64x64, .i32⟩
  | 37 => ⟨S64x64, .i32⟩
  | 38 => ⟨S64x64, .i1⟩
  | 39 => ⟨S64x64, .f32⟩
  | 40 => ⟨S1x1x64x64, .f32⟩
  | 41 => ⟨S64x8x64x64, .f32⟩
  | 42 => ⟨S64x8x64x64, .f32⟩
  | 43 => ⟨S64x8x64x64, .f32⟩
  | 44 => ⟨S64x8x64x64, .f32⟩
  | 45 => ⟨S64x8x64x64, .f32⟩
  | 46 => ⟨S64x8x64x64, .f32⟩
  | 47 => ⟨S64x8x64x64, .f32⟩
  | 48 => ⟨S64x8x64x64, .f32⟩
  | 49 => ⟨S64x8x64x64, .f32⟩
  | 50 => ⟨S64x8x64x64, .f32⟩
  | 51 => ⟨S64x8x64x64, .f32⟩
  | 52 => ⟨S64x8x64x64, .f32⟩
  | 53 => ⟨S64x8x64x64, .f32⟩
  | 54 => ⟨S64x8x64x64, .f32⟩
  | 55 => ⟨S64x8x64x64, .f32⟩
  | 56 => ⟨S64x8x64x64, .f32⟩
  | 57 => ⟨S64x8x64x64, .f32⟩
  | 58 => ⟨S_, .f32⟩
  | 59 => ⟨S1x8, .f32⟩
  | 60 => ⟨S1x8, .f32⟩
  | 61 => ⟨S1x16, .f32⟩
  | 62 => ⟨S_, .i32⟩
  | 63 => ⟨S_, .f32⟩
  | 64 => ⟨S1x128, .f32⟩
  | 65 => ⟨S_, .f32⟩
  | 66 => ⟨S1x8, .f32⟩
  | 67 => ⟨S1x8, .f32⟩
  | 68 => ⟨S1x16, .f32⟩
  | 69 => ⟨S_, .i32⟩
  | 70 => ⟨S_, .f32⟩
  | 71 => ⟨S1x128, .f32⟩
  | 72 => ⟨S4096x1024, .f32⟩
  | 73 => ⟨S4096x1024, .f32⟩
  | 74 => ⟨S4096x1024, .f32⟩
  | 75 => ⟨S4096x128, .bf16⟩
  | 76 => ⟨S8x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S1x128, .f32⟩
  | .local _ .vmem, ⟨1, _⟩ => ⟨S1x128, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x128, .f32⟩
  | .local _ .vmem, ⟨9, _⟩ => ⟨S128x128, .f32⟩
  | .local _ .vmem, ⟨10, _⟩ => ⟨S2x32x64, .f32⟩
  | .local _ .vmem, ⟨11, _⟩ => ⟨S2x32x64, .f32⟩
  | .local _ .vmem, ⟨12, _⟩ => ⟨S128x128, .f32⟩
  | .local _ .vmem, ⟨13, _⟩ => ⟨S128x128, .f32⟩
  | .local _ .vmem, ⟨14, _⟩ => ⟨S128x1024, .f32⟩
  | .local _ .vmem, ⟨15, _⟩ => ⟨S128x1024, .f32⟩
  | .local _ .vmem, ⟨16, _⟩ => ⟨S2x8x128x128, .f32⟩
  | .local _ .vmem, ⟨17, _⟩ => ⟨S2x8x128x128, .f32⟩
  | .local _ .vmem, ⟨18, _⟩ => ⟨S2x8x64x64, .f32⟩
  | .local _ .vmem, ⟨19, _⟩ => ⟨S2x8x64x64, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | .local _ .vmem, ⟨28, _⟩ => ⟨S128x128, .bf16⟩
  | .local _ .vmem, ⟨29, _⟩ => ⟨S128x128, .bf16⟩
  | .local _ .vmem, ⟨30, _⟩ => ⟨S8x128, .f32⟩
  | .local _ .vmem, ⟨31, _⟩ => ⟨S8x128x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call1_call0_cst : Ref sig .tc := ⟨.hbm, 55, rfl⟩
abbrev main_call1_call0_v0 : Ref sig .tc := ⟨.hbm, 56, rfl⟩
abbrev main_v31 : Ref sig .tc := ⟨.hbm, 57, rfl⟩
abbrev main_c : Ref sig .tc := ⟨.hbm, 58, rfl⟩
abbrev main_v32 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_0 : Ref sig .tc := ⟨.hbm, 66, rfl⟩
abbrev main_call2_v5 : Ref sig .tc := ⟨.hbm, 67, rfl⟩
abbrev main_v33 : Ref sig .tc := ⟨.hbm, 68, rfl⟩
abbrev main_c_1 : Ref sig .tc := ⟨.hbm, 69, rfl⟩
abbrev main_v34 : Ref sig .tc := ⟨.hbm, 70, rfl⟩
abbrev main_call3_v0 : Ref sig .tc := ⟨.hbm, 71, rfl⟩
abbrev main_call3_c : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_c_0 : Ref sig .tc := ⟨.hbm, 77, rfl⟩
abbrev main_call3_v5 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_cst_2 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_v41 : Ref sig .tc := ⟨.hbm, 89, rfl⟩
abbrev main_v42 : Ref sig .tc := ⟨.hbm, 90, rfl⟩
abbrev main_cst_3 : Ref sig .tc := ⟨.hbm, 91, rfl⟩
abbrev main_call5_v0 : Ref sig .tc := ⟨.hbm, 92, rfl⟩
abbrev main_call5_v1 : Ref sig .tc := ⟨.hbm, 93, rfl⟩
abbrev main_call5_v2 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_cst_4 : Ref sig .tc := ⟨.hbm, 98, rfl⟩
abbrev main_call6_v0 : Ref sig .tc := ⟨.hbm, 99, rfl⟩
abbrev main_call6_v1 : Ref sig .tc := ⟨.hbm, 100, rfl⟩
abbrev main_call6_v2 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_c_5 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_cst_6 : Ref sig .tc := ⟨.hbm, 139, rfl⟩
abbrev main_call7_v0 : Ref sig .tc := ⟨.hbm, 140, rfl⟩
abbrev main_call7_v1 : Ref sig .tc := ⟨.hbm, 141, rfl⟩
abbrev main_call7_v2 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_cst_7 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_c_8 : Ref sig .tc := ⟨.hbm, 157, rfl⟩
abbrev main_call8_v0 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_c_9 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_cst_10 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_c_11 : Ref sig .tc := ⟨.hbm, 190, rfl⟩
abbrev main_call9_v0 : Ref sig .tc := ⟨.hbm, 191, rfl⟩
abbrev main_v124 : Ref sig .tc := ⟨.hbm, 192, rfl⟩
abbrev main_cst_12 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_c_13 : Ref sig .tc := ⟨.hbm, 197, rfl⟩
abbrev main_call10_v0 : Ref sig .tc := ⟨.hbm, 198, rfl⟩
abbrev main_v128 : Ref sig .tc := ⟨.hbm, 199, rfl⟩
abbrev main_v129_0 : Ref sig .tc := ⟨.hbm, 200, rfl⟩
abbrev main_v129_1 : Ref sig .tc := ⟨.hbm, 201, rfl⟩
abbrev main_v129_2 : Ref sig .tc := ⟨.hbm, 202, rfl⟩
abbrev main_v129_3 : Ref sig .tc := ⟨.hbm, 203, rfl⟩
abbrev main_v129_4 : Ref sig .tc := ⟨.hbm, 204, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_scratch0 : Ref sig .tc := ⟨.vmem, 31, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_10 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x32x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x8x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S4096x1024 : Shape := ⟨2, ![4096, 1024]⟩
abbrev S4096x8 : Shape := ⟨2, ![4096, 8]⟩
abbrev S8 : Shape := ⟨1, ![8]⟩
abbrev S64x8x128x128 : Shape := ⟨4, ![64, 8, 128, 128]⟩
abbrev S_ : Shape := ⟨0, ![]⟩
abbrev S1x8 : Shape := ⟨2, ![1, 8]⟩
abbrev S8x128x128 : Shape := ⟨3, ![8, 128, 128]⟩
abbrev S64x64x8x128 : Shape := ⟨4, ![64, 64, 8, 128]⟩
abbrev S64x8x64x128 : Shape := ⟨4, ![64, 8, 64, 128]⟩
abbrev S64x64x8 : Shape := ⟨3, ![64, 64, 8]⟩
abbrev S64x8x64 : Shape := ⟨3, ![64, 8, 64]⟩
abbrev S1x8x128x128 : Shape := ⟨4, ![1, 8, 128, 128]⟩
abbrev S1x8x64x128 : Shape := ⟨4, ![1, 8, 64, 128]⟩
abbrev S8x64x128 : Shape := ⟨3, ![8, 64, 128]⟩
abbrev S1x8x64 : Shape := ⟨3, ![1, 8, 64]⟩
abbrev S8x64 : Shape := ⟨2, ![8, 64]⟩
abbrev S8x64x1 : Shape := ⟨3, ![8, 64, 1]⟩
abbrev S64x64 : Shape := ⟨2, ![64, 64]⟩
abbrev S8x1x64 : Shape := ⟨3, ![8, 1, 64]⟩
abbrev S8x64x64 : Shape := ⟨3, ![8, 64, 64]⟩
abbrev S8x64x256 : Shape := ⟨3, ![8, 64, 256]⟩
abbrev S1x64x64 : Shape := ⟨3, ![1, 64, 64]⟩
abbrev S8x1 : Shape := ⟨2, ![8, 1]⟩
abbrev S8x1x1 : Shape := ⟨3, ![8, 1, 1]⟩
abbrev S8x128x64 : Shape := ⟨3, ![8, 128, 64]⟩

abbrev nBuf : Space → Nat
  | .hbm => 315
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x8, .f32⟩
  | 4 => ⟨S4096x8, .f32⟩
  | 5 => ⟨S8, .f32⟩
  | 6 => ⟨S8, .f32⟩
  | 7 => ⟨S64x8x128x128, .f32⟩
  | 8 => ⟨S4096x1024, .f32⟩
  | 9 => ⟨S4096x8, .f32⟩
  | 10 => ⟨S4096x8, .f32⟩
  | 11 => ⟨S_, .f32⟩
  | 12 => ⟨S4096x8, .f32⟩
  | 13 => ⟨S4096x8, .f32⟩
  | 14 => ⟨S_, .f32⟩
  | 15 => ⟨S4096x8, .f32⟩
  | 16 => ⟨S4096x8, .f32⟩
  | 17 => ⟨S8, .f32⟩
  | 18 => ⟨S8, .f32⟩
  | 19 => ⟨S1x8, .f32⟩
  | 20 => ⟨S4096x8, .f32⟩
  | 21 => ⟨S4096x8, .f32⟩
  | 22 => ⟨S_, .f32⟩
  | 23 => ⟨S4096x8, .f32⟩
  | 24 => ⟨S4096x8, .f32⟩
  | 25 => ⟨S4096x8, .f32⟩
  | 26 => ⟨S4096x8, .f32⟩
  | 27 => ⟨S4096x8, .i1⟩
  | 28 => ⟨S4096x8, .f32⟩
  | 29 => ⟨S4096x8, .f32⟩
  | 30 => ⟨S4096x8, .f32⟩
  | 31 => ⟨S4096x8, .f32⟩
  | 32 => ⟨S4096x8, .f32⟩
  | 33 => ⟨S4096x8, .f32⟩
  | 34 => ⟨S4096x8, .f32⟩
  | 35 => ⟨S4096x8, .f32⟩
  | 36 => ⟨S1x8, .f32⟩
  | 37 => ⟨S4096x8, .f32⟩
  | 38 => ⟨S4096x8, .f32⟩
  | 39 => ⟨S_, .f32⟩
  | 40 => ⟨S8x128x128, .f32⟩
  | 41 => ⟨S64x64x8x128, .f32⟩
  | 42 => ⟨S64x8x64x128, .f32⟩
  | 43 => ⟨S64x64x8x128, .f32⟩
  | 44 => ⟨S64x8x64x128, .f32⟩
  | 45 => ⟨S64x64x8x128, .f32⟩
  | 46 => ⟨S64x8x64x128, .f32⟩
  | 47 => ⟨S64x64x8, .f32⟩
  | 48 => ⟨S64x8x64, .f32⟩
  | 49 => ⟨S64x64x8, .f32⟩
  | 50 => ⟨S64x8x64, .f32⟩
  | 51 => ⟨S64x64x8x128, .f32⟩
  | 52 => ⟨S64x8x64x128, .f32⟩
  | 53 => ⟨S_, .f32⟩
  | 54 => ⟨S64x8x64x128, .f32⟩
  | 55 => ⟨S_, .f32⟩
  | 56 => ⟨S64x8x64x128, .f32⟩
  | 57 => ⟨S_, .f32⟩
  | 58 => ⟨S64x8x64x128, .f32⟩
  | 59 => ⟨S_, .i32⟩
  | 60 => ⟨S64x8x128x128, .f32⟩
  | 61 => ⟨S64x8x64x128, .f32⟩
  | 62 => ⟨S64x8x64x128, .f32⟩
  | 63 => ⟨S64x8x64x128, .f32⟩
  | 64 => ⟨S64x8x64, .f32⟩
  | 65 => ⟨S64x8x64, .f32⟩
  | 66 => ⟨S64x8x64x128, .f32⟩
  | 67 => ⟨S_, .i32⟩
  | 68 => ⟨S8x128x128, .f32⟩
  | 69 => ⟨S64x8x64x128, .f32⟩
  | 70 => ⟨S64x8x64x128, .f32⟩
  | 71 => ⟨S64x8x64x128, .f32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S1x8x128x128, .f32⟩
  | 82 => ⟨S8x128x128, .f32⟩
  | 83 => ⟨S_, .i32⟩
  | 84 => ⟨S_, .i32⟩
  | 85 => ⟨S_, .i32⟩
  | 86 => ⟨S1x8x64x128, .f32⟩
  | 87 => ⟨S8x64x128, .f32⟩
  | 88 => ⟨S_, .i32⟩
  | 89 => ⟨S_, .i32⟩
  | 90 => ⟨S_, .i32⟩
  | 91 => ⟨S1x8x64x128, .f32⟩
  | 92 => ⟨S8x64x128, .f32⟩
  | 93 => ⟨S_, .i32⟩
  | 94 => ⟨S_, .i32⟩
  | 95 => ⟨S_, .i32⟩
  | 96 => ⟨S1x8x64x128, .f32⟩
  | 97 => ⟨S8x64x128, .f32⟩
  | 98 => ⟨S_, .i32⟩
  | 99 => ⟨S_, .i32⟩
  | 100 => ⟨S1x8x64, .f32⟩
  | 101 => ⟨S8x64, .f32⟩
  | 102 => ⟨S_, .i32⟩
  | 103 => ⟨S_, .i32⟩
  | 104 => ⟨S1x8x64, .f32⟩
  | 105 => ⟨S8x64, .f32⟩
  | 106 => ⟨S_, .i32⟩
  | 107 => ⟨S_, .i32⟩
  | 108 => ⟨S_, .i32⟩
  | 109 => ⟨S1x8x64x128, .f32⟩
  | 110 => ⟨S8x64x128, .f32⟩
  | 111 => ⟨S8x64x1, .f32⟩
  | 112 => ⟨S8x64x128, .f32⟩
  | 113 => ⟨S8x64x128, .f32⟩
  | 114 => ⟨S8x64x1, .f32⟩
  | 115 => ⟨S8x64x128, .f32⟩
  | 116 => ⟨S8x64x128, .f32⟩
  | 117 => ⟨S_, .f32⟩
  | 118 => ⟨S_, .f32⟩
  | 119 => ⟨S8x64, .f32⟩
  | 120 => ⟨S_, .i1⟩
  | 121 => ⟨S64x64, .i1⟩
  | 122 => ⟨S64x64, .i32⟩
  | 123 => ⟨S_, .i32⟩
  | 124 => ⟨S64x64, .i32⟩
  | 125 => ⟨S64x64, .i32⟩
  | 126 => ⟨S64x64, .i32⟩
  | 127 => ⟨S64x64, .i1⟩
  | _ => ⟨S4096x1024, .f32⟩

abbrev hbmTy0_1 (i : Nat) : BufTy := match i % 128 with
  | 0 => ⟨S_, .i1⟩
  | 1 => ⟨S64x64, .i1⟩
  | 2 => ⟨S64x64, .i1⟩
  | 3 => ⟨S_, .i1⟩
  | 4 => ⟨S64x64, .i1⟩
  | 5 => ⟨S64x64, .i32⟩
  | 6 => ⟨S_, .i32⟩
  | 7 => ⟨S64x64, .i32⟩
  | 8 => ⟨S64x64, .i32⟩
  | 9 => ⟨S64x64, .i32⟩
  | 10 => ⟨S64x64, .i1⟩
  | 11 => ⟨S_, .i1⟩
  | 12 => ⟨S64x64, .i1⟩
  | 13 => ⟨S64x64, .i1⟩
  | 14 => ⟨S8x64x1, .f32⟩
  | 15 => ⟨S8x1x64, .f32⟩
  | 16 => ⟨S8x64x64, .f32⟩
  | 17 => ⟨S8x64x64, .f32⟩
  | 18 => ⟨S8x64x64, .f32⟩
  | 19 => ⟨S_, .f32⟩
  | 20 => ⟨S_, .f32⟩
  | 21 => ⟨S8x64x64, .i1⟩
  | 22 => ⟨S8x64x64, .f32⟩
  | 23 => ⟨S8x64x64, .f32⟩
  | 24 => ⟨S8x64x64, .f32⟩
  | 25 => ⟨S_, .f32⟩
  | 26 => ⟨S_, .f32⟩
  | 27 => ⟨S8x64x64, .i1⟩
  | 28 => ⟨S8x64x64, .f32⟩
  | 29 => ⟨S8x64x64, .f32⟩
  | 30 => ⟨S8x64x64, .f32⟩
  | 31 => ⟨S8x64x64, .f32⟩
  | 32 => ⟨S_, .f32⟩
  | 33 => ⟨S_, .f32⟩
  | 34 => ⟨S8x64x64, .i1⟩
  | 35 => ⟨S8x64x64, .f32⟩
  | 36 => ⟨S8x64x64, .f32⟩
  | 37 => ⟨S_, .f32⟩
  | 38 => ⟨S8x64x64, .f32⟩
  | 39 => ⟨S8x64, .f32⟩
  | 40 => ⟨S8x64x1, .f32⟩
  | 41 => ⟨S8x64x128, .f32⟩
  | 42 => ⟨S8x64x128, .f32⟩
  | 43 => ⟨S8x64x256, .f32⟩
  | 44 => ⟨S8x64x64, .f32⟩
  | 45 => ⟨S64x64, .i32⟩
  | 46 => ⟨S64x64, .i32⟩
  | 47 => ⟨S_, .i32⟩
  | 48 => ⟨S64x64, .i32⟩
  | 49 => ⟨S64x64, .i32⟩
  | 50 => ⟨S64x64, .i1⟩
  | 51 => ⟨S64x64, .f32⟩
  | 52 => ⟨S1x64x64, .f32⟩
  | 53 => ⟨S8x64x64, .f32⟩
  | 54 => ⟨S8x64x64, .f32⟩
  | 55 => ⟨S8x64x64, .f32⟩
  | 56 => ⟨S8x64x64, .f32⟩
  | 57 => ⟨S8x64x64, .f32⟩
  | 58 => ⟨S8x64x64, .f32⟩
  | 59 => ⟨S8x64x64, .f32⟩
  | 60 => ⟨S8x64x64, .f32⟩
  | 61 => ⟨S8x64x64, .f32⟩
  | 62 => ⟨S8x64x64, .f32⟩
  | 63 => ⟨S8x64x64, .f32⟩
  | 64 => ⟨S8x64x64, .f32⟩
  | 65 => ⟨S8x64x64, .f32⟩
  | 66 => ⟨S8x64x64, .f32⟩
  | 67 => ⟨S8x64x64, .f32⟩
  | 68 => ⟨S8x64x64, .f32⟩
  | 69 => ⟨S8x64x64, .f32⟩
  | 70 => ⟨S8x64x256, .f32⟩
  | 71 => ⟨S8x64x256, .f32⟩
  | 72 => ⟨S8x64x256, .f32⟩
  | 73 => ⟨S8x64x128, .f32⟩
  | 74 => ⟨S8x64x128, .f32⟩
  | 75 => ⟨S8x64x64, .f32⟩
  | 76 => ⟨S8x64x64, .f32⟩
  | 77 => ⟨S_, .f32⟩
  | 78 => ⟨S_, .f32⟩
  | 79 => ⟨S8x64x64, .i1⟩
  | 80 => ⟨S8x64x64, .f32⟩
  | 81 => ⟨S8x64x64, .f32⟩
  | 82 => ⟨S_, .f32⟩
  | 83 => ⟨S8x64x64, .f32⟩
  | 84 => ⟨S8x64x128, .f32⟩
  | 85 => ⟨S8x64x128, .f32⟩
  | 86 => ⟨S8x64, .f32⟩
  | 87 => ⟨S8x64x1, .f32⟩
  | 88 => ⟨S8x64x128, .f32⟩
  | 89 => ⟨S8x64x128, .f32⟩
  | 90 => ⟨S8x64x128, .f32⟩
  | 91 => ⟨S8x64x128, .f32⟩
  | 92 => ⟨S8x64x128, .f32⟩
  | 93 => ⟨S8x1, .f32⟩
  | 94 => ⟨S8, .f32⟩
  | 95 => ⟨S8x1, .f32⟩
  | 96 => ⟨S8x64, .f32⟩
  | 97 => ⟨S8x64, .f32⟩
  | 98 => ⟨S8x64, .f32⟩
  | 99 => ⟨S8x64x1, .f32⟩
  | 100 => ⟨S8x64x128, .f32⟩
  | 101 => ⟨S8x64x128, .f32⟩
  | 102 => ⟨S8, .f32⟩
  | 103 => ⟨S8x1x1, .f32⟩
  | 104 => ⟨S8x128x128, .f32⟩
  | 105 => ⟨S8x128x128, .f32⟩
  | 106 => ⟨S8x128x128, .f32⟩
  | 107 => ⟨S8x128x128, .f32⟩
  | 108 => ⟨S8x128x64, .f32⟩
  | 109 => ⟨S8x64x128, .f32⟩
  | 110 => ⟨S8x128x64, .f32⟩
  | 111 => ⟨S8x64x128, .f32⟩
  | 112 => ⟨S8x128x128, .f32⟩
  | 113 => ⟨S8x128x128, .f32⟩
  | 114 => ⟨S8x64x128, .f32⟩
  | 115 => ⟨S8x64x128, .f32⟩
  | 116 => ⟨S8x128x64, .f32⟩
  | 117 => ⟨S8x64x128, .f32⟩
  | 118 => ⟨S8x64x128, .f32⟩
  | 119 => ⟨S8x64x64, .f32⟩
  | 120 => ⟨S8x128x128, .f32⟩
  | 121 => ⟨S8x128x128, .f32⟩
  | 122 => ⟨S8x128x128, .f32⟩
  | 123 => ⟨S8x64x128, .f32⟩
  | 124 => ⟨S8x64x128, .f32⟩
  | 125 => ⟨S8x64x128, .f32⟩
  | 126 => ⟨S8x64x128, .f32⟩
  | 127 => ⟨S8x128x128, .f32⟩
  | _ => ⟨S4096x1024, .f32⟩

abbrev hbmTy0_2 (i : Nat) : BufTy := match i % 128 with
  | 0 => ⟨S8x128x128, .f32⟩
  | 1 => ⟨S8x128x128, .f32⟩
  | 2 => ⟨S8x64x128, .f32⟩
  | 3 => ⟨S_, .f32⟩
  | 4 => ⟨S8x64x64, .f32⟩
  | 5 => ⟨S8x64x64, .f32⟩
  | 6 => ⟨S8x64x64, .f32⟩
  | 7 => ⟨S8x64x128, .f32⟩
  | 8 => ⟨S8x64x128, .f32⟩
  | 9 => ⟨S8x64x128, .f32⟩
  | 10 => ⟨S8x64x128, .f32⟩
  | 11 => ⟨S_, .f32⟩
  | 12 => ⟨S8x64x256, .f32⟩
  | 13 => ⟨S_, .f32⟩
  | 14 => ⟨S8x64x256, .f32⟩
  | 15 => ⟨S8x64x256, .f32⟩
  | 16 => ⟨S8x64x256, .f32⟩
  | 17 => ⟨S8x64x256, .f32⟩
  | 18 => ⟨S8x64x64, .f32⟩
  | 19 => ⟨S8x64x128, .f32⟩
  | 20 => ⟨S8x64x128, .f32⟩
  | 21 => ⟨S8x64x128, .f32⟩
  | 22 => ⟨S8x64x128, .f32⟩
  | 23 => ⟨S_, .f32⟩
  | 24 => ⟨S8x64x64, .f32⟩
  | 25 => ⟨S8x64x64, .f32⟩
  | 26 => ⟨S8x64x64, .f32⟩
  | 27 => ⟨S8x64x128, .f32⟩
  | 28 => ⟨S8x64x128, .f32⟩
  | 29 => ⟨S8x64x128, .f32⟩
  | 30 => ⟨S8x64x128, .f32⟩
  | 31 => ⟨S8x64x128, .f32⟩
  | 32 => ⟨S8x64x128, .f32⟩
  | 33 => ⟨S8x64x128, .f32⟩
  | 34 => ⟨S8x64x128, .f32⟩
  | 35 => ⟨S8x64x128, .f32⟩
  | 36 => ⟨S1x8x64x128, .f32⟩
  | 37 => ⟨S_, .i32⟩
  | 38 => ⟨S_, .i32⟩
  | 39 => ⟨S_, .i32⟩
  | 40 => ⟨S64x8x64x128, .f32⟩
  | 41 => ⟨S1x8x64x128, .f32⟩
  | 42 => ⟨S_, .i32⟩
  | 43 => ⟨S_, .i32⟩
  | 44 => ⟨S_, .i32⟩
  | 45 => ⟨S64x8x64x128, .f32⟩
  | 46 => ⟨S1x8x64x128, .f32⟩
  | 47 => ⟨S_, .i32⟩
  | 48 => ⟨S_, .i32⟩
  | 49 => ⟨S_, .i32⟩
  | 50 => ⟨S64x8x64x128, .f32⟩
  | 51 => ⟨S_, .i32⟩
  | 52 => ⟨S_, .i32⟩
  | 53 => ⟨S64x64x8x128, .f32⟩
  | 54 => ⟨S4096x1024, .f32⟩
  | 55 => ⟨S64x64x8x128, .f32⟩
  | 56 => ⟨S4096x1024, .f32⟩
  | 57 => ⟨S64x64x8x128, .f32⟩
  | 58 => ⟨S4096x1024, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_1 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_2 : Ref sig .tc := ⟨.hbm, 53, rfl⟩
abbrev main_v28 : Ref sig .tc := ⟨.hbm, 54, rfl⟩
abbrev main_cst_3 : Ref sig .tc := ⟨.hbm, 55, rfl⟩
abbrev main_v29 : Ref sig .tc := ⟨.hbm, 56, rfl⟩
abbrev main_cst_4 : Ref sig .tc := ⟨.hbm, 57, rfl⟩
abbrev main_v30 : Ref sig .tc := ⟨.hbm, 58, rfl⟩
abbrev main_c : Ref sig .tc := ⟨.hbm, 59, rfl⟩
abbrev main_v31_0 : Ref sig .tc := ⟨.hbm, 60, rfl⟩
abbrev main_v31_1 : Ref sig .tc := ⟨.hbm, 61, rfl⟩
abbrev main_v31_2 : Ref sig .tc := ⟨.hbm, 62, rfl⟩
abbrev main_v31_3 : Ref sig .tc := ⟨.hbm, 63, rfl⟩
abbrev main_v31_4 : Ref sig .tc := ⟨.hbm, 64, rfl⟩
abbrev main_v31_5 : Ref sig .tc := ⟨.hbm, 65, rfl⟩
abbrev main_v31_6 : Ref sig .tc := ⟨.hbm, 66, rfl⟩
abbrev main_v31_7 : Ref sig .tc := ⟨.hbm, 67, rfl⟩
abbrev main_v31_8 : Ref sig .tc := ⟨.hbm, 68, rfl⟩
abbrev main_v31_9 : Ref sig .tc := ⟨.hbm, 69, rfl⟩
abbrev main_v31_10 : Ref sig .tc := ⟨.hbm, 70, rfl⟩
abbrev main_v31_11 : Ref sig .tc := ⟨.hbm, 71, rfl⟩
abbrev main_while0c_c_16 : Ref sig .tc := ⟨.hbm, 72, rfl⟩
abbrev main_while0c_v38 : Ref sig .tc := ⟨.hbm, 73, rfl⟩
abbrev main_while0b_c_16 : Ref sig .tc := ⟨.hbm, 74, rfl⟩
abbrev main_while0b_v38 : Ref sig .tc := ⟨.hbm, 75, rfl⟩
abbrev main_while0b_c_17 : Ref sig .tc := ⟨.hbm, 76, rfl⟩
abbrev main_while0b_v39 : Ref sig .tc := ⟨.hbm, 77, rfl⟩
abbrev main_while0b_call1_c : Ref sig .tc := ⟨.hbm, 78, rfl⟩
abbrev main_while0b_call1_c_0 : Ref sig .tc := ⟨.hbm, 79, rfl⟩
abbrev main_while0b_call1_c_1 : Ref sig .tc := ⟨.hbm, 80, rfl⟩
abbrev main_while0b_call1_v0 : Ref sig .tc := ⟨.hbm, 81, rfl⟩
abbrev main_while0b_v40 : Ref sig .tc := ⟨.hbm, 82, rfl⟩
abbrev main_while0b_call2_c : Ref sig .tc := ⟨.hbm, 83, rfl⟩
abbrev main_while0b_call2_c_0 : Ref sig .tc := ⟨.hbm, 84, rfl⟩
abbrev main_while0b_call2_c_1 : Ref sig .tc := ⟨.hbm, 85, rfl⟩
abbrev main_while0b_call2_v0 : Ref sig .tc := ⟨.hbm, 86, rfl⟩
abbrev main_while0b_v41 : Ref sig .tc := ⟨.hbm, 87, rfl⟩
abbrev main_while0b_call3_c : Ref sig .tc := ⟨.hbm, 88, rfl⟩
abbrev main_while0b_call3_c_0 : Ref sig .tc := ⟨.hbm, 89, rfl⟩
abbrev main_while0b_call3_c_1 : Ref sig .tc := ⟨.hbm, 90, rfl⟩
abbrev main_while0b_call3_v0 : Ref sig .tc := ⟨.hbm, 91, rfl⟩
abbrev main_while0b_v42 : Ref sig .tc := ⟨.hbm, 92, rfl⟩
abbrev main_while0b_call4_c : Ref sig .tc := ⟨.hbm, 93, rfl⟩
abbrev main_while0b_call4_c_0 : Ref sig .tc := ⟨.hbm, 94, rfl⟩
abbrev main_while0b_call4_c_1 : Ref sig .tc := ⟨.hbm, 95, rfl⟩
abbrev main_while0b_call4_v0 : Ref sig .tc := ⟨.hbm, 96, rfl⟩
abbrev main_while0b_v43 : Ref sig .tc := ⟨.hbm, 97, rfl⟩
abbrev main_while0b_call5_c : Ref sig .tc := ⟨.hbm, 98, rfl⟩
abbrev main_while0b_call5_c_0 : Ref sig .tc := ⟨.hbm, 99, rfl⟩
abbrev main_while0b_call5_v0 : Ref sig .tc := ⟨.hbm, 100, rfl⟩
abbrev main_while0b_v44 : Ref sig .tc := ⟨.hbm, 101, rfl⟩
abbrev main_while0b_call6_c : Ref sig .tc := ⟨.hbm, 102, rfl⟩
abbrev main_while0b_call6_c_0 : Ref sig .tc := ⟨.hbm, 103, rfl⟩
abbrev main_while0b_call6_v0 : Ref sig .tc := ⟨.hbm, 104, rfl⟩
abbrev main_while0b_v45 : Ref sig .tc := ⟨.hbm, 105, rfl⟩
abbrev main_while0b_call7_c : Ref sig .tc := ⟨.hbm, 106, rfl⟩
abbrev main_while0b_call7_c_0 : Ref sig .tc := ⟨.hbm, 107, rfl⟩
abbrev main_while0b_call7_c_1 : Ref sig .tc := ⟨.hbm, 108, rfl⟩
abbrev main_while0b_call7_v0 : Ref sig .tc := ⟨.hbm, 109, rfl⟩
abbrev main_while0b_v46 : Ref sig .tc := ⟨.hbm, 110, rfl⟩
abbrev main_while0b_v47 : Ref sig .tc := ⟨.hbm, 111, rfl⟩
abbrev main_while0b_v48 : Ref sig .tc := ⟨.hbm, 112, rfl⟩
abbrev main_while0b_v49 : Ref sig .tc := ⟨.hbm, 113, rfl⟩
abbrev main_while0b_v50 : Ref sig .tc := ⟨.hbm, 114, rfl⟩
abbrev main_while0b_v51 : Ref sig .tc := ⟨.hbm, 115, rfl⟩
abbrev main_while0b_v52 : Ref sig .tc := ⟨.hbm, 116, rfl⟩
abbrev main_while0b_call8_call0_cst : Ref sig .tc := ⟨.hbm, 117, rfl⟩
abbrev main_while0b_call8_call0_v0 : Ref sig .tc := ⟨.hbm, 118, rfl⟩
abbrev main_while0b_v53 : Ref sig .tc := ⟨.hbm, 119, rfl⟩
abbrev main_while0b_c_18 : Ref sig .tc := ⟨.hbm, 120, rfl⟩
abbrev main_while0b_v54 : Ref sig .tc := ⟨.hbm, 121, rfl⟩
abbrev main_while0b_call9_v0 : Ref sig .tc := ⟨.hbm, 122, rfl⟩
abbrev main_while0b_call9_c : Ref sig .tc := ⟨.hbm, 123, rfl⟩
abbrev main_while0b_call9_v1 : Ref sig .tc := ⟨.hbm, 124, rfl⟩
abbrev main_while0b_call9_v2 : Ref sig .tc := ⟨.hbm, 125, rfl⟩
abbrev main_while0b_call9_v3 : Ref sig .tc := ⟨.hbm, 126, rfl⟩
abbrev main_while0b_call9_v4 : Ref sig .tc := ⟨.hbm, 127, rfl⟩
abbrev main_while0b_call9_c_0 : Ref sig .tc := ⟨.hbm, 128, rfl⟩
abbrev main_while0b_call9_v5 : Ref sig .tc := ⟨.hbm, 129, rfl⟩
abbrev main_while0b_v55 : Ref sig .tc := ⟨.hbm, 130, rfl⟩
abbrev main_while0b_c_19 : Ref sig .tc := ⟨.hbm, 131, rfl⟩
abbrev main_while0b_v56 : Ref sig .tc := ⟨.hbm, 132, rfl⟩
abbrev main_while0b_call10_v0 : Ref sig .tc := ⟨.hbm, 133, rfl⟩
abbrev main_while0b_call10_c : Ref sig .tc := ⟨.hbm, 134, rfl⟩
abbrev main_while0b_call10_v1 : Ref sig .tc := ⟨.hbm, 135, rfl⟩
abbrev main_while0b_call10_v2 : Ref sig .tc := ⟨.hbm, 136, rfl⟩
abbrev main_while0b_call10_v3 : Ref sig .tc := ⟨.hbm, 137, rfl⟩
abbrev main_while0b_call10_v4 : Ref sig .tc := ⟨.hbm, 138, rfl⟩
abbrev main_while0b_call10_c_0 : Ref sig .tc := ⟨.hbm, 139, rfl⟩
abbrev main_while0b_call10_v5 : Ref sig .tc := ⟨.hbm, 140, rfl⟩
abbrev main_while0b_v57 : Ref sig .tc := ⟨.hbm, 141, rfl⟩
abbrev main_while0b_v58 : Ref sig .tc := ⟨.hbm, 142, rfl⟩
abbrev main_while0b_v59 : Ref sig .tc := ⟨.hbm, 143, rfl⟩
abbrev main_while0b_v60 : Ref sig .tc := ⟨.hbm, 144, rfl⟩
abbrev main_while0b_v61 : Ref sig .tc := ⟨.hbm, 145, rfl⟩
abbrev main_while0b_v62 : Ref sig .tc := ⟨.hbm, 146, rfl⟩
abbrev main_while0b_cst_20 : Ref sig .tc := ⟨.hbm, 147, rfl⟩
abbrev main_while0b_call11_v0 : Ref sig .tc := ⟨.hbm, 148, rfl⟩
abbrev main_while0b_call11_v1 : Ref sig .tc := ⟨.hbm, 149, rfl⟩
abbrev main_while0b_call11_v2 : Ref sig .tc := ⟨.hbm, 150, rfl⟩
abbrev main_while0b_v63 : Ref sig .tc := ⟨.hbm, 151, rfl⟩
abbrev main_while0b_v64 : Ref sig .tc := ⟨.hbm, 152, rfl⟩
abbrev main_while0b_cst_21 : Ref sig .tc := ⟨.hbm, 153, rfl⟩
abbrev main_while0b_call12_v0 : Ref sig .tc := ⟨.hbm, 154, rfl⟩
abbrev main_while0b_call12_v1 : Ref sig .tc := ⟨.hbm, 155, rfl⟩
abbrev main_while0b_call12_v2 : Ref sig .tc := ⟨.hbm, 156, rfl⟩
abbrev main_while0b_v65 : Ref sig .tc := ⟨.hbm, 157, rfl⟩
abbrev main_while0b_v66 : Ref sig .tc := ⟨.hbm, 158, rfl⟩
abbrev main_while0b_v67 : Ref sig .tc := ⟨.hbm, 159, rfl⟩
abbrev main_while0b_cst_22 : Ref sig .tc := ⟨.hbm, 160, rfl⟩
abbrev main_while0b_call13_v0 : Ref sig .tc := ⟨.hbm, 161, rfl⟩
abbrev main_while0b_v68_1 : Ref sig .tc := ⟨.hbm, 162, rfl⟩
abbrev main_while0b_call13_v2 : Ref sig .tc := ⟨.hbm, 163, rfl⟩
abbrev main_while0b_v68_0 : Ref sig .tc := ⟨.hbm, 164, rfl⟩
abbrev main_while0b_call13_cst : Ref sig .tc := ⟨.hbm, 165, rfl⟩
abbrev main_while0b_v68_2 : Ref sig .tc := ⟨.hbm, 166, rfl⟩
abbrev main_while0b_v69 : Ref sig .tc := ⟨.hbm, 167, rfl⟩
abbrev main_while0b_v70 : Ref sig .tc := ⟨.hbm, 168, rfl⟩
abbrev main_while0b_v71 : Ref sig .tc := ⟨.hbm, 169, rfl⟩
abbrev main_while0b_v72 : Ref sig .tc := ⟨.hbm, 170, rfl⟩
abbrev main_while0b_v73 : Ref sig .tc := ⟨.hbm, 171, rfl⟩
abbrev main_while0b_v74 : Ref sig .tc := ⟨.hbm, 172, rfl⟩
abbrev main_while0b_v75 : Ref sig .tc := ⟨.hbm, 173, rfl⟩
abbrev main_while0b_v76 : Ref sig .tc := ⟨.hbm, 174, rfl⟩
abbrev main_while0b_c_23 : Ref sig .tc := ⟨.hbm, 175, rfl⟩
abbrev main_while0b_v77 : Ref sig .tc := ⟨.hbm, 176, rfl⟩
abbrev main_while0b_v78 : Ref sig .tc := ⟨.hbm, 177, rfl⟩
abbrev main_while0b_v79 : Ref sig .tc := ⟨.hbm, 178, rfl⟩
abbrev main_while0b_v80 : Ref sig .tc := ⟨.hbm, 179, rfl⟩
abbrev main_while0b_v81 : Ref sig .tc := ⟨.hbm, 180, rfl⟩
abbrev main_while0b_v82 : Ref sig .tc := ⟨.hbm, 181, rfl⟩
abbrev main_while0b_v83 : Ref sig .tc := ⟨.hbm, 182, rfl⟩
abbrev main_while0b_v84 : Ref sig .tc := ⟨.hbm, 183, rfl⟩
abbrev main_while0b_v85 : Ref sig .tc := ⟨.hbm, 184, rfl⟩
abbrev main_while0b_v86 : Ref sig .tc := ⟨.hbm, 185, rfl⟩
abbrev main_while0b_v87 : Ref sig .tc := ⟨.hbm, 186, rfl⟩
abbrev main_while0b_v88 : Ref sig .tc := ⟨.hbm, 187, rfl⟩
abbrev main_while0b_v89 : Ref sig .tc := ⟨.hbm, 188, rfl⟩
abbrev main_while0b_v90 : Ref sig .tc := ⟨.hbm, 189, rfl⟩
abbrev main_while0b_v91 : Ref sig .tc := ⟨.hbm, 190, rfl⟩
abbrev main_while0b_v92 : Ref sig .tc := ⟨.hbm, 191, rfl⟩
abbrev main_while0b_v93 : Ref sig .tc := ⟨.hbm, 192, rfl⟩
abbrev main_while0b_v94 : Ref sig .tc := ⟨.hbm, 193, rfl⟩
abbrev main_while0b_v95 : Ref sig .tc := ⟨.hbm, 194, rfl⟩
abbrev main_while0b_v96 : Ref sig .tc := ⟨.hbm, 195, rfl⟩
abbrev main_while0b_v97 : Ref sig .tc := ⟨.hbm, 196, rfl⟩
abbrev main_while0b_v98 : Ref sig .tc := ⟨.hbm, 197, rfl⟩
abbrev main_while0b_v99 : Ref sig .tc := ⟨.hbm, 198, rfl⟩
abbrev main_while0b_v100 : Ref sig .tc := ⟨.hbm, 199, rfl⟩
abbrev main_while0b_v101 : Ref sig .tc := ⟨.hbm, 200, rfl⟩
abbrev main_while0b_v102 : Ref sig .tc := ⟨.hbm, 201, rfl⟩
abbrev main_while0b_v103 : Ref sig .tc := ⟨.hbm, 202, rfl⟩
abbrev main_while0b_v104 : Ref sig .tc := ⟨.hbm, 203, rfl⟩
abbrev main_while0b_v105 : Ref sig .tc := ⟨.hbm, 204, rfl⟩
abbrev main_while0b_cst_24 : Ref sig .tc := ⟨.hbm, 205, rfl⟩
abbrev main_while0b_call14_v0 : Ref sig .tc := ⟨.hbm, 206, rfl⟩
abbrev main_while0b_v106_1 : Ref sig .tc := ⟨.hbm, 207, rfl⟩
abbrev main_while0b_call14_v2 : Ref sig .tc := ⟨.hbm, 208, rfl⟩
abbrev main_while0b_v106_0 : Ref sig .tc := ⟨.hbm, 209, rfl⟩
abbrev main_while0b_call14_cst : Ref sig .tc := ⟨.hbm, 210, rfl⟩
abbrev main_while0b_v106_2 : Ref sig .tc := ⟨.hbm, 211, rfl⟩
abbrev main_while0b_v107 : Ref sig .tc := ⟨.hbm, 212, rfl⟩
abbrev main_while0b_v108 : Ref sig .tc := ⟨.hbm, 213, rfl⟩
abbrev main_while0b_v109 : Ref sig .tc := ⟨.hbm, 214, rfl⟩
abbrev main_while0b_v110 : Ref sig .tc := ⟨.hbm, 215, rfl⟩
abbrev main_while0b_v111 : Ref sig .tc := ⟨.hbm, 216, rfl⟩
abbrev main_while0b_v112 : Ref sig .tc := ⟨.hbm, 217, rfl⟩
abbrev main_while0b_v113 : Ref sig .tc := ⟨.hbm, 218, rfl⟩
abbrev main_while0b_v114 : Ref sig .tc := ⟨.hbm, 219, rfl⟩
abbrev main_while0b_v115 : Ref sig .tc := ⟨.hbm, 220, rfl⟩
abbrev main_while0b_v116 : Ref sig .tc := ⟨.hbm, 221, rfl⟩
abbrev main_while0b_v117 : Ref sig .tc := ⟨.hbm, 222, rfl⟩
abbrev main_while0b_v118 : Ref sig .tc := ⟨.hbm, 223, rfl⟩
abbrev main_while0b_v119 : Ref sig .tc := ⟨.hbm, 224, rfl⟩
abbrev main_while0b_v120 : Ref sig .tc := ⟨.hbm, 225, rfl⟩
abbrev main_while0b_v121 : Ref sig .tc := ⟨.hbm, 226, rfl⟩
abbrev main_while0b_v122 : Ref sig .tc := ⟨.hbm, 227, rfl⟩
abbrev main_while0b_v123 : Ref sig .tc := ⟨.hbm, 228, rfl⟩
abbrev main_while0b_v124 : Ref sig .tc := ⟨.hbm, 229, rfl⟩
abbrev main_while0b_v125 : Ref sig .tc := ⟨.hbm, 230, rfl⟩
abbrev main_while0b_v126 : Ref sig .tc := ⟨.hbm, 231, rfl⟩
abbrev main_while0b_v127 : Ref sig .tc := ⟨.hbm, 232, rfl⟩
abbrev main_while0b_v128 : Ref sig .tc := ⟨.hbm, 233, rfl⟩
abbrev main_while0b_v129 : Ref sig .tc := ⟨.hbm, 234, rfl⟩
abbrev main_while0b_v130 : Ref sig .tc := ⟨.hbm, 235, rfl⟩
abbrev main_while0b_v131 : Ref sig .tc := ⟨.hbm, 236, rfl⟩
abbrev main_while0b_v132 : Ref sig .tc := ⟨.hbm, 237, rfl⟩
abbrev main_while0b_v133 : Ref sig .tc := ⟨.hbm, 238, rfl⟩
abbrev main_while0b_v134 : Ref sig .tc := ⟨.hbm, 239, rfl⟩
abbrev main_while0b_v135 : Ref sig .tc := ⟨.hbm, 240, rfl⟩
abbrev main_while0b_v136 : Ref sig .tc := ⟨.hbm, 241, rfl⟩
abbrev main_while0b_v137 : Ref sig .tc := ⟨.hbm, 242, rfl⟩
abbrev main_while0b_v138 : Ref sig .tc := ⟨.hbm, 243, rfl⟩
abbrev main_while0b_v139 : Ref sig .tc := ⟨.hbm, 244, rfl⟩
abbrev main_while0b_v140 : Ref sig .tc := ⟨.hbm, 245, rfl⟩
abbrev main_while0b_v141 : Ref sig .tc := ⟨.hbm, 246, rfl⟩
abbrev main_while0b_v142 : Ref sig .tc := ⟨.hbm, 247, rfl⟩
abbrev main_while0b_v143 : Ref sig .tc := ⟨.hbm, 248, rfl⟩
abbrev main_while0b_v144 : Ref sig .tc := ⟨.hbm, 249, rfl⟩
abbrev main_while0b_v145 : Ref sig .tc := ⟨.hbm, 250, rfl⟩
abbrev main_while0b_v146 : Ref sig .tc := ⟨.hbm, 251, rfl⟩
abbrev main_while0b_v147 : Ref sig .tc := ⟨.hbm, 252, rfl⟩
abbrev main_while0b_v148 : Ref sig .tc := ⟨.hbm, 253, rfl⟩
abbrev main_while0b_v149 : Ref sig .tc := ⟨.hbm, 254, rfl⟩
abbrev main_while0b_v150 : Ref sig .tc := ⟨.hbm, 255, rfl⟩
abbrev main_while0b_v151 : Ref sig .tc := ⟨.hbm, 256, rfl⟩
abbrev main_while0b_v152 : Ref sig .tc := ⟨.hbm, 257, rfl⟩
abbrev main_while0b_v153 : Ref sig .tc := ⟨.hbm, 258, rfl⟩
abbrev main_while0b_call15_cst : Ref sig .tc := ⟨.hbm, 259, rfl⟩
abbrev main_while0b_call15_v0 : Ref sig .tc := ⟨.hbm, 260, rfl⟩
abbrev main_while0b_v154 : Ref sig .tc := ⟨.hbm, 261, rfl⟩
abbrev main_while0b_v155 : Ref sig .tc := ⟨.hbm, 262, rfl⟩
abbrev main_while0b_v156 : Ref sig .tc := ⟨.hbm, 263, rfl⟩
abbrev main_while0b_v157 : Ref sig .tc := ⟨.hbm, 264, rfl⟩
abbrev main_while0b_v158 : Ref sig .tc := ⟨.hbm, 265, rfl⟩
abbrev main_while0b_v159 : Ref sig .tc := ⟨.hbm, 266, rfl⟩
abbrev main_while0b_cst_25 : Ref sig .tc := ⟨.hbm, 267, rfl⟩
abbrev main_while0b_v160 : Ref sig .tc := ⟨.hbm, 268, rfl⟩
abbrev main_while0b_cst_26 : Ref sig .tc := ⟨.hbm, 269, rfl⟩
abbrev main_while0b_v161 : Ref sig .tc := ⟨.hbm, 270, rfl⟩
abbrev main_while0b_v162 : Ref sig .tc := ⟨.hbm, 271, rfl⟩
abbrev main_while0b_v163 : Ref sig .tc := ⟨.hbm, 272, rfl⟩
abbrev main_while0b_v164 : Ref sig .tc := ⟨.hbm, 273, rfl⟩
abbrev main_while0b_v165 : Ref sig .tc := ⟨.hbm, 274, rfl⟩
abbrev main_while0b_v166 : Ref sig .tc := ⟨.hbm, 275, rfl⟩
abbrev main_while0b_v167 : Ref sig .tc := ⟨.hbm, 276, rfl⟩
abbrev main_while0b_v168 : Ref sig .tc := ⟨.hbm, 277, rfl⟩
abbrev main_while0b_v169 : Ref sig .tc := ⟨.hbm, 278, rfl⟩
abbrev main_while0b_call16_cst : Ref sig .tc := ⟨.hbm, 279, rfl⟩
abbrev main_while0b_call16_v0 : Ref sig .tc := ⟨.hbm, 280, rfl⟩
abbrev main_while0b_v170 : Ref sig .tc := ⟨.hbm, 281, rfl⟩
abbrev main_while0b_v171 : Ref sig .tc := ⟨.hbm, 282, rfl⟩
abbrev main_while0b_v172 : Ref sig .tc := ⟨.hbm, 283, rfl⟩
abbrev main_while0b_v173 : Ref sig .tc := ⟨.hbm, 284, rfl⟩
abbrev main_while0b_v174 : Ref sig .tc := ⟨.hbm, 285, rfl⟩
abbrev main_while0b_v175 : Ref sig .tc := ⟨.hbm, 286, rfl⟩
abbrev main_while0b_v176 : Ref sig .tc := ⟨.hbm, 287, rfl⟩
abbrev main_while0b_v177 : Ref sig .tc := ⟨.hbm, 288, rfl⟩
abbrev main_while0b_v178 : Ref sig .tc := ⟨.hbm, 289, rfl⟩
abbrev main_while0b_v179 : Ref sig .tc := ⟨.hbm, 290, rfl⟩
abbrev main_while0b_v180 : Ref sig .tc := ⟨.hbm, 291, rfl⟩
abbrev main_while0b_call17_v0 : Ref sig .tc := ⟨.hbm, 292, rfl⟩
abbrev main_while0b_call17_c : Ref sig .tc := ⟨.hbm, 293, rfl⟩
abbrev main_while0b_call17_c_0 : Ref sig .tc := ⟨.hbm, 294, rfl⟩
abbrev main_while0b_call17_c_1 : Ref sig .tc := ⟨.hbm, 295, rfl⟩
abbrev main_while0b_v181 : Ref sig .tc := ⟨.hbm, 296, rfl⟩
abbrev main_while0b_call18_v0 : Ref sig .tc := ⟨.hbm, 297, rfl⟩
abbrev main_while0b_call18_c : Ref sig .tc := ⟨.hbm, 298, rfl⟩
abbrev main_while0b_call18_c_0 : Ref sig .tc := ⟨.hbm, 299, rfl⟩
abbrev main_while0b_call18_c_1 : Ref sig .tc := ⟨.hbm, 300, rfl⟩
abbrev main_while0b_v182 : Ref sig .tc := ⟨.hbm, 301, rfl⟩
abbrev main_while0b_call19_v0 : Ref sig .tc := ⟨.hbm, 302, rfl⟩
abbrev main_while0b_call19_c : Ref sig .tc := ⟨.hbm, 303, rfl⟩
abbrev main_while0b_call19_c_0 : Ref sig .tc := ⟨.hbm, 304, rfl⟩
abbrev main_while0b_call19_c_1 : Ref sig .tc := ⟨.hbm, 305, rfl⟩
abbrev main_while0b_v183 : Ref sig .tc := ⟨.hbm, 306, rfl⟩
abbrev main_while0b_c_27 : Ref sig .tc := ⟨.hbm, 307, rfl⟩
abbrev main_while0b_v184 : Ref sig .tc := ⟨.hbm, 308, rfl⟩
abbrev main_v32 : Ref sig .tc := ⟨.hbm, 309, rfl⟩
abbrev main_v33 : Ref sig .tc := ⟨.hbm, 310, rfl⟩
abbrev main_v34 : Ref sig .tc := ⟨.hbm, 311, rfl⟩
abbrev main_v35 : Ref sig .tc := ⟨.hbm, 312, rfl⟩
abbrev main_v36 : Ref sig .tc := ⟨.hbm, 313, rfl⟩
abbrev main_v37 : Ref sig .tc := ⟨.hbm, 314, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S8x128 : Shape := ⟨2, ![8, 128]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 13
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .bf16⟩
  | .hbm, ⟨6, _⟩ => ⟨S2048x2048, .bf16⟩
  | .hbm, ⟨7, _⟩ => ⟨S1x2048, .f32⟩
  | .hbm, ⟨8, _⟩ => ⟨S4096x2048, .f32⟩
  | .hbm, ⟨9, _⟩ => ⟨S4096x2048, .bf16⟩
  | .hbm, ⟨10, _⟩ => ⟨S4096x2048, .f32⟩
  | .hbm, ⟨11, _⟩ => ⟨S8x128, .f32⟩
  | .hbm, ⟨12, _⟩ => ⟨S8x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S256x2048, .f32⟩
  | .local _ .vmem, ⟨13, _⟩ => ⟨S256x2048, .f32⟩
  | .local _ .vmem, ⟨14, _⟩ => ⟨S8x128, .f32⟩
  | .local _ .vmem, ⟨15, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S8x128 : Shape := ⟨2, ![8, 128]⟩
abbrev S8x2048 : Shape := ⟨2, ![8, 2048]⟩

abbrev nBuf : Space → Nat
  | .hbm => 82
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S4096x2048, .f32⟩
  | .hbm, ⟨55, _⟩ => ⟨S4096x2048, .f32⟩
  | .hbm, ⟨56, _⟩ => ⟨S_, .f32⟩
  | .hbm, ⟨57, _⟩ => ⟨S2048, .f32⟩
  | .hbm, ⟨58, _⟩ => ⟨S4096x2048, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x2048, .f32⟩
  | .hbm, ⟨63, _⟩ => ⟨S4096x2048, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .bf16⟩
  | .hbm, ⟨77, _⟩ => ⟨S8x128, .f32⟩
  | .hbm, ⟨78, _⟩ => ⟨S1x2048, .f32⟩
  | .hbm, ⟨79, _⟩ => ⟨S_, .i32⟩
  | .hbm, ⟨80, _⟩ => ⟨S_, .f32⟩
  | .hbm, ⟨81, _⟩ => ⟨S8x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c : Ref sig .tc := ⟨.hbm, 79, rfl⟩
abbrev main_call0_v0 : Ref sig .tc := ⟨.hbm, 80, rfl⟩
abbrev main_v57 : Ref sig .tc := ⟨.hbm, 81, rfl⟩

abbrev nD : Nat := 1
abbrev τ : Topo := Topo.v7x

variable {F : FTy → Type} [FloatOps F]
-- ==== Kernel3.lean ====
abbrev S4096x2048 : Shape := ⟨2, ![4096, 2048]⟩
abbrev S2048x2048 : Shape := ⟨2, ![2048, 2048]⟩
abbrev S1024x512 : Shape := ⟨2, ![1024, 512]⟩
abbrev S1024x2048 : Shape := ⟨2, ![1024, 2048]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S2048x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S2048x7184 : Shape := ⟨2, ![2048, 7184]⟩
abbrev S2048x2048 : Shape := ⟨2, ![2048, 2048]⟩
abbrev S2048 : Shape := ⟨1, ![2048]⟩
abbrev S2048x16 : Shape := ⟨2, ![2048, 16]⟩
abbrev S_ : Shape := ⟨0, ![]⟩
abbrev S2048x128 : Shape := ⟨2, ![2048, 128]⟩
abbrev S2048x4096 : Shape := ⟨2, ![2048, 4096]⟩
abbrev S2048x3072 : Shape := ⟨2, ![2048, 3072]⟩
abbrev S2048x7168 : Shape := ⟨2, ![2048, 7168]⟩
abbrev S1x2048 : Shape := ⟨2, ![1, 2048]⟩
abbrev S8x2048 : Shape := ⟨2, ![8, 2048]⟩
abbrev S512x1024 : Shape := ⟨2, ![512, 1024]⟩
abbrev S512x128 : Shape := ⟨2, ![512, 128]⟩
abbrev S2048x1024 : Shape := ⟨2, ![2048, 1024]⟩
abbrev S512x2048 : Shape := ⟨2, ![512, 2048]⟩
abbrev S16x2048 : Shape := ⟨2, ![16, 2048]⟩
abbrev S16 : Shape := ⟨1, ![16]⟩
abbrev S16x1 : Shape := ⟨2, ![16, 1]⟩

abbrev nBuf : Space → Nat
  | .hbm => 26
  | .vmem => 16
  | .smem => 0
  | _ => 0

abbrev bufTy : (tb : Table) → Fin (tcTables nBuf tb) → BufTy
  | .hbm, ⟨0, _⟩ => ⟨S2048x7184, .f32⟩
  | .hbm, ⟨1, _⟩ => ⟨S2048x7184, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x16, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S2048x4096, .f32⟩
  | .hbm, ⟨10, _⟩ => ⟨S2048x3072, .f32⟩
  | .hbm, ⟨11, _⟩ => ⟨S2048x7168, .f32⟩
  | .hbm, ⟨12, _⟩ => ⟨S2048x7168, .bf16⟩
  | .hbm, ⟨13, _⟩ => ⟨S2048x128, .bf16⟩
  | .hbm, ⟨14, _⟩ => ⟨S2048x16, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S2048x4096, .f32⟩
  | .hbm, ⟨19, _⟩ => ⟨S2048x3072, .f32⟩
  | .hbm, ⟨20, _⟩ => ⟨S2048x7168, .f32⟩
  | .hbm, ⟨21, _⟩ => ⟨S2048x7168, .bf16⟩
  | .hbm, ⟨22, _⟩ => ⟨S2048x128, .bf16⟩
  | .hbm, ⟨23, _⟩ => ⟨S1x2048, .f32⟩
  | .hbm, ⟨24, _⟩ => ⟨S2048x2048, .f32⟩
  | .hbm, ⟨25, _⟩ => ⟨S8x2048, .f32⟩
  | .local _ .vmem, ⟨0, _⟩ => ⟨S512x1024, .bf16⟩
  | .local _ .vmem, ⟨1, _⟩ => ⟨S512x1024, .bf16⟩
  | .local _ .vmem, ⟨2, _⟩ => ⟨S512x128, .bf16⟩
  | .local _ .vmem, ⟨3, _⟩ => ⟨S512x128, .bf16⟩
  | .local _ .vmem, ⟨4, _⟩ => ⟨S2048x1024, .bf16⟩
  | .local _ .vmem, ⟨5, _⟩ => ⟨S2048x1024, .bf16⟩
  | .local _ .vmem, ⟨6, _⟩ => ⟨S2048x128, .bf16⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S8x2048, .f32⟩
  | .local _ .vmem, ⟨15, _⟩ => ⟨S512x2048, .f32⟩
  | _, _ => ⟨S2048x7184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨2, ![4, 7], ![false, false]⟩

def k0_cond3 (i : grid0.Coords) : BitVec 1 :=
  let arg1 : BitVec 32 := BitVec.ofNat 32 (i 1).val
  let c6_i32 : BitVec 32 := 6#32
  let v18 : BitVec 1 := Scalar.cmpi .eq arg1 c6_i32
  let v19 : BitVec 32 := Scalar.extui v18
  let c0_i32_10 : BitVec 32 := 0#32
  let v20 : BitVec 1 := Scalar.cmpi .ne v19 c0_i32_10
  v20

@[reducible] def k0_t1_loop : Scf.Loop 32 :=
  let c0_i32_14 : BitVec 32 := 0#32
  let c8_i32 : BitVec 32 := 8#32
  let v24 : BitVec 32 := Scalar.addi c0_i32_14 c8_i32
  let c1_i32 : BitVec 32 := 1#32
  ⟨c0_i32_14, v24, c1_i32⟩
def k0_mult1 (k0_t1 : Fin k0_t1_loop.trips) : BitVec 32 :=
  let c0_i32_14 : BitVec 32 := 0#32
  let c1_i32 : BitVec 32 := 1#32
  let arg12 : BitVec 32 := Scf.iv c0_i32_14 c1_i32 k0_t1
  let c64_i32 : BitVec 32 := 64#32
  let v32 : BitVec 32 := Scalar.muli arg12 c64_i32
  let c0_i32_21 : BitVec 32 := 0#32
  let v33 : BitVec 32 := Scalar.addi v32 c0_i32_21
  v33
def k0_off1 (k0_t1 : Fin k0_t1_loop.trips) (c0_i32_21 : BitVec 32) : Fin 2 → Nat :=
  let c0_i32_14 : BitVec 32 := 0#32
  let c1_i32 : BitVec 32 := 1#32
  let arg12 : BitVec 32 := Scf.iv c0_i32_14 c1_i32 k0_t1
  let c64_i32 : BitVec 32 := 64#32
  let v32 : BitVec 32 := Scalar.muli arg12 c64_i32
  let v33 : BitVec 32 := Scalar.addi v32 c0_i32_21
  let v34 : BitVec 32 := v33
  let v35 : Index := Scalar.indexCast v34
  let c0_22 : Index := 0#32
  ![v35.toNat, 0]
def k0_mult2 (k0_t1 : Fin k0_t1_loop.trips) : BitVec 32 :=
  let c0_i32_14 : BitVec 32 := 0#32
  let c1_i32 : BitVec 32 := 1#32
  let arg12 : BitVec 32 := Scf.iv c0_i32_14 c1_i32 k0_t1
  let c64_i32_31 : BitVec 32 := 64#32
  let v71 : BitVec 32 := Scalar.muli arg12 c64_i32_31
  let c16_i32 : BitVec 32 := 16#32
  let v72 : BitVec 32 := Scalar.addi v71 c16_i32
  v72
def k0_mult3 (k0_t1 : Fin k0_t1_loop.trips) : BitVec 32 :=
  let c0_i32_14 : BitVec 32 := 0#32
  let c1_i32 : BitVec 32 := 1#32
  let arg12 : BitVec 32 := Scf.iv c0_i32_14 c1_i32 k0_t1
  let c64_i32_41 : BitVec 32 := 64#32
  let v110 : BitVec 32 := Scalar.muli arg12 c64_i32_41
  let c32_i32 : BitVec 32 := 32#32
  let v111 : BitVec 32 := Scalar.addi v110 c32_i32
  v111
def k0_mult4 (k0_t1 : Fin k0_t1_loop.trips) : BitVec 32 :=
  let c0_i32_14 : BitVec 32 := 0#32
  let c1_i32 : BitVec 32 := 1#32
  let arg12 : BitVec 32 := Scf.iv c0_i32_14 c1_i32 k0_t1
  let c64_i32_51 : BitVec 32 := 64#32
  let v149 : BitVec 32 := Scalar.muli arg12 c64_i32_51
  let c48_i32 : BitVec 32 := 48#32
  let v150 : BitVec 32 := Scalar.addi v149 c48_i32
  v150
def k0_cond1 (i : grid0.Coords) : BitVec 1 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference4Ideal.lean ====
abbrev S2048x7184 : Shape := ⟨2, ![2048, 7184]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S8x2048 : Shape := ⟨2, ![8, 2048]⟩

abbrev nBuf : Space → Nat
  | .hbm => 57
  | .vmem => 0
  | .smem => 0
  | _ => 0

abbrev bufTy : (tb : Table) → Fin (tcTables nBuf tb) → BufTy
  | .hbm, ⟨0, _⟩ => ⟨S2048x7184, .f32⟩
  | .hbm, ⟨1, _⟩ => ⟨S2048x7184, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x7184, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x2048, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x2048, .f32⟩
  | .hbm, ⟨40, _⟩ => ⟨S2048x2048, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S1x2048, .f32⟩
  | .hbm, ⟨54, _⟩ => ⟨S_, .i32⟩
  | .hbm, ⟨55, _⟩ => ⟨S_, .f32⟩
  | .hbm, ⟨56, _⟩ => ⟨S8x2048, .f32⟩
  | _, _ => ⟨S2048x7184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c : Ref sig .tc := ⟨.hbm, 54, rfl⟩
abbrev main_call0_v0 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Kernel5.lean ====
abbrev S4096x7184 : Shape := ⟨2, ![4096, 7184]⟩
abbrev S2048x7184 : Shape := ⟨2, ![2048, 7184]⟩
abbrev S4096x2048 : Shape := ⟨2, ![4096, 2048]⟩
abbrev S2048 : Shape := ⟨1, ![2048]⟩
abbrev S8x2048 : Shape := ⟨2, ![8, 2048]⟩
abbrev S4096x16 : Shape := ⟨2, ![4096, 16]⟩
abbrev S_ : Shape := ⟨0, ![]⟩
abbrev S4096x128 : Shape := ⟨2, ![4096, 128]⟩
abbrev S4096x4096 : Shape := ⟨2, ![4096, 4096]⟩
abbrev S4096x3072 : Shape := ⟨2, ![4096, 3072]⟩
abbrev S4096x7168 : Shape := ⟨2, ![4096, 7168]⟩
abbrev S2048x16 : Shape := ⟨2, ![2048, 16]⟩
abbrev S2048x128 : Shape := ⟨2, ![2048, 128]⟩
abbrev S2048x4096 : Shape := ⟨2, ![2048, 4096]⟩
abbrev S2048x3072 : Shape := ⟨2, ![2048, 3072]⟩
abbrev S2048x7168 : Shape := ⟨2, ![2048, 7168]⟩
abbrev S1x2048 : Shape := ⟨2, ![1, 2048]⟩
abbrev S512x1024 : Shape := ⟨2, ![512, 1024]⟩
abbrev S512x128 : Shape := ⟨2, ![512, 128]⟩
abbrev S2048x1024 : Shape := ⟨2, ![2048, 1024]⟩
abbrev S512x2048 : Shape := ⟨2, ![512, 2048]⟩
abbrev S16x2048 : Shape := ⟨2, ![16, 2048]⟩
abbrev S16 : Shape := ⟨1, ![16]⟩
abbrev S16x1 : Shape := ⟨2, ![16, 1]⟩

abbrev nBuf : Space → Nat
  | .hbm => 28
  | .vmem => 17
  | .smem => 0
  | _ => 0

abbrev bufTy : (tb : Table) → Fin (tcTables nBuf tb) → BufTy
  | .hbm, ⟨0, _⟩ => ⟨S4096x7184, .f32⟩
  | .hbm, ⟨1, _⟩ => ⟨S2048x7184, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S8x2048, .f32⟩
  | .hbm, ⟨7, _⟩ => ⟨S4096x16, .f32⟩
  | .hbm, ⟨8, _⟩ => ⟨S_, .i32⟩
  | .hbm, ⟨9, _⟩ => ⟨S_, .f32⟩
  | .hbm, ⟨10, _⟩ => ⟨S4096x128, .f32⟩
  | .hbm, ⟨11, _⟩ => ⟨S4096x4096, .f32⟩
  | .hbm, ⟨12, _⟩ => ⟨S4096x3072, .f32⟩
  | .hbm, ⟨13, _⟩ => ⟨S4096x7168, .f32⟩
  | .hbm, ⟨14, _⟩ => ⟨S4096x7168, .bf16⟩
  | .hbm, ⟨15, _⟩ => ⟨S4096x128, .bf16⟩
  | .hbm, ⟨16, _⟩ => ⟨S2048x16, .f32⟩
  | .hbm, ⟨17, _⟩ => ⟨S_, .i32⟩
  | .hbm, ⟨18, _⟩ => ⟨S_, .f32⟩
  | .hbm, ⟨19, _⟩ => ⟨S2048x128, .f32⟩
  | .hbm, ⟨20, _⟩ => ⟨S2048x4096, .f32⟩
  | .hbm, ⟨21, _⟩ => ⟨S2048x3072, .f32⟩
  | .hbm, ⟨22, _⟩ => ⟨S2048x7168, .f32⟩
  | .hbm, ⟨23, _⟩ => ⟨S2048x7168, .bf16⟩
  | .hbm, ⟨24, _⟩ => ⟨S2048x128, .bf16⟩
  | .hbm, ⟨25, _⟩ => ⟨S1x2048, .f32⟩
  | .hbm, ⟨26, _⟩ => ⟨S4096x2048, .f32⟩
  | .hbm, ⟨27, _⟩ => ⟨S8x2048, .f32⟩
  | .local _ .vmem, ⟨0, _⟩ => ⟨S512x1024, .bf16⟩
  | .local _ .vmem, ⟨1, _⟩ => ⟨S512x1024, .bf16⟩
  | .local _ .vmem, ⟨2, _⟩ => ⟨S512x128, .bf16⟩
  | .local _ .vmem, ⟨3, _⟩ => ⟨S512x128, .bf16⟩
  | .local _ .vmem, ⟨4, _⟩ => ⟨S2048x1024, .bf16⟩
  | .local _ .vmem, ⟨5, _⟩ => ⟨S2048x1024, .bf16⟩
  | .local _ .vmem, ⟨6, _⟩ => ⟨S2048x128, .bf16⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S8x2048, .f32⟩
  | .local _ .vmem, ⟨13, _⟩ => ⟨S512x2048, .f32⟩
  | .local _ .vmem, ⟨14, _⟩ => ⟨S512x2048, .f32⟩
  | .local _ .vmem, ⟨15, _⟩ => ⟨S8x2048, .f32⟩
  | .local _ .vmem, ⟨16, _⟩ => ⟨S512x2048, .f32⟩
  | _, _ => ⟨S4096x7184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨2, ![4, 7], ![false, false]⟩

def k0_cond3 (i : grid0.Coords) : BitVec 1 :=
  let arg1 : BitVec 32 := BitVec.ofNat 32 (i 1).val
  let c6_i32 : BitVec 32 := 6#32
  let v18 : BitVec 1 := Scalar.cmpi .eq arg1 c6_i32
  let v19 : BitVec 32 := Scalar.extui v18
  let c0_i32_10 : BitVec 32 := 0#32
  let v20 : BitVec 1 := Scalar.cmpi .ne v19 c0_i32_10
  v20

@[reducible] def k0_t1_loop : Scf.Loop 32 :=
  let c0_i32_14 : BitVec 32 := 0#32
  let c8_i32 : BitVec 32 := 8#32
  let v24 : BitVec 32 := Scalar.addi c0_i32_14 c8_i32
  let c1_i32 : BitVec 32 := 1#32
  ⟨c0_i32_14, v24, c1_i32⟩
def k0_mult1 (k0_t1 : Fin k0_t1_loop.trips) : BitVec 32 :=
  let c0_i32_14 : BitVec 32 := 0#32
  let c1_i32 : BitVec 32 := 1#32
  let arg14 : BitVec 32 := Scf.iv c0_i32_14 c1_i32 k0_t1
  let c64_i32 : BitVec 32 := 64#32
  let v32 : BitVec 32 := Scalar.muli arg14 c64_i32
  let c0_i32_21 : BitVec 32 := 0#32
  let v33 : BitVec 32 := Scalar.addi v32 c0_i32_21
  v33
def k0_off1 (k0_t1 : Fin k0_t1_loop.trips) (c0_i32_21 : BitVec 32) : Fin 2 → Nat :=
  let c0_i32_14 : BitVec 32 := 0#32
  let c1_i32 : BitVec 32 := 1#32
  let arg14 : BitVec 32 := Scf.iv c0_i32_14 c1_i32 k0_t1
  let c64_i32 : BitVec 32 := 64#32
  let v32 : BitVec 32 := Scalar.muli arg14 c64_i32
  let v33 : BitVec 32 := Scalar.addi v32 c0_i32_21
  let v34 : BitVec 32 := v33
  let v35 : Index := Scalar.indexCast v34
  let c0_22 : Index := 0#32
  ![v35.toNat, 0]
def k0_mult2 (k0_t1 : Fin k0_t1_loop.trips) : BitVec 32 :=
  let c0_i32_14 : BitVec 32 := 0#32
  let c1_i32 : BitVec 32 := 1#32
  let arg14 : BitVec 32 := Scf.iv c0_i32_14 c1_i32 k0_t1
  let c64_i32_31 : BitVec 32 := 64#32
  let v71 : BitVec 32 := Scalar.muli arg14 c64_i32_31
  let c16_i32 : BitVec 32 := 16#32
  let v72 : BitVec 32 := Scalar.addi v71 c16_i32
  v72
def k0_mult3 (k0_t1 : Fin k0_t1_loop.trips) : BitVec 32 :=
  let c0_i32_14 : BitVec 32 := 0#32
  let c1_i32 : BitVec 32 := 1#32
  let arg14 : BitVec 32 := Scf.iv c0_i32_14 c1_i32 k0_t1
  let c64_i32_41 : BitVec 32 := 64#32
  let v110 : BitVec 32 := Scalar.muli arg14 c64_i32_41
  let c32_i32 : BitVec 32 := 32#32
  let v111 : BitVec 32 := Scalar.addi v110 c32_i32
  v111
def k0_mult4 (k0_t1 : Fin k0_t1_loop.trips) : BitVec 32 :=
  let c0_i32_14 : BitVec 32 := 0#32
  let c1_i32 : BitVec 32 := 1#32
  let arg14 : BitVec 32 := Scf.iv c0_i32_14 c1_i32 k0_t1
  let c64_i32_51 : BitVec 32 := 64#32
  let v149 : BitVec 32 := Scalar.muli arg14 c64_i32_51
  let c48_i32 : BitVec 32 := 48#32
  let v150 : BitVec 32 := Scalar.addi v149 c48_i32
  v150
def k0_cond1 (i : grid0.Coords) : BitVec 1 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference5Ideal.lean ====
abbrev S4096x7184 : Shape := ⟨2, ![4096, 7184]⟩
abbrev S2048x7184 : Shape := ⟨2, ![2048, 7184]⟩
abbrev S4096x2048 : Shape := ⟨2, ![4096, 2048]⟩
abbrev S2048 : Shape := ⟨1, ![2048]⟩
abbrev S8x2048 : Shape := ⟨2, ![8, 2048]⟩
abbrev S2048x2048 : Shape := ⟨2, ![2048, 2048]⟩
abbrev S_ : Shape := ⟨0, ![]⟩
abbrev S2048x1 : Shape := ⟨2, ![2048, 1]⟩
abbrev S1x2048 : Shape := ⟨2, ![1, 2048]⟩

abbrev nBuf : Space → Nat
  | .hbm => 65
  | .vmem => 0
  | .smem => 0
  | _ => 0

abbrev bufTy : (tb : Table) → Fin (tcTables nBuf tb) → BufTy
  | .hbm, ⟨0, _⟩ => ⟨S4096x7184, .f32⟩
  | .hbm, ⟨1, _⟩ => ⟨S2048x7184, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S8x2048, .f32⟩
  | .hbm, ⟨7, _⟩ => ⟨S2048x7184, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x2048, .f32⟩
  | .hbm, ⟨26, _⟩ => ⟨S2048x2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S2048x7184, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048, .f32⟩
  | .hbm, ⟨40, _⟩ => ⟨S2048x2048, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S2048x2048, .f32⟩
  | .hbm, ⟨45, _⟩ => ⟨S2048x2048, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S1x2048, .f32⟩
  | .hbm, ⟨59, _⟩ => ⟨S_, .i32⟩
  | .hbm, ⟨60, _⟩ => ⟨S_, .f32⟩
  | .hbm, ⟨61, _⟩ => ⟨S8x2048, .f32⟩
  | .hbm, ⟨62, _⟩ => ⟨S2048x2048, .f32⟩
  | .hbm, ⟨63, _⟩ => ⟨S4096x2048, .f32⟩
  | .hbm, ⟨64, _⟩ => ⟨S8x2048, .f32⟩
  | _, _ => ⟨S4096x7184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c : Ref sig .tc := ⟨.hbm, 59, rfl⟩
abbrev main_call0_v0 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== Kernel6.lean ====
abbrev S4096x2048 : Shape := ⟨2, ![4096, 2048]⟩
abbrev S2048x7184 : Shape := ⟨2, ![2048, 7184]⟩
abbrev S4096x7168 : Shape := ⟨2, ![4096, 7168]⟩
abbrev S2048x16 : Shape := ⟨2, ![2048, 16]⟩
abbrev S_ : Shape := ⟨0, ![]⟩
abbrev S2048x128 : Shape := ⟨2, ![2048, 128]⟩
abbrev S2048x4096 : Shape := ⟨2, ![2048, 4096]⟩
abbrev S2048x3072 : Shape := ⟨2, ![2048, 3072]⟩
abbrev S2048x7168 : Shape := ⟨2, ![2048, 7168]⟩
abbrev S4096x128 : Shape := ⟨2, ![4096, 128]⟩
abbrev S2048x2048 : Shape := ⟨2, ![2048, 2048]⟩
abbrev S2048x1024 : Shape := ⟨2, ![2048, 1024]⟩

abbrev nBuf : Space → Nat
  | .hbm => 15
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2048x7184, .f32⟩
  | .hbm, ⟨2, _⟩ => ⟨S4096x7168, .f32⟩
  | .hbm, ⟨3, _⟩ => ⟨S2048x16, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S2048x4096, .f32⟩
  | .hbm, ⟨8, _⟩ => ⟨S2048x3072, .f32⟩
  | .hbm, ⟨9, _⟩ => ⟨S2048x7168, .f32⟩
  | .hbm, ⟨10, _⟩ => ⟨S2048x7168, .bf16⟩
  | .hbm, ⟨11, _⟩ => ⟨S2048x128, .bf16⟩
  | .hbm, ⟨12, _⟩ => ⟨S4096x2048, .bf16⟩
  | .hbm, ⟨13, _⟩ => ⟨S4096x7168, .f32⟩
  | .hbm, ⟨14, _⟩ => ⟨S4096x128, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x128, .bf16⟩
  | .local _ .vmem, ⟨5, _⟩ => ⟨S2048x1024, .f32⟩
  | .local _ .vmem, ⟨6, _⟩ => ⟨S2048x1024, .f32⟩
  | .local _ .vmem, ⟨7, _⟩ => ⟨S2048x128, .f32⟩
  | .local _ .vmem, ⟨8, _⟩ => ⟨S2048x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference6Ideal.lean ====
abbrev S4096x2048 : Shape := ⟨2, ![4096, 2048]⟩
abbrev S2048x7184 : Shape := ⟨2, ![2048, 7184]⟩
abbrev S4096x7168 : Shape := ⟨2, ![4096, 7168]⟩
abbrev S4096x7184 : Shape := ⟨2, ![4096, 7184]⟩
abbrev S4096x4096 : Shape := ⟨2, ![4096, 4096]⟩
abbrev S4096x3072 : Shape := ⟨2, ![4096, 3072]⟩
abbrev S4096x16 : Shape := ⟨2, ![4096, 16]⟩
abbrev S_ : Shape := ⟨0, ![]⟩
abbrev S4096x128 : Shape := ⟨2, ![4096, 128]⟩
abbrev S4096x1024 : Shape := ⟨2, ![4096, 1024]⟩
abbrev S4096x6144 : Shape := ⟨2, ![4096, 6144]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x7184, .f32⟩
  | .hbm, ⟨2, _⟩ => ⟨S4096x7168, .f32⟩
  | .hbm, ⟨3, _⟩ => ⟨S4096x7184, .f32⟩
  | .hbm, ⟨4, _⟩ => ⟨S4096x4096, .f32⟩
  | .hbm, ⟨5, _⟩ => ⟨S4096x3072, .f32⟩
  | .hbm, ⟨6, _⟩ => ⟨S4096x7168, .f32⟩
  | .hbm, ⟨7, _⟩ => ⟨S4096x16, .f32⟩
  | .hbm, ⟨8, _⟩ => ⟨S_, .i32⟩
  | .hbm, ⟨9, _⟩ => ⟨S_, .f32⟩
  | .hbm, ⟨10, _⟩ => ⟨S4096x128, .f32⟩
  | .hbm, ⟨11, _⟩ => ⟨S4096x1024, .f32⟩
  | .hbm, ⟨12, _⟩ => ⟨S4096x6144, .f32⟩
  | .hbm, ⟨13, _⟩ => ⟨S4096x7168, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel7.lean ====
abbrev S4x256x2048 : Shape := ⟨3, ![4, 256, 2048]⟩
abbrev S3x256x2048 : Shape := ⟨3, ![3, 256, 2048]⟩
abbrev S256x2048 : Shape := ⟨2, ![256, 2048]⟩
abbrev S1x64x2048 : Shape := ⟨3, ![1, 64, 2048]⟩
abbrev S3x64x2048 : Shape := ⟨3, ![3, 64, 2048]⟩
abbrev S64x2048 : Shape := ⟨2, ![64, 2048]⟩

abbrev nBuf : Space → Nat
  | .hbm => 11
  | .vmem => 18
  | .smem => 0
  | _ => 0

abbrev bufTy : (tb : Table) → Fin (tcTables nBuf tb) → BufTy
  | .hbm, ⟨0, _⟩ => ⟨S4x256x2048, .f32⟩
  | .hbm, ⟨1, _⟩ => ⟨S3x256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S4x256x2048, .bf16⟩
  | .hbm, ⟨6, _⟩ => ⟨S3x256x2048, .bf16⟩
  | .hbm, ⟨7, _⟩ => ⟨S256x2048, .f32⟩
  | .hbm, ⟨8, _⟩ => ⟨S256x2048, .f32⟩
  | .hbm, ⟨9, _⟩ => ⟨S256x2048, .f32⟩
  | .hbm, ⟨10, _⟩ => ⟨S256x2048, .f32⟩
  | .local _ .vmem, ⟨0, _⟩ => ⟨S1x64x2048, .bf16⟩
  | .local _ .vmem, ⟨1, _⟩ => ⟨S1x64x2048, .bf16⟩
  | .local _ .vmem, ⟨2, _⟩ => ⟨S3x64x2048, .bf16⟩
  | .local _ .vmem, ⟨3, _⟩ => ⟨S3x64x2048, .bf16⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S4x256x2048 : Shape := ⟨3, ![4, 256, 2048]⟩
abbrev S3x256x2048 : Shape := ⟨3, ![3, 256, 2048]⟩
abbrev S256x2048 : Shape := ⟨2, ![256, 2048]⟩
abbrev S1x256x2048 : Shape := ⟨3, ![1, 256, 2048]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S3x256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S1x256x2048, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S_, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S_, .f32⟩
  | .hbm, ⟨22, _⟩ => ⟨S256x2048, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S256x2048, .f32⟩
  | .hbm, ⟨36, _⟩ => ⟨S_, .f32⟩
  | .hbm, ⟨37, _⟩ => ⟨S256x2048, .f32⟩
  | .hbm, ⟨38, _⟩ => ⟨S256x2048, .f32⟩
  | .hbm, ⟨39, _⟩ => ⟨S256x2048, .f32⟩
  | .hbm, ⟨40, _⟩ => ⟨S_, .f32⟩
  | .hbm, ⟨41, _⟩ => ⟨S256x2048, .f32⟩
  | .hbm, ⟨42, _⟩ => ⟨S256x2048, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel8.lean ====
abbrev S4x2048x898 : Shape := ⟨3, ![4, 2048, 898]⟩
abbrev S3x2048x898 : Shape := ⟨3, ![3, 2048, 898]⟩
abbrev S898x2048 : Shape := ⟨2, ![898, 2048]⟩
abbrev S1x256x898 : Shape := ⟨3, ![1, 256, 898]⟩
abbrev S3x256x898 : Shape := ⟨3, ![3, 256, 898]⟩
abbrev S898x256 : Shape := ⟨2, ![898, 256]⟩
abbrev S256x898 : Shape := ⟨2, ![256, 898]⟩

abbrev nBuf : Space → Nat
  | .hbm => 11
  | .vmem => 18
  | .smem => 0
  | _ => 0

abbrev bufTy : (tb : Table) → Fin (tcTables nBuf tb) → BufTy
  | .hbm, ⟨0, _⟩ => ⟨S4x2048x898, .f32⟩
  | .hbm, ⟨1, _⟩ => ⟨S3x2048x898, .f32⟩
  | .hbm, ⟨2, _⟩ => ⟨S898x2048, .f32⟩
  | .hbm, ⟨3, _⟩ => ⟨S898x2048, .f32⟩
  | .hbm, ⟨4, _⟩ => ⟨S898x2048, .f32⟩
  | .hbm, ⟨5, _⟩ => ⟨S4x2048x898, .bf16⟩
  | .hbm, ⟨6, _⟩ => ⟨S3x2048x898, .bf16⟩
  | .hbm, ⟨7, _⟩ => ⟨S898x2048, .f32⟩
  | .hbm, ⟨8, _⟩ => ⟨S898x2048, .f32⟩
  | .hbm, ⟨9, _⟩ => ⟨S898x2048, .f32⟩
  | .hbm, ⟨10, _⟩ => ⟨S898x2048, .f32⟩
  | .local _ .vmem, ⟨0, _⟩ => ⟨S1x256x898, .bf16⟩
  | .local _ .vmem, ⟨1, _⟩ => ⟨S1x256x898, .bf16⟩
  | .local _ .vmem, ⟨2, _⟩ => ⟨S3x256x898, .bf16⟩
  | .local _ .vmem, ⟨3, _⟩ => ⟨S3x256x898, .bf16⟩
  | .local _ .vmem, ⟨4, _⟩ => ⟨S898x256, .f32⟩
  | .local _ .vmem, ⟨5, _⟩ => ⟨S898x256, .f32⟩
  | .local _ .vmem, ⟨6, _⟩ => ⟨S898x256, .f32⟩
  | .local _ .vmem, ⟨7, _⟩ => ⟨S898x256, .f32⟩
  | .local _ .vmem, ⟨8, _⟩ => ⟨S898x256, .f32⟩
  | .local _ .vmem, ⟨9, _⟩ => ⟨S898x256, .f32⟩
  | .local _ .vmem, ⟨10, _⟩ => ⟨S898x256, .f32⟩
  | .local _ .vmem, ⟨11, _⟩ => ⟨S898x256, .f32⟩
  | .local _ .vmem, ⟨12, _⟩ => ⟨S898x256, .f32⟩
  | .local _ .vmem, ⟨13, _⟩ => ⟨S898x256, .f32⟩
  | .local _ .vmem, ⟨14, _⟩ => ⟨S898x256, .f32⟩
  | .local _ .vmem, ⟨15, _⟩ => ⟨S898x256, .f32⟩
  | .local _ .vmem, ⟨16, _⟩ => ⟨S898x256, .f32⟩
  | .local _ .vmem, ⟨17, _⟩ => ⟨S898x256, .f32⟩
  | _, _ => ⟨S4x2048x898, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x256x898 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x898 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S898x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S898x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S898x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S898x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S898x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S898x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S898x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S4x2048x898 : Shape := ⟨3, ![4, 2048, 898]⟩
abbrev S3x2048x898 : Shape := ⟨3, ![3, 2048, 898]⟩
abbrev S898x2048 : Shape := ⟨2, ![898, 2048]⟩
abbrev S1x2048x898 : Shape := ⟨3, ![1, 2048, 898]⟩
abbrev S2048x898 : Shape := ⟨2, ![2048, 898]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x898, .f32⟩
  | .hbm, ⟨1, _⟩ => ⟨S3x2048x898, .f32⟩
  | .hbm, ⟨2, _⟩ => ⟨S898x2048, .f32⟩
  | .hbm, ⟨3, _⟩ => ⟨S898x2048, .f32⟩
  | .hbm, ⟨4, _⟩ => ⟨S898x2048, .f32⟩
  | .hbm, ⟨5, _⟩ => ⟨S1x2048x898, .f32⟩
  | .hbm, ⟨6, _⟩ => ⟨S2048x898, .f32⟩
  | .hbm, ⟨7, _⟩ => ⟨S_, .f32⟩
  | .hbm, ⟨8, _⟩ => ⟨S2048x898, .f32⟩
  | .hbm, ⟨9, _⟩ => ⟨S2048x898, .f32⟩
  | .hbm, ⟨10, _⟩ => ⟨S898x2048, .f32⟩
  | .hbm, ⟨11, _⟩ => ⟨S_, .f32⟩
  | .hbm, ⟨12, _⟩ => ⟨S898x2048, .f32⟩
  | .hbm, ⟨13, _⟩ => ⟨S898x2048, .f32⟩
  | .hbm, ⟨14, _⟩ => ⟨S_, .f32⟩
  | .hbm, ⟨15, _⟩ => ⟨S898x2048, .f32⟩
  | .hbm, ⟨16, _⟩ => ⟨S898x2048, .f32⟩
  | .hbm, ⟨17, _⟩ => ⟨S898x2048, .f32⟩
  | .hbm, ⟨18, _⟩ => ⟨S_, .f32⟩
  | .hbm, ⟨19, _⟩ => ⟨S898x2048, .f32⟩
  | .hbm, ⟨20, _⟩ => ⟨S898x2048, .f32⟩
  | .hbm, ⟨21, _⟩ => ⟨S898x2048, .f32⟩
  | .hbm, ⟨22, _⟩ => ⟨S_, .f32⟩
  | .hbm, ⟨23, _⟩ => ⟨S898x2048, .f32⟩
  | .hbm, ⟨24, _⟩ => ⟨S898x2048, .f32⟩
  | .hbm, ⟨25, _⟩ => ⟨S898x2048, .f32⟩
  | .hbm, ⟨26, _⟩ => ⟨S_, .f32⟩
  | .hbm, ⟨27, _⟩ => ⟨S898x2048, .f32⟩
  | .hbm, ⟨28, _⟩ => ⟨S898x2048, .f32⟩
  | .hbm, ⟨29, _⟩ => ⟨S_, .f32⟩
  | .hbm, ⟨30, _⟩ => ⟨S898x2048, .f32⟩
  | .hbm, ⟨31, _⟩ => ⟨S898x2048, .f32⟩
  | .hbm, ⟨32, _⟩ => ⟨S898x2048, .f32⟩
  | .hbm, ⟨33, _⟩ => ⟨S_, .f32⟩
  | .hbm, ⟨34, _⟩ => ⟨S898x2048, .f32⟩
  | .hbm, ⟨35, _⟩ => ⟨S898x2048, .f32⟩
  | .hbm, ⟨36, _⟩ => ⟨S898x2048, .f32⟩
  | .hbm, ⟨37, _⟩ => ⟨S_, .f32⟩
  | .hbm, ⟨38, _⟩ => ⟨S898x2048, .f32⟩
  | .hbm, ⟨39, _⟩ => ⟨S898x2048, .f32⟩
  | .hbm, ⟨40, _⟩ => ⟨S898x2048, .f32⟩
  | .hbm, ⟨41, _⟩ => ⟨S_, .f32⟩
  | .hbm, ⟨42, _⟩ => ⟨S898x2048, .f32⟩
  | .hbm, ⟨43, _⟩ => ⟨S898x2048, .f32⟩
  | _, _ => ⟨S4x2048x898, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel9.lean ====
abbrev S4096x1024 : Shape := ⟨2, ![4096, 1024]⟩
abbrev S4096x7168 : Shape := ⟨2, ![4096, 7168]⟩
abbrev S1x128 : Shape := ⟨2, ![1, 128]⟩
abbrev S1x1024 : Shape := ⟨2, ![1, 1024]⟩
abbrev S1x8x128x128 : Shape := ⟨4, ![1, 8, 128, 128]⟩
abbrev S1x8x128 : Shape := ⟨3, ![1, 8, 128]⟩
abbrev S8x128x128 : Shape := ⟨3, ![8, 128, 128]⟩
abbrev S8x128 : Shape := ⟨2, ![8, 128]⟩
abbrev S128x8 : Shape := ⟨2, ![128, 8]⟩
abbrev S4096x2048 : Shape := ⟨2, ![4096, 2048]⟩
abbrev S128x1024 : Shape := ⟨2, ![128, 1024]⟩
abbrev S128x2048 : Shape := ⟨2, ![128, 2048]⟩
abbrev S128x128 : Shape := ⟨2, ![128, 128]⟩
abbrev S128 : Shape := ⟨1, ![128]⟩
abbrev S128x1 : Shape := ⟨2, ![128, 1]⟩
abbrev S1x128x128 : Shape := ⟨3, ![1, 128, 128]⟩

abbrev nBuf : Space → Nat
  | .hbm => 11
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x7168, .f32⟩
  | .hbm, ⟨2, _⟩ => ⟨S1x128, .f32⟩
  | .hbm, ⟨3, _⟩ => ⟨S1x1024, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S8x128x128, .f32⟩
  | .hbm, ⟨8, _⟩ => ⟨S8x128, .f32⟩
  | .hbm, ⟨9, _⟩ => ⟨S128x8, .f32⟩
  | .hbm, ⟨10, _⟩ => ⟨S4096x2048, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S1x128, .f32⟩
  | .local _ .vmem, ⟨11, _⟩ => ⟨S1x1024, .f32⟩
  | .local _ .vmem, ⟨12, _⟩ => ⟨S1x1024, .f32⟩
  | .local _ .vmem, ⟨13, _⟩ => ⟨S8x128x128, .f32⟩
  | .local _ .vmem, ⟨14, _⟩ => ⟨S128x8, .f32⟩
  | .local _ .vmem, ⟨15, _⟩ => ⟨S128x2048, .bf16⟩
  | .local _ .vmem, ⟨16, _⟩ => ⟨S128x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference9Ideal.lean ====
abbrev S4096x1024 : Shape := ⟨2, ![4096, 1024]⟩
abbrev S4096x7168 : Shape := ⟨2, ![4096, 7168]⟩
abbrev S1x128 : Shape := ⟨2, ![1, 128]⟩
abbrev S1x1024 : Shape := ⟨2, ![1, 1024]⟩
abbrev S1x8x128x128 : Shape := ⟨4, ![1, 8, 128, 128]⟩
abbrev S1x8x128 : Shape := ⟨3, ![1, 8, 128]⟩
abbrev S4096x4096 : Shape := ⟨2, ![4096, 4096]⟩
abbrev S4096x8x128 : Shape := ⟨3, ![4096, 8, 128]⟩
abbrev S128 : Shape := ⟨1, ![128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩
abbrev S1024 : Shape := ⟨1, ![1024]⟩
abbrev S4096 : Shape := ⟨1, ![4096]⟩
abbrev S4096x1 : Shape := ⟨2, ![4096, 1]⟩
abbrev S8x128x128 : Shape := ⟨3, ![8, 128, 128]⟩
abbrev S8x128 : Shape := ⟨2, ![8, 128]⟩
abbrev S32x128x8x128 : Shape := ⟨4, ![32, 128, 8, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩
abbrev S4096x2048 : Shape := ⟨2, ![4096, 2048]⟩

abbrev nBuf : Space → Nat
  | .hbm => 113
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x7168, .f32⟩
  | .hbm, ⟨2, _⟩ => ⟨S1x128, .f32⟩
  | .hbm, ⟨3, _⟩ => ⟨S1x1024, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S4096x4096, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x8x128, .f32⟩
  | .hbm, ⟨13, _⟩ => ⟨S128, .f32⟩
  | .hbm, ⟨14, _⟩ => ⟨S4096x8x128, .f32⟩
  | .hbm, ⟨15, _⟩ => ⟨S_, .f32⟩
  | .hbm, ⟨16, _⟩ => ⟨S4096x8, .f32⟩
  | .hbm, ⟨17, _⟩ => ⟨S4096x8x1, .f32⟩
  | .hbm, ⟨18, _⟩ => ⟨S_, .f32⟩
  | .hbm, ⟨19, _⟩ => ⟨S4096x8x1, .f32⟩
  | .hbm, ⟨20, _⟩ => ⟨S4096x8x1, .f32⟩
  | .hbm, ⟨21, _⟩ => ⟨S_, .f32⟩
  | .hbm, ⟨22, _⟩ => ⟨S4096x8x1, .f32⟩
  | .hbm, ⟨23, _⟩ => ⟨S4096x8x1, .f32⟩
  | .hbm, ⟨24, _⟩ => ⟨S4096x8x1, .f32⟩
  | .hbm, ⟨25, _⟩ => ⟨S4096x8x128, .f32⟩
  | .hbm, ⟨26, _⟩ => ⟨S4096x8x128, .f32⟩
  | .hbm, ⟨27, _⟩ => ⟨S1x1x128, .f32⟩
  | .hbm, ⟨28, _⟩ => ⟨S4096x8x128, .f32⟩
  | .hbm, ⟨29, _⟩ => ⟨S4096x8x128, .f32⟩
  | .hbm, ⟨30, _⟩ => ⟨S4096x8x128, .f32⟩
  | .hbm, ⟨31, _⟩ => ⟨S4096x8x128, .f32⟩
  | .hbm, ⟨32, _⟩ => ⟨S4096x8x128, .f32⟩
  | .hbm, ⟨33, _⟩ => ⟨S_, .f32⟩
  | .hbm, ⟨34, _⟩ => ⟨S4096x8x128, .f32⟩
  | .hbm, ⟨35, _⟩ => ⟨S4096x8x128, .f32⟩
  | .hbm, ⟨36, _⟩ => ⟨S_, .f32⟩
  | .hbm, ⟨37, _⟩ => ⟨S4096x8x128, .f32⟩
  | .hbm, ⟨38, _⟩ => ⟨S4096x8x128, .f32⟩
  | .hbm, ⟨39, _⟩ => ⟨S4096x8x128, .f32⟩
  | .hbm, ⟨40, _⟩ => ⟨S4096x8x128, .f32⟩
  | .hbm, ⟨41, _⟩ => ⟨S4096x1024, .f32⟩
  | .hbm, ⟨42, _⟩ => ⟨S1024, .f32⟩
  | .hbm, ⟨43, _⟩ => ⟨S1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S1x1024, .f32⟩
  | .hbm, ⟨71, _⟩ => ⟨S4096x1024, .f32⟩
  | .hbm, ⟨72, _⟩ => ⟨S4096x1024, .f32⟩
  | .hbm, ⟨73, _⟩ => ⟨S8x128x128, .f32⟩
  | .hbm, ⟨74, _⟩ => ⟨S8x128, .f32⟩
  | .hbm, ⟨75, _⟩ => ⟨S32x128x8x128, .f32⟩
  | .hbm, ⟨76, _⟩ => ⟨S_, .i1⟩
  | .hbm, ⟨77, _⟩ => ⟨S128x128, .i1⟩
  | .hbm, ⟨78, _⟩ => ⟨S128x128, .i32⟩
  | .hbm, ⟨79, _⟩ => ⟨S_, .i32⟩
  | .hbm, ⟨80, _⟩ => ⟨S128x128, .i32⟩
  | .hbm, ⟨81, _⟩ => ⟨S128x128, .i32⟩
  | .hbm, ⟨82, _⟩ => ⟨S128x128, .i32⟩
  | .hbm, ⟨83, _⟩ => ⟨S128x128, .i1⟩
  | .hbm, ⟨84, _⟩ => ⟨S_, .i1⟩
  | .hbm, ⟨85, _⟩ => ⟨S128x128, .i1⟩
  | .hbm, ⟨86, _⟩ => ⟨S128x128, .i1⟩
  | .hbm, ⟨87, _⟩ => ⟨S1x128x128, .i1⟩
  | .hbm, ⟨88, _⟩ => ⟨S_, .f32⟩
  | .hbm, ⟨89, _⟩ => ⟨S_, .f32⟩
  | .hbm, ⟨90, _⟩ => ⟨S8x128x128, .i1⟩
  | .hbm, ⟨91, _⟩ => ⟨S8x128x128, .f32⟩
  | .hbm, ⟨92, _⟩ => ⟨S8x128x128, .f32⟩
  | .hbm, ⟨93, _⟩ => ⟨S8x32x128x128, .f32⟩
  | .hbm, ⟨94, _⟩ => ⟨S32x128x8x128, .f32⟩
  | .hbm, ⟨95, _⟩ => ⟨S128x8, .f32⟩
  | .hbm, ⟨96, _⟩ => ⟨S1x128x8x1, .f32⟩
  | .hbm, ⟨97, _⟩ => ⟨S32x128x8x128, .f32⟩
  | .hbm, ⟨98, _⟩ => ⟨S32x128x8x128, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S_, .f32⟩
  | .hbm, ⟨104, _⟩ => ⟨S4096x1024, .f32⟩
  | .hbm, ⟨105, _⟩ => ⟨S4096x1024, .f32⟩
  | .hbm, ⟨106, _⟩ => ⟨S_, .f32⟩
  | .hbm, ⟨107, _⟩ => ⟨S4096x1024, .f32⟩
  | .hbm, ⟨108, _⟩ => ⟨S4096x1024, .f32⟩
  | .hbm, ⟨109, _⟩ => ⟨S4096x1024, .f32⟩
  | .hbm, ⟨110, _⟩ => ⟨S4096x1024, .f32⟩
  | .hbm, ⟨111, _⟩ => ⟨S4096x2048, .f32⟩
  | .hbm, ⟨112, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c : Ref sig .tc := ⟨.hbm, 76, rfl⟩
abbrev main_v53 : Ref sig .tc := ⟨.hbm, 77, rfl⟩
abbrev main_call1_v0 : Ref sig .tc := ⟨.hbm, 78, rfl⟩
abbrev main_call1_c : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_c_0 : Ref sig .tc := ⟨.hbm, 84, rfl⟩
abbrev main_call1_v5 : Ref sig .tc := ⟨.hbm, 85, rfl⟩
abbrev main_v54 : Ref sig .tc := ⟨.hbm, 86, rfl⟩
abbrev main_v55 : Ref sig .tc := ⟨.hbm, 87, rfl⟩
abbrev main_cst_7 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_call3_v0 : Ref sig .tc := ⟨.hbm, 101, rfl⟩
abbrev main_call3_v1 : Ref sig .tc := ⟨.hbm, 102, rfl⟩
abbrev main_call3_cst : Ref sig .tc := ⟨.hbm, 103, rfl⟩
abbrev main_call3_v2 : Ref sig .tc := ⟨.hbm, 104, rfl⟩
abbrev main_call3_v3 : Ref sig .tc := ⟨.hbm, 105, rfl⟩
abbrev main_call3_cst_0 : Ref sig .tc := ⟨.hbm, 106, rfl⟩
abbrev main_call3_v4 : Ref sig .tc := ⟨.hbm, 107, rfl⟩
abbrev main_call3_v5 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩

abbrev nD : Nat := 1
abbrev τ : Topo := Topo.v7x

variable {F : FTy → Type} [FloatOps F]
-- ==== Proof.Chunk.lean ====
module

public import Mathlib.Data.Matrix.Mul
public import Mathlib.Data.EReal.Operations
public import Mathlib.Analysis.SpecialFunctions.Exp

/-!
One chunk of one head of the gated delta rule, over the real numbers: the forward values of the chunk, the gradients
of its inputs as the derivative of the forward lines gives them, and the same gradients as the kernel arranges them.
-/

@[expose] public section

noncomputable section

namespace DeltaRule

open Matrix

/-- A chunk of 64 tokens by 128 lanes. -/
abbrev Rows := Matrix (Fin 64) (Fin 128) ℝ
/-- A 64 × 64 matrix over the tokens of a chunk. -/
abbrev Toks := Matrix (Fin 64) (Fin 64) ℝ
/-- A head's state. -/
abbrev Sq := Matrix (Fin 128) (Fin 128) ℝ

/-- What one chunk of one head is computed from: queries, keys, values, the cotangent of the output, the write
strengths, the log-decays and the state the chunk starts from. -/
structure Chunk where
  q : Rows
  k : Rows
  v : Rows
  o : Rows
  beta : Fin 64 → ℝ
  g : Fin 64 → ℝ
  S : Sq

/-- Entry `n` of the window of 64 log-decays that ends at token `i`. -/
def window (g : Fin 64 → ℝ) (i n : Fin 64) : ℝ :=
  if h : 63 ≤ i.val + n.val then g ⟨i.val + n.val - 63, by omega⟩ else 0

/-- The running sum of the log-decays. -/
def runSum (g : Fin 64 → ℝ) (i : Fin 64) : ℝ := (List.finRange 64).foldl (fun r n => r + window g i n) (0 : ℝ)

/-- The entries on and below the diagonal. -/
def low (M : Toks) : Toks := fun i j => if j ≤ i then M i j else 0

/-- The entries below the diagonal. -/
def below (M : Toks) : Toks := fun i j => if j < i then M i j else 0

/-- Each row `i` of `M` times `c i`. -/
def rows {n : ℕ} (M : Matrix (Fin 64) (Fin n) ℝ) (c : Fin 64 → ℝ) : Matrix (Fin 64) (Fin n) ℝ := fun i j => M i j * c i

/-- Entry by entry. -/
def had (M N : Toks) : Toks := fun i j => M i j * N i j

/-- One squaring of the product that inverts a unit lower triangular matrix. -/
def invStep (p : Toks × Toks) : Toks × Toks := (p.1 + p.1 * (p.2 * p.2), p.2 * p.2)

namespace Chunk

variable (x : Chunk)

def gc : Fin 64 → ℝ := runSum x.g
def e : Fin 64 → ℝ := fun i => Real.exp (x.gc i)
def gl : ℝ := x.gc 63
def edec : Fin 64 → ℝ := fun i => Real.exp (x.gl - x.gc i)
def gam : Toks := fun i j => if j ≤ i then Real.exp (x.gc i - x.gc j) else 0
def kb : Rows := rows x.k x.beta
def vb : Rows := rows x.v x.beta
def ekb : Rows := rows x.kb x.e
def L : Toks := below (had (x.kb * x.kᵀ) x.gam)
/-- The two matrices of the inverting product after `n` squarings: the product so far and the power. -/
def inv : ℕ → Toks × Toks
  | 0 => (-x.L + 1, -x.L)
  | n + 1 => invStep (inv n)
def A : Toks := (x.inv 5).1
def u : Rows := x.A * x.vb
def w : Rows := x.A * x.ekb
def vnew : Rows := x.u - x.w * x.S
def attn : Toks := low (had (x.q * x.kᵀ) x.gam)
def qe : Rows := rows x.q x.e
def kdec : Rows := rows x.k x.edec

variable (dS : Sq)

/-- The cotangent of the chunk's corrected values. -/
def dvn : Rows := x.kdec * dS + x.attnᵀ * x.o
def dqm : Toks := had (low (x.o * x.vnewᵀ)) x.gam
def dq : Rows := rows (x.o * x.Sᵀ) x.e + x.dqm * x.k
def dw : Rows := -x.dvn dS * x.Sᵀ
def du' : Rows := x.Aᵀ * x.dvn dS
def dw' : Rows := x.Aᵀ * x.dw dS
def dlm : Toks := had (below (-(x.du' dS * x.uᵀ) - x.dw' dS * x.wᵀ)) x.gam
def dkb : Rows := rows (x.dw' dS) x.e + x.dlm dS * x.k
def dv : Rows := rows (x.du' dS) x.beta
def dk : Rows := rows (x.vnew * dSᵀ) x.edec + x.dqmᵀ * x.q + (x.dlm dS)ᵀ * x.kb + rows (x.dkb dS) x.beta
/-- The cotangent of the state the chunk starts from. -/
def back : Sq := Real.exp x.gl • dS + x.qeᵀ * x.o + x.wᵀ * (-x.dvn dS)

theorem inv_zero_snd (i j : Fin 64) : (x.inv 0).2 i j = -x.L i j := rfl
theorem inv_zero_fst (i j : Fin 64) : (x.inv 0).1 i j = -x.L i j + (if i = j then 1 else 0) := by
  rw [← Matrix.one_apply]; rfl
theorem A_eq : x.A = (x.inv 5).1 := rfl

/-! The same, with the corrected values `vnew` in place of the two solved products. -/

theorem dw'_eq : x.dw' dS = -(x.du' dS * x.Sᵀ) := by
  simp only [dw', dw, du', Matrix.neg_mul, Matrix.mul_neg, Matrix.mul_assoc]

theorem dlm_eq : x.dlm dS = had (below (-(x.du' dS * x.vnewᵀ))) x.gam := by
  simp only [dlm, dw'_eq, vnew, Matrix.transpose_sub, Matrix.mul_sub, Matrix.transpose_mul, Matrix.neg_mul,
    Matrix.mul_assoc]
  congr 2
  abel

theorem back_eq : x.back dS = Real.exp x.gl • dS + x.qeᵀ * x.o - x.ekbᵀ * x.du' dS := by
  simp only [back, w, du', Matrix.transpose_mul, Matrix.mul_neg, Matrix.mul_assoc, sub_eq_add_neg]

end Chunk

end DeltaRule

end
-- ==== Proof.Real.lean ====
module

public import proofs.«01_k».proof.Proof.Chunk
public import Idealize.ShloMosaic.Lib.Pointwise
public import Idealize.ShloMosaic.Lib.IdealHost

/-! Arrays of extended reals all of whose entries are real numbers. -/

@[expose] public section

noncomputable section

namespace DeltaRule

open Idealize.ShloMosaic

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- An array over two axes holds the real numbers `f`. -/
abbrev R2 {a b : ℕ} (x : FVec Ideal ⟨2, ![a, b]⟩ .f32) (f : Fin a → Fin b → ℝ) : Prop :=
  ∀ i j, x (ix2 i j) = ((f i j : ℝ) : EReal)

abbrev R1 {a : ℕ} (x : FVec Ideal ⟨1, ![a]⟩ .f32) (f : Fin a → ℝ) : Prop :=
  ∀ i, x (ix1 i) = ((f i : ℝ) : EReal)

abbrev R3 {a b c : ℕ} (x : FVec Ideal ⟨3, ![a, b, c]⟩ .f32) (f : Fin a → Fin b → Fin c → ℝ) : Prop :=
  ∀ i j k, x (ix3 i j k) = ((f i j k : ℝ) : EReal)

abbrev R4 {a b c d : ℕ} (x : FVec Ideal ⟨4, ![a, b, c, d]⟩ .f32) (f : Fin a → Fin b → Fin c → Fin d → ℝ) : Prop :=
  ∀ i j k l, x (ix4 i j k l) = ((f i j k l : ℝ) : EReal)

theorem foldl_coe {α : Type*} (l : List α) (F : EReal → α → EReal) (t : α → ℝ)
    (hF : ∀ r k, F r k = r + ((t k : ℝ) : EReal)) (c : ℝ) :
    l.foldl F (c : EReal) = ((l.foldl (fun r k => r + t k) c : ℝ) : EReal) := by
  induction l generalizing c with
  | nil => rfl
  | cons a l ih => simp only [List.foldl_cons, hF, ← EReal.coe_add, ih]

theorem foldl_coe_cast {n m : ℕ} (h : n = m) (F : EReal → Fin n → EReal) (t : Fin m → ℝ)
    (hF : ∀ r k, F r k = r + ((t (k.cast h) : ℝ) : EReal)) :
    (List.finRange n).foldl F 0 = (((List.finRange m).foldl (fun r k => r + t k) 0 : ℝ) : EReal) := by
  subst h
  exact foldl_coe _ F t hF 0

/-- The running sum along the last of 2 axes. -/
theorem R2.runSum {a : ℕ} {x : FVec Ideal ⟨2, ![a, 64]⟩ .f32} {f : Fin a → Fin 64 → ℝ} (hx : R2 x f)
    {u : Shape} (init : FVec Ideal u .f32) (hu : 0 < u.numel) (hi : init (Shape.Idx.first hu) = 0)
    (h : (⟨2, ![a, 64]⟩ : Shape).ReduceWindows ![1, 64] ![1, 1] ![0, 63] ![0, 0] ⟨2, ![a, 64]⟩) :
    R2 (Host.reduceWindowAdd ![1, 64] ![1, 1] ![0, 63] ![0, 0] x init h hu) (fun p => DeltaRule.runSum (f p)) := by
  intro p i
  have hn : (⟨2, ![1, 64]⟩ : Shape).numel = 64 := rfl
  have e0 : ∀ n, ((((⟨2, ![1, 64]⟩ : Shape).rowMajor.symm n) 0).val = 0) := fun n =>
    Nat.lt_one_iff.mp (((⟨2, ![1, 64]⟩ : Shape).rowMajor.symm n) 0).isLt
  have e1 : ∀ n, (((⟨2, ![1, 64]⟩ : Shape).rowMajor.symm n) 1).val = n.val := fun n => by
    have := Shape.rowMajor_val_two ((⟨2, ![1, 64]⟩ : Shape).rowMajor.symm n)
    rw [Equiv.apply_symm_apply, e0] at this
    simpa using this.symm
  unfold Host.reduceWindowAdd
  rw [hi, Ideal.hostReduceWindowAdd_def]
  unfold Ideal.hostReduceWindowAdd Host.reduceWindow DeltaRule.runSum
  refine foldl_coe_cast hn _ _ fun r n => ?_
  dsimp only
  congr 1
  have hnl : n.val < 64 := n.isLt
  have hil := i.isLt
  unfold window
  by_cases hw : 63 ≤ i.val + n.val
  · rw [dif_pos (show 63 ≤ i.val + (Fin.cast hn n).val from hw), ← hx, dif_pos]
    · congr 1
      funext b
      refine Fin.ext ?_
      match b with
      | ⟨0, _⟩ => exact (congrArg (fun z => p.val * 1 + z - 0) (e0 n)).trans (by show p.val * 1 + 0 - 0 = p.val; omega)
      | ⟨1, _⟩ => exact (congrArg (fun z => i.val * 1 + z - 63) (e1 n)).trans (by show i.val * 1 + n.val - 63 = i.val + n.val - 63; omega)
    · intro b
      match b with
      | ⟨0, _⟩ => have := e0 n; exact ⟨Nat.zero_le _, lt_of_eq_of_lt (congrArg (fun z => p.val * 1 + z - 0) (e0 n)) (by show p.val * 1 + 0 - 0 < _; have := p.isLt; simpa using this)⟩
      | ⟨1, _⟩ => exact ⟨le_of_le_of_eq (by show 63 ≤ i.val * 1 + n.val; omega) (congrArg (fun z => i.val * 1 + z) (e1 n)).symm, lt_of_eq_of_lt (congrArg (fun z => i.val * 1 + z - 63) (e1 n)) (by show i.val * 1 + n.val - 63 < 64; omega)⟩
  · rw [dif_neg (show ¬ 63 ≤ i.val + (Fin.cast hn n).val from hw), dif_neg]
    · rfl
    · intro hc
      exact hw (by have := le_of_le_of_eq (hc 1).1 (congrArg (fun z => i.val * 1 + z) (e1 n)); have h2 : 63 ≤ i.val * 1 + n.val := this; omega)

/-- The running sum along the last of 3 axes. -/
theorem R3.runSum {a b : ℕ} {x : FVec Ideal ⟨3, ![a, b, 64]⟩ .f32} {f : Fin a → Fin b → Fin 64 → ℝ} (hx : R3 x f)
    {u : Shape} (init : FVec Ideal u .f32) (hu : 0 < u.numel) (hi : init (Shape.Idx.first hu) = 0)
    (h : (⟨3, ![a, b, 64]⟩ : Shape).ReduceWindows ![1, 1, 64] ![1, 1, 1] ![0, 0, 63] ![0, 0, 0] ⟨3, ![a, b, 64]⟩) :
    R3 (Host.reduceWindowAdd ![1, 1, 64] ![1, 1, 1] ![0, 0, 63] ![0, 0, 0] x init h hu) (fun p r => DeltaRule.runSum (f p r)) := by
  intro p r i
  have hn : (⟨3, ![1, 1, 64]⟩ : Shape).numel = 64 := rfl
  have e0 : ∀ n, ((((⟨3, ![1, 1, 64]⟩ : Shape).rowMajor.symm n) 0).val = 0) := fun n =>
    Nat.lt_one_iff.mp (((⟨3, ![1, 1, 64]⟩ : Shape).rowMajor.symm n) 0).isLt
  have e1 : ∀ n, ((((⟨3, ![1, 1, 64]⟩ : Shape).rowMajor.symm n) 1).val = 0) := fun n =>
    Nat.lt_one_iff.mp (((⟨3, ![1, 1, 64]⟩ : Shape).rowMajor.symm n) 1).isLt
  have e2 : ∀ n, (((⟨3, ![1, 1, 64]⟩ : Shape).rowMajor.symm n) 2).val = n.val := fun n => by
    have := Shape.rowMajor_val_three ((⟨3, ![1, 1, 64]⟩ : Shape).rowMajor.symm n)
    rw [Equiv.apply_symm_apply, e0, e1] at this
    simpa using this.symm
  unfold Host.reduceWindowAdd
  rw [hi, Ideal.hostReduceWindowAdd_def]
  unfold Ideal.hostReduceWindowAdd Host.reduceWindow DeltaRule.runSum
  refine foldl_coe_cast hn _ _ fun s n => ?_
  dsimp only
  congr 1
  have hnl : n.val < 64 := n.isLt
  have hil := i.isLt
  unfold window
  by_cases hw : 63 ≤ i.val + n.val
  · rw [dif_pos (show 63 ≤ i.val + (Fin.cast hn n).val from hw), ← hx, dif_pos]
    · congr 1
      funext t
      refine Fin.ext ?_
      match t with
      | ⟨0, _⟩ => exact (congrArg (fun z => p.val * 1 + z - 0) (e0 n)).trans (by show p.val * 1 + 0 - 0 = p.val; omega)
      | ⟨1, _⟩ => exact (congrArg (fun z => r.val * 1 + z - 0) (e1 n)).trans (by show r.val * 1 + 0 - 0 = r.val; omega)
      | ⟨2, _⟩ => exact (congrArg (fun z => i.val * 1 + z - 63) (e2 n)).trans (by show i.val * 1 + n.val - 63 = i.val + n.val - 63; omega)
    · intro t
      match t with
      | ⟨0, _⟩ => have := e0 n; exact ⟨Nat.zero_le _, lt_of_eq_of_lt (congrArg (fun z => p.val * 1 + z - 0) (e0 n)) (by show p.val * 1 + 0 - 0 < _; have := p.isLt; simpa using this)⟩
      | ⟨1, _⟩ => have := e1 n; exact ⟨Nat.zero_le _, lt_of_eq_of_lt (congrArg (fun z => r.val * 1 + z - 0) (e1 n)) (by show r.val * 1 + 0 - 0 < _; have := r.isLt; simpa using this)⟩
      | ⟨2, _⟩ => exact ⟨le_of_le_of_eq (by show 63 ≤ i.val * 1 + n.val; omega) (congrArg (fun z => i.val * 1 + z) (e2 n)).symm, lt_of_eq_of_lt (congrArg (fun z => i.val * 1 + z - 63) (e2 n)) (by show i.val * 1 + n.val - 63 < 64; omega)⟩
  · rw [dif_neg (show ¬ 63 ≤ i.val + (Fin.cast hn n).val from hw), dif_neg]
    · rfl
    · intro hc
      exact hw (by have := le_of_le_of_eq (hc 2).1 (congrArg (fun z => i.val * 1 + z) (e2 n)); have h2 : 63 ≤ i.val * 1 + n.val := this; omega)

/-! Comparisons of token numbers. -/

theorem word_toInt (n : ℕ) (h : n < 2147483648) : (BitVec.ofNat 32 n).toInt = n := by
  rw [BitVec.toInt_eq_toNat_of_lt] <;> simp only [BitVec.toNat_ofNat] <;> omega

theorem sge_word (a b : ℤ) (x y : BitVec 32) (hx : x.toInt = a) (hy : y.toInt = b) :
    IntOp.cmpi .sge x y = if b ≤ a then 1#1 else 0#1 := by
  show BitVec.ofBool (decide (y.toInt ≤ x.toInt)) = _
  rw [hx, hy]
  by_cases h : b ≤ a <;> simp [h]

theorem low_mask (i j : Fin 64) :
    IntOp.cmpi .sge (IntOp.addi (BitVec.ofNat 32 i.val) 0#32) (BitVec.ofNat 32 j.val) = if j ≤ i then 1#1 else 0#1 := by
  have hi := i.isLt
  have hj := j.isLt
  rw [sge_word i.val j.val _ _ _ (word_toInt _ (by omega))]
  · simp only [Fin.le_def, Nat.cast_le]
  · show (BitVec.ofNat 32 i.val + 0#32).toInt = _
    rw [BitVec.add_zero]
    exact word_toInt _ (by omega)

theorem pred_toInt : ∀ i : Fin 64, (IntOp.addi (BitVec.ofNat 32 i.val) 4294967295#32).toInt = (i.val : ℤ) - 1 := by
  decide

theorem below_mask (i j : Fin 64) :
    IntOp.cmpi .sge (IntOp.addi (BitVec.ofNat 32 i.val) 4294967295#32) (BitVec.ofNat 32 j.val) = if j < i then 1#1 else 0#1 := by
  have hi := i.isLt
  have hj := j.isLt
  rw [sge_word (i.val - 1) j.val _ _ _ (word_toInt _ (by omega))]
  · have : ((j.val : ℤ) ≤ (i.val : ℤ) - 1) ↔ j < i := by rw [Fin.lt_def]; omega
    simp only [this]
  · exact pred_toInt i

theorem diag_mask (i j : Fin 64) :
    IntOp.cmpi .eq (IntOp.addi (BitVec.ofNat 32 i.val) 0#32) (BitVec.ofNat 32 j.val) = if i = j then 1#1 else 0#1 := by
  have hi := i.isLt
  have hj := j.isLt
  show BitVec.ofBool (BitVec.ofNat 32 i.val + 0#32 == BitVec.ofNat 32 j.val) = _
  rw [BitVec.add_zero]
  by_cases h : i = j
  · subst h; simp
  · have : BitVec.ofNat 32 i.val ≠ BitVec.ofNat 32 j.val := by
      intro e
      have := congrArg BitVec.toNat e
      simp only [BitVec.toNat_ofNat] at this
      exact h (Fin.ext (by omega))
    rw [beq_eq_false_iff_ne.mpr this, if_neg h]; rfl

theorem select_if {α : Type} (p : Prop) [Decidable p] (a b : α) :
    Scalar.select (if p then 1#1 else 0#1) a b = if p then a else b := by
  by_cases h : p <;> simp [h, Scalar.select]

theorem uitofp_if (p : Prop) [Decidable p] :
    (FloatOps.uitofp .f32 (if p then 1#1 else 0#1) : Ideal .f32) = (((if p then 1 else 0 : ℝ)) : EReal) := by
  by_cases h : p <;> simp [h, FloatOps.uitofp]

end DeltaRule

end
-- ==== Proof.Data.lean ====
module

public import proofs.«01_k».proof.Proof.Real

/-! The arguments of the two programs as real numbers, cut into chunks, and the scalar functions of the gates. -/

@[expose] public section

noncomputable section

namespace DeltaRule

open Idealize.ShloMosaic

/-- What the two programs take, as real numbers. -/
structure Data where
  q : Fin 4096 → Fin 1024 → ℝ
  k : Fin 4096 → Fin 1024 → ℝ
  v : Fin 4096 → Fin 1024 → ℝ
  b : Fin 4096 → Fin 8 → ℝ
  a : Fin 4096 → Fin 8 → ℝ
  al : Fin 8 → ℝ
  dt : Fin 8 → ℝ
  S : Fin 64 → Fin 8 → Fin 128 → Fin 128 → ℝ
  o : Fin 4096 → Fin 1024 → ℝ

/-- The logistic function. -/
def sigmoid (t : ℝ) : ℝ := 1 / (1 + Real.exp (-t))

/-- `log (1 + exp t)`, computed without overflow. -/
def softplus (t : ℝ) : ℝ := max t 0 + Real.log (1 + Real.exp (-max t (-t)))

theorem div_coe (a b : ℝ) (hb : b ≠ 0) : Ideal.div (a : EReal) (b : EReal) = ((a / b : ℝ) : EReal) := by
  unfold Ideal.div
  rw [if_neg (by simpa using hb), ← EReal.coe_inv, ← EReal.coe_mul, div_eq_mul_inv]

theorem log1p_coe (a : ℝ) (ha : 0 < a) : Ideal.log1p (a : EReal) = ((Real.log (1 + a) : ℝ) : EReal) := by
  unfold Ideal.log1p
  rw [← EReal.coe_one, ← EReal.coe_add, Ideal.log_coe, if_neg (by linarith)]

theorem max_coe (a b : ℝ) : max (a : EReal) (b : EReal) = ((max a b : ℝ) : EReal) :=
  (EReal.coe_strictMono.monotone.map_max).symm

/-- Row `64 n + i` of the 4096. -/
def tok (n i : Fin 64) : Fin 4096 := ⟨n.val * 64 + i.val, by omega⟩

/-- Lane `128 h + d` of the 1024. -/
def lane (h : Fin 8) (d : Fin 128) : Fin 1024 := ⟨h.val * 128 + d.val, by omega⟩

namespace Data

variable (D : Data)

def beta (r : Fin 4096) (h : Fin 8) : ℝ := sigmoid (D.b r h)

def g (r : Fin 4096) (h : Fin 8) : ℝ := -Real.exp (D.al h) * softplus (D.a r h + D.dt h)

/-- Chunk `n` of head `h`. -/
def chunk (n : Fin 64) (h : Fin 8) : Chunk where
  q := fun i d => D.q (tok n i) (lane h d)
  k := fun i d => D.k (tok n i) (lane h d)
  v := fun i d => D.v (tok n i) (lane h d)
  o := fun i d => D.o (tok n i) (lane h d)
  beta := fun i => D.beta (tok n i) h
  g := fun i => D.g (tok n i) h
  S := D.S n h

/-- The cotangent of head `h`'s state after the last `j` chunks. -/
def dS : ℕ → Fin 8 → Sq
  | 0, _ => 0
  | j + 1, h => (D.chunk ⟨63 - j, by omega⟩ h).back (dS j h)

/-- The gradients of the queries, keys and values, chunk by chunk. -/
def dq (n : Fin 64) (h : Fin 8) : Rows := (D.chunk n h).dq
def dk (n : Fin 64) (h : Fin 8) : Rows := (D.chunk n h).dk (D.dS (63 - n.val) h)
def dv (n : Fin 64) (h : Fin 8) : Rows := (D.chunk n h).dv (D.dS (63 - n.val) h)

end Data

/-! Cutting an array into chunks, and putting chunks back together. -/

abbrev A2 : Shape := ⟨2, ![4096, 1024]⟩
abbrev A4 : Shape := ⟨4, ![64, 64, 8, 128]⟩
abbrev H4 : Shape := ⟨4, ![64, 8, 64, 128]⟩
abbrev G2 : Shape := ⟨2, ![4096, 8]⟩
abbrev G3 : Shape := ⟨3, ![64, 64, 8]⟩
abbrev H3 : Shape := ⟨3, ![64, 8, 64]⟩

theorem chunk4 {x : FVec Ideal A2 .f32} {f : Fin 4096 → Fin 1024 → ℝ} (hx : R2 x f) (h1) (h2) :
    R4 (a := 64) (b := 8) (c := 64) (d := 128) (transpose H4 [0, 2, 1, 3] (shapeCast A4 x h1) h2) fun n h i d => f (tok n i) (lane h d) := by
  intro n h i d
  rw [← hx]
  pointwise []
  rfl

theorem chunk3 {x : FVec Ideal G2 .f32} {f : Fin 4096 → Fin 8 → ℝ} (hx : R2 x f) (h1) (h2) :
    R3 (a := 64) (b := 8) (c := 64) (transpose H3 [0, 2, 1] (shapeCast G3 x h1) h2) fun n h i => f (tok n i) h := by
  intro n h i
  rw [← hx]
  pointwise []
  rfl

theorem unchunk4 {x : FVec Ideal H4 .f32} (h1) (h2) (n : Fin 64) (h : Fin 8) (i : Fin 64) (d : Fin 128) :
    shapeCast A2 (transpose A4 [0, 2, 1, 3] x h1) h2 (ix2 (tok n i) (lane h d)) = x (ix4 n h i d) := by
  unfold tok lane
  pointwise []

theorem unchunk3 {x : FVec Ideal H3 .f32} (h1) (h2) (n : Fin 64) (h : Fin 8) (i : Fin 64) :
    shapeCast G2 (transpose G3 [0, 2, 1] x h1) h2 (ix2 (tok n i) h) = x (ix3 n h i) := by
  unfold tok
  pointwise []

/-- Every row is a token of a chunk. -/
theorem exists_tok (r : Fin 4096) : ∃ n i, r = tok n i :=
  ⟨⟨r.val / 64, by omega⟩, ⟨r.val % 64, by omega⟩, Fin.ext (by show r.val = r.val / 64 * 64 + r.val % 64; omega)⟩

/-- Every lane is a lane of a head. -/
theorem exists_lane (l : Fin 1024) : ∃ h d, l = lane h d :=
  ⟨⟨l.val / 128, by omega⟩, ⟨l.val % 128, by omega⟩, Fin.ext (by show l.val = l.val / 128 * 128 + l.val % 128; omega)⟩

/-! The gates. -/

abbrev B1 : Shape := ⟨1, ![8]⟩
abbrev B2 : Shape := ⟨2, ![1, 8]⟩
abbrev B0 : Shape := ⟨0, ![]⟩

theorem beta_real {x : FVec Ideal G2 .f32} {f : Fin 4096 → Fin 8 → ℝ} (hx : R2 x f) (h1) (h2) :
    R2 (a := 4096) (b := 8) (Host.divf (broadcastInDim G2 ![] h1 (constant B0 .f32 0x3f800000#32))
      (addf (broadcastInDim G2 ![] h2 (constant B0 .f32 0x3f800000#32)) (Host.exp (Host.negf x)))) fun r h => sigmoid (f r h) := by
  intro r h
  have e := hx r h
  show _ = ((sigmoid (f r h) : ℝ) : EReal)
  generalize hr : f r h = t at e ⊢
  unfold sigmoid
  generalize hu : 1 / (1 + Real.exp (-t)) = u
  pointwise [e]
  rw [← EReal.coe_neg, Ideal.exp_coe, ← EReal.coe_one, ← EReal.coe_add, div_coe _ _ (by positivity), hu]

theorem softplus_real {x : FVec Ideal G2 .f32} {f : Fin 4096 → Fin 8 → ℝ} (hx : R2 x f) (h1) (h2) (h3) :
    R2 (a := 4096) (b := 8) (select
      (cmpf .une (subf x (broadcastInDim G2 ![] h2 (constant B0 .f32 0x00000000#32))) (subf x (broadcastInDim G2 ![] h2 (constant B0 .f32 0x00000000#32))))
      (addf x (broadcastInDim G2 ![] h3 (constant B0 .f32 0x00000000#32)))
      (addf (maximumf x (broadcastInDim G2 ![] h1 (constant B0 .f32 0x00000000#32)))
        (Host.log1p (Host.exp (Host.negf (Host.absf (subf x (broadcastInDim G2 ![] h2 (constant B0 .f32 0x00000000#32))))))))) fun r h => softplus (f r h) := by
  intro r h
  have e := hx r h
  show _ = ((softplus (f r h) : ℝ) : EReal)
  generalize hr : f r h = t at e ⊢
  unfold softplus
  generalize hu : max t 0 + Real.log (1 + Real.exp (-max t (-t))) = u
  pointwise [e]
  rw [if_neg (by simp), show (FloatOps.absf (t : EReal) : Ideal .f32) = max (t : EReal) (-(t : EReal)) from rfl, ← EReal.coe_neg,
    max_coe, ← EReal.coe_neg, Ideal.exp_coe, log1p_coe _ (Real.exp_pos _), ← EReal.coe_zero, max_coe, ← EReal.coe_add, hu]

theorem g_real {x : FVec Ideal G2 .f32} {z : FVec Ideal B1 .f32} {f : Fin 4096 → Fin 8 → ℝ} {al : Fin 8 → ℝ}
    (hx : R2 x f) (hz : R1 z al) (h1) (h2) :
    R2 (a := 4096) (b := 8) (mulf (broadcastInDim G2 ![0, 1] h1 (broadcastInDim B2 ![1] h2 (Host.negf (Host.exp z)))) x)
      fun r h => -Real.exp (al h) * f r h := by
  intro r h
  have e := hx r h
  have e2 := hz h
  show _ = ((-Real.exp (al h) * f r h : ℝ) : EReal)
  generalize f r h = t at e ⊢
  generalize al h = s at e2 ⊢
  generalize hu : -Real.exp s * t = u
  pointwise [e, e2]
  rw [Ideal.exp_coe, ← EReal.coe_neg, ← EReal.coe_mul, hu]

theorem shift_real {x : FVec Ideal G2 .f32} {z : FVec Ideal B1 .f32} {f : Fin 4096 → Fin 8 → ℝ} {dt : Fin 8 → ℝ}
    (hx : R2 x f) (hz : R1 z dt) (h1) (h2) :
    R2 (a := 4096) (b := 8) (addf x (broadcastInDim G2 ![0, 1] h1 (broadcastInDim B2 ![1] h2 z))) fun r h => f r h + dt h := by
  intro r h
  have e := hx r h
  have e2 := hz h
  show _ = ((f r h + dt h : ℝ) : EReal)
  generalize f r h = t at e ⊢
  generalize dt h = s at e2 ⊢
  generalize hu : t + s = u
  pointwise [e, e2]
  rw [← EReal.coe_add, hu]

end DeltaRule

end
-- ==== Proof.Finite.lean ====
module

public import proofs.«01_k».proof.Proof.Data
public import proofs.«01_k».proof.Pre_finite_inputs
public import Idealize.ShloMosaic.Lib.ReduceAll
public import Idealize.ShloMosaic.Lib.KernelVsHost

/-! The precondition: every element of every argument is a real number. -/

@[expose] public section

noncomputable section

namespace DeltaRule.Finite

open Idealize.ShloMosaic
open Cert.Pre_finite_inputs

theorem facts : Cert.Pre_finite_inputs.Facts where
  bcast_S_S4096x1024 := by decide
  reducesTo_S4096x1024_S_d0_1 := by decide
  h_S_ := by decide
  bcast_S_S4096x8 := by decide
  reducesTo_S4096x8_S_d0_1 := by decide
  bcast_S_S8 := by decide
  reducesTo_S8_S_d0 := by decide
  bcast_S_S64x8x128x128 := by decide
  reducesTo_S64x8x128x128_S_d0_1_2_3 := by decide

/-- A value whose absolute value is below plus infinity is a real number. -/
theorem real_of_lt (x : EReal) (h : FloatOps.cmpf .olt (FloatOps.hostAbsf (F := Ideal) (φ := .f32) x) (FloatOps.ofBits (F := Ideal) .f32 0x7F800000#32) = 1#1) :
    x = ((x.toReal : ℝ) : EReal) := by
  rw [← Ideal.xori_weird_eq_hostAbsf_olt_inf] at h
  by_cases hx : x = ⊤ ∨ x = ⊥
  · exfalso
    have e : FloatOps.weird (F := Ideal) (x : Ideal .f32) = 1#1 := by
      show BitVec.ofBool (decide ((x : EReal) = ⊤ ∨ (x : EReal) = ⊥)) = 1#1
      rw [decide_eq_true hx]; rfl
    rw [e] at h
    exact absurd h (by decide)
  · push Not at hx
    exact (EReal.coe_toReal hx.1 hx.2).symm

instance : Subsingleton S_.Idx := ⟨fun a b => funext fun i => i.elim0⟩

/-- One argument's part of the precondition. -/
theorem all_real {s : Shape} {axes : List (Fin s.rank)} (X : FVec Ideal s .f32) (hb : S_.BroadcastsInDim s (![] : Fin 0 → Fin s.rank))
    (hr : s.ReducesTo axes S_) (hu : 0 < S_.numel) (j : S_.Idx)
    (h : Host.reduce IntOp.andi (cmpf .olt (Host.absf X) (broadcastInDim s ![] hb (constant (F := Ideal) S_ .f32 0x7F800000#32))) (constantI S_ 1 1#1) hr hu j = 1#1) (i : s.Idx) :
    X i = (((X i : EReal).toReal : ℝ) : EReal) :=
  real_of_lt (X i) (Host.reduce_andi_all _ _ _ _ j h i)

theorem both {x y : IVec S_ 1} {j : S_.Idx} (h : andi x y j = 1#1) : x j = 1#1 ∧ y j = 1#1 :=
  IntOp.andi_eq_one.1 h

/-- The precondition of the whole call, argument by argument. -/
theorem all_args [Facts] (a0 a1 a2 : FVec Ideal S4096x1024 .f32) (a3 a4 : FVec Ideal S4096x8 .f32) (a5 a6 : FVec Ideal S8 .f32)
    (a7 : FVec Ideal S64x8x128x128 .f32) (a8 : FVec Ideal S4096x1024 .f32)
    (h : fn (F := Ideal) a0 a1 a2 a3 a4 a5 a6 a7 a8 = fun _ => 1#1) :
    (∀ i, a0 i = (((a0 i : EReal).toReal : ℝ) : EReal)) ∧ (∀ i, a1 i = (((a1 i : EReal).toReal : ℝ) : EReal))
    ∧ (∀ i, a2 i = (((a2 i : EReal).toReal : ℝ) : EReal)) ∧ (∀ i, a3 i = (((a3 i : EReal).toReal : ℝ) : EReal))
    ∧ (∀ i, a4 i = (((a4 i : EReal).toReal : ℝ) : EReal)) ∧ (∀ i, a5 i = (((a5 i : EReal).toReal : ℝ) : EReal))
    ∧ (∀ i, a6 i = (((a6 i : EReal).toReal : ℝ) : EReal)) ∧ (∀ i, a7 i = (((a7 i : EReal).toReal : ℝ) : EReal))
    ∧ (∀ i, a8 i = (((a8 i : EReal).toReal : ℝ) : EReal)) := by
  have j : S_.Idx := fun i => i.elim0
  have h8 := congrFun h j
  unfold fn fn_part1 fn_part2 at h8
  obtain ⟨h7, e8⟩ := both h8
  obtain ⟨h6, e7⟩ := both h7
  obtain ⟨h5, e6⟩ := both h6
  obtain ⟨h4, e5⟩ := both h5
  obtain ⟨h3, e4⟩ := both h4
  obtain ⟨h2, e3⟩ := both h3
  obtain ⟨h1, e2⟩ := both h2
  obtain ⟨e0, e1⟩ := both h1
  clear h1 h2 h3 h4 h5 h6 h7 h8 h
  exact ⟨all_real a0 Facts.bcast_S_S4096x1024 Facts.reducesTo_S4096x1024_S_d0_1 Facts.h_S_ j e0,
    all_real a1 Facts.bcast_S_S4096x1024 Facts.reducesTo_S4096x1024_S_d0_1 Facts.h_S_ j e1,
    all_real a2 Facts.bcast_S_S4096x1024 Facts.reducesTo_S4096x1024_S_d0_1 Facts.h_S_ j e2,
    all_real a3 Facts.bcast_S_S4096x8 Facts.reducesTo_S4096x8_S_d0_1 Facts.h_S_ j e3,
    all_real a4 Facts.bcast_S_S4096x8 Facts.reducesTo_S4096x8_S_d0_1 Facts.h_S_ j e4,
    all_real a5 Facts.bcast_S_S8 Facts.reducesTo_S8_S_d0 Facts.h_S_ j e5,
    all_real a6 Facts.bcast_S_S8 Facts.reducesTo_S8_S_d0 Facts.h_S_ j e6,
    all_real a7 Facts.bcast_S_S64x8x128x128 Facts.reducesTo_S64x8x128x128_S_d0_1_2_3 Facts.h_S_ j e7,
    all_real a8 Facts.bcast_S_S4096x1024 Facts.reducesTo_S4096x1024_S_d0_1 Facts.h_S_ j e8⟩

/-- The arguments as real numbers. -/
def data (a0 a1 a2 : FVec Ideal S4096x1024 .f32) (a3 a4 : FVec Ideal S4096x8 .f32) (a5 a6 : FVec Ideal S8 .f32)
    (a7 : FVec Ideal S64x8x128x128 .f32) (a8 : FVec Ideal S4096x1024 .f32) : Data where
  q i j := (a0 (ix2 i j) : EReal).toReal
  k i j := (a1 (ix2 i j) : EReal).toReal
  v i j := (a2 (ix2 i j) : EReal).toReal
  b i j := (a3 (ix2 i j) : EReal).toReal
  a i j := (a4 (ix2 i j) : EReal).toReal
  al i := (a5 (ix1 i) : EReal).toReal
  dt i := (a6 (ix1 i) : EReal).toReal
  S n h i j := (a7 (ix4 n h i j) : EReal).toReal
  o i j := (a8 (ix2 i j) : EReal).toReal

end DeltaRule.Finite

end
-- ==== Proof.RefTrip.lean ====
module

public import proofs.«01_k».proof.Proof.Gen.ReferenceIdeal.Run
public import proofs.«01_k».proof.Proof.Real

/-! One trip of the reference's loop over the extended reals, at arrays of real numbers. -/

@[expose] public section

set_option maxRecDepth 16384

noncomputable section

namespace DeltaRule.Ref

open Idealize.ShloMosaic Idealize.ShloMosaic.TcCoe Idealize.ShloMosaic.StableHlo
open Cert.ReferenceIdeal Cert.ReferenceIdeal.Gen Cert.ReferenceIdeal.Value
open DeltaRule Matrix

/-- The valuation before trip `j` holds the chunks `x` and the state cotangents `dS`. -/
structure Holds (V0 : Valuation τ sig (Elt Ideal)) (j : ℕ) (x : Fin 64 → Fin 8 → Chunk) (dS : Fin 8 → Sq) : Prop where
  j_lt : j < 64
  n7 : V0 (Proc.devRef .tc main_v31_7) = constantI S_ 32 (BitVec.ofNat 32 j)
  S : R4 (a := 64) (b := 8) (c := 128) (d := 128) (V0 (Proc.devRef .tc main_v31_0)) fun n h => (x n h).S
  q : R4 (a := 64) (b := 8) (c := 64) (d := 128) (V0 (Proc.devRef .tc main_v31_1)) fun n h => (x n h).q
  k : R4 (a := 64) (b := 8) (c := 64) (d := 128) (V0 (Proc.devRef .tc main_v31_2)) fun n h => (x n h).k
  v : R4 (a := 64) (b := 8) (c := 64) (d := 128) (V0 (Proc.devRef .tc main_v31_3)) fun n h => (x n h).v
  beta : R3 (a := 64) (b := 8) (c := 64) (V0 (Proc.devRef .tc main_v31_4)) fun n h => (x n h).beta
  g : R3 (a := 64) (b := 8) (c := 64) (V0 (Proc.devRef .tc main_v31_5)) fun n h => (x n h).g
  o : R4 (a := 64) (b := 8) (c := 64) (d := 128) (V0 (Proc.devRef .tc main_v31_6)) fun n h => (x n h).o
  dS : R3 (a := 8) (b := 128) (c := 128) (V0 (Proc.devRef .tc main_v31_8)) dS

variable {V0 : Valuation τ sig (Elt Ideal)} {j : ℕ} {x : Fin 64 → Fin 8 → Chunk} {dS : Fin 8 → Sq}

/-- The chunk trip `j` works on. -/
def cur (j : ℕ) : Fin 64 := ⟨63 - j, by omega⟩

theorem v39 (H : Holds V0 j x dS) (i : S_.Idx) : (res_main_while0b_v39 V0 i).toInt = (63 - j : ℕ) := by
  have hj := H.j_lt
  unfold res_main_while0b_v39
  rw [H.n7]
  show ((64#32 - BitVec.ofNat 32 j) - 1#32).toInt = _
  rw [BitVec.toInt_eq_toNat_of_lt]
  · simp only [BitVec.toNat_sub, BitVec.toNat_ofNat]; omega
  · simp only [BitVec.toNat_sub, BitVec.toNat_ofNat]; omega

theorem v40 (H : Holds V0 j x dS) : R3 (res_main_while0b_v40 V0) fun h => (x (cur j) h).S := by
  intro h i d
  rw [← H.S]
  unfold res_main_while0b_v40
  pointwise []
  refine congrArg _ ?_
  congr 1 <;> refine Fin.ext ?_ <;> dsimp only
  · exact Host.clampedStart_of_le _ _ 0 (63 - j) (v39 H _) (by show 63 - j + 1 ≤ 64; omega)
  · rw [Host.clampedStart_of_le _ _ 1 0 rfl (by show 0 + 8 ≤ 8; omega)]; omega
  · rw [Host.clampedStart_of_le _ _ 2 0 rfl (by show 0 + 128 ≤ 128; omega)]; omega
  · rw [Host.clampedStart_of_le _ _ 3 0 rfl (by show 0 + 128 ≤ 128; omega)]; omega

/-- A slice of one chunk over 64 tokens and 128 lanes. -/
theorem slice4 (H : Holds V0 j x dS) {A : (⟨S64x8x64x128, .f32⟩ : BufTy).Contents (Elt Ideal)} {f : Fin 64 → Fin 8 → Rows}
    (hA : R4 (a := 64) (b := 8) (c := 64) (d := 128) A f) (hf) (hc) :
    R3 (a := 8) (b := 64) (c := 128) (shapeCast S8x64x128 (Host.dynamicSlice S1x8x64x128 A (fun k => (((![res_main_while0b_v39 V0, constantI S_ 32 0#32, constantI S_ 32 0#32, constantI S_ 32 0#32] : Fin 4 → (⟨S_, .i32⟩ : BufTy).Contents (Elt Ideal))) k (Shape.Idx.first h_S_)).toInt) hf) hc)
      (f (cur j)) := by
  intro h i d
  rw [← hA]
  pointwise []
  refine congrArg _ ?_
  congr 1 <;> refine Fin.ext ?_ <;> dsimp only
  · exact Host.clampedStart_of_le _ _ 0 (63 - j) (v39 H _) (by show 63 - j + 1 ≤ 64; omega)
  · rw [Host.clampedStart_of_le _ _ 1 0 rfl (by show 0 + 8 ≤ 8; omega)]; omega
  · rw [Host.clampedStart_of_le _ _ 2 0 rfl (by show 0 + 64 ≤ 64; omega)]; omega
  · rw [Host.clampedStart_of_le _ _ 3 0 rfl (by show 0 + 128 ≤ 128; omega)]; omega

theorem slice3 (H : Holds V0 j x dS) {A : (⟨S64x8x64, .f32⟩ : BufTy).Contents (Elt Ideal)} {f : Fin 64 → Fin 8 → Fin 64 → ℝ}
    (hA : R3 (a := 64) (b := 8) (c := 64) A f) (hf) (hc) :
    R2 (a := 8) (b := 64) (shapeCast S8x64 (Host.dynamicSlice S1x8x64 A (fun k => (((![res_main_while0b_v39 V0, constantI S_ 32 0#32, constantI S_ 32 0#32] : Fin 3 → (⟨S_, .i32⟩ : BufTy).Contents (Elt Ideal))) k (Shape.Idx.first h_S_)).toInt) hf) hc)
      (f (cur j)) := by
  intro h i
  rw [← hA]
  pointwise []
  refine congrArg _ ?_
  congr 1 <;> refine Fin.ext ?_ <;> dsimp only
  · exact Host.clampedStart_of_le _ _ 0 (63 - j) (v39 H _) (by show 63 - j + 1 ≤ 64; omega)
  · rw [Host.clampedStart_of_le _ _ 1 0 rfl (by show 0 + 8 ≤ 8; omega)]; omega
  · rw [Host.clampedStart_of_le _ _ 2 0 rfl (by show 0 + 64 ≤ 64; omega)]; omega

theorem v41 (H : Holds V0 j x dS) : R3 (res_main_while0b_v41 V0) fun h => (x (cur j) h).q := slice4 H H.q _ _
theorem v42 (H : Holds V0 j x dS) : R3 (res_main_while0b_v42 V0) fun h => (x (cur j) h).k := slice4 H H.k _ _
theorem v44 (H : Holds V0 j x dS) : R2 (res_main_while0b_v44 V0) fun h => (x (cur j) h).beta := slice3 H H.beta _ _
theorem v46 (H : Holds V0 j x dS) : R3 (res_main_while0b_v46 V0) fun h => (x (cur j) h).o := slice4 H H.o _ _

theorem v49 (H : Holds V0 j x dS) : R3 (res_main_while0b_v49 V0) fun h => (x (cur j) h).kb := by
  intro h i d
  unfold res_main_while0b_v49 res_main_while0b_v47
  pointwise [v42 H h i d, v44 H h i]
  rw [← EReal.coe_mul]; rfl

theorem v53 (H : Holds V0 j x dS) : R2 (res_main_while0b_v53 V0) fun h => (x (cur j) h).gc := by
  refine R2.runSum (slice3 H H.g _ _) _ _ ?_ _
  pointwise []

theorem v55 (i j : Fin 64) : res_main_while0b_v55 V0 (ix2 i j) = if j ≤ i then 1#1 else 0#1 := by
  unfold res_main_while0b_v55
  pointwise []
  rw [low_mask, select_if]

theorem v68_1 (h : Fin 8) (i j : Fin 64) : res_main_while0b_v68_1 V0 (ix3 h i j) = if j < i then 1#1 else 0#1 := by
  unfold res_main_while0b_v68_1
  pointwise []
  rw [below_mask, select_if]

theorem v65 (H : Holds V0 j x dS) : R3 (res_main_while0b_v65 V0) fun h => (x (cur j) h).gam := by
  intro h i d
  unfold res_main_while0b_v65
  pointwise [v55, v53 H h, id]
  simp only [select_if, Chunk.gam]
  split
  · rw [← EReal.coe_sub, Ideal.exp_coe]
  · exact EReal.coe_zero.symm

theorem v68_0 (H : Holds V0 j x dS) : R3 (res_main_while0b_v68_0 V0) fun h => (x (cur j) h).L := by
  intro h i d
  unfold res_main_while0b_v68_0
  pointwise [v68_1, v65 H h, v42 H h, v49 H h, id]
  simp only [select_if, Chunk.L, below, had, ← EReal.coe_mul, coe_sum, Matrix.mul_apply, Matrix.transpose_apply]
  split
  · rfl
  · exact EReal.coe_zero.symm

theorem v74 (H : Holds V0 j x dS) : R3 (res_main_while0b_v74 V0) fun h => ((x (cur j) h).inv 0).2 := by
  intro h i d
  have e : res_main_while0b_v68_0 V0 (ix3 h i d) = (((x (cur j) h).L i d : ℝ) : EReal) := v68_0 H h i d
  show _ = ((((x (cur j) h).inv 0).2 i d : ℝ) : EReal)
  rw [res_main_while0b_v74, Host.negf_apply, Ideal.hostNegf_def, Ideal.negf_def, e, Chunk.inv_zero_snd, EReal.coe_neg]

theorem add_shared {Y : FVec Ideal S8x64x64 .f32} {Z : FVec Ideal S64x64 .f32} (h : Fin 8) (i d : Fin 64) :
    addf Y (broadcastInDim S8x64x64 ![0, 1, 2] bcast_S1x64x64_S8x64x64_0_1_2
      (broadcastInDim S1x64x64 ![1, 2] bcast_S64x64_S1x64x64_1_2 Z)) (ix3 h i d) = Y (ix3 h i d) + Z (ix2 i d) := by
  pointwise []

theorem eye (i d : Fin 64) :
    uitofp (F := Ideal) .f32 (cmpi .eq (addi (iotaInDim S64x64 32 0) (broadcastInDim S64x64 ![] bcast_S_S64x64 (constantI S_ 32 0#32))) (iotaInDim S64x64 32 1)) (ix2 i d)
      = (((if i = d then 1 else 0 : ℝ)) : EReal) := by
  rw [← uitofp_if, ← diag_mask]; rfl

theorem v83 (H : Holds V0 j x dS) : R3 (res_main_while0b_v83 V0) fun h => ((x (cur j) h).inv 0).1 := by
  intro h i d
  have e : res_main_while0b_v74 V0 (ix3 h i d) = ((((x (cur j) h).inv 0).2 i d : ℝ) : EReal) := v74 H h i d
  show _ = ((((x (cur j) h).inv 0).1 i d : ℝ) : EReal)
  unfold res_main_while0b_v83
  refine (add_shared h i d).trans ?_
  rw [eye, e, ← EReal.coe_add, Chunk.inv_zero_fst, Chunk.inv_zero_snd]

/-- A product of two matrices over the tokens, head by head. -/
theorem dotTT {X Y : FVec Ideal S8x64x64 .f32} {f g : Fin 8 → Toks}
    (hX : R3 (a := 8) (b := 64) (c := 64) X f) (hY : R3 (a := 8) (b := 64) (c := 64) Y g) :
    R3 (a := 8) (b := 64) (c := 64) (Host.dotGeneral dot_S8x64x64_S8x64x64_S8x64x64_2_1_1_2_0_0 none X Y)
      fun h => f h * g h := by
  intro h i d
  pointwise [hX h, hY h]
  simp only [← EReal.coe_mul, coe_sum, Matrix.mul_apply]

theorem addTT {X Y : FVec Ideal S8x64x64 .f32} {f g : Fin 8 → Toks}
    (hX : R3 (a := 8) (b := 64) (c := 64) X f) (hY : R3 (a := 8) (b := 64) (c := 64) Y g) :
    R3 (a := 8) (b := 64) (c := 64) (addf X Y) fun h => f h + g h := by
  intro h i d
  refine (congrArg₂ (fun a b : EReal => a + b) (hX h i d) (hY h i d)).trans ?_
  exact (EReal.coe_add _ _).symm

theorem v84 (H : Holds V0 j x dS) : R3 (res_main_while0b_v84 V0) fun h => ((x (cur j) h).inv 1).2 :=
  dotTT (v74 H) (v74 H)
theorem v86 (H : Holds V0 j x dS) : R3 (res_main_while0b_v86 V0) fun h => ((x (cur j) h).inv 1).1 :=
  addTT (v83 H) (dotTT (v83 H) (v84 H))
theorem v87 (H : Holds V0 j x dS) : R3 (res_main_while0b_v87 V0) fun h => ((x (cur j) h).inv 2).2 :=
  dotTT (v84 H) (v84 H)
theorem v89 (H : Holds V0 j x dS) : R3 (res_main_while0b_v89 V0) fun h => ((x (cur j) h).inv 2).1 :=
  addTT (v86 H) (dotTT (v86 H) (v87 H))
theorem v90 (H : Holds V0 j x dS) : R3 (res_main_while0b_v90 V0) fun h => ((x (cur j) h).inv 3).2 :=
  dotTT (v87 H) (v87 H)
theorem v92 (H : Holds V0 j x dS) : R3 (res_main_while0b_v92 V0) fun h => ((x (cur j) h).inv 3).1 :=
  addTT (v89 H) (dotTT (v89 H) (v90 H))
theorem v93 (H : Holds V0 j x dS) : R3 (res_main_while0b_v93 V0) fun h => ((x (cur j) h).inv 4).2 :=
  dotTT (v90 H) (v90 H)
theorem v95 (H : Holds V0 j x dS) : R3 (res_main_while0b_v95 V0) fun h => ((x (cur j) h).inv 4).1 :=
  addTT (v92 H) (dotTT (v92 H) (v93 H))
theorem v98 (H : Holds V0 j x dS) : R3 (res_main_while0b_v98 V0) fun h => (x (cur j) h).A :=
  addTT (v95 H) (dotTT (v95 H) (dotTT (v93 H) (v93 H)))

theorem v70 (H : Holds V0 j x dS) (h : Fin 8) (i : Fin 64) (z : Fin 1) :
    res_main_while0b_v70 V0 (ix3 h i z) = (((x (cur j) h).e i : ℝ) : EReal) := by
  have e : res_main_while0b_v53 V0 (ix2 h i) = (((x (cur j) h).gc i : ℝ) : EReal) := v53 H h i
  unfold res_main_while0b_v70
  pointwise [e]
  rfl

theorem v110 (H : Holds V0 j x dS) (h : Fin 8) (i : Fin 64) (z : Fin 1) :
    res_main_while0b_v110 V0 (ix3 h i z) = (((x (cur j) h).e i : ℝ) : EReal) := v70 H h i z

theorem v117 (H : Holds V0 j x dS) (h : Fin 8) :
    res_main_while0b_v117 V0 (ix1 h) = (((x (cur j) h).gl : ℝ) : EReal) := by
  have e : res_main_while0b_v53 V0 (ix2 h 63) = (((x (cur j) h).gc 63 : ℝ) : EReal) := v53 H h 63
  unfold res_main_while0b_v117
  rw [show (x (cur j) h).gl = (x (cur j) h).gc 63 from rfl, ← e]
  clear e
  generalize res_main_while0b_v53 V0 = Y
  pointwise []

theorem v122 (H : Holds V0 j x dS) (h : Fin 8) (i : Fin 64) (z : Fin 1) :
    res_main_while0b_v122 V0 (ix3 h i z) = (((x (cur j) h).edec i : ℝ) : EReal) := by
  have e : res_main_while0b_v53 V0 (ix2 h i) = (((x (cur j) h).gc i : ℝ) : EReal) := v53 H h i
  unfold res_main_while0b_v122
  pointwise [e, v117 H]
  rw [← EReal.coe_sub, Ideal.exp_coe]
  rfl

theorem v126 (H : Holds V0 j x dS) (h : Fin 8) (z w : Fin 1) :
    res_main_while0b_v126 V0 (ix3 h z w) = ((Real.exp (x (cur j) h).gl : ℝ) : EReal) := by
  unfold res_main_while0b_v126
  pointwise [v117 H]
  exact Ideal.exp_coe _

theorem v112 (H : Holds V0 j x dS) : R3 (res_main_while0b_v112 V0) fun h => (x (cur j) h).qe := by
  intro h i d
  have e : res_main_while0b_v41 V0 (ix3 h i d) = (((x (cur j) h).q i d : ℝ) : EReal) := v41 H h i d
  unfold res_main_while0b_v112
  pointwise [e, v110 H]
  rw [← EReal.coe_mul]
  rfl

theorem v124 (H : Holds V0 j x dS) : R3 (res_main_while0b_v124 V0) fun h => (x (cur j) h).kdec := by
  intro h i d
  have e : res_main_while0b_v42 V0 (ix3 h i d) = (((x (cur j) h).k i d : ℝ) : EReal) := v42 H h i d
  unfold res_main_while0b_v124
  pointwise [e, v122 H]
  rw [← EReal.coe_mul]
  rfl

theorem v106_0 (H : Holds V0 j x dS) : R3 (res_main_while0b_v106_0 V0) fun h => (x (cur j) h).attn := by
  intro h i d
  unfold res_main_while0b_v106_0 res_main_while0b_v106_1
  pointwise [v55, v65 H h, v42 H h, v41 H h, id]
  simp only [select_if, Chunk.attn, low, had, ← EReal.coe_mul, coe_sum, Matrix.mul_apply, Matrix.transpose_apply]
  split
  · rfl
  · exact EReal.coe_zero.symm

/-- The left and the right half of `A · [v·β | k·β·e]`. -/
theorem v99 (H : Holds V0 j x dS) (h : Fin 8) (i : Fin 64) (d : Fin 256) :
    res_main_while0b_v99 V0 (ix3 h i d) = (((if hd : d.val < 128 then (x (cur j) h).u i ⟨d.val, hd⟩ else (x (cur j) h).w i ⟨d.val - 128, by omega⟩) : ℝ) : EReal) := by
  have eA : ∀ c, res_main_while0b_v98 V0 (ix3 h i c) = (((x (cur j) h).A i c : ℝ) : EReal) := v98 H h i
  have eb : ∀ c, res_main_while0b_v44 V0 (ix2 h c) = (((x (cur j) h).beta c : ℝ) : EReal) := v44 H h
  have ek : ∀ c d, res_main_while0b_v49 V0 (ix3 h c d) = (((x (cur j) h).kb c d : ℝ) : EReal) := v49 H h
  have ev := slice4 H H.v sliceFits_S64x8x64x128_S1x8x64x128 shapeCasts_S1x8x64x128_S8x64x128
  unfold res_main_while0b_v99 res_main_while0b_v50
  generalize shapeCast S8x64x128 (Host.dynamicSlice S1x8x64x128 (V0 (Proc.devRef .tc main_v31_3)) (fun k => (((![res_main_while0b_v39 V0, constantI S_ 32 0#32, constantI S_ 32 0#32, constantI S_ 32 0#32] : Fin 4 → (⟨S_, .i32⟩ : BufTy).Contents (Elt Ideal))) k (Shape.Idx.first h_S_)).toInt) sliceFits_S64x8x64x128_S1x8x64x128) shapeCasts_S1x8x64x128_S8x64x128 = W at ev ⊢
  have ev : ∀ c d, W (ix3 h c d) = (((x (cur j) h).v c d : ℝ) : EReal) := ev h
  pointwise [eA, eb, ek, ev, v70 H]
  by_cases hd : d.val < 128
  · simp only [hd, dite_true, ← EReal.coe_mul, coe_sum]
    rfl
  · simp only [hd, dite_false, ← EReal.coe_mul, coe_sum]
    rfl

theorem dotNT {X : FVec Ideal S8x64x128 .f32} {Y : FVec Ideal S8x64x128 .f32} {f : Fin 8 → Matrix (Fin 64) (Fin 128) ℝ} {g : Fin 8 → Matrix (Fin 64) (Fin 128) ℝ}
    (hX : R3 (a := 8) (b := 64) (c := 128) X f) (hY : R3 (a := 8) (b := 64) (c := 128) Y g) :
    R3 (a := 8) (b := 64) (c := 64) (Host.dotGeneral dot_S8x64x128_S8x64x128_S8x64x64_2_2_1_1_0_0 none X Y)
      fun h => f h * (g h)ᵀ := by
  intro h i d
  show _ = ((((f h * (g h)ᵀ) i d : ℝ)) : EReal)
  have hx : ∀ i j, X (ix3 h i j) = ((f h i j : ℝ) : EReal) := hX h
  have hy : ∀ i j, Y (ix3 h i j) = ((g h i j : ℝ) : EReal) := hY h
  simp only [Matrix.mul_apply, Matrix.transpose_apply]
  generalize f h = f' at hx ⊢
  generalize g h = g' at hy ⊢
  pointwise [hx, hy]
  simp only [← EReal.coe_mul, coe_sum]

theorem dotRS {X : FVec Ideal S8x64x128 .f32} {Y : FVec Ideal S8x128x128 .f32} {f : Fin 8 → Matrix (Fin 64) (Fin 128) ℝ} {g : Fin 8 → Matrix (Fin 128) (Fin 128) ℝ}
    (hX : R3 (a := 8) (b := 64) (c := 128) X f) (hY : R3 (a := 8) (b := 128) (c := 128) Y g) :
    R3 (a := 8) (b := 64) (c := 128) (Host.dotGeneral dot_S8x64x128_S8x128x128_S8x64x128_2_1_1_2_0_0 none X Y)
      fun h => f h * g h := by
  intro h i d
  show _ = ((((f h * g h) i d : ℝ)) : EReal)
  have hx : ∀ i j, X (ix3 h i j) = ((f h i j : ℝ) : EReal) := hX h
  have hy : ∀ i j, Y (ix3 h i j) = ((g h i j : ℝ) : EReal) := hY h
  simp only [Matrix.mul_apply, Matrix.transpose_apply]
  generalize f h = f' at hx ⊢
  generalize g h = g' at hy ⊢
  pointwise [hx, hy]
  simp only [← EReal.coe_mul, coe_sum]

theorem dotRSt {X : FVec Ideal S8x64x128 .f32} {Y : FVec Ideal S8x128x128 .f32} {f : Fin 8 → Matrix (Fin 64) (Fin 128) ℝ} {g : Fin 8 → Matrix (Fin 128) (Fin 128) ℝ}
    (hX : R3 (a := 8) (b := 64) (c := 128) X f) (hY : R3 (a := 8) (b := 128) (c := 128) Y g) :
    R3 (a := 8) (b := 64) (c := 128) (Host.dotGeneral dot_S8x64x128_S8x128x128_S8x64x128_2_2_1_1_0_0 none X Y)
      fun h => f h * (g h)ᵀ := by
  intro h i d
  show _ = ((((f h * (g h)ᵀ) i d : ℝ)) : EReal)
  have hx : ∀ i j, X (ix3 h i j) = ((f h i j : ℝ) : EReal) := hX h
  have hy : ∀ i j, Y (ix3 h i j) = ((g h i j : ℝ) : EReal) := hY h
  simp only [Matrix.mul_apply, Matrix.transpose_apply]
  generalize f h = f' at hx ⊢
  generalize g h = g' at hy ⊢
  pointwise [hx, hy]
  simp only [← EReal.coe_mul, coe_sum]

theorem dotTR {X : FVec Ideal S8x64x64 .f32} {Y : FVec Ideal S8x64x128 .f32} {f : Fin 8 → Matrix (Fin 64) (Fin 64) ℝ} {g : Fin 8 → Matrix (Fin 64) (Fin 128) ℝ}
    (hX : R3 (a := 8) (b := 64) (c := 64) X f) (hY : R3 (a := 8) (b := 64) (c := 128) Y g) :
    R3 (a := 8) (b := 64) (c := 128) (Host.dotGeneral dot_S8x64x64_S8x64x128_S8x64x128_2_1_1_2_0_0 none X Y)
      fun h => f h * g h := by
  intro h i d
  show _ = ((((f h * g h) i d : ℝ)) : EReal)
  have hx : ∀ i j, X (ix3 h i j) = ((f h i j : ℝ) : EReal) := hX h
  have hy : ∀ i j, Y (ix3 h i j) = ((g h i j : ℝ) : EReal) := hY h
  simp only [Matrix.mul_apply, Matrix.transpose_apply]
  generalize f h = f' at hx ⊢
  generalize g h = g' at hy ⊢
  pointwise [hx, hy]
  simp only [← EReal.coe_mul, coe_sum]

theorem dotTtR {X : FVec Ideal S8x64x64 .f32} {Y : FVec Ideal S8x64x128 .f32} {f : Fin 8 → Matrix (Fin 64) (Fin 64) ℝ} {g : Fin 8 → Matrix (Fin 64) (Fin 128) ℝ}
    (hX : R3 (a := 8) (b := 64) (c := 64) X f) (hY : R3 (a := 8) (b := 64) (c := 128) Y g) :
    R3 (a := 8) (b := 64) (c := 128) (Host.dotGeneral dot_S8x64x64_S8x64x128_S8x64x128_1_1_2_2_0_0 none X Y)
      fun h => (f h)ᵀ * g h := by
  intro h i d
  show _ = (((((f h)ᵀ * g h) i d : ℝ)) : EReal)
  have hx : ∀ i j, X (ix3 h i j) = ((f h i j : ℝ) : EReal) := hX h
  have hy : ∀ i j, Y (ix3 h i j) = ((g h i j : ℝ) : EReal) := hY h
  simp only [Matrix.mul_apply, Matrix.transpose_apply]
  generalize f h = f' at hx ⊢
  generalize g h = g' at hy ⊢
  pointwise [hx, hy]
  simp only [← EReal.coe_mul, coe_sum]

theorem dotSR1 {X : FVec Ideal S8x128x128 .f32} {Y : FVec Ideal S8x64x128 .f32} {f : Fin 8 → Matrix (Fin 128) (Fin 128) ℝ} {g : Fin 8 → Matrix (Fin 64) (Fin 128) ℝ}
    (hX : R3 (a := 8) (b := 128) (c := 128) X f) (hY : R3 (a := 8) (b := 64) (c := 128) Y g) :
    R3 (a := 8) (b := 64) (c := 128) (transpose S8x64x128 [0, 2, 1] (Host.dotGeneral dot_S8x128x128_S8x64x128_S8x128x64_1_2_2_1_0_0 none X Y) transposes_S8x128x64_S8x64x128_0_2_1)
      fun h => g h * f h := by
  intro h i d
  show _ = ((((g h * f h) i d : ℝ)) : EReal)
  have hx : ∀ i j, X (ix3 h i j) = ((f h i j : ℝ) : EReal) := hX h
  have hy : ∀ i j, Y (ix3 h i j) = ((g h i j : ℝ) : EReal) := hY h
  simp only [Matrix.mul_apply, Matrix.transpose_apply]
  generalize f h = f' at hx ⊢
  generalize g h = g' at hy ⊢
  pointwise [hx, hy]
  simp only [← EReal.coe_mul, coe_sum] ; simp only [mul_comm]

theorem dotSR2 {X : FVec Ideal S8x128x128 .f32} {Y : FVec Ideal S8x64x128 .f32} {f : Fin 8 → Matrix (Fin 128) (Fin 128) ℝ} {g : Fin 8 → Matrix (Fin 64) (Fin 128) ℝ}
    (hX : R3 (a := 8) (b := 128) (c := 128) X f) (hY : R3 (a := 8) (b := 64) (c := 128) Y g) :
    R3 (a := 8) (b := 64) (c := 128) (transpose S8x64x128 [0, 2, 1] (Host.dotGeneral dot_S8x128x128_S8x64x128_S8x128x64_2_2_1_1_0_0 none X Y) transposes_S8x128x64_S8x64x128_0_2_1)
      fun h => g h * (f h)ᵀ := by
  intro h i d
  show _ = ((((g h * (f h)ᵀ) i d : ℝ)) : EReal)
  have hx : ∀ i j, X (ix3 h i j) = ((f h i j : ℝ) : EReal) := hX h
  have hy : ∀ i j, Y (ix3 h i j) = ((g h i j : ℝ) : EReal) := hY h
  simp only [Matrix.mul_apply, Matrix.transpose_apply]
  generalize f h = f' at hx ⊢
  generalize g h = g' at hy ⊢
  pointwise [hx, hy]
  simp only [← EReal.coe_mul, coe_sum] ; simp only [mul_comm]

theorem dotRT {X : FVec Ideal S8x64x128 .f32} {Y : FVec Ideal S8x64x64 .f32} {f : Fin 8 → Matrix (Fin 64) (Fin 128) ℝ} {g : Fin 8 → Matrix (Fin 64) (Fin 64) ℝ}
    (hX : R3 (a := 8) (b := 64) (c := 128) X f) (hY : R3 (a := 8) (b := 64) (c := 64) Y g) :
    R3 (a := 8) (b := 64) (c := 128) (transpose S8x64x128 [0, 2, 1] (Host.dotGeneral dot_S8x64x128_S8x64x64_S8x128x64_1_1_2_2_0_0 none X Y) transposes_S8x128x64_S8x64x128_0_2_1)
      fun h => (g h)ᵀ * f h := by
  intro h i d
  show _ = (((((g h)ᵀ * f h) i d : ℝ)) : EReal)
  have hx : ∀ i j, X (ix3 h i j) = ((f h i j : ℝ) : EReal) := hX h
  have hy : ∀ i j, Y (ix3 h i j) = ((g h i j : ℝ) : EReal) := hY h
  simp only [Matrix.mul_apply, Matrix.transpose_apply]
  generalize f h = f' at hx ⊢
  generalize g h = g' at hy ⊢
  pointwise [hx, hy]
  simp only [← EReal.coe_mul, coe_sum] ; simp only [mul_comm]

theorem dotRR {X : FVec Ideal S8x64x128 .f32} {Y : FVec Ideal S8x64x128 .f32} {f : Fin 8 → Matrix (Fin 64) (Fin 128) ℝ} {g : Fin 8 → Matrix (Fin 64) (Fin 128) ℝ}
    (hX : R3 (a := 8) (b := 64) (c := 128) X f) (hY : R3 (a := 8) (b := 64) (c := 128) Y g) :
    R3 (a := 8) (b := 128) (c := 128) (transpose S8x128x128 [0, 2, 1] (Host.dotGeneral dot_S8x64x128_S8x64x128_S8x128x128_1_1_2_2_0_0 none X Y) transposes_S8x128x128_S8x128x128_0_2_1)
      fun h => (g h)ᵀ * f h := by
  intro h i d
  show _ = (((((g h)ᵀ * f h) i d : ℝ)) : EReal)
  have hx : ∀ i j, X (ix3 h i j) = ((f h i j : ℝ) : EReal) := hX h
  have hy : ∀ i j, Y (ix3 h i j) = ((g h i j : ℝ) : EReal) := hY h
  simp only [Matrix.mul_apply, Matrix.transpose_apply]
  generalize f h = f' at hx ⊢
  generalize g h = g' at hy ⊢
  pointwise [hx, hy]
  simp only [← EReal.coe_mul, coe_sum] ; simp only [mul_comm]

theorem addRR {X Y : FVec Ideal S8x64x128 .f32} {f g : Fin 8 → Rows}
    (hX : R3 (a := 8) (b := 64) (c := 128) X f) (hY : R3 (a := 8) (b := 64) (c := 128) Y g) :
    R3 (a := 8) (b := 64) (c := 128) (addf X Y) fun h => f h + g h := by
  intro h i d
  refine (congrArg₂ (fun a b : EReal => a + b) (hX h i d) (hY h i d)).trans ?_
  exact (EReal.coe_add _ _).symm

theorem addSS {X Y : FVec Ideal S8x128x128 .f32} {f g : Fin 8 → Sq}
    (hX : R3 (a := 8) (b := 128) (c := 128) X f) (hY : R3 (a := 8) (b := 128) (c := 128) Y g) :
    R3 (a := 8) (b := 128) (c := 128) (addf X Y) fun h => f h + g h := by
  intro h i d
  refine (congrArg₂ (fun a b : EReal => a + b) (hX h i d) (hY h i d)).trans ?_
  exact (EReal.coe_add _ _).symm

/-- Each row times its own factor. -/
theorem scaleR {X : FVec Ideal S8x64x128 .f32} {Y : FVec Ideal S8x64x1 .f32} {f : Fin 8 → Rows} {c : Fin 8 → Fin 64 → ℝ}
    (hX : R3 (a := 8) (b := 64) (c := 128) X f) (hY : ∀ h i z, Y (ix3 h i z) = ((c h i : ℝ) : EReal)) :
    R3 (a := 8) (b := 64) (c := 128) (mulf X (broadcastInDim S8x64x128 ![0, 1, 2] bcast_S8x64x1_S8x64x128_0_1_2 Y))
      fun h => rows (f h) (c h) := by
  intro h i d
  have hx : ∀ i j, X (ix3 h i j) = ((f h i j : ℝ) : EReal) := hX h
  show _ = ((f h i d * c h i : ℝ) : EReal)
  generalize f h = f' at hx ⊢
  pointwise [hx, hY]
  rw [← EReal.coe_mul]

theorem v103 (H : Holds V0 j x dS) : R3 (res_main_while0b_v103 V0) fun h => (x (cur j) h).w := by
  intro h i d
  have e := v99 H h i ⟨128 + d.val, by omega⟩
  rw [dif_neg (by simp)] at e
  refine Eq.trans ?_ (e.trans ?_)
  · unfold res_main_while0b_v103
    generalize res_main_while0b_v99 V0 = Y
    pointwise []
  · rw [show (⟨128 + d.val - 128, by omega⟩ : Fin 128) = d from Fin.ext (by simp)]

theorem vu (H : Holds V0 j x dS) : R3 (a := 8) (b := 64) (c := 128) (extractStridedSlice S8x64x128 ![0, 0, 0] (res_main_while0b_v99 V0) slices_S8x64x256_S8x64x128_0_0_0) fun h => (x (cur j) h).u := by
  intro h i d
  have e := v99 H h i ⟨d.val, by omega⟩
  rw [dif_pos d.isLt] at e
  refine Eq.trans ?_ e
  generalize res_main_while0b_v99 V0 = Y
  pointwise []

theorem subRR {X Y : FVec Ideal S8x64x128 .f32} {f g : Fin 8 → Rows}
    (hX : R3 (a := 8) (b := 64) (c := 128) X f) (hY : R3 (a := 8) (b := 64) (c := 128) Y g) :
    R3 (a := 8) (b := 64) (c := 128) (subf X Y) fun h => f h - g h := by
  intro h i d
  refine (congrArg₂ (fun a b : EReal => a - b) (hX h i d) (hY h i d)).trans ?_
  exact (EReal.coe_sub _ _).symm

theorem v108 (H : Holds V0 j x dS) : R3 (res_main_while0b_v108 V0) fun h => (x (cur j) h).vnew :=
  subRR (vu H) (dotRS (v103 H) (v40 H))

theorem v141 (H : Holds V0 j x dS) : R3 (res_main_while0b_v141 V0) fun h => (x (cur j) h).dvn (dS h) :=
  addRR (dotSR1 H.dS (v124 H)) (dotRT (v46 H) (v106_0 H))

theorem negRR {X : FVec Ideal S8x64x128 .f32} {f : Fin 8 → Rows} (hX : R3 (a := 8) (b := 64) (c := 128) X f) :
    R3 (a := 8) (b := 64) (c := 128) (Host.negf X) fun h => -f h := by
  intro h i d
  have hx : X (ix3 h i d) = ((f h i d : ℝ) : EReal) := hX h i d
  show _ = ((-(f h i d) : ℝ) : EReal)
  rw [Host.negf_apply, Ideal.hostNegf_def, Ideal.negf_def, hx, EReal.coe_neg]

theorem v149 (H : Holds V0 j x dS) : R3 (res_main_while0b_v149 V0) fun h => -(x (cur j) h).dvn (dS h) :=
  negRR (v141 H)

/-- Under a mask of tokens, times the decays. -/
theorem maskT {M : IVec S8x64x64 1} {X Y Z : FVec Ideal S8x64x64 .f32} {p : Fin 64 → Fin 64 → Prop} [∀ i j, Decidable (p i j)]
    {f g : Fin 8 → Toks} (hM : ∀ h i j, M (ix3 h i j) = if p i j then 1#1 else 0#1) (hX : R3 (a := 8) (b := 64) (c := 64) X f)
    (hY : R3 (a := 8) (b := 64) (c := 64) Y g) (hZ : ∀ h i j, Z (ix3 h i j) = 0) :
    R3 (a := 8) (b := 64) (c := 64) (mulf (select M X Z) Y) fun h i j => (if p i j then f h i j else 0) * g h i j := by
  intro h i d
  have hx : X (ix3 h i d) = ((f h i d : ℝ) : EReal) := hX h i d
  have hy : Y (ix3 h i d) = ((g h i d : ℝ) : EReal) := hY h i d
  show Scalar.select (M (ix3 h i d)) (X (ix3 h i d)) (Z (ix3 h i d)) * Y (ix3 h i d) = _
  rw [hM, select_if, hZ, hx, hy, EReal.coe_mul]
  by_cases c : p i d
  · rw [if_pos c, if_pos c]
  · rw [if_neg c, if_neg c, EReal.coe_zero]

theorem v155 (H : Holds V0 j x dS) : R3 (res_main_while0b_v155 V0) fun h => (x (cur j) h).dqm := by
  refine maskT (p := fun i j => j ≤ i) (fun h i j => ?_) (dotNT (v46 H) (v108 H)) (v65 H) (fun h i j => by pointwise [])
  show res_main_while0b_v55 V0 (ix2 i j) = _
  exact v55 i j

/-- `Aᵀ · [b | a]`, the two halves put side by side by padding. -/
theorem dotPad {X : FVec Ideal S8x64x64 .f32} {Y Z : FVec Ideal S8x64x128 .f32} {f : Fin 8 → Toks} {a b : Fin 8 → Rows}
    (hX : R3 (a := 8) (b := 64) (c := 64) X f) (hY : R3 (a := 8) (b := 64) (c := 128) Y a) (hZ : R3 (a := 8) (b := 64) (c := 128) Z b)
    (h : Fin 8) (i : Fin 64) (d : Fin 256) :
    Host.dotGeneral (φ₁ := .f32) (φ₂ := .f32) dot_S8x64x64_S8x64x256_S8x64x256_1_1_2_2_0_0 none X (addf (pad S8x64x256 ![0, 0, 128] ![0, 0, 0] ![0, 0, 0] Y (constant S_ .f32 0x00000000#32) pads_S8x64x128_S8x64x256_000_000_12800 h_S_) (pad S8x64x256 ![0, 0, 0] ![0, 0, 128] ![0, 0, 0] Z (constant S_ .f32 0x00000000#32) pads_S8x64x128_S8x64x256_000_000_01280 h_S_)) (ix3 h i d)
      = (((if hd : d.val < 128 then ((f h)ᵀ * b h) i ⟨d.val, hd⟩ else ((f h)ᵀ * a h) i ⟨d.val - 128, by omega⟩) : ℝ) : EReal) := by
  have hx : ∀ i j, X (ix3 h i j) = ((f h i j : ℝ) : EReal) := hX h
  have hy : ∀ i j, Y (ix3 h i j) = ((a h i j : ℝ) : EReal) := hY h
  have hz : ∀ i j, Z (ix3 h i j) = ((b h i j : ℝ) : EReal) := hZ h
  simp only [Matrix.mul_apply, Matrix.transpose_apply]
  generalize f h = f' at hx ⊢
  generalize a h = a' at hy ⊢
  generalize b h = b' at hz ⊢
  pointwise [hx, hy, hz]
  by_cases hd : d.val < 128
  · have h2 : ¬ 128 ≤ d.val := by omega
    simp only [hd, h2, false_and, dite_true, dite_false, zero_add, ← EReal.coe_mul, coe_sum]
  · have h2 : 128 ≤ d.val := by omega
    have h3 : d.val - 128 < 128 := by omega
    simp only [hd, h2, h3, and_self, dite_true, dite_false, add_zero, ← EReal.coe_mul, coe_sum]

theorem v163 (H : Holds V0 j x dS) (h : Fin 8) (i : Fin 64) (d : Fin 256) :
    res_main_while0b_v163 V0 (ix3 h i d) = (((if hd : d.val < 128 then (x (cur j) h).du' (dS h) i ⟨d.val, hd⟩ else (x (cur j) h).dw' (dS h) i ⟨d.val - 128, by omega⟩) : ℝ) : EReal) :=
  dotPad (v98 H) (dotRSt (v149 H) (v40 H)) (v141 H) h i d

/-- A product over the 256 lanes of two halves side by side, the left factor negated. -/
theorem dotHalves {X Y : FVec Ideal S8x64x256 .f32} {h : Fin 8} {a b c e : Rows}
    (hX : ∀ i d, X (ix3 h i d) = (((if hd : d.val < 128 then a i ⟨d.val, hd⟩ else b i ⟨d.val - 128, by omega⟩) : ℝ) : EReal))
    (hY : ∀ i d, Y (ix3 h i d) = (((if hd : d.val < 128 then c i ⟨d.val, hd⟩ else e i ⟨d.val - 128, by omega⟩) : ℝ) : EReal))
    (i j : Fin 64) :
    Host.dotGeneral (φ₁ := .f32) (φ₂ := .f32) dot_S8x64x256_S8x64x256_S8x64x64_2_2_1_1_0_0 none (Host.negf X) Y (ix3 h i j)
      = (((-(a * cᵀ) - b * eᵀ : Toks) i j : ℝ) : EReal) := by
  have hn : ∀ i d, Host.negf X (ix3 h i d) = (((-(if hd : d.val < 128 then a i ⟨d.val, hd⟩ else b i ⟨d.val - 128, by omega⟩)) : ℝ) : EReal) := fun i d => by
    rw [Host.negf_apply, Ideal.hostNegf_def, Ideal.negf_def, hX, EReal.coe_neg]
  generalize Host.negf X = N at hn ⊢
  rw [Matrix.sub_apply, Matrix.neg_apply, Matrix.mul_apply, Matrix.mul_apply]
  simp only [Matrix.transpose_apply]
  pointwise [hn, hY]
  simp only [← EReal.coe_mul, coe_sum]
  rw [← EReal.coe_add]
  refine congrArg _ ?_
  simp only [neg_mul, Finset.sum_neg_distrib, sub_eq_add_neg]

theorem dlmMask {M : IVec S8x64x64 1} {X Y Z : FVec Ideal S8x64x64 .f32} {f g : Fin 8 → Toks}
    (hM : ∀ h i j, M (ix3 h i j) = if j < i then 1#1 else 0#1) (hX : ∀ h i j, X (ix3 h i j) = ((f h i j : ℝ) : EReal))
    (hY : R3 (a := 8) (b := 64) (c := 64) Y g) (hZ : ∀ h i j, Z (ix3 h i j) = 0) :
    R3 (a := 8) (b := 64) (c := 64) (mulf (select M X Z) Y) fun h => had (below (f h)) (g h) := by
  exact maskT (p := fun i j => j < i) hM hX hY hZ

theorem v171 (H : Holds V0 j x dS) : R3 (res_main_while0b_v171 V0) fun h => (x (cur j) h).dlm (dS h) := by
  exact dlmMask (v68_1 (V0 := V0)) (fun h => dotHalves (h := h) (v163 H h) (v99 H h)) (v65 H) (fun h i j => by pointwise [])

/-- What the loop writes back for the state: the cotangent handed to the chunk before. -/
theorem step8 (H : Holds V0 j x dS) : R3 (a := 8) (b := 128) (c := 128) (step_main_v31_8 V0) fun h => (x (cur j) h).back (dS h) := by
  refine addSS (addSS (f := fun h => Real.exp (x (cur j) h).gl • dS h) ?_ (dotRR (v46 H) (v112 H))) (dotRR (v149 H) (v103 H))
  intro h a b
  have e : (V0 (Proc.devRef .tc main_v31_8) : FVec Ideal S8x128x128 .f32) (ix3 h a b) = ((dS h a b : ℝ) : EReal) := H.dS h a b
  have e2 := v126 H h
  show _ = ((Real.exp (x (cur j) h).gl * dS h a b : ℝ) : EReal)
  generalize (V0 (Proc.devRef .tc main_v31_8) : FVec Ideal S8x128x128 .f32) = Y at e ⊢
  generalize res_main_while0b_v126 V0 = Z at e2 ⊢
  generalize Real.exp (x (cur j) h).gl = r at e2 ⊢
  pointwise [e, e2]
  rw [← EReal.coe_mul, mul_comm]

/-- An update of one chunk, read back. -/
theorem dus (H : Holds V0 j x dS) {A : FVec Ideal S64x8x64x128 .f32} {U : FVec Ideal S8x64x128 .f32}
    (n : Fin 64) (h : Fin 8) (i : Fin 64) (d : Fin 128) :
    Host.dynamicUpdateSlice A (broadcastInDim S1x8x64x128 ![1, 2, 3] bcast_S8x64x128_S1x8x64x128_1_2_3 U) (fun k => (((![res_main_while0b_v39 V0, constantI S_ 32 0#32, constantI S_ 32 0#32, constantI S_ 32 0#32] : Fin 4 → (⟨S_, .i32⟩ : BufTy).Contents (Elt Ideal))) k (Shape.Idx.first h_S_)).toInt) updateFits_S64x8x64x128_S1x8x64x128 (ix4 n h i d)
      = if n = cur j then U (ix3 h i d) else A (ix4 n h i d) := by
  have h0 := v39 H (Shape.Idx.first h_S_)
  have hj := H.j_lt
  generalize res_main_while0b_v39 V0 = W at h0 ⊢
  generalize hst : (fun k => (((![W, constantI S_ 32 0#32, constantI S_ 32 0#32, constantI S_ 32 0#32] : Fin 4 → (⟨S_, .i32⟩ : BufTy).Contents (Elt Ideal))) k (Shape.Idx.first h_S_)).toInt) = st
  have s0 : st 0 = (63 - j : ℕ) := by rw [← hst]; exact h0
  have s1 : st 1 = (0 : ℕ) := by rw [← hst]; rfl
  have s2 : st 2 = (0 : ℕ) := by rw [← hst]; rfl
  have s3 : st 3 = (0 : ℕ) := by rw [← hst]; rfl
  clear hst
  pointwise []
  have c0 := Host.clampedStart_of_le (t := S1x8x64x128) (s := S64x8x64x128) (by rfl) st 0 (63 - j) s0 (by show 63 - j + 1 ≤ 64; omega)
  have c1 := Host.clampedStart_of_le (t := S1x8x64x128) (s := S64x8x64x128) (by rfl) st 1 0 s1 (by show 0 + 8 ≤ 8; omega)
  have c2 := Host.clampedStart_of_le (t := S1x8x64x128) (s := S64x8x64x128) (by rfl) st 2 0 s2 (by show 0 + 64 ≤ 64; omega)
  have c3 := Host.clampedStart_of_le (t := S1x8x64x128) (s := S64x8x64x128) (by rfl) st 3 0 s3 (by show 0 + 128 ≤ 128; omega)
  simp only [c0, c1, c2, c3, Nat.sub_zero, Nat.zero_le, and_true]
  have hh := h.isLt
  have hi := i.isLt
  have hd := d.isLt
  have hc : ((63 - j ≤ n.val ∧ n.val < 63 - j + 1) ∧ (True ∧ h.val < 0 + 8) ∧ (True ∧ i.val < 0 + 64) ∧ True ∧ d.val < 0 + 128) ↔ n = cur j := by
    rw [Fin.ext_iff]; show _ ↔ n.val = 63 - j; simp only [true_and]; omega
  by_cases c : n = cur j
  · rw [if_pos c]; exact dif_pos (hc.mpr c)
  · rw [if_neg c]; exact dif_neg (fun z => c (hc.mp z))

theorem step9 (H : Holds V0 j x dS) (n : Fin 64) (h : Fin 8) (i : Fin 64) (d : Fin 128) :
    (step_main_v31_9 V0 : FVec Ideal S64x8x64x128 .f32) (ix4 n h i d) = if n = cur j then (((x (cur j) h).dq i d : ℝ) : EReal)
      else (V0 (Proc.devRef .tc main_v31_9) : FVec Ideal S64x8x64x128 .f32) (ix4 n h i d) := by
  have e := addRR (scaleR (dotRSt (v46 H) (v40 H)) (v110 H)) (dotTR (v155 H) (v42 H)) h i d
  refine (dus H n h i d).trans ?_
  rw [e]
  rfl

theorem step11 (H : Holds V0 j x dS) (n : Fin 64) (h : Fin 8) (i : Fin 64) (d : Fin 128) :
    (step_main_v31_11 V0 : FVec Ideal S64x8x64x128 .f32) (ix4 n h i d) = if n = cur j then (((x (cur j) h).dv (dS h) i d : ℝ) : EReal)
      else (V0 (Proc.devRef .tc main_v31_11) : FVec Ideal S64x8x64x128 .f32) (ix4 n h i d) := by
  have v50 : ∀ h i z, res_main_while0b_v50 V0 (ix3 h i z) = (((x (cur j) h).beta i : ℝ) : EReal) := fun h i z => by
    have e : ∀ h i, res_main_while0b_v44 V0 (ix2 h i) = (((x (cur j) h).beta i : ℝ) : EReal) := v44 H
    unfold res_main_while0b_v50
    pointwise [e]
  have lo : R3 (a := 8) (b := 64) (c := 128) (extractStridedSlice S8x64x128 ![0, 0, 0] (res_main_while0b_v163 V0) slices_S8x64x256_S8x64x128_0_0_0) fun h => (x (cur j) h).du' (dS h) := by
    intro h i d
    have e := v163 H h i ⟨d.val, by omega⟩
    rw [dif_pos d.isLt] at e
    refine Eq.trans ?_ e
    generalize res_main_while0b_v163 V0 = Y
    pointwise []
  have e := scaleR lo v50 h i d
  refine (dus H n h i d).trans ?_
  rw [e]
  rfl

theorem step10 (H : Holds V0 j x dS) (n : Fin 64) (h : Fin 8) (i : Fin 64) (d : Fin 128) :
    (step_main_v31_10 V0 : FVec Ideal S64x8x64x128 .f32) (ix4 n h i d) = if n = cur j then (((x (cur j) h).dk (dS h) i d : ℝ) : EReal)
      else (V0 (Proc.devRef .tc main_v31_10) : FVec Ideal S64x8x64x128 .f32) (ix4 n h i d) := by
  have v47 : ∀ h i z, res_main_while0b_v47 V0 (ix3 h i z) = (((x (cur j) h).beta i : ℝ) : EReal) := fun h i z => by
    have e : ∀ h i, res_main_while0b_v44 V0 (ix2 h i) = (((x (cur j) h).beta i : ℝ) : EReal) := v44 H
    unfold res_main_while0b_v47
    pointwise [e]
  have hi : R3 (a := 8) (b := 64) (c := 128) (extractStridedSlice S8x64x128 ![0, 0, 128] (res_main_while0b_v163 V0) slices_S8x64x256_S8x64x128_0_0_128) fun h => (x (cur j) h).dw' (dS h) := by
    intro h i d
    have e := v163 H h i ⟨128 + d.val, by omega⟩
    rw [dif_neg (by simp)] at e
    refine Eq.trans ?_ (e.trans ?_)
    · generalize res_main_while0b_v163 V0 = Y
      pointwise []
    · rw [show (⟨128 + d.val - 128, by omega⟩ : Fin 128) = d from Fin.ext (by simp)]
  have e := addRR (addRR (addRR (scaleR (dotSR2 H.dS (v108 H)) (v122 H)) (dotTtR (v155 H) (v41 H))) (dotTtR (v171 H) (v49 H)))
    (scaleR (addRR (scaleR hi (v70 H)) (dotTR (v171 H) (v42 H))) v47) h i d
  refine (dus H n h i d).trans ?_
  rw [e]
  rfl

end DeltaRule.Ref
end
-- ==== Proof.Ref.lean ====
module

public import proofs.«01_k».proof.Proof.RefTrip
public import proofs.«01_k».proof.Proof.Data

/-! The reference's loop: what its results hold when its arguments are real numbers. -/

@[expose] public section

set_option maxRecDepth 16384

noncomputable section

namespace DeltaRule.Ref

open Idealize.ShloMosaic Idealize.ShloMosaic.TcCoe Idealize.ShloMosaic.StableHlo
open Cert.ReferenceIdeal Cert.ReferenceIdeal.Gen Cert.ReferenceIdeal.Value
open DeltaRule Idealize.SL.Sem

variable {m : (ℓ : Loc nD τ sig) → Buf (Elt Ideal) ℓ} {c : Dev nD} {D : Data}

/-- The device's arguments are the real numbers of `D`. -/
structure Args (m : (ℓ : Loc nD τ sig) → Buf (Elt Ideal) ℓ) (c : Dev nD) (D : Data) : Prop where
  q : R2 (a := 4096) (b := 1024) (m ((c.tc : Thread nD τ).loc main_arg0)) D.q
  k : R2 (a := 4096) (b := 1024) (m ((c.tc : Thread nD τ).loc main_arg1)) D.k
  v : R2 (a := 4096) (b := 1024) (m ((c.tc : Thread nD τ).loc main_arg2)) D.v
  b : R2 (a := 4096) (b := 8) (m ((c.tc : Thread nD τ).loc main_arg3)) D.b
  a : R2 (a := 4096) (b := 8) (m ((c.tc : Thread nD τ).loc main_arg4)) D.a
  al : R1 (a := 8) (m ((c.tc : Thread nD τ).loc main_arg5)) D.al
  dt : R1 (a := 8) (m ((c.tc : Thread nD τ).loc main_arg6)) D.dt
  S : R4 (a := 64) (b := 8) (c := 128) (d := 128) (m ((c.tc : Thread nD τ).loc main_arg7)) D.S
  o : R2 (a := 4096) (b := 1024) (m ((c.tc : Thread nD τ).loc main_arg8)) D.o

theorem entry_0 : entryContents preI m c (Proc.devRef .tc main_v31_0) = m ((c.tc : Thread nD τ).loc main_arg7) := by
  simp only [entryContents, afterL_cons, afterL_nil]; after_reads_simp <;> rfl

theorem entry_7 : entryContents preI m c (Proc.devRef .tc main_v31_7) = constantI S_ 32 0#32 := by
  simp only [entryContents, afterL_cons, afterL_nil]; after_reads_simp <;> rfl

theorem entry_1 : entryContents preI m c (Proc.devRef .tc main_v31_1) = transpose S64x8x64x128 [0, 2, 1, 3] (shapeCast S64x64x8x128 (m ((c.tc : Thread nD τ).loc main_arg0)) shapeCasts_S4096x1024_S64x64x8x128) transposes_S64x64x8x128_S64x8x64x128_0_2_1_3 := by
  simp only [entryContents, afterL_cons, afterL_nil]; after_reads_simp <;> rfl

theorem entry_2 : entryContents preI m c (Proc.devRef .tc main_v31_2) = transpose S64x8x64x128 [0, 2, 1, 3] (shapeCast S64x64x8x128 (m ((c.tc : Thread nD τ).loc main_arg1)) shapeCasts_S4096x1024_S64x64x8x128) transposes_S64x64x8x128_S64x8x64x128_0_2_1_3 := by
  simp only [entryContents, afterL_cons, afterL_nil]; after_reads_simp <;> rfl

theorem entry_3 : entryContents preI m c (Proc.devRef .tc main_v31_3) = transpose S64x8x64x128 [0, 2, 1, 3] (shapeCast S64x64x8x128 (m ((c.tc : Thread nD τ).loc main_arg2)) shapeCasts_S4096x1024_S64x64x8x128) transposes_S64x64x8x128_S64x8x64x128_0_2_1_3 := by
  simp only [entryContents, afterL_cons, afterL_nil]; after_reads_simp <;> rfl

theorem entry_6 : entryContents preI m c (Proc.devRef .tc main_v31_6) = transpose S64x8x64x128 [0, 2, 1, 3] (shapeCast S64x64x8x128 (m ((c.tc : Thread nD τ).loc main_arg8)) shapeCasts_S4096x1024_S64x64x8x128) transposes_S64x64x8x128_S64x8x64x128_0_2_1_3 := by
  simp only [entryContents, afterL_cons, afterL_nil]; after_reads_simp <;> rfl

theorem entry_4 (A : Args m c D) : R3 (a := 64) (b := 8) (c := 64) (entryContents preI m c (Proc.devRef .tc main_v31_4)) fun n h => (D.chunk n h).beta := by
  refine (?_ : entryContents preI m c (Proc.devRef .tc main_v31_4) = _) ▸ chunk3 (beta_real A.b bcast_S_S4096x8 bcast_S_S4096x8) shapeCasts_S4096x8_S64x64x8 transposes_S64x64x8_S64x8x64_0_2_1
  simp only [entryContents, afterL_cons, afterL_nil]; after_reads_simp <;> rfl

theorem entry_5 (A : Args m c D) : R3 (a := 64) (b := 8) (c := 64) (entryContents preI m c (Proc.devRef .tc main_v31_5)) fun n h => (D.chunk n h).g := by
  refine (?_ : entryContents preI m c (Proc.devRef .tc main_v31_5) = _) ▸ chunk3 (g_real (softplus_real (shift_real A.a A.dt bcast_S1x8_S4096x8_0_1 bcast_S8_S1x8_1) bcast_S_S4096x8 bcast_S_S4096x8 bcast_S_S4096x8) A.al bcast_S1x8_S4096x8_0_1 bcast_S8_S1x8_1) shapeCasts_S4096x8_S64x64x8 transposes_S64x64x8_S64x8x64_0_2_1
  simp only [entryContents, afterL_cons, afterL_nil]; after_reads_simp <;> rfl

theorem entry_8 : R3 (a := 8) (b := 128) (c := 128) (entryContents preI m c (Proc.devRef .tc main_v31_8)) (D.dS 0) := by
  intro h i d
  have e : entryContents preI m c (Proc.devRef .tc main_v31_8) = (broadcastInDim S8x128x128 ![] bcast_S_S8x128x128 (constant (F := Ideal) S_ .f32 0x00000000#32) : FVec Ideal S8x128x128 .f32) := by
    simp only [entryContents, afterL_cons, afterL_nil]; after_reads_simp <;> rfl
  rw [e]
  refine Eq.trans (b := (0 : EReal)) ?_ EReal.coe_zero.symm
  pointwise []

/-- The valuation before trip `t`: the arrays the loop reads, the state cotangent, and the chunks written so far. -/
structure Inv (D : Data) (t : ℕ) (V : Valuation τ sig (Elt Ideal)) : Prop where
  n7 : V (Proc.devRef .tc main_v31_7) = constantI S_ 32 (BitVec.ofNat 32 t)
  S : R4 (a := 64) (b := 8) (c := 128) (d := 128) (V (Proc.devRef .tc main_v31_0)) fun n h => (D.chunk n h).S
  q : R4 (a := 64) (b := 8) (c := 64) (d := 128) (V (Proc.devRef .tc main_v31_1)) fun n h => (D.chunk n h).q
  k : R4 (a := 64) (b := 8) (c := 64) (d := 128) (V (Proc.devRef .tc main_v31_2)) fun n h => (D.chunk n h).k
  v : R4 (a := 64) (b := 8) (c := 64) (d := 128) (V (Proc.devRef .tc main_v31_3)) fun n h => (D.chunk n h).v
  beta : R3 (a := 64) (b := 8) (c := 64) (V (Proc.devRef .tc main_v31_4)) fun n h => (D.chunk n h).beta
  g : R3 (a := 64) (b := 8) (c := 64) (V (Proc.devRef .tc main_v31_5)) fun n h => (D.chunk n h).g
  o : R4 (a := 64) (b := 8) (c := 64) (d := 128) (V (Proc.devRef .tc main_v31_6)) fun n h => (D.chunk n h).o
  dS : R3 (a := 8) (b := 128) (c := 128) (V (Proc.devRef .tc main_v31_8)) (D.dS t)
  dq : ∀ n h i d, 64 ≤ n.val + t → (V (Proc.devRef .tc main_v31_9) : FVec Ideal S64x8x64x128 .f32) (ix4 n h i d) = ((D.dq n h i d : ℝ) : EReal)
  dk : ∀ n h i d, 64 ≤ n.val + t → (V (Proc.devRef .tc main_v31_10) : FVec Ideal S64x8x64x128 .f32) (ix4 n h i d) = ((D.dk n h i d : ℝ) : EReal)
  dv : ∀ n h i d, 64 ≤ n.val + t → (V (Proc.devRef .tc main_v31_11) : FVec Ideal S64x8x64x128 .f32) (ix4 n h i d) = ((D.dv n h i d : ℝ) : EReal)

theorem Inv.holds {k : ℕ} {V : Valuation τ sig (Elt Ideal)} (I : Inv D k V) (hk : k < 64) : Holds V k D.chunk (D.dS k) :=
  ⟨hk, I.n7, I.S, I.q, I.k, I.v, I.beta, I.g, I.o, I.dS⟩

theorem cur_val (k : ℕ) (hk : k < 64) : 63 - (cur k).val = k := by
  show 63 - (63 - k) = k; omega

theorem Inv.step {k : ℕ} {V : Valuation τ sig (Elt Ideal)} (I : Inv D k V) (hk : k < 64) : Inv D (k + 1) (STEP V) := by
  have H := I.holds hk
  have late : ∀ n : Fin 64, 64 ≤ n.val + (k + 1) → n ≠ cur k → 64 ≤ n.val + k := fun n hn hc => by
    have : n.val ≠ 63 - k := fun e => hc (Fin.ext e)
    omega
  constructor
  · rw [STEP_main_v31_7]
    show addi (V (Proc.devRef .tc main_v31_7)) (constantI S_ 32 1#32) = _
    rw [I.n7]
    funext i
    show BitVec.ofNat 32 k + 1#32 = BitVec.ofNat 32 (k + 1)
    rw [BitVec.ofNat_add]
  · rw [STEP_main_v31_0]; exact I.S
  · rw [STEP_main_v31_1]; exact I.q
  · rw [STEP_main_v31_2]; exact I.k
  · rw [STEP_main_v31_3]; exact I.v
  · rw [STEP_main_v31_4]; exact I.beta
  · rw [STEP_main_v31_5]; exact I.g
  · rw [STEP_main_v31_6]; exact I.o
  · rw [STEP_main_v31_8]; exact step8 H
  · intro n h i d hn
    rw [STEP_main_v31_9]
    refine (step9 H n h i d).trans ?_
    by_cases hc : n = cur k
    · rw [if_pos hc, hc]; rfl
    · rw [if_neg hc]; exact I.dq n h i d (late n hn hc)
  · intro n h i d hn
    rw [STEP_main_v31_10]
    refine (step10 H n h i d).trans ?_
    by_cases hc : n = cur k
    · rw [if_pos hc, hc]; unfold Data.dk; rw [cur_val k hk]
    · rw [if_neg hc]; exact I.dk n h i d (late n hn hc)
  · intro n h i d hn
    rw [STEP_main_v31_11]
    refine (step11 H n h i d).trans ?_
    by_cases hc : n = cur k
    · rw [if_pos hc, hc]; unfold Data.dv; rw [cur_val k hk]
    · rw [if_neg hc]; exact I.dv n h i d (late n hn hc)

theorem Inv.entry (A : Args m c D) : Inv D 0 (entryContents preI m c) := by
  constructor
  · exact entry_7
  · rw [entry_0]; exact A.S
  · rw [entry_1]; exact chunk4 A.q _ _
  · rw [entry_2]; exact chunk4 A.k _ _
  · rw [entry_3]; exact chunk4 A.v _ _
  · exact entry_4 A
  · exact entry_5 A
  · rw [entry_6]; exact chunk4 A.o _ _
  · exact entry_8
  · intro n h i d hn; omega
  · intro n h i d hn; omega
  · intro n h i d hn; omega

theorem Inv.iter (A : Args m c D) : ∀ k, k ≤ 64 → Inv D k (STEP^[k] (entryContents preI m c))
  | 0, _ => Inv.entry A
  | k + 1, hk => by
    rw [Function.iterate_succ_apply']
    exact (Inv.iter A k (by omega)).step (by omega)

/-- The gradients the reference ends with. -/
theorem out_dq (A : Args m c D) (n : Fin 64) (h : Fin 8) (i : Fin 64) (d : Fin 128) :
    (out_main_v33 (STEP^[64] (entryContents preI m c)) : FVec Ideal S4096x1024 .f32) (ix2 (tok n i) (lane h d)) = ((D.dq n h i d : ℝ) : EReal) :=
  (unchunk4 _ _ n h i d).trans ((Inv.iter A 64 le_rfl).dq n h i d (by omega))

theorem out_dk (A : Args m c D) (n : Fin 64) (h : Fin 8) (i : Fin 64) (d : Fin 128) :
    (out_main_v35 (STEP^[64] (entryContents preI m c)) : FVec Ideal S4096x1024 .f32) (ix2 (tok n i) (lane h d)) = ((D.dk n h i d : ℝ) : EReal) :=
  (unchunk4 _ _ n h i d).trans ((Inv.iter A 64 le_rfl).dk n h i d (by omega))

theorem out_dv (A : Args m c D) (n : Fin 64) (h : Fin 8) (i : Fin 64) (d : Fin 128) :
    (out_main_v37 (STEP^[64] (entryContents preI m c)) : FVec Ideal S4096x1024 .f32) (ix2 (tok n i) (lane h d)) = ((D.dv n h i d : ℝ) : EReal) :=
  (unchunk4 _ _ n h i d).trans ((Inv.iter A 64 le_rfl).dv n h i d (by omega))

end DeltaRule.Ref
end
-- ==== Proof.Body.lean ====
module

public import proofs.«01_k».proof.Proof.Gen.KernelIdeal.Value

/-! The kernel's work on one chunk of one head as a function of what it loads, and the pieces a grid point stores as
that function's values. -/

@[expose] public section

set_option maxRecDepth 16384

noncomputable section

namespace DeltaRule.Ker

open Idealize.ShloMosaic Idealize.ShloMosaic.TcCoe
open Cert.KernelIdeal Cert.KernelIdeal.Gen

variable {F : FTy → Type} [FloatOps F]

/-- What the kernel loads for a chunk of a head: rows of queries, keys, output cotangents and corrected values, the
chunk's gate columns and gate rows, the state the chunk starts from and the inverse matrix. -/
structure Tile (F : FTy → Type) [FloatOps F] where
  h : Fin 8
  q : Vec F S64x128 .f32
  k : Vec F S64x128 .f32
  o : Vec F S64x128 .f32
  vn : Vec F S64x128 .f32
  gcol : Vec F S64x128 .f32
  grow : Vec F S1x32x64 .f32
  st : Vec F S1x1x128x128 .f32
  a : Vec F S1x1x64x64 .f32

theorem slicesB : ∀ h : Fin 8, S64x128.Slices ![0, h.val] S64x1 := by decide
theorem slicesC : ∀ h : Fin 8, S64x128.Slices ![0, 16 + h.val] S64x1 := by decide
theorem slicesR : ∀ h : Fin 8, S32x64.Slices ![16 + h.val, 0] S1x64 := by decide

/-- Products with 32-bit factors rounded to 16 bits: `X Yᵀ`, `X Y` and `Xᵀ Y`. -/
def ntTR (x : FVec F S64x128 .f32) (y : FVec F S64x128 .f32) : FVec F S64x64 .f32 :=
  matmul dot_S64x128_S64x128_S64x64_1_1_0_0_n_n none (truncf .bf16 x bitsLt_bf16_f32) (truncf .bf16 y bitsLt_bf16_f32) (constant S64x64 .f32 0x00000000#32)
def ntRS (x : FVec F S64x128 .f32) (y : FVec F S128x128 .f32) : FVec F S64x128 .f32 :=
  matmul dot_S64x128_S128x128_S64x128_1_1_0_0_n_n none (truncf .bf16 x bitsLt_bf16_f32) (truncf .bf16 y bitsLt_bf16_f32) (constant S64x128 .f32 0x00000000#32)
def nnRS (x : FVec F S64x128 .f32) (y : FVec F S128x128 .f32) : FVec F S64x128 .f32 :=
  matmul dot_S64x128_S128x128_S64x128_1_0_0_1_n_n none (truncf .bf16 x bitsLt_bf16_f32) (truncf .bf16 y bitsLt_bf16_f32) (constant S64x128 .f32 0x00000000#32)
def nnTR (x : FVec F S64x64 .f32) (y : FVec F S64x128 .f32) : FVec F S64x128 .f32 :=
  matmul dot_S64x64_S64x128_S64x128_1_0_0_1_n_n none (truncf .bf16 x bitsLt_bf16_f32) (truncf .bf16 y bitsLt_bf16_f32) (constant S64x128 .f32 0x00000000#32)
def tn16 (x : FVec F S64x64 .bf16) (y : FVec F S64x128 .bf16) : FVec F S64x128 .f32 :=
  matmul dot_S64x64_S64x128_S64x128_0_0_1_1_n_n none x y (constant S64x128 .f32 0x00000000#32)
def tnTR (x : FVec F S64x64 .f32) (y : FVec F S64x128 .f32) : FVec F S64x128 .f32 :=
  tn16 (truncf .bf16 x bitsLt_bf16_f32) (truncf .bf16 y bitsLt_bf16_f32)
def tnRR (x : FVec F S64x128 .f32) (y : FVec F S64x128 .f32) : FVec F S128x128 .f32 :=
  matmul dot_S64x128_S64x128_S128x128_0_0_1_1_n_n none (truncf .bf16 x bitsLt_bf16_f32) (truncf .bf16 y bitsLt_bf16_f32) (constant S128x128 .f32 0x00000000#32)

/-- What rounding to 16 bits leaves, itself rounded. -/
def restT (x : FVec F S64x64 .f32) : FVec F S64x64 .bf16 :=
  truncf .bf16 (subf x (extf .f32 (truncf .bf16 x bitsLt_bf16_f32) bitsLt_bf16_f32)) bitsLt_bf16_f32
def restR (x : FVec F S64x128 .f32) : FVec F S64x128 .bf16 :=
  truncf .bf16 (subf x (extf .f32 (truncf .bf16 x bitsLt_bf16_f32) bitsLt_bf16_f32)) bitsLt_bf16_f32

/-- `Xᵀ Y` by three products of the rounded parts. -/
def tn3 (x : FVec F S64x64 .f32) (y : FVec F S64x128 .f32) : FVec F S64x128 .f32 :=
  addf (tn16 (truncf .bf16 x bitsLt_bf16_f32) (truncf .bf16 y bitsLt_bf16_f32))
    (addf (tn16 (truncf .bf16 x bitsLt_bf16_f32) (restR y)) (tn16 (restT x) (truncf .bf16 y bitsLt_bf16_f32)))

def incl : IVec S64x64 1 := cmpi .sge (iota .tc S64x64 32 [0] iota_S64x64_d0_w32) (iota .tc S64x64 32 [1] iota_S64x64_d1_w32)
def strict : IVec S64x64 1 := cmpi .sgt (iota .tc S64x64 32 [0] iota_S64x64_d0_w32) (iota .tc S64x64 32 [1] iota_S64x64_d1_w32)
def zeroT : FVec F S64x64 .f32 := broadcast S64x64 (Scalar.ofBits .f32 0x00000000#32)
def zeroR : FVec F S64x128 .f32 := broadcast S64x128 (Scalar.ofBits .f32 0x00000000#32)
def wide (x : FVec F S64x1 .f32) : FVec F S64x128 .f32 := broadcastTo S64x128 x broadcasts_S64x1_S64x128

namespace Tile

variable (t : Tile F)

def beta : FVec F S64x1 .f32 := extractStridedSlice S64x1 ![0, t.h.val] (shapeCast S64x128 t.gcol shapeCasts_S64x128_S64x128) (slicesB t.h)
def gc : FVec F S64x1 .f32 := extractStridedSlice S64x1 ![0, 16 + t.h.val] (shapeCast S64x128 t.gcol shapeCasts_S64x128_S64x128) (slicesC t.h)
def gr : FVec F S1x64 .f32 := extractStridedSlice S1x64 ![16 + t.h.val, 0] (shapeCast S32x64 t.grow shapeCasts_S1x32x64_S32x64) (slicesR t.h)
def gl : FVec F S1x1 .f32 := extractStridedSlice S1x1 ![0, 63] t.gr slices_S1x64_o0_63_S1x1
def e : FVec F S64x128 .f32 := wide (exp t.gc)
def edec : FVec F S64x128 .f32 := wide (exp (subf (broadcastTo S64x1 t.gl broadcasts_S1x1_S64x1) t.gc))
def egl : FVec F S128x128 .f32 := broadcastTo S128x128 (exp t.gl) broadcasts_S1x1_S128x128
def v_new : FVec F S64x128 .f32 := shapeCast S64x128 t.vn shapeCasts_S64x128_S64x128
def S : FVec F S128x128 .f32 := shapeCast S128x128 t.st shapeCasts_S1x1x128x128_S128x128
def A : FVec F S64x64 .f32 := shapeCast S64x64 t.a shapeCasts_S1x1x64x64_S64x64
def gam : FVec F S64x64 .f32 :=
  select incl (exp (select incl (subf (broadcastTo S64x64 t.gc broadcasts_S64x1_S64x64) (broadcastTo S64x64 t.gr broadcasts_S1x64_S64x64)) zeroT)) zeroT
def attn : FVec F S64x64 .f32 := select incl (mulf (ntTR t.q t.k) t.gam) zeroT
def kb : FVec F S64x128 .f32 := mulf t.k (wide t.beta)
def dqm : FVec F S64x64 .f32 := mulf (select incl (ntTR t.o t.v_new) zeroT) t.gam
def dq : FVec F S64x128 .f32 := addf (mulf t.e (ntRS t.o t.S)) (nnTR t.dqm t.k)

variable (dS : FVec F S128x128 .f32)

def dvn : FVec F S64x128 .f32 := addf (nnRS (mulf t.k t.edec) dS) (tnTR t.attn t.o)
def dvb : FVec F S64x128 .f32 := tn3 t.A (t.dvn dS)
def dv : FVec F S64x128 .f32 := mulf (wide t.beta) (t.dvb dS)
def dp : FVec F S64x64 .f32 := mulf (select strict (subf zeroT (ntTR (t.dvb dS) t.v_new)) zeroT) t.gam
def dkb : FVec F S64x128 .f32 := addf (nnTR (t.dp dS) t.k) (mulf t.e (subf zeroR (ntRS (t.dvb dS) t.S)))
def dk : FVec F S64x128 .f32 :=
  addf (addf (addf (mulf t.edec (ntRS t.v_new dS)) (tnTR t.dqm t.q)) (tnTR (t.dp dS) t.kb)) (mulf (wide t.beta) (t.dkb dS))
def back : FVec F S128x128 .f32 :=
  subf (addf (mulf t.egl dS) (tnRR (mulf t.q t.e) t.o)) (tnRR (mulf t.kb t.e) (t.dvb dS))

end Tile

/-! What a grid point loads. -/

theorem inbR : ∀ (c : Fin 2) (h : Fin 8) (a : Fin 2), (![64 * c.val, 128 * h.val] : Fin 2 → ℕ) a + S64x128.size a ≤ S128x1024.size a := by decide
theorem inbC : ∀ (c : Fin 2) (a : Fin 2), (![64 * c.val, 0] : Fin 2 → ℕ) a + S64x128.size a ≤ S128x128.size a := by decide
theorem inbG : ∀ (c : Fin 2) (a : Fin 3), (![c.val, 0, 0] : Fin 3 → ℕ) a + S1x32x64.size a ≤ S2x32x64.size a := by decide
theorem inbS : ∀ (c : Fin 2) (h : Fin 8) (a : Fin 4), (![c.val, h.val, 0, 0] : Fin 4 → ℕ) a + S1x1x128x128.size a ≤ S2x8x128x128.size a := by decide
theorem inbA : ∀ (c : Fin 2) (h : Fin 8) (a : Fin 4), (![c.val, h.val, 0, 0] : Fin 4 → ℕ) a + S1x1x64x64.size a ≤ S2x8x64x64.size a := by decide
theorem inbD : ∀ (h : Fin 8) (a : Fin 3), (![h.val, 0, 0] : Fin 3 → ℕ) a + S1x128x128.size a ≤ S8x128x128.size a := by decide

def rectR (c : Fin 2) (h : Fin 8) : Rect S128x1024 := Rect.unit ![64 * c.val, 128 * h.val] S64x128.size (inbR c h)
def rectC (c : Fin 2) : Rect S128x128 := Rect.unit ![64 * c.val, 0] S64x128.size (inbC c)
def rectG (c : Fin 2) : Rect S2x32x64 := Rect.unit ![c.val, 0, 0] S1x32x64.size (inbG c)
def rectS (c : Fin 2) (h : Fin 8) : Rect S2x8x128x128 := Rect.unit ![c.val, h.val, 0, 0] S1x1x128x128.size (inbS c h)
def rectA (c : Fin 2) (h : Fin 8) : Rect S2x8x64x64 := Rect.unit ![c.val, h.val, 0, 0] S1x1x64x64.size (inbA c h)
def rectD (h : Fin 8) : Rect S8x128x128 := Rect.unit ![h.val, 0, 0] S1x128x128.size (inbD h)

section
variable (arg3 : Memref sig .tc .vmem S128x1024 .f32) (harg3 : arg3.IsWhole) (arg4 : Memref sig .tc .vmem S128x1024 .f32) (harg4 : arg4.IsWhole) (arg6 : Memref sig .tc .vmem S128x128 .f32) (harg6 : arg6.IsWhole) (arg7 : Memref sig .tc .vmem S2x32x64 .f32) (harg7 : arg7.IsWhole) (arg9 : Memref sig .tc .vmem S128x1024 .f32) (harg9 : arg9.IsWhole) (arg10 : Memref sig .tc .vmem S2x8x128x128 .f32) (harg10 : arg10.IsWhole) (arg11 : Memref sig .tc .vmem S2x8x64x64 .f32) (harg11 : arg11.IsWhole) (arg12 : Memref sig .tc .vmem S128x1024 .f32) (harg12 : arg12.IsWhole)
  (x2 : Vec F S128x1024 .f32) (x3 : Vec F S128x1024 .f32) (x5 : Vec F S128x128 .f32) (x6 : Vec F S2x32x64 .f32) (x8 : Vec F S128x1024 .f32) (x9 : Vec F S2x8x128x128 .f32) (x10 : Vec F S2x8x64x64 .f32) (x11 : Vec F S128x1024 .f32)

/-- What is loaded for chunk `c` of the grid point's two, head `h`. -/
def tile (c : Fin 2) (h : Fin 8) : Tile F where
  h := h
  q := View.readAt (Elt F) arg3.view (rectR c h).toLoadRect (harg3.unread x2)
  k := View.readAt (Elt F) arg4.view (rectR c h).toLoadRect (harg4.unread x3)
  o := View.readAt (Elt F) arg12.view (rectR c h).toLoadRect (harg12.unread x11)
  vn := View.readAt (Elt F) arg9.view (rectR c h).toLoadRect (harg9.unread x8)
  gcol := View.readAt (Elt F) arg6.view (rectC c).toLoadRect (harg6.unread x5)
  grow := View.readAt (Elt F) arg7.view (rectG c).toLoadRect (harg7.unread x6)
  st := View.readAt (Elt F) arg10.view (rectS c h).toLoadRect (harg10.unread x9)
  a := View.readAt (Elt F) arg11.view (rectA c h).toLoadRect (harg11.unread x10)
end

/-- The chunk and head of each stored piece, the last first. -/
def order : List (Fin 2 × Fin 8) :=
  [(0, 7), (0, 6), (0, 5), (0, 4), (0, 3), (0, 2), (0, 1), (0, 0), (1, 7), (1, 6), (1, 5), (1, 4), (1, 3), (1, 2), (1, 1), (1, 0)]

/-- The state cotangent a chunk of the point is worked on with: the point's first (chunk 1) takes what the scratch held,
the other what the first leaves. -/
def ds (T : Fin 2 → Fin 8 → Tile F) (s : Fin 8 → Vec F S1x128x128 .f32) (c : Fin 2) (h : Fin 8) : FVec F S128x128 .f32 :=
  match c with
  | 1 => shapeCast S128x128 (s h) shapeCasts_S1x128x128_S128x128
  | 0 => (T 1 h).back (shapeCast S128x128 (s h) shapeCasts_S1x128x128_S128x128)

def piecesQ (T : Fin 2 → Fin 8 → Tile F) : List (View.Piece (Elt F) S128x1024 .f32) :=
  order.map fun p => ⟨rectR p.1 p.2, (T p.1 p.2).dq⟩
def piecesK (T : Fin 2 → Fin 8 → Tile F) (s : Fin 8 → Vec F S1x128x128 .f32) : List (View.Piece (Elt F) S128x1024 .f32) :=
  order.map fun p => ⟨rectR p.1 p.2, (T p.1 p.2).dk (ds T s p.1 p.2)⟩
def piecesV (T : Fin 2 → Fin 8 → Tile F) (s : Fin 8 → Vec F S1x128x128 .f32) : List (View.Piece (Elt F) S128x1024 .f32) :=
  order.map fun p => ⟨rectR p.1 p.2, (T p.1 p.2).dv (ds T s p.1 p.2)⟩
def piecesS (T : Fin 2 → Fin 8 → Tile F) (s : Fin 8 → Vec F S1x128x128 .f32) (L : List (View.Piece (Elt F) S8x128x128 .f32)) :
    List (View.Piece (Elt F) S8x128x128 .f32) :=
  ([7, 6, 5, 4, 3, 2, 1, 0] : List (Fin 8)).foldr (fun h L => ⟨rectD h, shapeCast S1x128x128 ((T 0 h).back (ds T s 0 h)) shapeCasts_S128x128_S1x128x128⟩ :: L) L

end DeltaRule.Ker
end
-- ==== Proof.BodyVal.lean ====
module

public import proofs.«01_k».proof.Proof.Body
public import proofs.«01_k».proof.Proof.Real

/-! The kernel's work on a chunk of a head over the extended reals, at tiles of real numbers: it computes the chunk's
gradients. -/

@[expose] public section

set_option maxRecDepth 16384

noncomputable section

namespace DeltaRule.Ker

open Idealize.ShloMosaic Idealize.ShloMosaic.TcCoe
open Cert.KernelIdeal Cert.KernelIdeal.Gen
open DeltaRule Matrix

/-! Products of matrices of real numbers. -/

theorem real_ntTR {X Y : FVec Ideal S64x128 .f32} {f g : Rows} (hX : R2 (a := 64) (b := 128) X f) (hY : R2 (a := 64) (b := 128) Y g) :
    R2 (a := 64) (b := 64) (ntTR X Y) (f * gᵀ) := by
  intro i d
  show _ = (((f * gᵀ) i d : ℝ) : EReal)
  simp only [Matrix.mul_apply, Matrix.transpose_apply]
  unfold ntTR
  pointwise [hX, hY]
  simp only [← EReal.coe_mul, coe_sum, zero_add]

theorem real_ntRS {X : FVec Ideal S64x128 .f32} {Y : FVec Ideal S128x128 .f32} {f : Rows} {g : Sq} (hX : R2 (a := 64) (b := 128) X f) (hY : R2 (a := 128) (b := 128) Y g) :
    R2 (a := 64) (b := 128) (ntRS X Y) (f * gᵀ) := by
  intro i d
  show _ = (((f * gᵀ) i d : ℝ) : EReal)
  simp only [Matrix.mul_apply, Matrix.transpose_apply]
  unfold ntRS
  pointwise [hX, hY]
  simp only [← EReal.coe_mul, coe_sum, zero_add]

theorem real_nnRS {X : FVec Ideal S64x128 .f32} {Y : FVec Ideal S128x128 .f32} {f : Rows} {g : Sq} (hX : R2 (a := 64) (b := 128) X f) (hY : R2 (a := 128) (b := 128) Y g) :
    R2 (a := 64) (b := 128) (nnRS X Y) (f * g) := by
  intro i d
  show _ = (((f * g) i d : ℝ) : EReal)
  simp only [Matrix.mul_apply, Matrix.transpose_apply]
  unfold nnRS
  pointwise [hX, hY]
  simp only [← EReal.coe_mul, coe_sum, zero_add]

theorem real_nnTR {X : FVec Ideal S64x64 .f32} {Y : FVec Ideal S64x128 .f32} {f : Toks} {g : Rows} (hX : R2 (a := 64) (b := 64) X f) (hY : R2 (a := 64) (b := 128) Y g) :
    R2 (a := 64) (b := 128) (nnTR X Y) (f * g) := by
  intro i d
  show _ = (((f * g) i d : ℝ) : EReal)
  simp only [Matrix.mul_apply, Matrix.transpose_apply]
  unfold nnTR
  pointwise [hX, hY]
  simp only [← EReal.coe_mul, coe_sum, zero_add]

theorem real_tn16 {X : FVec Ideal S64x64 .bf16} {Y : FVec Ideal S64x128 .bf16} {f : Toks} {g : Rows}
    (hX : ∀ i j, X (ix2 i j) = ((f i j : ℝ) : EReal)) (hY : ∀ i j, Y (ix2 i j) = ((g i j : ℝ) : EReal)) :
    R2 (a := 64) (b := 128) (tn16 X Y) (fᵀ * g) := by
  intro i d
  show _ = (((fᵀ * g) i d : ℝ) : EReal)
  simp only [Matrix.mul_apply, Matrix.transpose_apply]
  unfold tn16
  pointwise [hX, hY]
  simp only [← EReal.coe_mul, coe_sum, zero_add]

theorem real_tnTR {X : FVec Ideal S64x64 .f32} {Y : FVec Ideal S64x128 .f32} {f : Toks} {g : Rows} (hX : R2 (a := 64) (b := 64) X f) (hY : R2 (a := 64) (b := 128) Y g) :
    R2 (a := 64) (b := 128) (tnTR X Y) (fᵀ * g) :=
  real_tn16 hX hY

theorem real_tnRR {X Y : FVec Ideal S64x128 .f32} {f g : Rows} (hX : R2 (a := 64) (b := 128) X f) (hY : R2 (a := 64) (b := 128) Y g) :
    R2 (a := 128) (b := 128) (tnRR X Y) (fᵀ * g) := by
  intro i d
  show _ = (((fᵀ * g) i d : ℝ) : EReal)
  simp only [Matrix.mul_apply, Matrix.transpose_apply]
  unfold tnRR
  pointwise [hX, hY]
  simp only [← EReal.coe_mul, coe_sum, zero_add]

theorem coe_sub_self (r : ℝ) : ((r : ℝ) : EReal) - ((r : ℝ) : EReal) = ((0 : ℝ) : EReal) := by
  rw [← EReal.coe_sub, sub_self]

theorem real_restT {X : FVec Ideal S64x64 .f32} {f : Toks} (hX : R2 (a := 64) (b := 64) X f) (i j : Fin 64) :
    restT X (ix2 i j) = (((0 : Toks) i j : ℝ) : EReal) := by
  refine Eq.trans ?_ (coe_sub_self (f i j))
  exact congrArg₂ (fun a b : EReal => a - b) (hX i j) (hX i j)

theorem real_restR {X : FVec Ideal S64x128 .f32} {f : Rows} (hX : R2 (a := 64) (b := 128) X f) (i : Fin 64) (j : Fin 128) :
    restR X (ix2 i j) = (((0 : Rows) i j : ℝ) : EReal) := by
  refine Eq.trans ?_ (coe_sub_self (f i j))
  exact congrArg₂ (fun a b : EReal => a - b) (hX i j) (hX i j)

theorem real_add {n m : ℕ} {X Y : FVec Ideal ⟨2, ![n, m]⟩ .f32} {f g : Matrix (Fin n) (Fin m) ℝ} (hX : R2 X f) (hY : R2 Y g) :
    R2 (addf X Y) (f + g) := by
  intro i d
  refine (congrArg₂ (fun a b : EReal => a + b) (hX i d) (hY i d)).trans ?_
  exact (EReal.coe_add _ _).symm

theorem real_sub {n m : ℕ} {X Y : FVec Ideal ⟨2, ![n, m]⟩ .f32} {f g : Matrix (Fin n) (Fin m) ℝ} (hX : R2 X f) (hY : R2 Y g) :
    R2 (subf X Y) (f - g) := by
  intro i d
  refine (congrArg₂ (fun a b : EReal => a - b) (hX i d) (hY i d)).trans ?_
  exact (EReal.coe_sub _ _).symm

theorem real_mul {n m : ℕ} {X Y : FVec Ideal ⟨2, ![n, m]⟩ .f32} {f g : Matrix (Fin n) (Fin m) ℝ} (hX : R2 X f) (hY : R2 Y g) :
    R2 (mulf X Y) fun i j => f i j * g i j := by
  intro i d
  refine (congrArg₂ (fun a b : EReal => a * b) (hX i d) (hY i d)).trans ?_
  exact (EReal.coe_mul _ _).symm

theorem real_tn3 {X : FVec Ideal S64x64 .f32} {Y : FVec Ideal S64x128 .f32} {f : Toks} {g : Rows} (hX : R2 (a := 64) (b := 64) X f) (hY : R2 (a := 64) (b := 128) Y g) :
    R2 (a := 64) (b := 128) (tn3 X Y) (fᵀ * g) := by
  have e := real_add (n := 64) (m := 128) (real_tn16 hX hY) (real_add (n := 64) (m := 128) (real_tn16 hX (real_restR hY)) (real_tn16 (real_restT hX) hY))
  rw [Matrix.mul_zero, Matrix.transpose_zero, Matrix.zero_mul, add_zero, add_zero] at e
  exact e

/-! Masks. -/

theorem incl_mask (i j : Fin 64) : incl (ix2 i j) = if j ≤ i then 1#1 else 0#1 := by
  have hi := i.isLt
  have hj := j.isLt
  unfold incl
  pointwise []
  rw [sge_word i.val j.val _ _ (word_toInt _ (by omega)) (word_toInt _ (by omega))]
  simp only [Fin.le_def, Nat.cast_le]

theorem strict_mask (i j : Fin 64) : strict (ix2 i j) = if j < i then 1#1 else 0#1 := by
  have hi := i.isLt
  have hj := j.isLt
  unfold strict
  pointwise []
  show BitVec.ofBool (decide ((BitVec.ofNat 32 j.val).toInt < (BitVec.ofNat 32 i.val).toInt)) = _
  rw [word_toInt _ (by omega), word_toInt _ (by omega)]
  by_cases h : j < i
  · rw [if_pos h]; simp only [Nat.cast_lt, Fin.lt_def.mp h, decide_true]; rfl
  · rw [if_neg h]; simp only [Nat.cast_lt, show ¬ j.val < i.val from h, decide_false]; rfl

theorem zeroT_real (i j : Fin 64) : (zeroT (F := Ideal)) (ix2 i j) = ((0 : ℝ) : EReal) := by
  rw [EReal.coe_zero]
  unfold zeroT
  pointwise []

theorem zeroR_real (i : Fin 64) (j : Fin 128) : (zeroR (F := Ideal)) (ix2 i j) = ((0 : ℝ) : EReal) := by
  rw [EReal.coe_zero]
  unfold zeroR
  pointwise []

theorem real_select {M : IVec S64x64 1} {X Y : FVec Ideal S64x64 .f32} {p : Fin 64 → Fin 64 → Prop} [∀ i j, Decidable (p i j)]
    {f : Toks} (hM : ∀ i j, M (ix2 i j) = if p i j then 1#1 else 0#1) (hX : R2 (a := 64) (b := 64) X f) (hY : ∀ i j, Y (ix2 i j) = ((0 : ℝ) : EReal)) :
    R2 (a := 64) (b := 64) (select M X Y) fun i j => if p i j then f i j else 0 := by
  intro i j
  show Scalar.select (M (ix2 i j)) (X (ix2 i j)) (Y (ix2 i j)) = _
  rw [hM, select_if, hY, hX]
  by_cases c : p i j
  · rw [if_pos c]; exact congrArg _ (if_pos c).symm
  · rw [if_neg c]; exact congrArg _ (if_neg c).symm

theorem real_low {X : FVec Ideal S64x64 .f32} {f : Toks} (hX : R2 (a := 64) (b := 64) X f) : R2 (a := 64) (b := 64) (select incl X zeroT) (low f) :=
  real_select (p := fun i j => j ≤ i) incl_mask hX zeroT_real

theorem real_below {X : FVec Ideal S64x64 .f32} {f : Toks} (hX : R2 (a := 64) (b := 64) X f) : R2 (a := 64) (b := 64) (select strict X zeroT) (below f) :=
  real_select (p := fun i j => j < i) strict_mask hX zeroT_real

theorem real_exp {n m : ℕ} {X : FVec Ideal ⟨2, ![n, m]⟩ .f32} {f : Matrix (Fin n) (Fin m) ℝ} (hX : R2 X f) :
    R2 (exp X) fun i j => Real.exp (f i j) := by
  intro i j
  show Ideal.exp (X (ix2 i j)) = _
  rw [hX, Ideal.exp_coe]

theorem real_wide {X : FVec Ideal S64x1 .f32} {c : Fin 64 → ℝ} (hX : R2 (a := 64) (b := 1) X fun i _ => c i) :
    R2 (a := 64) (b := 128) (wide X) fun i _ => c i := by
  intro i j
  unfold wide
  have e : ∀ z, X (ix2 i z) = ((c i : ℝ) : EReal) := fun z => hX i z
  show _ = ((c i : ℝ) : EReal)
  generalize c i = r at e ⊢
  pointwise [e]

/-- The tile `t` holds the chunk `x`. -/
structure Holds (t : Tile Ideal) (x : Chunk) : Prop where
  q : R2 (a := 64) (b := 128) t.q x.q
  k : R2 (a := 64) (b := 128) t.k x.k
  o : R2 (a := 64) (b := 128) t.o x.o
  vn : R2 (a := 64) (b := 128) t.v_new x.vnew
  beta : R2 (a := 64) (b := 1) t.beta fun i _ => x.beta i
  gc : R2 (a := 64) (b := 1) t.gc fun i _ => x.gc i
  gr : R2 (a := 1) (b := 64) t.gr fun _ j => x.gc j
  S : R2 (a := 128) (b := 128) t.S x.S
  A : R2 (a := 64) (b := 64) t.A x.A

namespace Holds

variable {t : Tile Ideal} {x : Chunk} (H : Holds t x)
include H

theorem gl : R2 (a := 1) (b := 1) t.gl fun _ _ => x.gl := by
  intro i j
  have e' : t.gr (ix2 (0 : Fin 1) (63 : Fin 64)) = ((x.gc 63 : ℝ) : EReal) := H.gr 0 63
  show _ = ((x.gc 63 : ℝ) : EReal)
  unfold Tile.gl
  generalize t.gr = Y at e' ⊢
  generalize x.gc 63 = r at e' ⊢
  refine Eq.trans ?_ e'
  fin_cases i
  fin_cases j
  pointwise []

theorem e : R2 (a := 64) (b := 128) t.e fun i _ => x.e i :=
  real_wide (c := x.e) (real_exp (n := 64) (m := 1) H.gc)

theorem edec : R2 (a := 64) (b := 128) t.edec fun i _ => x.edec i := by
  refine real_wide (c := x.edec) (real_exp (n := 64) (m := 1) (f := fun i _ => x.gl - x.gc i) (real_sub (n := 64) (m := 1) (f := fun _ _ => x.gl) (g := fun i _ => x.gc i) ?_ H.gc))
  intro i j
  have e := H.gl
  show _ = ((x.gl : ℝ) : EReal)
  generalize t.gl = Y at e ⊢
  generalize x.gl = r at e ⊢
  pointwise [e]

theorem egl : R2 (a := 128) (b := 128) t.egl fun _ _ => Real.exp x.gl := by
  intro i j
  have e := real_exp (n := 1) (m := 1) H.gl
  show _ = ((Real.exp x.gl : ℝ) : EReal)
  unfold Tile.egl
  generalize exp t.gl = Y at e ⊢
  generalize Real.exp x.gl = r at e ⊢
  pointwise [e]

theorem gam : R2 (a := 64) (b := 64) t.gam x.gam := by
  have h : R2 (a := 64) (b := 64) (subf (broadcastTo S64x64 t.gc broadcasts_S64x1_S64x64) (broadcastTo S64x64 t.gr broadcasts_S1x64_S64x64)) fun i j => x.gc i - x.gc j := by
    refine real_sub (n := 64) (m := 64) (f := fun i _ => x.gc i) (g := fun _ j => x.gc j) ?_ ?_
    · intro i j
      have e : ∀ z, t.gc (ix2 i z) = ((x.gc i : ℝ) : EReal) := fun z => H.gc i z
      show _ = ((x.gc i : ℝ) : EReal)
      generalize t.gc = Y at e ⊢
      generalize x.gc i = r at e ⊢
      pointwise [e]
    · intro i j
      have e : ∀ z, t.gr (ix2 z j) = ((x.gc j : ℝ) : EReal) := fun z => H.gr z j
      show _ = ((x.gc j : ℝ) : EReal)
      generalize t.gr = Y at e ⊢
      generalize x.gc j = r at e ⊢
      pointwise [e]
  have e := real_low (real_exp (n := 64) (m := 64) (real_low h))
  have c : low (fun i j => Real.exp (low (fun i j => x.gc i - x.gc j) i j)) = x.gam := by
    funext i j
    show (if j ≤ i then Real.exp (if j ≤ i then _ else 0) else 0) = if j ≤ i then _ else 0
    by_cases hc : j ≤ i
    · rw [if_pos hc, if_pos hc, if_pos hc]
    · rw [if_neg hc, if_neg hc]
  rw [← c]
  exact e

theorem attn : R2 (a := 64) (b := 64) t.attn x.attn :=
  real_low (real_mul (n := 64) (m := 64) (real_ntTR H.q H.k) H.gam)

theorem kb : R2 (a := 64) (b := 128) t.kb x.kb :=
  real_mul (n := 64) (m := 128) H.k (real_wide (c := x.beta) H.beta)

theorem dqm : R2 (a := 64) (b := 64) t.dqm x.dqm :=
  real_mul (n := 64) (m := 64) (real_low (real_ntTR H.o H.vn)) H.gam

theorem scaled {X Y : FVec Ideal S64x128 .f32} {f : Rows} {c : Fin 64 → ℝ} (hX : R2 (a := 64) (b := 128) X fun i _ => c i)
    (hY : R2 (a := 64) (b := 128) Y f) : R2 (a := 64) (b := 128) (mulf X Y) (rows f c) := by
  intro i d
  refine (real_mul (n := 64) (m := 128) (f := fun i _ => c i) (g := f) hX hY i d).trans ?_
  show ((c i * f i d : ℝ) : EReal) = ((f i d * c i : ℝ) : EReal)
  rw [mul_comm]

theorem dq : R2 (a := 64) (b := 128) t.dq x.dq :=
  real_add (n := 64) (m := 128) (H.scaled H.e (real_ntRS H.o H.S)) (real_nnTR H.dqm H.k)

variable {dS : FVec Ideal S128x128 .f32} {D : Sq} (hD : R2 (a := 128) (b := 128) dS D)
include hD

theorem dvn : R2 (a := 64) (b := 128) (t.dvn dS) (x.dvn D) :=
  real_add (n := 64) (m := 128) (real_nnRS (f := x.kdec) (real_mul (n := 64) (m := 128) H.k H.edec) hD) (real_tnTR H.attn H.o)

theorem dvb : R2 (a := 64) (b := 128) (t.dvb dS) (x.du' D) :=
  real_tn3 H.A (H.dvn hD)

theorem dv : R2 (a := 64) (b := 128) (t.dv dS) (x.dv D) :=
  H.scaled (real_wide (c := x.beta) H.beta) (H.dvb hD)

theorem dp : R2 (a := 64) (b := 64) (t.dp dS) (x.dlm D) := by
  have e := real_mul (n := 64) (m := 64) (real_below (real_sub (n := 64) (m := 64) (f := 0) zeroT_real (real_ntTR (H.dvb hD) H.vn))) H.gam
  rw [zero_sub] at e
  rw [Chunk.dlm_eq]
  exact e

theorem dkb : R2 (a := 64) (b := 128) (t.dkb dS) (x.dkb D) := by
  have e := real_add (n := 64) (m := 128) (real_nnTR (H.dp hD) H.k) (H.scaled H.e (real_sub (n := 64) (m := 128) (f := 0) zeroR_real (real_ntRS (H.dvb hD) H.S)))
  rw [zero_sub, ← Chunk.dw'_eq, add_comm] at e
  exact e

theorem dk : R2 (a := 64) (b := 128) (t.dk dS) (x.dk D) :=
  real_add (n := 64) (m := 128) (real_add (n := 64) (m := 128) (real_add (n := 64) (m := 128) (H.scaled H.edec (real_ntRS H.vn hD)) (real_tnTR H.dqm H.q)) (real_tnTR (H.dp hD) H.kb))
    (H.scaled (real_wide (c := x.beta) H.beta) (H.dkb hD))

theorem back : R2 (a := 128) (b := 128) (t.back dS) (x.back D) := by
  rw [Chunk.back_eq]
  exact real_sub (n := 128) (m := 128) (real_add (n := 128) (m := 128) (f := Real.exp x.gl • D) (real_mul (n := 128) (m := 128) H.egl hD)
    (real_tnRR (f := x.qe) (real_mul (n := 64) (m := 128) H.q H.e) H.o)) (real_tnRR (f := x.ekb) (real_mul (n := 64) (m := 128) H.kb H.e) (H.dvb hD))

end Holds

end DeltaRule.Ker
end
-- ==== Proof.Pieces.lean ====
module

public import proofs.«01_k».proof.Proof.Body

/-! What a grid point stores: the run's pieces are `Body`'s. -/

@[expose] public section

set_option maxRecDepth 16384

noncomputable section

namespace DeltaRule.Ker

open Idealize.ShloMosaic Idealize.ShloMosaic.TcCoe Idealize.ShloMosaic.Tactic
open Cert.KernelIdeal Cert.KernelIdeal.Gen

variable {F : FTy → Type} [FloatOps F]

/-- The whole scratch, as the first point clears it. -/
def rect0 : Rect S8x128x128 := Rect.unit ![0, 0, 0] S8x128x128.size inb_S8x128x128_S8x128x128_0_0_0

section
variable (c : Dev nD) (i : grid0.Coords) (arg1 : Memref sig .tc .vmem S1x128 .f32) (harg1 : arg1.IsWhole) (arg2 : Memref sig .tc .vmem S1x128 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x128 .f32) (harg6 : arg6.IsWhole) (arg7 : Memref sig .tc .vmem S2x32x64 .f32) (harg7 : arg7.IsWhole) (arg8 : Memref sig .tc .vmem S128x128 .f32) (harg8 : arg8.IsWhole) (arg9 : Memref sig .tc .vmem S128x1024 .f32) (harg9 : arg9.IsWhole) (arg10 : Memref sig .tc .vmem S2x8x128x128 .f32) (harg10 : arg10.IsWhole) (arg11 : Memref sig .tc .vmem S2x8x64x64 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x128 .bf16) (harg16 : arg16.IsWhole) (arg17 : Memref sig .tc .vmem S8x128 .f32) (harg17 : arg17.IsWhole) (arg18 : Memref sig .tc .vmem S8x128x128 .f32) (harg18 : arg18.IsWhole) (hc0 : ¬cond0_0 i)
  (x0 : Vec F S1x128 .f32) (x1 : Vec F S1x128 .f32) (x2 : Vec F S128x1024 .f32) (x3 : Vec F S128x1024 .f32) (x4 : Vec F S128x1024 .f32) (x5 : Vec F S128x128 .f32) (x6 : Vec F S2x32x64 .f32) (x7 : Vec F S128x128 .f32) (x8 : Vec F S128x1024 .f32) (x9 : Vec F S2x8x128x128 .f32) (x10 : Vec F S2x8x64x64 .f32) (x11 : Vec F S128x1024 .f32) (xo16 : Vec F S8x128 .f32) (xs0 : Vec F S8x128x128 .f32)

theorem runB_dq : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo16 xs0).1 =
    piecesQ (tile arg3 harg3 arg4 harg4 arg6 harg6 arg7 harg7 arg9 harg9 arg10 harg10 arg11 harg11 arg12 harg12 x2 x3 x5 x6 x8 x9 x10 x11) := by
  sl_kernel_rfl

theorem runB_dk : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo16 xs0).2.1 =
    piecesK (tile arg3 harg3 arg4 harg4 arg6 harg6 arg7 harg7 arg9 harg9 arg10 harg10 arg11 harg11 arg12 harg12 x2 x3 x5 x6 x8 x9 x10 x11) (fun h => View.readAt (Elt F) arg18.view (rectD h).toLoadRect (harg18.unread xs0)) := by
  sl_kernel_rfl

theorem runB_dv : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo16 xs0).2.2.1 =
    piecesV (tile arg3 harg3 arg4 harg4 arg6 harg6 arg7 harg7 arg9 harg9 arg10 harg10 arg11 harg11 arg12 harg12 x2 x3 x5 x6 x8 x9 x10 x11) (fun h => View.readAt (Elt F) arg18.view (rectD h).toLoadRect (harg18.unread xs0)) := by
  sl_kernel_rfl

theorem runB_dS : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo16 xs0).2.2.2.2.2.1 =
    piecesS (tile arg3 harg3 arg4 harg4 arg6 harg6 arg7 harg7 arg9 harg9 arg10 harg10 arg11 harg11 arg12 harg12 x2 x3 x5 x6 x8 x9 x10 x11) (fun h => View.readAt (Elt F) arg18.view (rectD h).toLoadRect (harg18.unread xs0)) [] := by
  sl_kernel_rfl

end

section
variable (c : Dev nD) (i : grid0.Coords) (arg1 : Memref sig .tc .vmem S1x128 .f32) (harg1 : arg1.IsWhole) (arg2 : Memref sig .tc .vmem S1x128 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x128 .f32) (harg6 : arg6.IsWhole) (arg7 : Memref sig .tc .vmem S2x32x64 .f32) (harg7 : arg7.IsWhole) (arg8 : Memref sig .tc .vmem S128x128 .f32) (harg8 : arg8.IsWhole) (arg9 : Memref sig .tc .vmem S128x1024 .f32) (harg9 : arg9.IsWhole) (arg10 : Memref sig .tc .vmem S2x8x128x128 .f32) (harg10 : arg10.IsWhole) (arg11 : Memref sig .tc .vmem S2x8x64x64 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x128 .bf16) (harg16 : arg16.IsWhole) (arg17 : Memref sig .tc .vmem S8x128 .f32) (harg17 : arg17.IsWhole) (arg18 : Memref sig .tc .vmem S8x128x128 .f32) (harg18 : arg18.IsWhole) (hc0 : cond0_0 i)
  (x0 : Vec F S1x128 .f32) (x1 : Vec F S1x128 .f32) (x2 : Vec F S128x1024 .f32) (x3 : Vec F S128x1024 .f32) (x4 : Vec F S128x1024 .f32) (x5 : Vec F S128x128 .f32) (x6 : Vec F S2x32x64 .f32) (x7 : Vec F S128x128 .f32) (x8 : Vec F S128x1024 .f32) (x9 : Vec F S2x8x128x128 .f32) (x10 : Vec F S2x8x64x64 .f32) (x11 : Vec F S128x1024 .f32)

theorem runA_dq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11).1 =
    piecesQ (tile arg3 harg3 arg4 harg4 arg6 harg6 arg7 harg7 arg9 harg9 arg10 harg10 arg11 harg11 arg12 harg12 x2 x3 x5 x6 x8 x9 x10 x11) := by
  sl_kernel_rfl

theorem runA_dk : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11).2.1 =
    piecesK (tile arg3 harg3 arg4 harg4 arg6 harg6 arg7 harg7 arg9 harg9 arg10 harg10 arg11 harg11 arg12 harg12 x2 x3 x5 x6 x8 x9 x10 x11) (fun h => arg18.view.readCov [⟨rect0, k0_pay3⟩] (rectD h).toLoadRect) := by
  sl_kernel_rfl

theorem runA_dv : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11).2.2.1 =
    piecesV (tile arg3 harg3 arg4 harg4 arg6 harg6 arg7 harg7 arg9 harg9 arg10 harg10 arg11 harg11 arg12 harg12 x2 x3 x5 x6 x8 x9 x10 x11) (fun h => arg18.view.readCov [⟨rect0, k0_pay3⟩] (rectD h).toLoadRect) := by
  sl_kernel_rfl

theorem runA_dS : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11).2.2.2.2.2.1 =
    piecesS (tile arg3 harg3 arg4 harg4 arg6 harg6 arg7 harg7 arg9 harg9 arg10 harg10 arg11 harg11 arg12 harg12 x2 x3 x5 x6 x8 x9 x10 x11) (fun h => arg18.view.readCov [⟨rect0, k0_pay3⟩] (rectD h).toLoadRect) [⟨rect0, k0_pay3⟩] := by
  sl_kernel_rfl

end

end DeltaRule.Ker
end
-- ==== Proof.Store.lean ====
module

public import proofs.«01_k».proof.Proof.Body
public import Idealize.ShloMosaic.Lib.WritesUnit
public import Idealize.ShloMosaic.Lib.Pointwise

/-! Reading back what a grid point stores: a piece for each chunk and head, and the scratch one piece for each head. -/

@[expose] public section

set_option maxRecDepth 16384

noncomputable section

namespace DeltaRule.Ker

open Idealize.ShloMosaic Idealize.ShloMosaic.TcCoe
open Cert.KernelIdeal Cert.KernelIdeal.Gen

variable {F : FTy → Type} [FloatOps F]

/-- The row of a block that holds token `i` of the block's chunk `c`. -/
def row (c : Fin 2) (i : Fin 64) : Fin 128 := ⟨64 * c.val + i.val, by omega⟩
/-- The column that holds feature `d` of head `h`. -/
def col (h : Fin 8) (d : Fin 128) : Fin 1024 := ⟨128 * h.val + d.val, by omega⟩

theorem read_pieces {sg : RefSig} {κ : Kind} {sp : Space} (v : View sg κ sp S128x1024 .f32) (f : v.ty.Contents (Elt F))
    (P : Fin 2 → Fin 8 → FVec F S64x128 .f32) (c : Fin 2) (h : Fin 8) (i : Fin 64) (d : Fin 128) :
    ∀ L : List (Fin 2 × Fin 8), (c, h) ∈ L →
      v.read (Elt F) (v.writes (Elt F) f (L.map fun p => (⟨rectR p.1 p.2, P p.1 p.2⟩ : View.Piece (Elt F) S128x1024 .f32))) (ix2 (row c i) (col h d)) = P c h (ix2 i d)
  | [], hm => absurd hm List.not_mem_nil
  | p :: L, hm => by
    by_cases hp : p = (c, h)
    · subst hp
      exact View.read_writes_cons_unit_of_mem v f (inbR c h) (P c h) _ _ (ix2 i d) rfl (fun a => by
        refine Fin.cases ?_ (fun a => ?_) a
        · rfl
        · have : a = 0 := Subsingleton.elim _ _
          subst this; rfl)
    · have hm' : (c, h) ∈ L := (List.mem_cons.mp hm).resolve_left (fun e => hp e.symm)
      refine Eq.trans ?_ (read_pieces v f P c h i d L hm')
      by_cases h0 : p.1 = c
      · have h1 : p.2 ≠ h := fun e => hp (Prod.ext h0 e)
        refine View.read_writes_cons_unit_of_not_mem v f (inbR p.1 p.2) (P p.1 p.2) _ _ rfl (1 : Fin 2) ?_
        show 128 * h.val + d.val < 128 * p.2.val ∨ 128 * p.2.val + 128 ≤ 128 * h.val + d.val
        have := d.isLt
        have : p.2.val ≠ h.val := fun e => h1 (Fin.ext e)
        omega
      · refine View.read_writes_cons_unit_of_not_mem v f (inbR p.1 p.2) (P p.1 p.2) _ _ rfl (0 : Fin 2) ?_
        show 64 * c.val + i.val < 64 * p.1.val ∨ 64 * p.1.val + 64 ≤ 64 * c.val + i.val
        have := i.isLt
        have : p.1.val ≠ c.val := fun e => h0 (Fin.ext e)
        omega

theorem mem_order : ∀ (c : Fin 2) (h : Fin 8), (c, h) ∈ order := by decide

theorem read_state {sg : RefSig} {κ : Kind} {sp : Space} (v : View sg κ sp S8x128x128 .f32) (f : v.ty.Contents (Elt F))
    (P : Fin 8 → FVec F S1x128x128 .f32) (h : Fin 8) (i d : Fin 128) (B : List (View.Piece (Elt F) S8x128x128 .f32)) :
    ∀ L : List (Fin 8), h ∈ L →
      v.read (Elt F) (v.writes (Elt F) f (L.foldr (fun h L => (⟨rectD h, P h⟩ : View.Piece (Elt F) S8x128x128 .f32) :: L) B)) (ix3 h i d) = P h (ix3 0 i d)
  | [], hm => absurd hm List.not_mem_nil
  | p :: L, hm => by
    by_cases hp : p = h
    · subst hp
      exact View.read_writes_cons_unit_of_mem v f (inbD p) (P p) _ _ (ix3 0 i d) rfl (fun a => by
        fin_cases a
        · rfl
        · exact (Nat.zero_add _).symm
        · exact (Nat.zero_add _).symm)
    · have hm' : h ∈ L := (List.mem_cons.mp hm).resolve_left (fun e => hp e.symm)
      refine Eq.trans ?_ (read_state v f P h i d B L hm')
      refine View.read_writes_cons_unit_of_not_mem v f (inbD p) (P p) _ _ rfl (0 : Fin 3) ?_
      show h.val < p.val ∨ p.val + 1 ≤ h.val
      have : p.val ≠ h.val := fun e => hp (Fin.ext e)
      omega

theorem mem_heads : ∀ h : Fin 8, h ∈ ([7, 6, 5, 4, 3, 2, 1, 0] : List (Fin 8)) := by decide

variable (T : Fin 2 → Fin 8 → Tile F) (s : Fin 8 → Vec F S1x128x128 .f32)

theorem read_piecesQ {sg : RefSig} {κ : Kind} {sp : Space} (v : View sg κ sp S128x1024 .f32) (f : v.ty.Contents (Elt F)) (c : Fin 2) (h : Fin 8) (i : Fin 64) (d : Fin 128) :
    v.read (Elt F) (v.writes (Elt F) f (piecesQ T)) (ix2 (row c i) (col h d)) = (T c h).dq (ix2 i d) :=
  read_pieces v f (fun c h => (T c h).dq) c h i d order (mem_order c h)

theorem read_piecesK {sg : RefSig} {κ : Kind} {sp : Space} (v : View sg κ sp S128x1024 .f32) (f : v.ty.Contents (Elt F)) (c : Fin 2) (h : Fin 8) (i : Fin 64) (d : Fin 128) :
    v.read (Elt F) (v.writes (Elt F) f (piecesK T s)) (ix2 (row c i) (col h d)) = (T c h).dk (ds T s c h) (ix2 i d) :=
  read_pieces v f (fun c h => (T c h).dk (ds T s c h)) c h i d order (mem_order c h)

theorem read_piecesV {sg : RefSig} {κ : Kind} {sp : Space} (v : View sg κ sp S128x1024 .f32) (f : v.ty.Contents (Elt F)) (c : Fin 2) (h : Fin 8) (i : Fin 64) (d : Fin 128) :
    v.read (Elt F) (v.writes (Elt F) f (piecesV T s)) (ix2 (row c i) (col h d)) = (T c h).dv (ds T s c h) (ix2 i d) :=
  read_pieces v f (fun c h => (T c h).dv (ds T s c h)) c h i d order (mem_order c h)

theorem read_piecesS {sg : RefSig} {κ : Kind} {sp : Space} (v : View sg κ sp S8x128x128 .f32) (f : v.ty.Contents (Elt F)) (B : List (View.Piece (Elt F) S8x128x128 .f32)) (h : Fin 8) (i d : Fin 128) :
    v.read (Elt F) (v.writes (Elt F) f (piecesS T s B)) (ix3 h i d) = (T 0 h).back (ds T s 0 h) (ix2 i d) := by
  refine (read_state v f (fun h => shapeCast S1x128x128 ((T 0 h).back (ds T s 0 h)) shapeCasts_S128x128_S1x128x128) h i d B _ (mem_heads h)).trans ?_
  generalize (T 0 h).back (ds T s 0 h) = Y
  pointwise []

end DeltaRule.Ker
end
-- ==== Proof.Point.lean ====
module

public import proofs.«01_k».proof.Proof.Pieces
public import proofs.«01_k».proof.Proof.Store
public import proofs.«01_k».proof.Proof.Gen.KernelIdeal.Frame

/-! What a grid point leaves in its output blocks and in the scratch, element by element. -/

@[expose] public section

set_option maxRecDepth 16384

noncomputable section

namespace DeltaRule.Ker

open Idealize.ShloMosaic Idealize.ShloMosaic.TcCoe
open Cert.KernelIdeal Cert.KernelIdeal.Gen

variable {F : FTy → Type} [FloatOps F]

section
variable (c : Dev nD) (i : grid0.Coords) (arg1 : Memref sig .tc .vmem S1x128 .f32) (harg1 : arg1.IsWhole) (arg2 : Memref sig .tc .vmem S1x128 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x128 .f32) (harg6 : arg6.IsWhole) (arg7 : Memref sig .tc .vmem S2x32x64 .f32) (harg7 : arg7.IsWhole) (arg8 : Memref sig .tc .vmem S128x128 .f32) (harg8 : arg8.IsWhole) (arg9 : Memref sig .tc .vmem S128x1024 .f32) (harg9 : arg9.IsWhole) (arg10 : Memref sig .tc .vmem S2x8x128x128 .f32) (harg10 : arg10.IsWhole) (arg11 : Memref sig .tc .vmem S2x8x64x64 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x128 .bf16) (harg16 : arg16.IsWhole) (arg17 : Memref sig .tc .vmem S8x128 .f32) (harg17 : arg17.IsWhole) (arg18 : Memref sig .tc .vmem S8x128x128 .f32) (harg18 : arg18.IsWhole) (hc0 : ¬cond0_0 i)
  (x0 : Vec F S1x128 .f32) (x1 : Vec F S1x128 .f32) (x2 : Vec F S128x1024 .f32) (x3 : Vec F S128x1024 .f32) (x4 : Vec F S128x1024 .f32) (x5 : Vec F S128x128 .f32) (x6 : Vec F S2x32x64 .f32) (x7 : Vec F S128x128 .f32) (x8 : Vec F S128x1024 .f32) (x9 : Vec F S2x8x128x128 .f32) (x10 : Vec F S2x8x64x64 .f32) (x11 : Vec F S128x1024 .f32) (xo16 : Vec F S8x128 .f32) (xs0 : Vec F S8x128x128 .f32)

theorem outB_dq (cc : Fin 2) (h : Fin 8) (j : Fin 64) (d : Fin 128) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo16 xs0 (ix2 (row cc j) (col h d)) = ((tile arg3 harg3 arg4 harg4 arg6 harg6 arg7 harg7 arg9 harg9 arg10 harg10 arg11 harg11 arg12 harg12 x2 x3 x5 x6 x8 x9 x10 x11) cc h).dq (ix2 j d) := by
  unfold out0_B_12
  rw [runB_dq]
  exact read_piecesQ _ _ _ cc h j d

theorem outB_dk (cc : Fin 2) (h : Fin 8) (j : Fin 64) (d : Fin 128) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo16 xs0 (ix2 (row cc j) (col h d)) = ((tile arg3 harg3 arg4 harg4 arg6 harg6 arg7 harg7 arg9 harg9 arg10 harg10 arg11 harg11 arg12 harg12 x2 x3 x5 x6 x8 x9 x10 x11) cc h).dk (ds (tile arg3 harg3 arg4 harg4 arg6 harg6 arg7 harg7 arg9 harg9 arg10 harg10 arg11 harg11 arg12 harg12 x2 x3 x5 x6 x8 x9 x10 x11) (fun h => View.readAt (Elt F) arg18.view (rectD h).toLoadRect (harg18.unread xs0)) cc h) (ix2 j d) := by
  unfold out0_B_13
  rw [runB_dk]
  exact read_piecesK _ _ _ _ cc h j d

theorem outB_dv (cc : Fin 2) (h : Fin 8) (j : Fin 64) (d : Fin 128) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo16 xs0 (ix2 (row cc j) (col h d)) = ((tile arg3 harg3 arg4 harg4 arg6 harg6 arg7 harg7 arg9 harg9 arg10 harg10 arg11 harg11 arg12 harg12 x2 x3 x5 x6 x8 x9 x10 x11) cc h).dv (ds (tile arg3 harg3 arg4 harg4 arg6 harg6 arg7 harg7 arg9 harg9 arg10 harg10 arg11 harg11 arg12 harg12 x2 x3 x5 x6 x8 x9 x10 x11) (fun h => View.readAt (Elt F) arg18.view (rectD h).toLoadRect (harg18.unread xs0)) cc h) (ix2 j d) := by
  unfold out0_B_14
  rw [runB_dv]
  exact read_piecesV _ _ _ _ cc h j d

theorem outB_dS (h : Fin 8) (a d : Fin 128) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xo16 xs0 (ix3 h a d) = ((tile arg3 harg3 arg4 harg4 arg6 harg6 arg7 harg7 arg9 harg9 arg10 harg10 arg11 harg11 arg12 harg12 x2 x3 x5 x6 x8 x9 x10 x11) 0 h).back (ds (tile arg3 harg3 arg4 harg4 arg6 harg6 arg7 harg7 arg9 harg9 arg10 harg10 arg11 harg11 arg12 harg12 x2 x3 x5 x6 x8 x9 x10 x11) (fun h => View.readAt (Elt F) arg18.view (rectD h).toLoadRect (harg18.unread xs0)) 0 h) (ix2 a d) := by
  unfold sout0_B_0
  rw [runB_dS]
  exact read_piecesS _ _ _ _ _ h a d

end

section
variable (c : Dev nD) (i : grid0.Coords) (arg1 : Memref sig .tc .vmem S1x128 .f32) (harg1 : arg1.IsWhole) (arg2 : Memref sig .tc .vmem S1x128 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x128 .f32) (harg6 : arg6.IsWhole) (arg7 : Memref sig .tc .vmem S2x32x64 .f32) (harg7 : arg7.IsWhole) (arg8 : Memref sig .tc .vmem S128x128 .f32) (harg8 : arg8.IsWhole) (arg9 : Memref sig .tc .vmem S128x1024 .f32) (harg9 : arg9.IsWhole) (arg10 : Memref sig .tc .vmem S2x8x128x128 .f32) (harg10 : arg10.IsWhole) (arg11 : Memref sig .tc .vmem S2x8x64x64 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x128 .bf16) (harg16 : arg16.IsWhole) (arg17 : Memref sig .tc .vmem S8x128 .f32) (harg17 : arg17.IsWhole) (arg18 : Memref sig .tc .vmem S8x128x128 .f32) (harg18 : arg18.IsWhole) (hc0 : cond0_0 i)
  (x0 : Vec F S1x128 .f32) (x1 : Vec F S1x128 .f32) (x2 : Vec F S128x1024 .f32) (x3 : Vec F S128x1024 .f32) (x4 : Vec F S128x1024 .f32) (x5 : Vec F S128x128 .f32) (x6 : Vec F S2x32x64 .f32) (x7 : Vec F S128x128 .f32) (x8 : Vec F S128x1024 .f32) (x9 : Vec F S2x8x128x128 .f32) (x10 : Vec F S2x8x64x64 .f32) (x11 : Vec F S128x1024 .f32)

theorem outA_dq (cc : Fin 2) (h : Fin 8) (j : Fin 64) (d : Fin 128) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 (ix2 (row cc j) (col h d)) = ((tile arg3 harg3 arg4 harg4 arg6 harg6 arg7 harg7 arg9 harg9 arg10 harg10 arg11 harg11 arg12 harg12 x2 x3 x5 x6 x8 x9 x10 x11) cc h).dq (ix2 j d) := by
  unfold out0_A_12
  rw [runA_dq]
  exact read_piecesQ _ _ _ cc h j d

theorem outA_dk (cc : Fin 2) (h : Fin 8) (j : Fin 64) (d : Fin 128) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 (ix2 (row cc j) (col h d)) = ((tile arg3 harg3 arg4 harg4 arg6 harg6 arg7 harg7 arg9 harg9 arg10 harg10 arg11 harg11 arg12 harg12 x2 x3 x5 x6 x8 x9 x10 x11) cc h).dk (ds (tile arg3 harg3 arg4 harg4 arg6 harg6 arg7 harg7 arg9 harg9 arg10 harg10 arg11 harg11 arg12 harg12 x2 x3 x5 x6 x8 x9 x10 x11) (fun h => arg18.view.readCov [⟨rect0, k0_pay3⟩] (rectD h).toLoadRect) cc h) (ix2 j d) := by
  unfold out0_A_13
  rw [runA_dk]
  exact read_piecesK _ _ _ _ cc h j d

theorem outA_dv (cc : Fin 2) (h : Fin 8) (j : Fin 64) (d : Fin 128) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 (ix2 (row cc j) (col h d)) = ((tile arg3 harg3 arg4 harg4 arg6 harg6 arg7 harg7 arg9 harg9 arg10 harg10 arg11 harg11 arg12 harg12 x2 x3 x5 x6 x8 x9 x10 x11) cc h).dv (ds (tile arg3 harg3 arg4 harg4 arg6 harg6 arg7 harg7 arg9 harg9 arg10 harg10 arg11 harg11 arg12 harg12 x2 x3 x5 x6 x8 x9 x10 x11) (fun h => arg18.view.readCov [⟨rect0, k0_pay3⟩] (rectD h).toLoadRect) cc h) (ix2 j d) := by
  unfold out0_A_14
  rw [runA_dv]
  exact read_piecesV _ _ _ _ cc h j d

theorem outA_dS (h : Fin 8) (a d : Fin 128) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 (ix3 h a d) = ((tile arg3 harg3 arg4 harg4 arg6 harg6 arg7 harg7 arg9 harg9 arg10 harg10 arg11 harg11 arg12 harg12 x2 x3 x5 x6 x8 x9 x10 x11) 0 h).back (ds (tile arg3 harg3 arg4 harg4 arg6 harg6 arg7 harg7 arg9 harg9 arg10 harg10 arg11 harg11 arg12 harg12 x2 x3 x5 x6 x8 x9 x10 x11) (fun h => arg18.view.readCov [⟨rect0, k0_pay3⟩] (rectD h).toLoadRect) 0 h) (ix2 a d) := by
  unfold sout0_A_0
  rw [runA_dS]
  exact read_piecesS _ _ _ _ _ h a d

end

end DeltaRule.Ker
end
-- ==== Proof.Load.lean ====
module

public import proofs.«01_k».proof.Proof.Store
public import proofs.«01_k».proof.Proof.Data
public import proofs.«01_k».proof.Proof.Gen.KernelIdeal.Frame

/-! Where a grid point's blocks sit in the arrays: point `t` works on chunks `63 - 2t` and `62 - 2t`. -/

@[expose] public section

set_option maxRecDepth 16384

noncomputable section

namespace DeltaRule.Ker

open Idealize.ShloMosaic Idealize.ShloMosaic.TcCoe
open Cert.KernelIdeal Cert.KernelIdeal.Gen
open DeltaRule

variable {F : FTy → Type} [FloatOps F]

/-- The number of chunk `cc` of the two that point `t` works on. -/
def num (t : Fin cfg0.N) (cc : Fin 2) : Fin 64 := ⟨2 * (31 - t.val) + cc.val, by omega⟩

theorem index2 : ∀ t : Fin cfg0.N, win0_2.index t 0 = 31 - t.val ∧ win0_2.index t 1 = 0 :=
  (by decide +kernel : ∀ t : Fin grid0.N, win0_2.index t 0 = 31 - t.val ∧ win0_2.index t 1 = 0)

theorem load2 (t : Fin cfg0.N) (X : FVec F S4096x1024 .f32) (cc : Fin 2) (h : Fin 8) (i : Fin 64) (d : Fin 128) :
    ((cfg0.win 2).blk t).view.read (Elt F) X (ix2 (row cc i) (col h d)) = X (ix2 (tok (num t cc) i) (lane h d)) := by
  have hi := index2 t
  have ht : t.val < 32 := lt_of_lt_of_eq t.isLt (show cfg0.N = 32 from N_0)
  rw [View.read_apply]
  refine congrArg X ?_
  funext a
  apply Fin.ext
  match a with
  | ⟨0, _⟩ => show win0_2.index t 0 * 128 + 1 * (64 * cc.val + i.val) = (2 * (31 - t.val) + cc.val) * 64 + i.val; rw [hi.1]; omega
  | ⟨1, _⟩ => show win0_2.index t 1 * 1024 + 1 * (128 * h.val + d.val) = h.val * 128 + d.val; rw [hi.2]; omega

theorem index3 : ∀ t : Fin cfg0.N, win0_3.index t 0 = 31 - t.val ∧ win0_3.index t 1 = 0 :=
  (by decide +kernel : ∀ t : Fin grid0.N, win0_3.index t 0 = 31 - t.val ∧ win0_3.index t 1 = 0)

theorem load3 (t : Fin cfg0.N) (X : FVec F S4096x1024 .f32) (cc : Fin 2) (h : Fin 8) (i : Fin 64) (d : Fin 128) :
    ((cfg0.win 3).blk t).view.read (Elt F) X (ix2 (row cc i) (col h d)) = X (ix2 (tok (num t cc) i) (lane h d)) := by
  have hi := index3 t
  have ht : t.val < 32 := lt_of_lt_of_eq t.isLt (show cfg0.N = 32 from N_0)
  rw [View.read_apply]
  refine congrArg X ?_
  funext a
  apply Fin.ext
  match a with
  | ⟨0, _⟩ => show win0_3.index t 0 * 128 + 1 * (64 * cc.val + i.val) = (2 * (31 - t.val) + cc.val) * 64 + i.val; rw [hi.1]; omega
  | ⟨1, _⟩ => show win0_3.index t 1 * 1024 + 1 * (128 * h.val + d.val) = h.val * 128 + d.val; rw [hi.2]; omega

theorem index5 : ∀ t : Fin cfg0.N, win0_5.index t 0 = 31 - t.val ∧ win0_5.index t 1 = 0 :=
  (by decide +kernel : ∀ t : Fin grid0.N, win0_5.index t 0 = 31 - t.val ∧ win0_5.index t 1 = 0)

theorem load5 (t : Fin cfg0.N) (X : FVec F S4096x128 .f32) (cc : Fin 2) (i : Fin 64) (d : Fin 128) :
    ((cfg0.win 5).blk t).view.read (Elt F) X (ix2 (row cc i) d) = X (ix2 (tok (num t cc) i) d) := by
  have hi := index5 t
  have ht : t.val < 32 := lt_of_lt_of_eq t.isLt (show cfg0.N = 32 from N_0)
  rw [View.read_apply]
  refine congrArg X ?_
  funext a
  apply Fin.ext
  match a with
  | ⟨0, _⟩ => show win0_5.index t 0 * 128 + 1 * (64 * cc.val + i.val) = (2 * (31 - t.val) + cc.val) * 64 + i.val; rw [hi.1]; omega
  | ⟨1, _⟩ => show win0_5.index t 1 * 128 + 1 * (d.val) = d.val; rw [hi.2]; omega

theorem index6 : ∀ t : Fin cfg0.N, win0_6.index t 0 = 31 - t.val ∧ win0_6.index t 1 = 0 ∧ win0_6.index t 2 = 0 :=
  (by decide +kernel : ∀ t : Fin grid0.N, win0_6.index t 0 = 31 - t.val ∧ win0_6.index t 1 = 0 ∧ win0_6.index t 2 = 0)

theorem load6 (t : Fin cfg0.N) (X : FVec F S64x32x64 .f32) (cc : Fin 2) (i : Fin 32) (d : Fin 64) :
    ((cfg0.win 6).blk t).view.read (Elt F) X (ix3 cc i d) = X (ix3 (num t cc) i d) := by
  have hi := index6 t
  have ht : t.val < 32 := lt_of_lt_of_eq t.isLt (show cfg0.N = 32 from N_0)
  rw [View.read_apply]
  refine congrArg X ?_
  funext a
  apply Fin.ext
  match a with
  | ⟨0, _⟩ => show win0_6.index t 0 * 2 + 1 * (cc.val) = 2 * (31 - t.val) + cc.val; rw [hi.1]; omega
  | ⟨1, _⟩ => show win0_6.index t 1 * 32 + 1 * (i.val) = i.val; rw [hi.2.1]; omega
  | ⟨2, _⟩ => show win0_6.index t 2 * 64 + 1 * (d.val) = d.val; rw [hi.2.2]; omega

theorem index8 : ∀ t : Fin cfg0.N, win0_8.index t 0 = 31 - t.val ∧ win0_8.index t 1 = 0 :=
  (by decide +kernel : ∀ t : Fin grid0.N, win0_8.index t 0 = 31 - t.val ∧ win0_8.index t 1 = 0)

theorem load8 (t : Fin cfg0.N) (X : FVec F S4096x1024 .f32) (cc : Fin 2) (h : Fin 8) (i : Fin 64) (d : Fin 128) :
    ((cfg0.win 8).blk t).view.read (Elt F) X (ix2 (row cc i) (col h d)) = X (ix2 (tok (num t cc) i) (lane h d)) := by
  have hi := index8 t
  have ht : t.val < 32 := lt_of_lt_of_eq t.isLt (show cfg0.N = 32 from N_0)
  rw [View.read_apply]
  refine congrArg X ?_
  funext a
  apply Fin.ext
  match a with
  | ⟨0, _⟩ => show win0_8.index t 0 * 128 + 1 * (64 * cc.val + i.val) = (2 * (31 - t.val) + cc.val) * 64 + i.val; rw [hi.1]; omega
  | ⟨1, _⟩ => show win0_8.index t 1 * 1024 + 1 * (128 * h.val + d.val) = h.val * 128 + d.val; rw [hi.2]; omega

theorem index9 : ∀ t : Fin cfg0.N, win0_9.index t 0 = 31 - t.val ∧ win0_9.index t 1 = 0 ∧ win0_9.index t 2 = 0 ∧ win0_9.index t 3 = 0 :=
  (by decide +kernel : ∀ t : Fin grid0.N, win0_9.index t 0 = 31 - t.val ∧ win0_9.index t 1 = 0 ∧ win0_9.index t 2 = 0 ∧ win0_9.index t 3 = 0)

theorem load9 (t : Fin cfg0.N) (X : FVec F S64x8x128x128 .f32) (cc : Fin 2) (h : Fin 8) (i : Fin 128) (d : Fin 128) :
    ((cfg0.win 9).blk t).view.read (Elt F) X (ix4 cc h i d) = X (ix4 (num t cc) h i d) := by
  have hi := index9 t
  have ht : t.val < 32 := lt_of_lt_of_eq t.isLt (show cfg0.N = 32 from N_0)
  rw [View.read_apply]
  refine congrArg X ?_
  funext a
  apply Fin.ext
  match a with
  | ⟨0, _⟩ => show win0_9.index t 0 * 2 + 1 * (cc.val) = 2 * (31 - t.val) + cc.val; rw [hi.1]; omega
  | ⟨1, _⟩ => show win0_9.index t 1 * 8 + 1 * (h.val) = h.val; rw [hi.2.1]; omega
  | ⟨2, _⟩ => show win0_9.index t 2 * 128 + 1 * (i.val) = i.val; rw [hi.2.2.1]; omega
  | ⟨3, _⟩ => show win0_9.index t 3 * 128 + 1 * (d.val) = d.val; rw [hi.2.2.2]; omega

theorem index10 : ∀ t : Fin cfg0.N, win0_10.index t 0 = 31 - t.val ∧ win0_10.index t 1 = 0 ∧ win0_10.index t 2 = 0 ∧ win0_10.index t 3 = 0 :=
  (by decide +kernel : ∀ t : Fin grid0.N, win0_10.index t 0 = 31 - t.val ∧ win0_10.index t 1 = 0 ∧ win0_10.index t 2 = 0 ∧ win0_10.index t 3 = 0)

theorem load10 (t : Fin cfg0.N) (X : FVec F S64x8x64x64 .f32) (cc : Fin 2) (h : Fin 8) (i : Fin 64) (d : Fin 64) :
    ((cfg0.win 10).blk t).view.read (Elt F) X (ix4 cc h i d) = X (ix4 (num t cc) h i d) := by
  have hi := index10 t
  have ht : t.val < 32 := lt_of_lt_of_eq t.isLt (show cfg0.N = 32 from N_0)
  rw [View.read_apply]
  refine congrArg X ?_
  funext a
  apply Fin.ext
  match a with
  | ⟨0, _⟩ => show win0_10.index t 0 * 2 + 1 * (cc.val) = 2 * (31 - t.val) + cc.val; rw [hi.1]; omega
  | ⟨1, _⟩ => show win0_10.index t 1 * 8 + 1 * (h.val) = h.val; rw [hi.2.1]; omega
  | ⟨2, _⟩ => show win0_10.index t 2 * 64 + 1 * (i.val) = i.val; rw [hi.2.2.1]; omega
  | ⟨3, _⟩ => show win0_10.index t 3 * 64 + 1 * (d.val) = d.val; rw [hi.2.2.2]; omega

theorem index11 : ∀ t : Fin cfg0.N, win0_11.index t 0 = 31 - t.val ∧ win0_11.index t 1 = 0 :=
  (by decide +kernel : ∀ t : Fin grid0.N, win0_11.index t 0 = 31 - t.val ∧ win0_11.index t 1 = 0)

theorem load11 (t : Fin cfg0.N) (X : FVec F S4096x1024 .f32) (cc : Fin 2) (h : Fin 8) (i : Fin 64) (d : Fin 128) :
    ((cfg0.win 11).blk t).view.read (Elt F) X (ix2 (row cc i) (col h d)) = X (ix2 (tok (num t cc) i) (lane h d)) := by
  have hi := index11 t
  have ht : t.val < 32 := lt_of_lt_of_eq t.isLt (show cfg0.N = 32 from N_0)
  rw [View.read_apply]
  refine congrArg X ?_
  funext a
  apply Fin.ext
  match a with
  | ⟨0, _⟩ => show win0_11.index t 0 * 128 + 1 * (64 * cc.val + i.val) = (2 * (31 - t.val) + cc.val) * 64 + i.val; rw [hi.1]; omega
  | ⟨1, _⟩ => show win0_11.index t 1 * 1024 + 1 * (128 * h.val + d.val) = h.val * 128 + d.val; rw [hi.2]; omega

theorem index12 : ∀ t : Fin cfg0.N, win0_12.index t 0 = 31 - t.val ∧ win0_12.index t 1 = 0 :=
  (by decide +kernel : ∀ t : Fin grid0.N, win0_12.index t 0 = 31 - t.val ∧ win0_12.index t 1 = 0)

theorem load12 (t : Fin cfg0.N) (X : FVec F S4096x1024 .f32) (cc : Fin 2) (h : Fin 8) (i : Fin 64) (d : Fin 128) :
    ((cfg0.win 12).blk t).view.read (Elt F) X (ix2 (row cc i) (col h d)) = X (ix2 (tok (num t cc) i) (lane h d)) := by
  have hi := index12 t
  have ht : t.val < 32 := lt_of_lt_of_eq t.isLt (show cfg0.N = 32 from N_0)
  rw [View.read_apply]
  refine congrArg X ?_
  funext a
  apply Fin.ext
  match a with
  | ⟨0, _⟩ => show win0_12.index t 0 * 128 + 1 * (64 * cc.val + i.val) = (2 * (31 - t.val) + cc.val) * 64 + i.val; rw [hi.1]; omega
  | ⟨1, _⟩ => show win0_12.index t 1 * 1024 + 1 * (128 * h.val + d.val) = h.val * 128 + d.val; rw [hi.2]; omega

theorem index13 : ∀ t : Fin cfg0.N, win0_13.index t 0 = 31 - t.val ∧ win0_13.index t 1 = 0 :=
  (by decide +kernel : ∀ t : Fin grid0.N, win0_13.index t 0 = 31 - t.val ∧ win0_13.index t 1 = 0)

theorem load13 (t : Fin cfg0.N) (X : FVec F S4096x1024 .f32) (cc : Fin 2) (h : Fin 8) (i : Fin 64) (d : Fin 128) :
    ((cfg0.win 13).blk t).view.read (Elt F) X (ix2 (row cc i) (col h d)) = X (ix2 (tok (num t cc) i) (lane h d)) := by
  have hi := index13 t
  have ht : t.val < 32 := lt_of_lt_of_eq t.isLt (show cfg0.N = 32 from N_0)
  rw [View.read_apply]
  refine congrArg X ?_
  funext a
  apply Fin.ext
  match a with
  | ⟨0, _⟩ => show win0_13.index t 0 * 128 + 1 * (64 * cc.val + i.val) = (2 * (31 - t.val) + cc.val) * 64 + i.val; rw [hi.1]; omega
  | ⟨1, _⟩ => show win0_13.index t 1 * 1024 + 1 * (128 * h.val + d.val) = h.val * 128 + d.val; rw [hi.2]; omega

theorem index14 : ∀ t : Fin cfg0.N, win0_14.index t 0 = 31 - t.val ∧ win0_14.index t 1 = 0 :=
  (by decide +kernel : ∀ t : Fin grid0.N, win0_14.index t 0 = 31 - t.val ∧ win0_14.index t 1 = 0)

theorem load14 (t : Fin cfg0.N) (X : FVec F S4096x1024 .f32) (cc : Fin 2) (h : Fin 8) (i : Fin 64) (d : Fin 128) :
    ((cfg0.win 14).blk t).view.read (Elt F) X (ix2 (row cc i) (col h d)) = X (ix2 (tok (num t cc) i) (lane h d)) := by
  have hi := index14 t
  have ht : t.val < 32 := lt_of_lt_of_eq t.isLt (show cfg0.N = 32 from N_0)
  rw [View.read_apply]
  refine congrArg X ?_
  funext a
  apply Fin.ext
  match a with
  | ⟨0, _⟩ => show win0_14.index t 0 * 128 + 1 * (64 * cc.val + i.val) = (2 * (31 - t.val) + cc.val) * 64 + i.val; rw [hi.1]; omega
  | ⟨1, _⟩ => show win0_14.index t 1 * 1024 + 1 * (128 * h.val + d.val) = h.val * 128 + d.val; rw [hi.2]; omega

end DeltaRule.Ker
end
-- ==== Proof.HostEq.lean ====
module

public import proofs.«01_k».proof.Proof.Gen.KernelIdeal.Frame
public import proofs.«01_k».proof.Proof.Data
public import Idealize.ShloMosaic.Lib.StableHlo.RunRead

/-!
What the kernel's host code leaves in its buffers before the call.

`k_b m c` is what buffer `b` of core `c` holds when the call starts, and `k_b_eq` gives it as one
operation on what earlier buffers hold.
-/

@[expose] public section

set_option maxRecDepth 16384

noncomputable section

namespace DeltaRule.Host

open Idealize.ShloMosaic Idealize.ShloMosaic.TcCoe Idealize.ShloMosaic.StableHlo
open Cert.KernelIdeal Cert.KernelIdeal.Gen

section Reads

variable {τ : Topo} {sig : RefSig} {Val : EltTy → Type} {ops : List (HloOp τ sig Val)} {W : List (Ref sig .tc)}

/-- A buffer not written from position `i` on holds at the end what it held there. -/
theorem at_end (hW : ops.map HloOp.writes = W.map fun w => {Proc.devRef (τ := τ) .tc w}) (V : Valuation τ sig Val)
    (i : ℕ) {r : Ref sig .tc} (hr : r ∉ W.drop i) :
    upto ops V i (Proc.devRef .tc r) = after ops V (Proc.devRef .tc r) := by
  have hd : (ops.drop i).map HloOp.writes = (W.drop i).map fun w => {Proc.devRef (τ := τ) .tc w} := by
    rw [List.map_drop, hW, List.map_drop]
  have h : after (ops.take i ++ ops.drop i) V = after (ops.drop i) (after (ops.take i) V) := by
    generalize ops.take i = l
    induction l generalizing V with
    | nil => rfl
    | cons op l ih => exact ih _
  rw [List.take_append_drop] at h
  rw [h, after_unwritten (W.drop i) hd hr]
  rfl

/-- A buffer not written after position `i` holds at the end what the operation there leaves. -/
theorem at_op (hW : ops.map HloOp.writes = W.map fun w => {Proc.devRef (τ := τ) .tc w}) (V : Valuation τ sig Val)
    (i : ℕ) {op : HloOp τ sig Val} (hop : ops[i]? = some op) {r : Ref sig .tc} (hr : r ∉ W.drop (i + 1)) :
    after ops V (Proc.devRef .tc r) = op.result (upto ops V i) (Proc.devRef .tc r) := by
  obtain ⟨hi, he⟩ := List.getElem?_eq_some_iff.mp hop
  have hd : (ops.drop (i + 1)).map HloOp.writes = (W.drop (i + 1)).map fun w => {Proc.devRef (τ := τ) .tc w} := by
    rw [List.map_drop, hW, List.map_drop]
  refine after_last_write (W.drop (i + 1)) ?_ hd hr V
  rw [← he]
  exact List.drop_eq_getElem_cons hi

theorem not_later (hn : W.Nodup) {i j : ℕ} {r : Ref sig .tc} (hj : W[j]? = some r) (h : j < i) : r ∉ W.drop i := by
  obtain ⟨hl, he⟩ := List.getElem?_eq_some_iff.mp hj
  intro hm
  obtain ⟨n, hn', hx⟩ := List.mem_iff_getElem.mp hm
  rw [List.getElem_drop] at hx
  have := (List.Nodup.getElem_inj_iff hn).mp (he.trans hx.symm)
  omega

theorem not_any {i : ℕ} {r : Ref sig .tc} (h : r ∉ W) : r ∉ W.drop i := fun hm => h (List.mem_of_mem_drop hm)

theorem read0 (hW : ops.map HloOp.writes = W.map fun w => {Proc.devRef (τ := τ) .tc w}) (V : Valuation τ sig Val)
    (i : ℕ) {y : Ref sig .tc} {v : y.ty.Contents Val} {hy}
    (hop : ops[i]? = some (nullary y v hy)) (h : y ∉ W.drop (i + 1)) :
    after ops V (Proc.devRef .tc y) = v := by
  rw [at_op hW V i hop h, nullary_result]

theorem read1 (hW : ops.map HloOp.writes = W.map fun w => {Proc.devRef (τ := τ) .tc w}) (V : Valuation τ sig Val)
    (i : ℕ) {x y : Ref sig .tc} {f : x.ty.Contents Val → y.ty.Contents Val} {hx hy}
    (hop : ops[i]? = some (unary x y f hx hy)) (h : y ∉ W.drop (i + 1)) (h1 : x ∉ W.drop i) :
    after ops V (Proc.devRef .tc y) = f (after ops V (Proc.devRef .tc x)) := by
  rw [at_op hW V i hop h, unary_result, at_end hW V i h1]

theorem read2 (hW : ops.map HloOp.writes = W.map fun w => {Proc.devRef (τ := τ) .tc w}) (V : Valuation τ sig Val)
    (i : ℕ) {a b y : Ref sig .tc} {f : a.ty.Contents Val → b.ty.Contents Val → y.ty.Contents Val} {ha hb hy}
    (hop : ops[i]? = some (binary a b y f ha hb hy)) (h : y ∉ W.drop (i + 1)) (h1 : a ∉ W.drop i) (h2 : b ∉ W.drop i) :
    after ops V (Proc.devRef .tc y) = f (after ops V (Proc.devRef .tc a)) (after ops V (Proc.devRef .tc b)) := by
  rw [at_op hW V i hop h, binary_result, at_end hW V i h1, at_end hW V i h2]

theorem read3 (hW : ops.map HloOp.writes = W.map fun w => {Proc.devRef (τ := τ) .tc w}) (V : Valuation τ sig Val)
    (i : ℕ) {p a b y : Ref sig .tc} {f : p.ty.Contents Val → a.ty.Contents Val → b.ty.Contents Val → y.ty.Contents Val} {hp ha hb hy}
    (hop : ops[i]? = some (ternary p a b y f hp ha hb hy)) (h : y ∉ W.drop (i + 1))
    (h1 : p ∉ W.drop i) (h2 : a ∉ W.drop i) (h3 : b ∉ W.drop i) :
    after ops V (Proc.devRef .tc y)
      = f (after ops V (Proc.devRef .tc p)) (after ops V (Proc.devRef .tc a)) (after ops V (Proc.devRef .tc b)) := by
  rw [at_op hW V i hop h, ternary_result, at_end hW V i h1, at_end hW V i h2, at_end hW V i h3]

theorem readS (hW : ops.map HloOp.writes = W.map fun w => {Proc.devRef (τ := τ) .tc w}) (V : Valuation τ sig Val)
    (i : ℕ) {x y : Ref sig .tc} {he hn hx hy}
    (hop : ops[i]? = some (reshape x y he hn hx hy)) (h : y ∉ W.drop (i + 1)) (h1 : x ∉ W.drop i) :
    after ops V (Proc.devRef .tc y) = fun j => he ▸ shapeCast y.ty.shape (after ops V (Proc.devRef .tc x)) hn j := by
  rw [at_op hW V i hop h, reshape_result, at_end hW V i h1]

theorem readN (hW : ops.map HloOp.writes = W.map fun w => {Proc.devRef (τ := τ) .tc w}) (V : Valuation τ sig Val)
    (i : ℕ) {n : ℕ} {xs : Fin n → Ref sig .tc} {y : Ref sig .tc} {f : ((k : Fin n) → (xs k).ty.Contents Val) → y.ty.Contents Val} {hxs hy}
    (hop : ops[i]? = some (nary xs y f hxs hy)) (h : y ∉ W.drop (i + 1)) (h1 : ∀ k, xs k ∉ W.drop i) :
    after ops V (Proc.devRef .tc y) = f fun k => after ops V (Proc.devRef .tc (xs k)) := by
  rw [at_op hW V i hop h, nary_result]
  exact congrArg f (funext fun k => at_end hW V i (h1 k))

end Reads

/-- The host's operations, in order. -/
abbrev hostLine : List (HloOp τ sig (Elt Ideal)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]

/-- The buffer that each of them writes. -/
abbrev wrote : List (Ref sig .tc) :=
  [main_v0, main_v1, main_cst, main_v2, main_v3, main_cst_0, main_v4, main_v5, main_v6, main_v7, main_v8, main_v9, main_v10, main_call0_cst, main_call0_v0, main_call0_v1, main_call0_v2, main_call0_v3, main_call0_v4, main_call0_v5, main_call0_v6, main_call0_v7, main_call0_v8, main_call0_v9, main_call0_v10, main_call0_v11, main_v11, main_v12, main_v13, main_v14, main_v15, main_v16, main_v17, main_v18, main_v19, main_v20, main_v21, main_v22, main_v23, main_v24, main_v25, main_v26, main_v27, main_v28, main_v29, main_v30, main_call1_call0_cst, main_call1_call0_v0, main_v31, main_c, main_v32, main_call2_v0, main_call2_c, main_call2_v1, main_call2_v2, main_call2_v3, main_call2_v4, main_call2_c_0, main_call2_v5, main_v33, main_c_1, main_v34, main_call3_v0, main_call3_c, main_call3_v1, main_call3_v2, main_call3_v3, main_call3_v4, main_call3_c_0, main_call3_v5, main_v35, main_v36, main_v37, main_v38, main_v39, main_v40, main_cst_2, main_call4_v0, main_call4_v1, main_call4_v2, main_v41, main_v42, main_cst_3, main_call5_v0, main_call5_v1, main_call5_v2, main_v43, main_v44, main_v45, main_cst_4, main_call6_v0, main_call6_v1, main_call6_v2, main_v46, main_v47, main_v48, main_v49, main_v50, main_v51, main_v52, main_v53, main_v54, main_c_5, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_cst_6, main_call7_v0, main_call7_v1, main_call7_v2, main_v82, main_v83, main_v84, main_v85, main_v86, main_v87, main_v88, main_cst_7, main_v89, main_v90, main_v91, main_v92, main_v93, main_v94, main_c_8, main_call8_v0, main_v95, main_v96, main_v97, main_v98, main_c_9, main_v99, main_v100, main_v101, main_v102, main_v103, main_v104, main_v105, main_v106, main_v107, main_v108, main_v109, main_v110, main_v111, main_v112, main_v113, main_v114, main_v115, main_v116, main_v117, main_v118, main_v119, main_v120, main_cst_10, main_v121, main_v122, main_v123, main_c_11, main_call9_v0, main_v124, main_cst_12, main_v125, main_v126, main_v127, main_c_13, main_call10_v0, main_v128]

theorem line_wrote : hostLine.map HloOp.writes = wrote.map fun w => {Proc.devRef (τ := τ) .tc w} := rfl

theorem wrote_nodup : wrote.Nodup := by decide +kernel

theorem wrote_idx : ∀ r ∈ wrote, 9 ≤ r.idx.val := by decide +kernel

theorem arg0_not : main_arg0 ∉ wrote := fun h => absurd (wrote_idx _ h) (by decide)
theorem arg1_not : main_arg1 ∉ wrote := fun h => absurd (wrote_idx _ h) (by decide)
theorem arg2_not : main_arg2 ∉ wrote := fun h => absurd (wrote_idx _ h) (by decide)
theorem arg3_not : main_arg3 ∉ wrote := fun h => absurd (wrote_idx _ h) (by decide)
theorem arg4_not : main_arg4 ∉ wrote := fun h => absurd (wrote_idx _ h) (by decide)
theorem arg5_not : main_arg5 ∉ wrote := fun h => absurd (wrote_idx _ h) (by decide)
theorem arg6_not : main_arg6 ∉ wrote := fun h => absurd (wrote_idx _ h) (by decide)
theorem arg7_not : main_arg7 ∉ wrote := fun h => absurd (wrote_idx _ h) (by decide)
theorem arg8_not : main_arg8 ∉ wrote := fun h => absurd (wrote_idx _ h) (by decide)
variable (m : (ℓ : Loc nD τ sig) → Buf (Elt Ideal) ℓ) (c : Dev nD)

def k_arg0 : FVec Ideal S4096x1024 .f32 := V m c main_arg0
theorem k_arg0_eq : k_arg0 m c = m ((c.tc : Thread nD τ).loc main_arg0) := V_main_arg0 m c
def k_arg1 : FVec Ideal S4096x1024 .f32 := V m c main_arg1
theorem k_arg1_eq : k_arg1 m c = m ((c.tc : Thread nD τ).loc main_arg1) := V_main_arg1 m c
def k_arg2 : FVec Ideal S4096x1024 .f32 := V m c main_arg2
theorem k_arg2_eq : k_arg2 m c = m ((c.tc : Thread nD τ).loc main_arg2) := V_main_arg2 m c
def k_arg3 : FVec Ideal S4096x8 .f32 := V m c main_arg3
theorem k_arg3_eq : k_arg3 m c = m ((c.tc : Thread nD τ).loc main_arg3) := V_main_arg3 m c
def k_arg4 : FVec Ideal S4096x8 .f32 := V m c main_arg4
theorem k_arg4_eq : k_arg4 m c = m ((c.tc : Thread nD τ).loc main_arg4) := V_main_arg4 m c
def k_arg5 : FVec Ideal S8 .f32 := V m c main_arg5
theorem k_arg5_eq : k_arg5 m c = m ((c.tc : Thread nD τ).loc main_arg5) := V_main_arg5 m c
def k_arg6 : FVec Ideal S8 .f32 := V m c main_arg6
theorem k_arg6_eq : k_arg6 m c = m ((c.tc : Thread nD τ).loc main_arg6) := V_main_arg6 m c
def k_arg7 : FVec Ideal S64x8x128x128 .f32 := V m c main_arg7
theorem k_arg7_eq : k_arg7 m c = m ((c.tc : Thread nD τ).loc main_arg7) := V_main_arg7 m c
def k_arg8 : FVec Ideal S4096x1024 .f32 := V m c main_arg8
theorem k_arg8_eq : k_arg8 m c = m ((c.tc : Thread nD τ).loc main_arg8) := V_main_arg8 m c
def k_v0 : FVec Ideal S4096x8 .f32 := V m c main_v0
theorem k_v0_eq : k_v0 m c = Host.negf (k_arg3 m c) := by
  have e := read1 line_wrote (fun b => m (c, b)) 0 rfl  (not_later wrote_nodup (j := 0) rfl (by decide)) (not_any arg3_not)
  exact e
def k_v1 : FVec Ideal S4096x8 .f32 := V m c main_v1
theorem k_v1_eq : k_v1 m c = Host.exp (k_v0 m c) := by
  have e := read1 line_wrote (fun b => m (c, b)) 1 rfl  (not_later wrote_nodup (j := 1) rfl (by decide)) (not_later wrote_nodup (j := 0) rfl (by decide))
  exact e
def k_cst : FVec Ideal S_ .f32 := V m c main_cst
theorem k_cst_eq : k_cst m c = constant S_ .f32 0x3F800000#32 := by
  have e := read0 line_wrote (fun b => m (c, b)) 2 rfl  (not_later wrote_nodup (j := 2) rfl (by decide))
  exact e
def k_v2 : FVec Ideal S4096x8 .f32 := V m c main_v2
theorem k_v2_eq : k_v2 m c = broadcastInDim S4096x8 ![] bcast_S_S4096x8 (k_cst m c) := by
  have e := read1 line_wrote (fun b => m (c, b)) 3 rfl  (not_later wrote_nodup (j := 3) rfl (by decide)) (not_later wrote_nodup (j := 2) rfl (by decide))
  exact e
def k_v3 : FVec Ideal S4096x8 .f32 := V m c main_v3
theorem k_v3_eq : k_v3 m c = addf (k_v2 m c) (k_v1 m c) := by
  have e := read2 line_wrote (fun b => m (c, b)) 4 rfl  (not_later wrote_nodup (j := 4) rfl (by decide)) (not_later wrote_nodup (j := 3) rfl (by decide)) (not_later wrote_nodup (j := 1) rfl (by decide))
  exact e
def k_cst_0 : FVec Ideal S_ .f32 := V m c main_cst_0
theorem k_cst_0_eq : k_cst_0 m c = constant S_ .f32 0x3F800000#32 := by
  have e := read0 line_wrote (fun b => m (c, b)) 5 rfl  (not_later wrote_nodup (j := 5) rfl (by decide))
  exact e
def k_v4 : FVec Ideal S4096x8 .f32 := V m c main_v4
theorem k_v4_eq : k_v4 m c = broadcastInDim S4096x8 ![] bcast_S_S4096x8 (k_cst_0 m c) := by
  have e := read1 line_wrote (fun b => m (c, b)) 6 rfl  (not_later wrote_nodup (j := 6) rfl (by decide)) (not_later wrote_nodup (j := 5) rfl (by decide))
  exact e
def k_v5 : FVec Ideal S4096x8 .f32 := V m c main_v5
theorem k_v5_eq : k_v5 m c = Host.divf (k_v4 m c) (k_v3 m c) := by
  have e := read2 line_wrote (fun b => m (c, b)) 7 rfl  (not_later wrote_nodup (j := 7) rfl (by decide)) (not_later wrote_nodup (j := 6) rfl (by decide)) (not_later wrote_nodup (j := 4) rfl (by decide))
  exact e
def k_v6 : FVec Ideal S8 .f32 := V m c main_v6
theorem k_v6_eq : k_v6 m c = Host.exp (k_arg5 m c) := by
  have e := read1 line_wrote (fun b => m (c, b)) 8 rfl  (not_later wrote_nodup (j := 8) rfl (by decide)) (not_any arg5_not)
  exact e
def k_v7 : FVec Ideal S8 .f32 := V m c main_v7
theorem k_v7_eq : k_v7 m c = Host.negf (k_v6 m c) := by
  have e := read1 line_wrote (fun b => m (c, b)) 9 rfl  (not_later wrote_nodup (j := 9) rfl (by decide)) (not_later wrote_nodup (j := 8) rfl (by decide))
  exact e
def k_v8 : FVec Ideal S1x8 .f32 := V m c main_v8
theorem k_v8_eq : k_v8 m c = broadcastInDim S1x8 ![1] bcast_S8_S1x8_1 (k_arg6 m c) := by
  have e := read1 line_wrote (fun b => m (c, b)) 10 rfl  (not_later wrote_nodup (j := 10) rfl (by decide)) (not_any arg6_not)
  exact e
def k_v9 : FVec Ideal S4096x8 .f32 := V m c main_v9
theorem k_v9_eq : k_v9 m c = broadcastInDim S4096x8 ![0, 1] bcast_S1x8_S4096x8_0_1 (k_v8 m c) := by
  have e := read1 line_wrote (fun b => m (c, b)) 11 rfl  (not_later wrote_nodup (j := 11) rfl (by decide)) (not_later wrote_nodup (j := 10) rfl (by decide))
  exact e
def k_v10 : FVec Ideal S4096x8 .f32 := V m c main_v10
theorem k_v10_eq : k_v10 m c = addf (k_arg4 m c) (k_v9 m c) := by
  have e := read2 line_wrote (fun b => m (c, b)) 12 rfl  (not_later wrote_nodup (j := 12) rfl (by decide)) (not_any arg4_not) (not_later wrote_nodup (j := 11) rfl (by decide))
  exact e
def k_call0_cst : FVec Ideal S_ .f32 := V m c main_call0_cst
theorem k_call0_cst_eq : k_call0_cst m c = constant S_ .f32 0x00000000#32 := by
  have e := read0 line_wrote (fun b => m (c, b)) 13 rfl  (not_later wrote_nodup (j := 13) rfl (by decide))
  exact e
def k_call0_v0 : FVec Ideal S4096x8 .f32 := V m c main_call0_v0
theorem k_call0_v0_eq : k_call0_v0 m c = broadcastInDim S4096x8 ![] bcast_S_S4096x8 (k_call0_cst m c) := by
  have e := read1 line_wrote (fun b => m (c, b)) 14 rfl  (not_later wrote_nodup (j := 14) rfl (by decide)) (not_later wrote_nodup (j := 13) rfl (by decide))
  exact e
def k_call0_v1 : FVec Ideal S4096x8 .f32 := V m c main_call0_v1
theorem k_call0_v1_eq : k_call0_v1 m c = maximumf (k_v10 m c) (k_call0_v0 m c) := by
  have e := read2 line_wrote (fun b => m (c, b)) 15 rfl  (not_later wrote_nodup (j := 15) rfl (by decide)) (not_later wrote_nodup (j := 12) rfl (by decide)) (not_later wrote_nodup (j := 14) rfl (by decide))
  exact e
def k_call0_v2 : FVec Ideal S4096x8 .f32 := V m c main_call0_v2
theorem k_call0_v2_eq : k_call0_v2 m c = broadcastInDim S4096x8 ![] bcast_S_S4096x8 (k_call0_cst m c) := by
  have e := read1 line_wrote (fun b => m (c, b)) 16 rfl  (not_later wrote_nodup (j := 16) rfl (by decide)) (not_later wrote_nodup (j := 13) rfl (by decide))
  exact e
def k_call0_v3 : FVec Ideal S4096x8 .f32 := V m c main_call0_v3
theorem k_call0_v3_eq : k_call0_v3 m c = subf (k_v10 m c) (k_call0_v2 m c) := by
  have e := read2 line_wrote (fun b => m (c, b)) 17 rfl  (not_later wrote_nodup (j := 17) rfl (by decide)) (not_later wrote_nodup (j := 12) rfl (by decide)) (not_later wrote_nodup (j := 16) rfl (by decide))
  exact e
def k_call0_v4 : IVec S4096x8 1 := V m c main_call0_v4
theorem k_call0_v4_eq : k_call0_v4 m c = cmpf .une (k_call0_v3 m c) (k_call0_v3 m c) := by
  have e := read2 line_wrote (fun b => m (c, b)) 18 rfl  (not_later wrote_nodup (j := 18) rfl (by decide)) (not_later wrote_nodup (j := 17) rfl (by decide)) (not_later wrote_nodup (j := 17) rfl (by decide))
  exact e
def k_call0_v5 : FVec Ideal S4096x8 .f32 := V m c main_call0_v5
theorem k_call0_v5_eq : k_call0_v5 m c = broadcastInDim S4096x8 ![] bcast_S_S4096x8 (k_call0_cst m c) := by
  have e := read1 line_wrote (fun b => m (c, b)) 19 rfl  (not_later wrote_nodup (j := 19) rfl (by decide)) (not_later wrote_nodup (j := 13) rfl (by decide))
  exact e
def k_call0_v6 : FVec Ideal S4096x8 .f32 := V m c main_call0_v6
theorem k_call0_v6_eq : k_call0_v6 m c = addf (k_v10 m c) (k_call0_v5 m c) := by
  have e := read2 line_wrote (fun b => m (c, b)) 20 rfl  (not_later wrote_nodup (j := 20) rfl (by decide)) (not_later wrote_nodup (j := 12) rfl (by decide)) (not_later wrote_nodup (j := 19) rfl (by decide))
  exact e
def k_call0_v7 : FVec Ideal S4096x8 .f32 := V m c main_call0_v7
theorem k_call0_v7_eq : k_call0_v7 m c = Host.absf (k_call0_v3 m c) := by
  have e := read1 line_wrote (fun b => m (c, b)) 21 rfl  (not_later wrote_nodup (j := 21) rfl (by decide)) (not_later wrote_nodup (j := 17) rfl (by decide))
  exact e
def k_call0_v8 : FVec Ideal S4096x8 .f32 := V m c main_call0_v8
theorem k_call0_v8_eq : k_call0_v8 m c = Host.negf (k_call0_v7 m c) := by
  have e := read1 line_wrote (fun b => m (c, b)) 22 rfl  (not_later wrote_nodup (j := 22) rfl (by decide)) (not_later wrote_nodup (j := 21) rfl (by decide))
  exact e
def k_call0_v9 : FVec Ideal S4096x8 .f32 := V m c main_call0_v9
theorem k_call0_v9_eq : k_call0_v9 m c = Host.exp (k_call0_v8 m c) := by
  have e := read1 line_wrote (fun b => m (c, b)) 23 rfl  (not_later wrote_nodup (j := 23) rfl (by decide)) (not_later wrote_nodup (j := 22) rfl (by decide))
  exact e
def k_call0_v10 : FVec Ideal S4096x8 .f32 := V m c main_call0_v10
theorem k_call0_v10_eq : k_call0_v10 m c = Host.log1p (k_call0_v9 m c) := by
  have e := read1 line_wrote (fun b => m (c, b)) 24 rfl  (not_later wrote_nodup (j := 24) rfl (by decide)) (not_later wrote_nodup (j := 23) rfl (by decide))
  exact e
def k_call0_v11 : FVec Ideal S4096x8 .f32 := V m c main_call0_v11
theorem k_call0_v11_eq : k_call0_v11 m c = addf (k_call0_v1 m c) (k_call0_v10 m c) := by
  have e := read2 line_wrote (fun b => m (c, b)) 25 rfl  (not_later wrote_nodup (j := 25) rfl (by decide)) (not_later wrote_nodup (j := 15) rfl (by decide)) (not_later wrote_nodup (j := 24) rfl (by decide))
  exact e
def k_v11 : FVec Ideal S4096x8 .f32 := V m c main_v11
theorem k_v11_eq : k_v11 m c = select (k_call0_v4 m c) (k_call0_v6 m c) (k_call0_v11 m c) := by
  have e := read3 line_wrote (fun b => m (c, b)) 26 rfl  (not_later wrote_nodup (j := 26) rfl (by decide)) (not_later wrote_nodup (j := 18) rfl (by decide)) (not_later wrote_nodup (j := 20) rfl (by decide)) (not_later wrote_nodup (j := 25) rfl (by decide))
  refine e.trans ?_
  sl_kernel_rfl
def k_v12 : FVec Ideal S1x8 .f32 := V m c main_v12
theorem k_v12_eq : k_v12 m c = broadcastInDim S1x8 ![1] bcast_S8_S1x8_1 (k_v7 m c) := by
  have e := read1 line_wrote (fun b => m (c, b)) 27 rfl  (not_later wrote_nodup (j := 27) rfl (by decide)) (not_later wrote_nodup (j := 9) rfl (by decide))
  exact e
def k_v13 : FVec Ideal S4096x8 .f32 := V m c main_v13
theorem k_v13_eq : k_v13 m c = broadcastInDim S4096x8 ![0, 1] bcast_S1x8_S4096x8_0_1 (k_v12 m c) := by
  have e := read1 line_wrote (fun b => m (c, b)) 28 rfl  (not_later wrote_nodup (j := 28) rfl (by decide)) (not_later wrote_nodup (j := 27) rfl (by decide))
  exact e
def k_v14 : FVec Ideal S4096x8 .f32 := V m c main_v14
theorem k_v14_eq : k_v14 m c = mulf (k_v13 m c) (k_v11 m c) := by
  have e := read2 line_wrote (fun b => m (c, b)) 29 rfl  (not_later wrote_nodup (j := 29) rfl (by decide)) (not_later wrote_nodup (j := 28) rfl (by decide)) (not_later wrote_nodup (j := 26) rfl (by decide))
  exact e
def k_v15 : FVec Ideal S64x64x8x128 .f32 := V m c main_v15
theorem k_v15_eq : k_v15 m c = shapeCast S64x64x8x128 (k_arg0 m c) shapeCasts_S4096x1024_S64x64x8x128 := by
  have e := readS line_wrote (fun b => m (c, b)) 30 rfl  (not_later wrote_nodup (j := 30) rfl (by decide)) (not_any arg0_not)
  exact e
def k_v16 : FVec Ideal S64x8x64x128 .f32 := V m c main_v16
theorem k_v16_eq : k_v16 m c = transpose S64x8x64x128 [0, 2, 1, 3] (k_v15 m c) transposes_S64x64x8x128_S64x8x64x128_0_2_1_3 := by
  have e := read1 line_wrote (fun b => m (c, b)) 31 rfl  (not_later wrote_nodup (j := 31) rfl (by decide)) (not_later wrote_nodup (j := 30) rfl (by decide))
  exact e
def k_v17 : FVec Ideal S64x64x8x128 .f32 := V m c main_v17
theorem k_v17_eq : k_v17 m c = shapeCast S64x64x8x128 (k_arg1 m c) shapeCasts_S4096x1024_S64x64x8x128 := by
  have e := readS line_wrote (fun b => m (c, b)) 32 rfl  (not_later wrote_nodup (j := 32) rfl (by decide)) (not_any arg1_not)
  exact e
def k_v18 : FVec Ideal S64x8x64x128 .f32 := V m c main_v18
theorem k_v18_eq : k_v18 m c = transpose S64x8x64x128 [0, 2, 1, 3] (k_v17 m c) transposes_S64x64x8x128_S64x8x64x128_0_2_1_3 := by
  have e := read1 line_wrote (fun b => m (c, b)) 33 rfl  (not_later wrote_nodup (j := 33) rfl (by decide)) (not_later wrote_nodup (j := 32) rfl (by decide))
  exact e
def k_v19 : FVec Ideal S64x64x8x128 .f32 := V m c main_v19
theorem k_v19_eq : k_v19 m c = shapeCast S64x64x8x128 (k_arg2 m c) shapeCasts_S4096x1024_S64x64x8x128 := by
  have e := readS line_wrote (fun b => m (c, b)) 34 rfl  (not_later wrote_nodup (j := 34) rfl (by decide)) (not_any arg2_not)
  exact e
def k_v20 : FVec Ideal S64x8x64x128 .f32 := V m c main_v20
theorem k_v20_eq : k_v20 m c = transpose S64x8x64x128 [0, 2, 1, 3] (k_v19 m c) transposes_S64x64x8x128_S64x8x64x128_0_2_1_3 := by
  have e := read1 line_wrote (fun b => m (c, b)) 35 rfl  (not_later wrote_nodup (j := 35) rfl (by decide)) (not_later wrote_nodup (j := 34) rfl (by decide))
  exact e
def k_v21 : FVec Ideal S64x64x8 .f32 := V m c main_v21
theorem k_v21_eq : k_v21 m c = shapeCast S64x64x8 (k_v5 m c) shapeCasts_S4096x8_S64x64x8 := by
  have e := readS line_wrote (fun b => m (c, b)) 36 rfl  (not_later wrote_nodup (j := 36) rfl (by decide)) (not_later wrote_nodup (j := 7) rfl (by decide))
  exact e
def k_v22 : FVec Ideal S64x8x64 .f32 := V m c main_v22
theorem k_v22_eq : k_v22 m c = transpose S64x8x64 [0, 2, 1] (k_v21 m c) transposes_S64x64x8_S64x8x64_0_2_1 := by
  have e := read1 line_wrote (fun b => m (c, b)) 37 rfl  (not_later wrote_nodup (j := 37) rfl (by decide)) (not_later wrote_nodup (j := 36) rfl (by decide))
  exact e
def k_v23 : FVec Ideal S64x64x8 .f32 := V m c main_v23
theorem k_v23_eq : k_v23 m c = shapeCast S64x64x8 (k_v14 m c) shapeCasts_S4096x8_S64x64x8 := by
  have e := readS line_wrote (fun b => m (c, b)) 38 rfl  (not_later wrote_nodup (j := 38) rfl (by decide)) (not_later wrote_nodup (j := 29) rfl (by decide))
  exact e
def k_v24 : FVec Ideal S64x8x64 .f32 := V m c main_v24
theorem k_v24_eq : k_v24 m c = transpose S64x8x64 [0, 2, 1] (k_v23 m c) transposes_S64x64x8_S64x8x64_0_2_1 := by
  have e := read1 line_wrote (fun b => m (c, b)) 39 rfl  (not_later wrote_nodup (j := 39) rfl (by decide)) (not_later wrote_nodup (j := 38) rfl (by decide))
  exact e
def k_v25 : FVec Ideal S64x8x64x1 .f32 := V m c main_v25
theorem k_v25_eq : k_v25 m c = broadcastInDim S64x8x64x1 ![0, 1, 2] bcast_S64x8x64_S64x8x64x1_0_1_2 (k_v22 m c) := by
  have e := read1 line_wrote (fun b => m (c, b)) 40 rfl  (not_later wrote_nodup (j := 40) rfl (by decide)) (not_later wrote_nodup (j := 37) rfl (by decide))
  exact e
def k_v26 : FVec Ideal S64x8x64x128 .f32 := V m c main_v26
theorem k_v26_eq : k_v26 m c = broadcastInDim S64x8x64x128 ![0, 1, 2, 3] bcast_S64x8x64x1_S64x8x64x128_0_1_2_3 (k_v25 m c) := by
  have e := read1 line_wrote (fun b => m (c, b)) 41 rfl  (not_later wrote_nodup (j := 41) rfl (by decide)) (not_later wrote_nodup (j := 40) rfl (by decide))
  exact e
def k_v27 : FVec Ideal S64x8x64x128 .f32 := V m c main_v27
theorem k_v27_eq : k_v27 m c = mulf (k_v18 m c) (k_v26 m c) := by
  have e := read2 line_wrote (fun b => m (c, b)) 42 rfl  (not_later wrote_nodup (j := 42) rfl (by decide)) (not_later wrote_nodup (j := 33) rfl (by decide)) (not_later wrote_nodup (j := 41) rfl (by decide))
  exact e
def k_v28 : FVec Ideal S64x8x64x1 .f32 := V m c main_v28
theorem k_v28_eq : k_v28 m c = broadcastInDim S64x8x64x1 ![0, 1, 2] bcast_S64x8x64_S64x8x64x1_0_1_2 (k_v22 m c) := by
  have e := read1 line_wrote (fun b => m (c, b)) 43 rfl  (not_later wrote_nodup (j := 43) rfl (by decide)) (not_later wrote_nodup (j := 37) rfl (by decide))
  exact e
def k_v29 : FVec Ideal S64x8x64x128 .f32 := V m c main_v29
theorem k_v29_eq : k_v29 m c = broadcastInDim S64x8x64x128 ![0, 1, 2, 3] bcast_S64x8x64x1_S64x8x64x128_0_1_2_3 (k_v28 m c) := by
  have e := read1 line_wrote (fun b => m (c, b)) 44 rfl  (not_later wrote_nodup (j := 44) rfl (by decide)) (not_later wrote_nodup (j := 43) rfl (by decide))
  exact e
def k_v30 : FVec Ideal S64x8x64x128 .f32 := V m c main_v30
theorem k_v30_eq : k_v30 m c = mulf (k_v20 m c) (k_v29 m c) := by
  have e := read2 line_wrote (fun b => m (c, b)) 45 rfl  (not_later wrote_nodup (j := 45) rfl (by decide)) (not_later wrote_nodup (j := 35) rfl (by decide)) (not_later wrote_nodup (j := 44) rfl (by decide))
  exact e
def k_call1_call0_cst : FVec Ideal S_ .f32 := V m c main_call1_call0_cst
theorem k_call1_call0_cst_eq : k_call1_call0_cst m c = constant S_ .f32 0x00000000#32 := by
  have e := read0 line_wrote (fun b => m (c, b)) 46 rfl  (not_later wrote_nodup (j := 46) rfl (by decide))
  exact e
def k_call1_call0_v0 : FVec Ideal S_ .f32 := V m c main_call1_call0_v0
theorem k_call1_call0_v0_eq : k_call1_call0_v0 m c = broadcastInDim S_ ![] bcast_S_S_ (k_call1_call0_cst m c) := by
  have e := read1 line_wrote (fun b => m (c, b)) 47 rfl  (not_later wrote_nodup (j := 47) rfl (by decide)) (not_later wrote_nodup (j := 46) rfl (by decide))
  exact e
def k_v31 : FVec Ideal S64x8x64 .f32 := V m c main_v31
theorem k_v31_eq : k_v31 m c = Host.reduceWindowAdd ![1, 1, 64] ![1, 1, 1] ![0, 0, 63] ![0, 0, 0] (k_v24 m c) (k_call1_call0_v0 m c) reduceWindows_S64x8x64_S64x8x64_w1s1p0_0_w1s1p0_0_w64s1p63_0 h_S_ := by
  have e := read2 line_wrote (fun b => m (c, b)) 48 rfl  (not_later wrote_nodup (j := 48) rfl (by decide)) (not_later wrote_nodup (j := 39) rfl (by decide)) (not_later wrote_nodup (j := 47) rfl (by decide))
  exact e
def k_c : IVec S_ 1 := V m c main_c
theorem k_c_eq : k_c m c = constantI S_ 1 1#1 := by
  have e := read0 line_wrote (fun b => m (c, b)) 49 rfl  (not_later wrote_nodup (j := 49) rfl (by decide))
  exact e
def k_v32 : IVec S64x64 1 := V m c main_v32
theorem k_v32_eq : k_v32 m c = broadcastInDim S64x64 ![] bcast_S_S64x64 (k_c m c) := by
  have e := read1 line_wrote (fun b => m (c, b)) 50 rfl  (not_later wrote_nodup (j := 50) rfl (by decide)) (not_later wrote_nodup (j := 49) rfl (by decide))
  exact e
def k_call2_v0 : IVec S64x64 32 := V m c main_call2_v0
theorem k_call2_v0_eq : k_call2_v0 m c = iotaInDim S64x64 32 0 := by
  have e := read0 line_wrote (fun b => m (c, b)) 51 rfl  (not_later wrote_nodup (j := 51) rfl (by decide))
  exact e
def k_call2_c : IVec S_ 32 := V m c main_call2_c
theorem k_call2_c_eq : k_call2_c m c = constantI S_ 32 0#32 := by
  have e := read0 line_wrote (fun b => m (c, b)) 52 rfl  (not_later wrote_nodup (j := 52) rfl (by decide))
  exact e
def k_call2_v1 : IVec S64x64 32 := V m c main_call2_v1
theorem k_call2_v1_eq : k_call2_v1 m c = broadcastInDim S64x64 ![] bcast_S_S64x64 (k_call2_c m c) := by
  have e := read1 line_wrote (fun b => m (c, b)) 53 rfl  (not_later wrote_nodup (j := 53) rfl (by decide)) (not_later wrote_nodup (j := 52) rfl (by decide))
  exact e
def k_call2_v2 : IVec S64x64 32 := V m c main_call2_v2
theorem k_call2_v2_eq : k_call2_v2 m c = addi (k_call2_v0 m c) (k_call2_v1 m c) := by
  have e := read2 line_wrote (fun b => m (c, b)) 54 rfl  (not_later wrote_nodup (j := 54) rfl (by decide)) (not_later wrote_nodup (j := 51) rfl (by decide)) (not_later wrote_nodup (j := 53) rfl (by decide))
  exact e
def k_call2_v3 : IVec S64x64 32 := V m c main_call2_v3
theorem k_call2_v3_eq : k_call2_v3 m c = iotaInDim S64x64 32 1 := by
  have e := read0 line_wrote (fun b => m (c, b)) 55 rfl  (not_later wrote_nodup (j := 55) rfl (by decide))
  exact e
def k_call2_v4 : IVec S64x64 1 := V m c main_call2_v4
theorem k_call2_v4_eq : k_call2_v4 m c = cmpi .sge (k_call2_v2 m c) (k_call2_v3 m c) := by
  have e := read2 line_wrote (fun b => m (c, b)) 56 rfl  (not_later wrote_nodup (j := 56) rfl (by decide)) (not_later wrote_nodup (j := 54) rfl (by decide)) (not_later wrote_nodup (j := 55) rfl (by decide))
  refine e.trans ?_
  sl_kernel_rfl
def k_call2_c_0 : IVec S_ 1 := V m c main_call2_c_0
theorem k_call2_c_0_eq : k_call2_c_0 m c = constantI S_ 1 0#1 := by
  have e := read0 line_wrote (fun b => m (c, b)) 57 rfl  (not_later wrote_nodup (j := 57) rfl (by decide))
  exact e
def k_call2_v5 : IVec S64x64 1 := V m c main_call2_v5
theorem k_call2_v5_eq : k_call2_v5 m c = broadcastInDim S64x64 ![] bcast_S_S64x64 (k_call2_c_0 m c) := by
  have e := read1 line_wrote (fun b => m (c, b)) 58 rfl  (not_later wrote_nodup (j := 58) rfl (by decide)) (not_later wrote_nodup (j := 57) rfl (by decide))
  exact e
def k_v33 : IVec S64x64 1 := V m c main_v33
theorem k_v33_eq : k_v33 m c = select (k_call2_v4 m c) (k_v32 m c) (k_call2_v5 m c) := by
  have e := read3 line_wrote (fun b => m (c, b)) 59 rfl  (not_later wrote_nodup (j := 59) rfl (by decide)) (not_later wrote_nodup (j := 56) rfl (by decide)) (not_later wrote_nodup (j := 50) rfl (by decide)) (not_later wrote_nodup (j := 58) rfl (by decide))
  refine e.trans ?_
  sl_kernel_rfl
def k_c_1 : IVec S_ 1 := V m c main_c_1
theorem k_c_1_eq : k_c_1 m c = constantI S_ 1 1#1 := by
  have e := read0 line_wrote (fun b => m (c, b)) 60 rfl  (not_later wrote_nodup (j := 60) rfl (by decide))
  exact e
def k_v34 : IVec S64x64 1 := V m c main_v34
theorem k_v34_eq : k_v34 m c = broadcastInDim S64x64 ![] bcast_S_S64x64 (k_c_1 m c) := by
  have e := read1 line_wrote (fun b => m (c, b)) 61 rfl  (not_later wrote_nodup (j := 61) rfl (by decide)) (not_later wrote_nodup (j := 60) rfl (by decide))
  exact e
def k_call3_v0 : IVec S64x64 32 := V m c main_call3_v0
theorem k_call3_v0_eq : k_call3_v0 m c = iotaInDim S64x64 32 0 := by
  have e := read0 line_wrote (fun b => m (c, b)) 62 rfl  (not_later wrote_nodup (j := 62) rfl (by decide))
  exact e
def k_call3_c : IVec S_ 32 := V m c main_call3_c
theorem k_call3_c_eq : k_call3_c m c = constantI S_ 32 4294967295#32 := by
  have e := read0 line_wrote (fun b => m (c, b)) 63 rfl  (not_later wrote_nodup (j := 63) rfl (by decide))
  exact e
def k_call3_v1 : IVec S64x64 32 := V m c main_call3_v1
theorem k_call3_v1_eq : k_call3_v1 m c = broadcastInDim S64x64 ![] bcast_S_S64x64 (k_call3_c m c) := by
  have e := read1 line_wrote (fun b => m (c, b)) 64 rfl  (not_later wrote_nodup (j := 64) rfl (by decide)) (not_later wrote_nodup (j := 63) rfl (by decide))
  exact e
def k_call3_v2 : IVec S64x64 32 := V m c main_call3_v2
theorem k_call3_v2_eq : k_call3_v2 m c = addi (k_call3_v0 m c) (k_call3_v1 m c) := by
  have e := read2 line_wrote (fun b => m (c, b)) 65 rfl  (not_later wrote_nodup (j := 65) rfl (by decide)) (not_later wrote_nodup (j := 62) rfl (by decide)) (not_later wrote_nodup (j := 64) rfl (by decide))
  exact e
def k_call3_v3 : IVec S64x64 32 := V m c main_call3_v3
theorem k_call3_v3_eq : k_call3_v3 m c = iotaInDim S64x64 32 1 := by
  have e := read0 line_wrote (fun b => m (c, b)) 66 rfl  (not_later wrote_nodup (j := 66) rfl (by decide))
  exact e
def k_call3_v4 : IVec S64x64 1 := V m c main_call3_v4
theorem k_call3_v4_eq : k_call3_v4 m c = cmpi .sge (k_call3_v2 m c) (k_call3_v3 m c) := by
  have e := read2 line_wrote (fun b => m (c, b)) 67 rfl  (not_later wrote_nodup (j := 67) rfl (by decide)) (not_later wrote_nodup (j := 65) rfl (by decide)) (not_later wrote_nodup (j := 66) rfl (by decide))
  refine e.trans ?_
  sl_kernel_rfl
def k_call3_c_0 : IVec S_ 1 := V m c main_call3_c_0
theorem k_call3_c_0_eq : k_call3_c_0 m c = constantI S_ 1 0#1 := by
  have e := read0 line_wrote (fun b => m (c, b)) 68 rfl  (not_later wrote_nodup (j := 68) rfl (by decide))
  exact e
def k_call3_v5 : IVec S64x64 1 := V m c main_call3_v5
theorem k_call3_v5_eq : k_call3_v5 m c = broadcastInDim S64x64 ![] bcast_S_S64x64 (k_call3_c_0 m c) := by
  have e := read1 line_wrote (fun b => m (c, b)) 69 rfl  (not_later wrote_nodup (j := 69) rfl (by decide)) (not_later wrote_nodup (j := 68) rfl (by decide))
  exact e
def k_v35 : IVec S64x64 1 := V m c main_v35
theorem k_v35_eq : k_v35 m c = select (k_call3_v4 m c) (k_v34 m c) (k_call3_v5 m c) := by
  have e := read3 line_wrote (fun b => m (c, b)) 70 rfl  (not_later wrote_nodup (j := 70) rfl (by decide)) (not_later wrote_nodup (j := 67) rfl (by decide)) (not_later wrote_nodup (j := 61) rfl (by decide)) (not_later wrote_nodup (j := 69) rfl (by decide))
  refine e.trans ?_
  sl_kernel_rfl
def k_v36 : FVec Ideal S64x8x64x1 .f32 := V m c main_v36
theorem k_v36_eq : k_v36 m c = broadcastInDim S64x8x64x1 ![0, 1, 2] bcast_S64x8x64_S64x8x64x1_0_1_2 (k_v31 m c) := by
  have e := read1 line_wrote (fun b => m (c, b)) 71 rfl  (not_later wrote_nodup (j := 71) rfl (by decide)) (not_later wrote_nodup (j := 48) rfl (by decide))
  exact e
def k_v37 : FVec Ideal S64x8x1x64 .f32 := V m c main_v37
theorem k_v37_eq : k_v37 m c = broadcastInDim S64x8x1x64 ![0, 1, 3] bcast_S64x8x64_S64x8x1x64_0_1_3 (k_v31 m c) := by
  have e := read1 line_wrote (fun b => m (c, b)) 72 rfl  (not_later wrote_nodup (j := 72) rfl (by decide)) (not_later wrote_nodup (j := 48) rfl (by decide))
  exact e
def k_v38 : FVec Ideal S64x8x64x64 .f32 := V m c main_v38
theorem k_v38_eq : k_v38 m c = broadcastInDim S64x8x64x64 ![0, 1, 2, 3] bcast_S64x8x64x1_S64x8x64x64_0_1_2_3 (k_v36 m c) := by
  have e := read1 line_wrote (fun b => m (c, b)) 73 rfl  (not_later wrote_nodup (j := 73) rfl (by decide)) (not_later wrote_nodup (j := 71) rfl (by decide))
  exact e
def k_v39 : FVec Ideal S64x8x64x64 .f32 := V m c main_v39
theorem k_v39_eq : k_v39 m c = broadcastInDim S64x8x64x64 ![0, 1, 2, 3] bcast_S64x8x1x64_S64x8x64x64_0_1_2_3 (k_v37 m c) := by
  have e := read1 line_wrote (fun b => m (c, b)) 74 rfl  (not_later wrote_nodup (j := 74) rfl (by decide)) (not_later wrote_nodup (j := 72) rfl (by decide))
  exact e
def k_v40 : FVec Ideal S64x8x64x64 .f32 := V m c main_v40
theorem k_v40_eq : k_v40 m c = subf (k_v38 m c) (k_v39 m c) := by
  have e := read2 line_wrote (fun b => m (c, b)) 75 rfl  (not_later wrote_nodup (j := 75) rfl (by decide)) (not_later wrote_nodup (j := 73) rfl (by decide)) (not_later wrote_nodup (j := 74) rfl (by decide))
  exact e
def k_cst_2 : FVec Ideal S_ .f32 := V m c main_cst_2
theorem k_cst_2_eq : k_cst_2 m c = constant S_ .f32 0x00000000#32 := by
  have e := read0 line_wrote (fun b => m (c, b)) 76 rfl  (not_later wrote_nodup (j := 76) rfl (by decide))
  exact e
def k_call4_v0 : FVec Ideal S_ .f32 := V m c main_call4_v0
theorem k_call4_v0_eq : k_call4_v0 m c = (k_cst_2 m c) := by
  have e := read1 line_wrote (fun b => m (c, b)) 77 rfl  (not_later wrote_nodup (j := 77) rfl (by decide)) (not_later wrote_nodup (j := 76) rfl (by decide))
  exact e
def k_call4_v1 : IVec S64x8x64x64 1 := V m c main_call4_v1
theorem k_call4_v1_eq : k_call4_v1 m c = broadcastInDim S64x8x64x64 ![2, 3] bcast_S64x64_S64x8x64x64_2_3 (k_v33 m c) := by
  have e := read1 line_wrote (fun b => m (c, b)) 78 rfl  (not_later wrote_nodup (j := 78) rfl (by decide)) (not_later wrote_nodup (j := 59) rfl (by decide))
  exact e
def k_call4_v2 : FVec Ideal S64x8x64x64 .f32 := V m c main_call4_v2
theorem k_call4_v2_eq : k_call4_v2 m c = broadcastInDim S64x8x64x64 ![] bcast_S_S64x8x64x64 (k_call4_v0 m c) := by
  have e := read1 line_wrote (fun b => m (c, b)) 79 rfl  (not_later wrote_nodup (j := 79) rfl (by decide)) (not_later wrote_nodup (j := 77) rfl (by decide))
  exact e
def k_v41 : FVec Ideal S64x8x64x64 .f32 := V m c main_v41
theorem k_v41_eq : k_v41 m c = select (k_call4_v1 m c) (k_v40 m c) (k_call4_v2 m c) := by
  have e := read3 line_wrote (fun b => m (c, b)) 80 rfl  (not_later wrote_nodup (j := 80) rfl (by decide)) (not_later wrote_nodup (j := 78) rfl (by decide)) (not_later wrote_nodup (j := 75) rfl (by decide)) (not_later wrote_nodup (j := 79) rfl (by decide))
  refine e.trans ?_
  sl_kernel_rfl
def k_v42 : FVec Ideal S64x8x64x64 .f32 := V m c main_v42
theorem k_v42_eq : k_v42 m c = Host.exp (k_v41 m c) := by
  have e := read1 line_wrote (fun b => m (c, b)) 81 rfl  (not_later wrote_nodup (j := 81) rfl (by decide)) (not_later wrote_nodup (j := 80) rfl (by decide))
  exact e
def k_cst_3 : FVec Ideal S_ .f32 := V m c main_cst_3
theorem k_cst_3_eq : k_cst_3 m c = constant S_ .f32 0x00000000#32 := by
  have e := read0 line_wrote (fun b => m (c, b)) 82 rfl  (not_later wrote_nodup (j := 82) rfl (by decide))
  exact e
def k_call5_v0 : FVec Ideal S_ .f32 := V m c main_call5_v0
theorem k_call5_v0_eq : k_call5_v0 m c = (k_cst_3 m c) := by
  have e := read1 line_wrote (fun b => m (c, b)) 83 rfl  (not_later wrote_nodup (j := 83) rfl (by decide)) (not_later wrote_nodup (j := 82) rfl (by decide))
  exact e
def k_call5_v1 : IVec S64x8x64x64 1 := V m c main_call5_v1
theorem k_call5_v1_eq : k_call5_v1 m c = broadcastInDim S64x8x64x64 ![2, 3] bcast_S64x64_S64x8x64x64_2_3 (k_v33 m c) := by
  have e := read1 line_wrote (fun b => m (c, b)) 84 rfl  (not_later wrote_nodup (j := 84) rfl (by decide)) (not_later wrote_nodup (j := 59) rfl (by decide))
  exact e
def k_call5_v2 : FVec Ideal S64x8x64x64 .f32 := V m c main_call5_v2
theorem k_call5_v2_eq : k_call5_v2 m c = broadcastInDim S64x8x64x64 ![] bcast_S_S64x8x64x64 (k_call5_v0 m c) := by
  have e := read1 line_wrote (fun b => m (c, b)) 85 rfl  (not_later wrote_nodup (j := 85) rfl (by decide)) (not_later wrote_nodup (j := 83) rfl (by decide))
  exact e
def k_v43 : FVec Ideal S64x8x64x64 .f32 := V m c main_v43
theorem k_v43_eq : k_v43 m c = select (k_call5_v1 m c) (k_v42 m c) (k_call5_v2 m c) := by
  have e := read3 line_wrote (fun b => m (c, b)) 86 rfl  (not_later wrote_nodup (j := 86) rfl (by decide)) (not_later wrote_nodup (j := 84) rfl (by decide)) (not_later wrote_nodup (j := 81) rfl (by decide)) (not_later wrote_nodup (j := 85) rfl (by decide))
  refine e.trans ?_
  sl_kernel_rfl
def k_v44 : FVec Ideal S64x8x64x64 .f32 := V m c main_v44
theorem k_v44_eq : k_v44 m c = Host.dotGeneral dot_S64x8x64x128_S64x8x64x128_S64x8x64x64_3_3_2_2_01_01 none (k_v27 m c) (k_v18 m c) := by
  have e := read2 line_wrote (fun b => m (c, b)) 87 rfl  (not_later wrote_nodup (j := 87) rfl (by decide)) (not_later wrote_nodup (j := 42) rfl (by decide)) (not_later wrote_nodup (j := 33) rfl (by decide))
  exact e
def k_v45 : FVec Ideal S64x8x64x64 .f32 := V m c main_v45
theorem k_v45_eq : k_v45 m c = mulf (k_v44 m c) (k_v43 m c) := by
  have e := read2 line_wrote (fun b => m (c, b)) 88 rfl  (not_later wrote_nodup (j := 88) rfl (by decide)) (not_later wrote_nodup (j := 87) rfl (by decide)) (not_later wrote_nodup (j := 86) rfl (by decide))
  exact e
def k_cst_4 : FVec Ideal S_ .f32 := V m c main_cst_4
theorem k_cst_4_eq : k_cst_4 m c = constant S_ .f32 0x00000000#32 := by
  have e := read0 line_wrote (fun b => m (c, b)) 89 rfl  (not_later wrote_nodup (j := 89) rfl (by decide))
  exact e
def k_call6_v0 : FVec Ideal S_ .f32 := V m c main_call6_v0
theorem k_call6_v0_eq : k_call6_v0 m c = (k_cst_4 m c) := by
  have e := read1 line_wrote (fun b => m (c, b)) 90 rfl  (not_later wrote_nodup (j := 90) rfl (by decide)) (not_later wrote_nodup (j := 89) rfl (by decide))
  exact e
def k_call6_v1 : IVec S64x8x64x64 1 := V m c main_call6_v1
theorem k_call6_v1_eq : k_call6_v1 m c = broadcastInDim S64x8x64x64 ![2, 3] bcast_S64x64_S64x8x64x64_2_3 (k_v35 m c) := by
  have e := read1 line_wrote (fun b => m (c, b)) 91 rfl  (not_later wrote_nodup (j := 91) rfl (by decide)) (not_later wrote_nodup (j := 70) rfl (by decide))
  exact e
def k_call6_v2 : FVec Ideal S64x8x64x64 .f32 := V m c main_call6_v2
theorem k_call6_v2_eq : k_call6_v2 m c = broadcastInDim S64x8x64x64 ![] bcast_S_S64x8x64x64 (k_call6_v0 m c) := by
  have e := read1 line_wrote (fun b => m (c, b)) 92 rfl  (not_later wrote_nodup (j := 92) rfl (by decide)) (not_later wrote_nodup (j := 90) rfl (by decide))
  exact e
def k_v46 : FVec Ideal S64x8x64x64 .f32 := V m c main_v46
theorem k_v46_eq : k_v46 m c = select (k_call6_v1 m c) (k_v45 m c) (k_call6_v2 m c) := by
  have e := read3 line_wrote (fun b => m (c, b)) 93 rfl  (not_later wrote_nodup (j := 93) rfl (by decide)) (not_later wrote_nodup (j := 91) rfl (by decide)) (not_later wrote_nodup (j := 88) rfl (by decide)) (not_later wrote_nodup (j := 92) rfl (by decide))
  refine e.trans ?_
  sl_kernel_rfl
def k_v47 : FVec Ideal S64x8x64 .f32 := V m c main_v47
theorem k_v47_eq : k_v47 m c = Host.exp (k_v31 m c) := by
  have e := read1 line_wrote (fun b => m (c, b)) 94 rfl  (not_later wrote_nodup (j := 94) rfl (by decide)) (not_later wrote_nodup (j := 48) rfl (by decide))
  exact e
def k_v48 : FVec Ideal S64x8x64x1 .f32 := V m c main_v48
theorem k_v48_eq : k_v48 m c = broadcastInDim S64x8x64x1 ![0, 1, 2] bcast_S64x8x64_S64x8x64x1_0_1_2 (k_v47 m c) := by
  have e := read1 line_wrote (fun b => m (c, b)) 95 rfl  (not_later wrote_nodup (j := 95) rfl (by decide)) (not_later wrote_nodup (j := 94) rfl (by decide))
  exact e
def k_v49 : FVec Ideal S64x8x64x128 .f32 := V m c main_v49
theorem k_v49_eq : k_v49 m c = broadcastInDim S64x8x64x128 ![0, 1, 2, 3] bcast_S64x8x64x1_S64x8x64x128_0_1_2_3 (k_v48 m c) := by
  have e := read1 line_wrote (fun b => m (c, b)) 96 rfl  (not_later wrote_nodup (j := 96) rfl (by decide)) (not_later wrote_nodup (j := 95) rfl (by decide))
  exact e
def k_v50 : FVec Ideal S64x8x64x128 .f32 := V m c main_v50
theorem k_v50_eq : k_v50 m c = mulf (k_v27 m c) (k_v49 m c) := by
  have e := read2 line_wrote (fun b => m (c, b)) 97 rfl  (not_later wrote_nodup (j := 97) rfl (by decide)) (not_later wrote_nodup (j := 42) rfl (by decide)) (not_later wrote_nodup (j := 96) rfl (by decide))
  exact e
def k_v51 : FVec Ideal S64x8x64x256 .f32 := V m c main_v51
theorem k_v51_eq : k_v51 m c = concatenate S64x8x64x256 3 [⟨S64x8x64x128, (k_v30 m c)⟩, ⟨S64x8x64x128, (k_v50 m c)⟩] concatenates_S64x8x64x128_S64x8x64x128_S64x8x64x256_d3 := by
  have e := read2 line_wrote (fun b => m (c, b)) 98 rfl  (not_later wrote_nodup (j := 98) rfl (by decide)) (not_later wrote_nodup (j := 45) rfl (by decide)) (not_later wrote_nodup (j := 97) rfl (by decide))
  exact e
def k_v52 : FVec Ideal S64x8x64x64 .f32 := V m c main_v52
theorem k_v52_eq : k_v52 m c = Host.negf (k_v46 m c) := by
  have e := read1 line_wrote (fun b => m (c, b)) 99 rfl  (not_later wrote_nodup (j := 99) rfl (by decide)) (not_later wrote_nodup (j := 93) rfl (by decide))
  exact e
def k_v53 : IVec S64x64 32 := V m c main_v53
theorem k_v53_eq : k_v53 m c = iotaInDim S64x64 32 0 := by
  have e := read0 line_wrote (fun b => m (c, b)) 100 rfl  (not_later wrote_nodup (j := 100) rfl (by decide))
  exact e
def k_v54 : IVec S64x64 32 := V m c main_v54
theorem k_v54_eq : k_v54 m c = iotaInDim S64x64 32 1 := by
  have e := read0 line_wrote (fun b => m (c, b)) 101 rfl  (not_later wrote_nodup (j := 101) rfl (by decide))
  exact e
def k_c_5 : IVec S_ 32 := V m c main_c_5
theorem k_c_5_eq : k_c_5 m c = constantI S_ 32 0#32 := by
  have e := read0 line_wrote (fun b => m (c, b)) 102 rfl  (not_later wrote_nodup (j := 102) rfl (by decide))
  exact e
def k_v55 : IVec S64x64 32 := V m c main_v55
theorem k_v55_eq : k_v55 m c = broadcastInDim S64x64 ![] bcast_S_S64x64 (k_c_5 m c) := by
  have e := read1 line_wrote (fun b => m (c, b)) 103 rfl  (not_later wrote_nodup (j := 103) rfl (by decide)) (not_later wrote_nodup (j := 102) rfl (by decide))
  exact e
def k_v56 : IVec S64x64 32 := V m c main_v56
theorem k_v56_eq : k_v56 m c = addi (k_v53 m c) (k_v55 m c) := by
  have e := read2 line_wrote (fun b => m (c, b)) 104 rfl  (not_later wrote_nodup (j := 104) rfl (by decide)) (not_later wrote_nodup (j := 100) rfl (by decide)) (not_later wrote_nodup (j := 103) rfl (by decide))
  exact e
def k_v57 : IVec S64x64 1 := V m c main_v57
theorem k_v57_eq : k_v57 m c = cmpi .eq (k_v56 m c) (k_v54 m c) := by
  have e := read2 line_wrote (fun b => m (c, b)) 105 rfl  (not_later wrote_nodup (j := 105) rfl (by decide)) (not_later wrote_nodup (j := 104) rfl (by decide)) (not_later wrote_nodup (j := 101) rfl (by decide))
  exact e
def k_v58 : FVec Ideal S64x64 .f32 := V m c main_v58
theorem k_v58_eq : k_v58 m c = uitofp .f32 (k_v57 m c) := by
  have e := read1 line_wrote (fun b => m (c, b)) 106 rfl  (not_later wrote_nodup (j := 106) rfl (by decide)) (not_later wrote_nodup (j := 105) rfl (by decide))
  exact e
def k_v59 : FVec Ideal S1x1x64x64 .f32 := V m c main_v59
theorem k_v59_eq : k_v59 m c = broadcastInDim S1x1x64x64 ![2, 3] bcast_S64x64_S1x1x64x64_2_3 (k_v58 m c) := by
  have e := read1 line_wrote (fun b => m (c, b)) 107 rfl  (not_later wrote_nodup (j := 107) rfl (by decide)) (not_later wrote_nodup (j := 106) rfl (by decide))
  exact e
def k_v60 : FVec Ideal S64x8x64x64 .f32 := V m c main_v60
theorem k_v60_eq : k_v60 m c = broadcastInDim S64x8x64x64 ![0, 1, 2, 3] bcast_S1x1x64x64_S64x8x64x64_0_1_2_3 (k_v59 m c) := by
  have e := read1 line_wrote (fun b => m (c, b)) 108 rfl  (not_later wrote_nodup (j := 108) rfl (by decide)) (not_later wrote_nodup (j := 107) rfl (by decide))
  exact e
def k_v61 : FVec Ideal S64x8x64x64 .f32 := V m c main_v61
theorem k_v61_eq : k_v61 m c = addf (k_v52 m c) (k_v60 m c) := by
  have e := read2 line_wrote (fun b => m (c, b)) 109 rfl  (not_later wrote_nodup (j := 109) rfl (by decide)) (not_later wrote_nodup (j := 99) rfl (by decide)) (not_later wrote_nodup (j := 108) rfl (by decide))
  exact e
def k_v62 : FVec Ideal S64x8x64x64 .f32 := V m c main_v62
theorem k_v62_eq : k_v62 m c = Host.dotGeneral dot_S64x8x64x64_S64x8x64x64_S64x8x64x64_3_2_2_3_01_01 none (k_v52 m c) (k_v52 m c) := by
  have e := read2 line_wrote (fun b => m (c, b)) 110 rfl  (not_later wrote_nodup (j := 110) rfl (by decide)) (not_later wrote_nodup (j := 99) rfl (by decide)) (not_later wrote_nodup (j := 99) rfl (by decide))
  exact e
def k_v63 : FVec Ideal S64x8x64x64 .f32 := V m c main_v63
theorem k_v63_eq : k_v63 m c = Host.dotGeneral dot_S64x8x64x64_S64x8x64x64_S64x8x64x64_3_2_2_3_01_01 none (k_v61 m c) (k_v62 m c) := by
  have e := read2 line_wrote (fun b => m (c, b)) 111 rfl  (not_later wrote_nodup (j := 111) rfl (by decide)) (not_later wrote_nodup (j := 109) rfl (by decide)) (not_later wrote_nodup (j := 110) rfl (by decide))
  exact e
def k_v64 : FVec Ideal S64x8x64x64 .f32 := V m c main_v64
theorem k_v64_eq : k_v64 m c = addf (k_v61 m c) (k_v63 m c) := by
  have e := read2 line_wrote (fun b => m (c, b)) 112 rfl  (not_later wrote_nodup (j := 112) rfl (by decide)) (not_later wrote_nodup (j := 109) rfl (by decide)) (not_later wrote_nodup (j := 111) rfl (by decide))
  exact e
def k_v65 : FVec Ideal S64x8x64x64 .f32 := V m c main_v65
theorem k_v65_eq : k_v65 m c = Host.dotGeneral dot_S64x8x64x64_S64x8x64x64_S64x8x64x64_3_2_2_3_01_01 none (k_v62 m c) (k_v62 m c) := by
  have e := read2 line_wrote (fun b => m (c, b)) 113 rfl  (not_later wrote_nodup (j := 113) rfl (by decide)) (not_later wrote_nodup (j := 110) rfl (by decide)) (not_later wrote_nodup (j := 110) rfl (by decide))
  exact e
def k_v66 : FVec Ideal S64x8x64x64 .f32 := V m c main_v66
theorem k_v66_eq : k_v66 m c = Host.dotGeneral dot_S64x8x64x64_S64x8x64x64_S64x8x64x64_3_2_2_3_01_01 none (k_v64 m c) (k_v65 m c) := by
  have e := read2 line_wrote (fun b => m (c, b)) 114 rfl  (not_later wrote_nodup (j := 114) rfl (by decide)) (not_later wrote_nodup (j := 112) rfl (by decide)) (not_later wrote_nodup (j := 113) rfl (by decide))
  exact e
def k_v67 : FVec Ideal S64x8x64x64 .f32 := V m c main_v67
theorem k_v67_eq : k_v67 m c = addf (k_v64 m c) (k_v66 m c) := by
  have e := read2 line_wrote (fun b => m (c, b)) 115 rfl  (not_later wrote_nodup (j := 115) rfl (by decide)) (not_later wrote_nodup (j := 112) rfl (by decide)) (not_later wrote_nodup (j := 114) rfl (by decide))
  exact e
def k_v68 : FVec Ideal S64x8x64x64 .f32 := V m c main_v68
theorem k_v68_eq : k_v68 m c = Host.dotGeneral dot_S64x8x64x64_S64x8x64x64_S64x8x64x64_3_2_2_3_01_01 none (k_v65 m c) (k_v65 m c) := by
  have e := read2 line_wrote (fun b => m (c, b)) 116 rfl  (not_later wrote_nodup (j := 116) rfl (by decide)) (not_later wrote_nodup (j := 113) rfl (by decide)) (not_later wrote_nodup (j := 113) rfl (by decide))
  exact e
def k_v69 : FVec Ideal S64x8x64x64 .f32 := V m c main_v69
theorem k_v69_eq : k_v69 m c = Host.dotGeneral dot_S64x8x64x64_S64x8x64x64_S64x8x64x64_3_2_2_3_01_01 none (k_v67 m c) (k_v68 m c) := by
  have e := read2 line_wrote (fun b => m (c, b)) 117 rfl  (not_later wrote_nodup (j := 117) rfl (by decide)) (not_later wrote_nodup (j := 115) rfl (by decide)) (not_later wrote_nodup (j := 116) rfl (by decide))
  exact e
def k_v70 : FVec Ideal S64x8x64x64 .f32 := V m c main_v70
theorem k_v70_eq : k_v70 m c = addf (k_v67 m c) (k_v69 m c) := by
  have e := read2 line_wrote (fun b => m (c, b)) 118 rfl  (not_later wrote_nodup (j := 118) rfl (by decide)) (not_later wrote_nodup (j := 115) rfl (by decide)) (not_later wrote_nodup (j := 117) rfl (by decide))
  exact e
def k_v71 : FVec Ideal S64x8x64x64 .f32 := V m c main_v71
theorem k_v71_eq : k_v71 m c = Host.dotGeneral dot_S64x8x64x64_S64x8x64x64_S64x8x64x64_3_2_2_3_01_01 none (k_v68 m c) (k_v68 m c) := by
  have e := read2 line_wrote (fun b => m (c, b)) 119 rfl  (not_later wrote_nodup (j := 119) rfl (by decide)) (not_later wrote_nodup (j := 116) rfl (by decide)) (not_later wrote_nodup (j := 116) rfl (by decide))
  exact e
def k_v72 : FVec Ideal S64x8x64x64 .f32 := V m c main_v72
theorem k_v72_eq : k_v72 m c = Host.dotGeneral dot_S64x8x64x64_S64x8x64x64_S64x8x64x64_3_2_2_3_01_01 none (k_v70 m c) (k_v71 m c) := by
  have e := read2 line_wrote (fun b => m (c, b)) 120 rfl  (not_later wrote_nodup (j := 120) rfl (by decide)) (not_later wrote_nodup (j := 118) rfl (by decide)) (not_later wrote_nodup (j := 119) rfl (by decide))
  exact e
def k_v73 : FVec Ideal S64x8x64x64 .f32 := V m c main_v73
theorem k_v73_eq : k_v73 m c = addf (k_v70 m c) (k_v72 m c) := by
  have e := read2 line_wrote (fun b => m (c, b)) 121 rfl  (not_later wrote_nodup (j := 121) rfl (by decide)) (not_later wrote_nodup (j := 118) rfl (by decide)) (not_later wrote_nodup (j := 120) rfl (by decide))
  exact e
def k_v74 : FVec Ideal S64x8x64x64 .f32 := V m c main_v74
theorem k_v74_eq : k_v74 m c = Host.dotGeneral dot_S64x8x64x64_S64x8x64x64_S64x8x64x64_3_2_2_3_01_01 none (k_v71 m c) (k_v71 m c) := by
  have e := read2 line_wrote (fun b => m (c, b)) 122 rfl  (not_later wrote_nodup (j := 122) rfl (by decide)) (not_later wrote_nodup (j := 119) rfl (by decide)) (not_later wrote_nodup (j := 119) rfl (by decide))
  exact e
def k_v75 : FVec Ideal S64x8x64x64 .f32 := V m c main_v75
theorem k_v75_eq : k_v75 m c = Host.dotGeneral dot_S64x8x64x64_S64x8x64x64_S64x8x64x64_3_2_2_3_01_01 none (k_v73 m c) (k_v74 m c) := by
  have e := read2 line_wrote (fun b => m (c, b)) 123 rfl  (not_later wrote_nodup (j := 123) rfl (by decide)) (not_later wrote_nodup (j := 121) rfl (by decide)) (not_later wrote_nodup (j := 122) rfl (by decide))
  exact e
def k_v76 : FVec Ideal S64x8x64x64 .f32 := V m c main_v76
theorem k_v76_eq : k_v76 m c = addf (k_v73 m c) (k_v75 m c) := by
  have e := read2 line_wrote (fun b => m (c, b)) 124 rfl  (not_later wrote_nodup (j := 124) rfl (by decide)) (not_later wrote_nodup (j := 121) rfl (by decide)) (not_later wrote_nodup (j := 123) rfl (by decide))
  exact e
def k_v77 : FVec Ideal S64x8x64x256 .f32 := V m c main_v77
theorem k_v77_eq : k_v77 m c = Host.dotGeneral dot_S64x8x64x64_S64x8x64x256_S64x8x64x256_3_2_2_3_01_01 none (k_v76 m c) (k_v51 m c) := by
  have e := read2 line_wrote (fun b => m (c, b)) 125 rfl  (not_later wrote_nodup (j := 125) rfl (by decide)) (not_later wrote_nodup (j := 124) rfl (by decide)) (not_later wrote_nodup (j := 98) rfl (by decide))
  exact e
def k_v78 : FVec Ideal S64x8x64x128 .f32 := V m c main_v78
theorem k_v78_eq : k_v78 m c = extractStridedSlice S64x8x64x128 ![0, 0, 0, 0] (k_v77 m c) slices_S64x8x64x256_S64x8x64x128_0_0_0_0 := by
  have e := read1 line_wrote (fun b => m (c, b)) 126 rfl  (not_later wrote_nodup (j := 126) rfl (by decide)) (not_later wrote_nodup (j := 125) rfl (by decide))
  exact e
def k_v79 : FVec Ideal S64x8x64x128 .f32 := V m c main_v79
theorem k_v79_eq : k_v79 m c = extractStridedSlice S64x8x64x128 ![0, 0, 0, 128] (k_v77 m c) slices_S64x8x64x256_S64x8x64x128_0_0_0_128 := by
  have e := read1 line_wrote (fun b => m (c, b)) 127 rfl  (not_later wrote_nodup (j := 127) rfl (by decide)) (not_later wrote_nodup (j := 125) rfl (by decide))
  exact e
def k_v83 : FVec Ideal S64x8x64x128 .f32 := V m c main_v83
theorem k_v83_eq : k_v83 m c = Host.dotGeneral dot_S64x8x64x128_S64x8x128x128_S64x8x64x128_3_2_2_3_01_01 none (k_v79 m c) (k_arg7 m c) := by
  have e := read2 line_wrote (fun b => m (c, b)) 135 rfl  (not_later wrote_nodup (j := 135) rfl (by decide)) (not_later wrote_nodup (j := 127) rfl (by decide)) (not_any arg7_not)
  exact e
def k_v84 : FVec Ideal S64x8x64x128 .f32 := V m c main_v84
theorem k_v84_eq : k_v84 m c = subf (k_v78 m c) (k_v83 m c) := by
  have e := read2 line_wrote (fun b => m (c, b)) 136 rfl  (not_later wrote_nodup (j := 136) rfl (by decide)) (not_later wrote_nodup (j := 126) rfl (by decide)) (not_later wrote_nodup (j := 135) rfl (by decide))
  exact e
def k_v85 : FVec Ideal S64x64x8x128 .f32 := V m c main_v85
theorem k_v85_eq : k_v85 m c = transpose S64x64x8x128 [0, 2, 1, 3] (k_v84 m c) transposes_S64x8x64x128_S64x64x8x128_0_2_1_3 := by
  have e := read1 line_wrote (fun b => m (c, b)) 137 rfl  (not_later wrote_nodup (j := 137) rfl (by decide)) (not_later wrote_nodup (j := 136) rfl (by decide))
  exact e
def k_v86 : FVec Ideal S4096x1024 .f32 := V m c main_v86
theorem k_v86_eq : k_v86 m c = shapeCast S4096x1024 (k_v85 m c) shapeCasts_S64x64x8x128_S4096x1024 := by
  have e := readS line_wrote (fun b => m (c, b)) 138 rfl  (not_later wrote_nodup (j := 138) rfl (by decide)) (not_later wrote_nodup (j := 137) rfl (by decide))
  exact e
def k_v87 : FVec Ideal S64x64x8 .f32 := V m c main_v87
theorem k_v87_eq : k_v87 m c = transpose S64x64x8 [0, 2, 1] (k_v31 m c) transposes_S64x8x64_S64x64x8_0_2_1 := by
  have e := read1 line_wrote (fun b => m (c, b)) 139 rfl  (not_later wrote_nodup (j := 139) rfl (by decide)) (not_later wrote_nodup (j := 48) rfl (by decide))
  exact e
def k_v88 : FVec Ideal S4096x8 .f32 := V m c main_v88
theorem k_v88_eq : k_v88 m c = shapeCast S4096x8 (k_v87 m c) shapeCasts_S64x64x8_S4096x8 := by
  have e := readS line_wrote (fun b => m (c, b)) 140 rfl  (not_later wrote_nodup (j := 140) rfl (by decide)) (not_later wrote_nodup (j := 139) rfl (by decide))
  exact e
def k_cst_7 : FVec Ideal S_ .f32 := V m c main_cst_7
theorem k_cst_7_eq : k_cst_7 m c = constant S_ .f32 0x00000000#32 := by
  have e := read0 line_wrote (fun b => m (c, b)) 141 rfl  (not_later wrote_nodup (j := 141) rfl (by decide))
  exact e
def k_v89 : FVec Ideal S4096x104 .f32 := V m c main_v89
theorem k_v89_eq : k_v89 m c = broadcastInDim S4096x104 ![] bcast_S_S4096x104 (k_cst_7 m c) := by
  have e := read1 line_wrote (fun b => m (c, b)) 142 rfl  (not_later wrote_nodup (j := 142) rfl (by decide)) (not_later wrote_nodup (j := 141) rfl (by decide))
  exact e
def k_v90 : FVec Ideal S4096x128 .f32 := V m c main_v90
theorem k_v90_eq : k_v90 m c = concatenate S4096x128 1 [⟨S4096x8, k_v5 m c⟩, ⟨S4096x8, k_v14 m c⟩, ⟨S4096x8, k_v88 m c⟩, ⟨S4096x104, k_v89 m c⟩] concatenates_S4096x8_S4096x8_S4096x8_S4096x104_S4096x128_d1 := by
  have e := readN line_wrote (fun b => m (c, b)) 143 rfl  (not_later wrote_nodup (j := 143) rfl (by decide)) (fun k => match k with
    | 0 => (not_later wrote_nodup (j := 7) rfl (by decide))
    | 1 => (not_later wrote_nodup (j := 29) rfl (by decide))
    | 2 => (not_later wrote_nodup (j := 140) rfl (by decide))
    | 3 => (not_later wrote_nodup (j := 142) rfl (by decide)))
  exact e
def k_v91 : FVec Ideal S64x64x128 .f32 := V m c main_v91
theorem k_v91_eq : k_v91 m c = shapeCast S64x64x128 (k_v90 m c) shapeCasts_S4096x128_S64x64x128 := by
  have e := readS line_wrote (fun b => m (c, b)) 144 rfl  (not_later wrote_nodup (j := 144) rfl (by decide)) (not_later wrote_nodup (j := 143) rfl (by decide))
  exact e
def k_v92 : FVec Ideal S64x128x64 .f32 := V m c main_v92
theorem k_v92_eq : k_v92 m c = transpose S64x128x64 [0, 2, 1] (k_v91 m c) transposes_S64x64x128_S64x128x64_0_2_1 := by
  have e := read1 line_wrote (fun b => m (c, b)) 145 rfl  (not_later wrote_nodup (j := 145) rfl (by decide)) (not_later wrote_nodup (j := 144) rfl (by decide))
  exact e
def k_v93 : FVec Ideal S64x32x64 .f32 := V m c main_v93
theorem k_v93_eq : k_v93 m c = extractStridedSlice S64x32x64 ![0, 0, 0] (k_v92 m c) slices_S64x128x64_S64x32x64_0_0_0 := by
  have e := read1 line_wrote (fun b => m (c, b)) 146 rfl  (not_later wrote_nodup (j := 146) rfl (by decide)) (not_later wrote_nodup (j := 145) rfl (by decide))
  exact e
def k_v96 : FVec Ideal S64x8x64x64 .f32 := V m c main_v96
theorem k_v96_eq : k_v96 m c = Host.negf (k_v46 m c) := by
  have e := read1 line_wrote (fun b => m (c, b)) 151 rfl  (not_later wrote_nodup (j := 151) rfl (by decide)) (not_later wrote_nodup (j := 93) rfl (by decide))
  exact e
def k_v97 : IVec S64x64 32 := V m c main_v97
theorem k_v97_eq : k_v97 m c = iotaInDim S64x64 32 0 := by
  have e := read0 line_wrote (fun b => m (c, b)) 152 rfl  (not_later wrote_nodup (j := 152) rfl (by decide))
  exact e
def k_v98 : IVec S64x64 32 := V m c main_v98
theorem k_v98_eq : k_v98 m c = iotaInDim S64x64 32 1 := by
  have e := read0 line_wrote (fun b => m (c, b)) 153 rfl  (not_later wrote_nodup (j := 153) rfl (by decide))
  exact e
def k_c_9 : IVec S_ 32 := V m c main_c_9
theorem k_c_9_eq : k_c_9 m c = constantI S_ 32 0#32 := by
  have e := read0 line_wrote (fun b => m (c, b)) 154 rfl  (not_later wrote_nodup (j := 154) rfl (by decide))
  exact e
def k_v99 : IVec S64x64 32 := V m c main_v99
theorem k_v99_eq : k_v99 m c = broadcastInDim S64x64 ![] bcast_S_S64x64 (k_c_9 m c) := by
  have e := read1 line_wrote (fun b => m (c, b)) 155 rfl  (not_later wrote_nodup (j := 155) rfl (by decide)) (not_later wrote_nodup (j := 154) rfl (by decide))
  exact e
def k_v100 : IVec S64x64 32 := V m c main_v100
theorem k_v100_eq : k_v100 m c = addi (k_v97 m c) (k_v99 m c) := by
  have e := read2 line_wrote (fun b => m (c, b)) 156 rfl  (not_later wrote_nodup (j := 156) rfl (by decide)) (not_later wrote_nodup (j := 152) rfl (by decide)) (not_later wrote_nodup (j := 155) rfl (by decide))
  exact e
def k_v101 : IVec S64x64 1 := V m c main_v101
theorem k_v101_eq : k_v101 m c = cmpi .eq (k_v100 m c) (k_v98 m c) := by
  have e := read2 line_wrote (fun b => m (c, b)) 157 rfl  (not_later wrote_nodup (j := 157) rfl (by decide)) (not_later wrote_nodup (j := 156) rfl (by decide)) (not_later wrote_nodup (j := 153) rfl (by decide))
  exact e
def k_v102 : FVec Ideal S64x64 .f32 := V m c main_v102
theorem k_v102_eq : k_v102 m c = uitofp .f32 (k_v101 m c) := by
  have e := read1 line_wrote (fun b => m (c, b)) 158 rfl  (not_later wrote_nodup (j := 158) rfl (by decide)) (not_later wrote_nodup (j := 157) rfl (by decide))
  exact e
def k_v103 : FVec Ideal S1x1x64x64 .f32 := V m c main_v103
theorem k_v103_eq : k_v103 m c = broadcastInDim S1x1x64x64 ![2, 3] bcast_S64x64_S1x1x64x64_2_3 (k_v102 m c) := by
  have e := read1 line_wrote (fun b => m (c, b)) 159 rfl  (not_later wrote_nodup (j := 159) rfl (by decide)) (not_later wrote_nodup (j := 158) rfl (by decide))
  exact e
def k_v104 : FVec Ideal S64x8x64x64 .f32 := V m c main_v104
theorem k_v104_eq : k_v104 m c = broadcastInDim S64x8x64x64 ![0, 1, 2, 3] bcast_S1x1x64x64_S64x8x64x64_0_1_2_3 (k_v103 m c) := by
  have e := read1 line_wrote (fun b => m (c, b)) 160 rfl  (not_later wrote_nodup (j := 160) rfl (by decide)) (not_later wrote_nodup (j := 159) rfl (by decide))
  exact e
def k_v105 : FVec Ideal S64x8x64x64 .f32 := V m c main_v105
theorem k_v105_eq : k_v105 m c = addf (k_v96 m c) (k_v104 m c) := by
  have e := read2 line_wrote (fun b => m (c, b)) 161 rfl  (not_later wrote_nodup (j := 161) rfl (by decide)) (not_later wrote_nodup (j := 151) rfl (by decide)) (not_later wrote_nodup (j := 160) rfl (by decide))
  exact e
def k_v106 : FVec Ideal S64x8x64x64 .f32 := V m c main_v106
theorem k_v106_eq : k_v106 m c = Host.dotGeneral dot_S64x8x64x64_S64x8x64x64_S64x8x64x64_3_2_2_3_01_01 none (k_v96 m c) (k_v96 m c) := by
  have e := read2 line_wrote (fun b => m (c, b)) 162 rfl  (not_later wrote_nodup (j := 162) rfl (by decide)) (not_later wrote_nodup (j := 151) rfl (by decide)) (not_later wrote_nodup (j := 151) rfl (by decide))
  exact e
def k_v107 : FVec Ideal S64x8x64x64 .f32 := V m c main_v107
theorem k_v107_eq : k_v107 m c = Host.dotGeneral dot_S64x8x64x64_S64x8x64x64_S64x8x64x64_3_2_2_3_01_01 none (k_v105 m c) (k_v106 m c) := by
  have e := read2 line_wrote (fun b => m (c, b)) 163 rfl  (not_later wrote_nodup (j := 163) rfl (by decide)) (not_later wrote_nodup (j := 161) rfl (by decide)) (not_later wrote_nodup (j := 162) rfl (by decide))
  exact e
def k_v108 : FVec Ideal S64x8x64x64 .f32 := V m c main_v108
theorem k_v108_eq : k_v108 m c = addf (k_v105 m c) (k_v107 m c) := by
  have e := read2 line_wrote (fun b => m (c, b)) 164 rfl  (not_later wrote_nodup (j := 164) rfl (by decide)) (not_later wrote_nodup (j := 161) rfl (by decide)) (not_later wrote_nodup (j := 163) rfl (by decide))
  exact e
def k_v109 : FVec Ideal S64x8x64x64 .f32 := V m c main_v109
theorem k_v109_eq : k_v109 m c = Host.dotGeneral dot_S64x8x64x64_S64x8x64x64_S64x8x64x64_3_2_2_3_01_01 none (k_v106 m c) (k_v106 m c) := by
  have e := read2 line_wrote (fun b => m (c, b)) 165 rfl  (not_later wrote_nodup (j := 165) rfl (by decide)) (not_later wrote_nodup (j := 162) rfl (by decide)) (not_later wrote_nodup (j := 162) rfl (by decide))
  exact e
def k_v110 : FVec Ideal S64x8x64x64 .f32 := V m c main_v110
theorem k_v110_eq : k_v110 m c = Host.dotGeneral dot_S64x8x64x64_S64x8x64x64_S64x8x64x64_3_2_2_3_01_01 none (k_v108 m c) (k_v109 m c) := by
  have e := read2 line_wrote (fun b => m (c, b)) 166 rfl  (not_later wrote_nodup (j := 166) rfl (by decide)) (not_later wrote_nodup (j := 164) rfl (by decide)) (not_later wrote_nodup (j := 165) rfl (by decide))
  exact e
def k_v111 : FVec Ideal S64x8x64x64 .f32 := V m c main_v111
theorem k_v111_eq : k_v111 m c = addf (k_v108 m c) (k_v110 m c) := by
  have e := read2 line_wrote (fun b => m (c, b)) 167 rfl  (not_later wrote_nodup (j := 167) rfl (by decide)) (not_later wrote_nodup (j := 164) rfl (by decide)) (not_later wrote_nodup (j := 166) rfl (by decide))
  exact e
def k_v112 : FVec Ideal S64x8x64x64 .f32 := V m c main_v112
theorem k_v112_eq : k_v112 m c = Host.dotGeneral dot_S64x8x64x64_S64x8x64x64_S64x8x64x64_3_2_2_3_01_01 none (k_v109 m c) (k_v109 m c) := by
  have e := read2 line_wrote (fun b => m (c, b)) 168 rfl  (not_later wrote_nodup (j := 168) rfl (by decide)) (not_later wrote_nodup (j := 165) rfl (by decide)) (not_later wrote_nodup (j := 165) rfl (by decide))
  exact e
def k_v113 : FVec Ideal S64x8x64x64 .f32 := V m c main_v113
theorem k_v113_eq : k_v113 m c = Host.dotGeneral dot_S64x8x64x64_S64x8x64x64_S64x8x64x64_3_2_2_3_01_01 none (k_v111 m c) (k_v112 m c) := by
  have e := read2 line_wrote (fun b => m (c, b)) 169 rfl  (not_later wrote_nodup (j := 169) rfl (by decide)) (not_later wrote_nodup (j := 167) rfl (by decide)) (not_later wrote_nodup (j := 168) rfl (by decide))
  exact e
def k_v114 : FVec Ideal S64x8x64x64 .f32 := V m c main_v114
theorem k_v114_eq : k_v114 m c = addf (k_v111 m c) (k_v113 m c) := by
  have e := read2 line_wrote (fun b => m (c, b)) 170 rfl  (not_later wrote_nodup (j := 170) rfl (by decide)) (not_later wrote_nodup (j := 167) rfl (by decide)) (not_later wrote_nodup (j := 169) rfl (by decide))
  exact e
def k_v115 : FVec Ideal S64x8x64x64 .f32 := V m c main_v115
theorem k_v115_eq : k_v115 m c = Host.dotGeneral dot_S64x8x64x64_S64x8x64x64_S64x8x64x64_3_2_2_3_01_01 none (k_v112 m c) (k_v112 m c) := by
  have e := read2 line_wrote (fun b => m (c, b)) 171 rfl  (not_later wrote_nodup (j := 171) rfl (by decide)) (not_later wrote_nodup (j := 168) rfl (by decide)) (not_later wrote_nodup (j := 168) rfl (by decide))
  exact e
def k_v116 : FVec Ideal S64x8x64x64 .f32 := V m c main_v116
theorem k_v116_eq : k_v116 m c = Host.dotGeneral dot_S64x8x64x64_S64x8x64x64_S64x8x64x64_3_2_2_3_01_01 none (k_v114 m c) (k_v115 m c) := by
  have e := read2 line_wrote (fun b => m (c, b)) 172 rfl  (not_later wrote_nodup (j := 172) rfl (by decide)) (not_later wrote_nodup (j := 170) rfl (by decide)) (not_later wrote_nodup (j := 171) rfl (by decide))
  exact e
def k_v117 : FVec Ideal S64x8x64x64 .f32 := V m c main_v117
theorem k_v117_eq : k_v117 m c = addf (k_v114 m c) (k_v116 m c) := by
  have e := read2 line_wrote (fun b => m (c, b)) 173 rfl  (not_later wrote_nodup (j := 173) rfl (by decide)) (not_later wrote_nodup (j := 170) rfl (by decide)) (not_later wrote_nodup (j := 172) rfl (by decide))
  exact e
def k_v118 : FVec Ideal S64x8x64x64 .f32 := V m c main_v118
theorem k_v118_eq : k_v118 m c = Host.dotGeneral dot_S64x8x64x64_S64x8x64x64_S64x8x64x64_3_2_2_3_01_01 none (k_v115 m c) (k_v115 m c) := by
  have e := read2 line_wrote (fun b => m (c, b)) 174 rfl  (not_later wrote_nodup (j := 174) rfl (by decide)) (not_later wrote_nodup (j := 171) rfl (by decide)) (not_later wrote_nodup (j := 171) rfl (by decide))
  exact e
def k_v119 : FVec Ideal S64x8x64x64 .f32 := V m c main_v119
theorem k_v119_eq : k_v119 m c = Host.dotGeneral dot_S64x8x64x64_S64x8x64x64_S64x8x64x64_3_2_2_3_01_01 none (k_v117 m c) (k_v118 m c) := by
  have e := read2 line_wrote (fun b => m (c, b)) 175 rfl  (not_later wrote_nodup (j := 175) rfl (by decide)) (not_later wrote_nodup (j := 173) rfl (by decide)) (not_later wrote_nodup (j := 174) rfl (by decide))
  exact e
def k_v120 : FVec Ideal S64x8x64x64 .f32 := V m c main_v120
theorem k_v120_eq : k_v120 m c = addf (k_v117 m c) (k_v119 m c) := by
  have e := read2 line_wrote (fun b => m (c, b)) 176 rfl  (not_later wrote_nodup (j := 176) rfl (by decide)) (not_later wrote_nodup (j := 173) rfl (by decide)) (not_later wrote_nodup (j := 175) rfl (by decide))
  exact e

end DeltaRule.Host
-- ==== Proof.HostVal.lean ====
module

public import proofs.«01_k».proof.Proof.HostEq

/-! The blocks the kernel is called on, at arguments that are real numbers. -/

@[expose] public section

set_option maxRecDepth 16384

noncomputable section

namespace DeltaRule.Host

open Idealize.ShloMosaic Idealize.ShloMosaic.TcCoe
open Cert.KernelIdeal Cert.KernelIdeal.Gen
open DeltaRule Matrix

variable {m : (ℓ : Loc nD τ sig) → Buf (Elt Ideal) ℓ} {c : Dev nD} {D : Data}

/-- The device's arguments are the real numbers of `D`. -/
structure Args (m : (ℓ : Loc nD τ sig) → Buf (Elt Ideal) ℓ) (c : Dev nD) (D : Data) : Prop where
  q : R2 (a := 4096) (b := 1024) (m ((c.tc : Thread nD τ).loc main_arg0)) D.q
  k : R2 (a := 4096) (b := 1024) (m ((c.tc : Thread nD τ).loc main_arg1)) D.k
  v : R2 (a := 4096) (b := 1024) (m ((c.tc : Thread nD τ).loc main_arg2)) D.v
  b : R2 (a := 4096) (b := 8) (m ((c.tc : Thread nD τ).loc main_arg3)) D.b
  a : R2 (a := 4096) (b := 8) (m ((c.tc : Thread nD τ).loc main_arg4)) D.a
  al : R1 (a := 8) (m ((c.tc : Thread nD τ).loc main_arg5)) D.al
  dt : R1 (a := 8) (m ((c.tc : Thread nD τ).loc main_arg6)) D.dt
  S : R4 (a := 64) (b := 8) (c := 128) (d := 128) (m ((c.tc : Thread nD τ).loc main_arg7)) D.S
  o : R2 (a := 4096) (b := 1024) (m ((c.tc : Thread nD τ).loc main_arg8)) D.o

/-! The gates. -/

theorem v5 (H : Args m c D) : R2 (k_v5 m c) D.beta := by
  rw [k_v5_eq, k_v4_eq, k_v3_eq, k_v2_eq, k_v1_eq, k_v0_eq, k_cst_eq, k_cst_0_eq, k_arg3_eq]
  exact beta_real H.b _ _

theorem v14 (H : Args m c D) : R2 (k_v14 m c) D.g := by
  rw [k_v14_eq, k_v13_eq, k_v12_eq, k_v7_eq, k_v6_eq, k_v11_eq, k_call0_v4_eq, k_call0_v6_eq, k_call0_v11_eq, k_call0_v10_eq, k_call0_v9_eq,
    k_call0_v8_eq, k_call0_v7_eq, k_call0_v5_eq, k_call0_v3_eq, k_call0_v2_eq, k_call0_v1_eq, k_call0_v0_eq, k_call0_cst_eq,
    k_v10_eq, k_v9_eq, k_v8_eq, k_arg4_eq, k_arg5_eq, k_arg6_eq]
  exact g_real (softplus_real (shift_real H.a H.dt _ _) _ _ _) H.al _ _

/-! The chunks. -/

theorem v18 (H : Args m c D) : R4 (k_v18 m c) fun n h => (D.chunk n h).k := by
  rw [k_v18_eq, k_v17_eq, k_arg1_eq]; exact chunk4 H.k _ _
theorem v20 (H : Args m c D) : R4 (k_v20 m c) fun n h => (D.chunk n h).v := by
  rw [k_v20_eq, k_v19_eq, k_arg2_eq]; exact chunk4 H.v _ _
theorem v22 (H : Args m c D) : R3 (k_v22 m c) fun n h => (D.chunk n h).beta := by
  rw [k_v22_eq, k_v21_eq]; exact chunk3 (v5 H) _ _
theorem v24 (H : Args m c D) : R3 (k_v24 m c) fun n h => (D.chunk n h).g := by
  rw [k_v24_eq, k_v23_eq]; exact chunk3 (v14 H) _ _

theorem v27 (H : Args m c D) : R4 (k_v27 m c) fun n h => (D.chunk n h).kb := by
  intro n h i d
  have e : k_v18 m c (ix4 n h i d) = (((D.chunk n h).k i d : ℝ) : EReal) := v18 H n h i d
  have e2 : k_v22 m c (ix3 n h i) = (((D.chunk n h).beta i : ℝ) : EReal) := v22 H n h i
  show _ = (((D.chunk n h).k i d * (D.chunk n h).beta i : ℝ) : EReal)
  rw [k_v27_eq, k_v26_eq, k_v25_eq]
  generalize (D.chunk n h).k i d = r at e ⊢
  generalize (D.chunk n h).beta i = s at e2 ⊢
  pointwise [e, e2]
  rw [← EReal.coe_mul]

theorem v30 (H : Args m c D) : R4 (k_v30 m c) fun n h => (D.chunk n h).vb := by
  intro n h i d
  have e : k_v20 m c (ix4 n h i d) = (((D.chunk n h).v i d : ℝ) : EReal) := v20 H n h i d
  have e2 : k_v22 m c (ix3 n h i) = (((D.chunk n h).beta i : ℝ) : EReal) := v22 H n h i
  show _ = (((D.chunk n h).v i d * (D.chunk n h).beta i : ℝ) : EReal)
  rw [k_v30_eq, k_v29_eq, k_v28_eq]
  generalize (D.chunk n h).v i d = r at e ⊢
  generalize (D.chunk n h).beta i = s at e2 ⊢
  pointwise [e, e2]
  rw [← EReal.coe_mul]

theorem v31 (H : Args m c D) : R3 (k_v31 m c) fun n h => (D.chunk n h).gc := by
  rw [k_v31_eq]
  refine R3.runSum (v24 H) _ _ ?_ _
  rw [k_call1_call0_v0_eq, k_call1_call0_cst_eq]
  pointwise []

theorem v33 (i j : Fin 64) : k_v33 m c (ix2 i j) = if j ≤ i then 1#1 else 0#1 := by
  rw [k_v33_eq, k_v32_eq, k_c_eq, k_call2_v4_eq, k_call2_v5_eq, k_call2_c_0_eq, k_call2_v3_eq, k_call2_v2_eq, k_call2_v1_eq, k_call2_v0_eq, k_call2_c_eq]
  pointwise []
  rw [low_mask, select_if]

theorem v35 (i j : Fin 64) : k_v35 m c (ix2 i j) = if j < i then 1#1 else 0#1 := by
  rw [k_v35_eq, k_v34_eq, k_c_1_eq, k_call3_v4_eq, k_call3_v5_eq, k_call3_c_0_eq, k_call3_v3_eq, k_call3_v2_eq, k_call3_v1_eq, k_call3_v0_eq, k_call3_c_eq]
  pointwise []
  rw [below_mask, select_if]

theorem v43 (H : Args m c D) : R4 (k_v43 m c) fun n h => (D.chunk n h).gam := by
  intro n h i d
  have e : ∀ i, k_v31 m c (ix3 n h i) = (((D.chunk n h).gc i : ℝ) : EReal) := v31 H n h
  show _ = (((D.chunk n h).gam i d : ℝ) : EReal)
  rw [k_v43_eq, k_call5_v1_eq, k_call5_v2_eq, k_call5_v0_eq, k_cst_3_eq, k_v42_eq, k_v41_eq, k_call4_v1_eq, k_call4_v2_eq, k_call4_v0_eq, k_cst_2_eq,
    k_v40_eq, k_v39_eq, k_v38_eq, k_v37_eq, k_v36_eq]
  simp only [Chunk.gam]
  generalize (D.chunk n h).gc = r at e ⊢
  pointwise [v33, e]
  simp only [select_if]
  split
  · rw [← EReal.coe_sub, Ideal.exp_coe]
  · exact EReal.coe_zero.symm

theorem v46 (H : Args m c D) : R4 (k_v46 m c) fun n h => (D.chunk n h).L := by
  intro n h i d
  have e : k_v43 m c (ix4 n h i d) = (((D.chunk n h).gam i d : ℝ) : EReal) := v43 H n h i d
  have e1 : ∀ i d, k_v27 m c (ix4 n h i d) = (((D.chunk n h).kb i d : ℝ) : EReal) := v27 H n h
  have e2 : ∀ i d, k_v18 m c (ix4 n h i d) = (((D.chunk n h).k i d : ℝ) : EReal) := v18 H n h
  show _ = (((D.chunk n h).L i d : ℝ) : EReal)
  rw [k_v46_eq, k_call6_v1_eq, k_call6_v2_eq, k_call6_v0_eq, k_cst_4_eq, k_v45_eq, k_v44_eq]
  simp only [Chunk.L, below, had, Matrix.mul_apply, Matrix.transpose_apply]
  generalize (D.chunk n h).kb = r1 at e1 ⊢
  generalize (D.chunk n h).k = r2 at e2 ⊢
  generalize (D.chunk n h).gam i d = r at e ⊢
  pointwise [v35, e, e1, e2]
  simp only [select_if, ← EReal.coe_mul, coe_sum]
  split
  · rfl
  · exact EReal.coe_zero.symm

/-! The inverse of `1 + L`, by squaring. -/

theorem eye4 {Y : FVec Ideal S64x8x64x64 .f32} {Z : FVec Ideal S64x64 .f32} (n : Fin 64) (h : Fin 8) (i d : Fin 64) :
    addf Y (broadcastInDim S64x8x64x64 ![0, 1, 2, 3] bcast_S1x1x64x64_S64x8x64x64_0_1_2_3
      (broadcastInDim S1x1x64x64 ![2, 3] bcast_S64x64_S1x1x64x64_2_3 Z)) (ix4 n h i d) = Y (ix4 n h i d) + Z (ix2 i d) := by
  pointwise []

theorem eye (i d : Fin 64) :
    uitofp (F := Ideal) .f32 (cmpi .eq (addi (iotaInDim S64x64 32 0) (broadcastInDim S64x64 ![] bcast_S_S64x64 (constantI S_ 32 0#32))) (iotaInDim S64x64 32 1)) (ix2 i d)
      = (((if i = d then 1 else 0 : ℝ)) : EReal) := by
  rw [← uitofp_if, ← diag_mask]; rfl

theorem dotTT {X Y : FVec Ideal S64x8x64x64 .f32} {f g : Fin 64 → Fin 8 → Toks}
    (hX : R4 (a := 64) (b := 8) (c := 64) (d := 64) X f) (hY : R4 (a := 64) (b := 8) (c := 64) (d := 64) Y g) :
    R4 (a := 64) (b := 8) (c := 64) (d := 64) (Host.dotGeneral dot_S64x8x64x64_S64x8x64x64_S64x8x64x64_3_2_2_3_01_01 none X Y)
      fun n h => f n h * g n h := by
  intro n h i d
  show _ = ((((f n h * g n h) i d : ℝ)) : EReal)
  have hx : ∀ i j, X (ix4 n h i j) = ((f n h i j : ℝ) : EReal) := hX n h
  have hy : ∀ i j, Y (ix4 n h i j) = ((g n h i j : ℝ) : EReal) := hY n h
  simp only [Matrix.mul_apply]
  generalize f n h = f' at hx ⊢
  generalize g n h = g' at hy ⊢
  pointwise [hx, hy]
  simp only [← EReal.coe_mul, coe_sum]

theorem addTT {X Y : FVec Ideal S64x8x64x64 .f32} {f g : Fin 64 → Fin 8 → Toks}
    (hX : R4 (a := 64) (b := 8) (c := 64) (d := 64) X f) (hY : R4 (a := 64) (b := 8) (c := 64) (d := 64) Y g) :
    R4 (a := 64) (b := 8) (c := 64) (d := 64) (addf X Y) fun n h => f n h + g n h := by
  intro n h i d
  refine (congrArg₂ (fun a b : EReal => a + b) (hX n h i d) (hY n h i d)).trans ?_
  exact (EReal.coe_add _ _).symm

theorem v52 (H : Args m c D) : R4 (k_v52 m c) fun n h => ((D.chunk n h).inv 0).2 := by
  intro n h i d
  have e : k_v46 m c (ix4 n h i d) = (((D.chunk n h).L i d : ℝ) : EReal) := v46 H n h i d
  show _ = ((((D.chunk n h).inv 0).2 i d : ℝ) : EReal)
  rw [k_v52_eq, Host.negf_apply, Ideal.hostNegf_def, Ideal.negf_def, e, Chunk.inv_zero_snd, EReal.coe_neg]

theorem v61 (H : Args m c D) : R4 (k_v61 m c) fun n h => ((D.chunk n h).inv 0).1 := by
  intro n h i d
  have e : k_v52 m c (ix4 n h i d) = ((((D.chunk n h).inv 0).2 i d : ℝ) : EReal) := v52 H n h i d
  show _ = ((((D.chunk n h).inv 0).1 i d : ℝ) : EReal)
  rw [k_v61_eq, k_v60_eq, k_v59_eq, k_v58_eq, k_v57_eq, k_v56_eq, k_v55_eq, k_v54_eq, k_v53_eq, k_c_5_eq]
  refine (eye4 n h i d).trans ?_
  rw [eye, e, ← EReal.coe_add, Chunk.inv_zero_fst, Chunk.inv_zero_snd]

theorem v62 (H : Args m c D) : R4 (k_v62 m c) fun n h => ((D.chunk n h).inv 1).2 := by
  rw [k_v62_eq]; exact dotTT (v52 H) (v52 H)
theorem v64 (H : Args m c D) : R4 (k_v64 m c) fun n h => ((D.chunk n h).inv 1).1 := by
  rw [k_v64_eq, k_v63_eq]; exact addTT (v61 H) (dotTT (v61 H) (v62 H))
theorem v65 (H : Args m c D) : R4 (k_v65 m c) fun n h => ((D.chunk n h).inv 2).2 := by
  rw [k_v65_eq]; exact dotTT (v62 H) (v62 H)
theorem v67 (H : Args m c D) : R4 (k_v67 m c) fun n h => ((D.chunk n h).inv 2).1 := by
  rw [k_v67_eq, k_v66_eq]; exact addTT (v64 H) (dotTT (v64 H) (v65 H))
theorem v68 (H : Args m c D) : R4 (k_v68 m c) fun n h => ((D.chunk n h).inv 3).2 := by
  rw [k_v68_eq]; exact dotTT (v65 H) (v65 H)
theorem v70 (H : Args m c D) : R4 (k_v70 m c) fun n h => ((D.chunk n h).inv 3).1 := by
  rw [k_v70_eq, k_v69_eq]; exact addTT (v67 H) (dotTT (v67 H) (v68 H))
theorem v71 (H : Args m c D) : R4 (k_v71 m c) fun n h => ((D.chunk n h).inv 4).2 := by
  rw [k_v71_eq]; exact dotTT (v68 H) (v68 H)
theorem v73 (H : Args m c D) : R4 (k_v73 m c) fun n h => ((D.chunk n h).inv 4).1 := by
  rw [k_v73_eq, k_v72_eq]; exact addTT (v70 H) (dotTT (v70 H) (v71 H))
theorem v76 (H : Args m c D) : R4 (k_v76 m c) fun n h => (D.chunk n h).A := by
  rw [k_v76_eq, k_v75_eq, k_v74_eq]; exact addTT (v73 H) (dotTT (v73 H) (dotTT (v71 H) (v71 H)))

/-! The same inverse once more, as the call's own argument. -/

theorem v96 (H : Args m c D) : R4 (k_v96 m c) fun n h => ((D.chunk n h).inv 0).2 := by
  rw [k_v96_eq, ← k_v52_eq]; exact v52 H
theorem v105 (H : Args m c D) : R4 (k_v105 m c) fun n h => ((D.chunk n h).inv 0).1 := by
  rw [k_v105_eq, k_v104_eq, k_v103_eq, k_v102_eq, k_v101_eq, k_v100_eq, k_v99_eq, k_v98_eq, k_v97_eq, k_c_9_eq]
  intro n h i d
  have e : k_v96 m c (ix4 n h i d) = ((((D.chunk n h).inv 0).2 i d : ℝ) : EReal) := v96 H n h i d
  show _ = ((((D.chunk n h).inv 0).1 i d : ℝ) : EReal)
  refine (eye4 n h i d).trans ?_
  rw [eye, e, ← EReal.coe_add, Chunk.inv_zero_fst, Chunk.inv_zero_snd]
theorem v106 (H : Args m c D) : R4 (k_v106 m c) fun n h => ((D.chunk n h).inv 1).2 := by
  rw [k_v106_eq]; exact dotTT (v96 H) (v96 H)
theorem v108 (H : Args m c D) : R4 (k_v108 m c) fun n h => ((D.chunk n h).inv 1).1 := by
  rw [k_v108_eq, k_v107_eq]; exact addTT (v105 H) (dotTT (v105 H) (v106 H))
theorem v109 (H : Args m c D) : R4 (k_v109 m c) fun n h => ((D.chunk n h).inv 2).2 := by
  rw [k_v109_eq]; exact dotTT (v106 H) (v106 H)
theorem v111 (H : Args m c D) : R4 (k_v111 m c) fun n h => ((D.chunk n h).inv 2).1 := by
  rw [k_v111_eq, k_v110_eq]; exact addTT (v108 H) (dotTT (v108 H) (v109 H))
theorem v112 (H : Args m c D) : R4 (k_v112 m c) fun n h => ((D.chunk n h).inv 3).2 := by
  rw [k_v112_eq]; exact dotTT (v109 H) (v109 H)
theorem v114 (H : Args m c D) : R4 (k_v114 m c) fun n h => ((D.chunk n h).inv 3).1 := by
  rw [k_v114_eq, k_v113_eq]; exact addTT (v111 H) (dotTT (v111 H) (v112 H))
theorem v115 (H : Args m c D) : R4 (k_v115 m c) fun n h => ((D.chunk n h).inv 4).2 := by
  rw [k_v115_eq]; exact dotTT (v112 H) (v112 H)
theorem v117 (H : Args m c D) : R4 (k_v117 m c) fun n h => ((D.chunk n h).inv 4).1 := by
  rw [k_v117_eq, k_v116_eq]; exact addTT (v114 H) (dotTT (v114 H) (v115 H))
theorem v120 (H : Args m c D) : R4 (k_v120 m c) fun n h => (D.chunk n h).A := by
  rw [k_v120_eq, k_v119_eq, k_v118_eq]; exact addTT (v117 H) (dotTT (v117 H) (dotTT (v115 H) (v115 H)))

/-! The corrected values. -/

theorem v50 (H : Args m c D) : R4 (k_v50 m c) fun n h => (D.chunk n h).ekb := by
  intro n h i d
  have e : k_v27 m c (ix4 n h i d) = (((D.chunk n h).kb i d : ℝ) : EReal) := v27 H n h i d
  have e2 : k_v31 m c (ix3 n h i) = (((D.chunk n h).gc i : ℝ) : EReal) := v31 H n h i
  show _ = (((D.chunk n h).kb i d * Real.exp ((D.chunk n h).gc i) : ℝ) : EReal)
  rw [k_v50_eq, k_v49_eq, k_v48_eq, k_v47_eq]
  generalize (D.chunk n h).kb i d = r at e ⊢
  generalize (D.chunk n h).gc i = s at e2 ⊢
  pointwise [e, e2]
  rw [Ideal.exp_coe, ← EReal.coe_mul]

theorem v77 (H : Args m c D) (n : Fin 64) (h : Fin 8) (i : Fin 64) (d : Fin 256) :
    k_v77 m c (ix4 n h i d) = (((if hd : d.val < 128 then (D.chunk n h).u i ⟨d.val, hd⟩ else (D.chunk n h).w i ⟨d.val - 128, by omega⟩) : ℝ) : EReal) := by
  have eA : ∀ i j, k_v76 m c (ix4 n h i j) = (((D.chunk n h).A i j : ℝ) : EReal) := v76 H n h
  have e1 : ∀ i j, k_v30 m c (ix4 n h i j) = (((D.chunk n h).vb i j : ℝ) : EReal) := v30 H n h
  have e2 : ∀ i j, k_v50 m c (ix4 n h i j) = (((D.chunk n h).ekb i j : ℝ) : EReal) := v50 H n h
  rw [k_v77_eq, k_v51_eq]
  unfold Chunk.u Chunk.w
  generalize (D.chunk n h).A = A at eA ⊢
  generalize (D.chunk n h).vb = b1 at e1 ⊢
  generalize (D.chunk n h).ekb = b2 at e2 ⊢
  simp only [Matrix.mul_apply]
  pointwise [eA, e1, e2]
  by_cases hd : d.val < 128
  · simp only [hd, dite_true, ← EReal.coe_mul, coe_sum]
  · simp only [hd, dite_false, ← EReal.coe_mul, coe_sum]

theorem v78 (H : Args m c D) : R4 (k_v78 m c) fun n h => (D.chunk n h).u := by
  intro n h i d
  have e : k_v77 m c (ix4 n h i (⟨d.val, by omega⟩ : Fin 256)) = (((D.chunk n h).u i d : ℝ) : EReal) := by
    rw [v77 H]; simp
  show _ = (((D.chunk n h).u i d : ℝ) : EReal)
  rw [k_v78_eq, ← e]
  generalize k_v77 m c = Y
  pointwise []

theorem v79 (H : Args m c D) : R4 (k_v79 m c) fun n h => (D.chunk n h).w := by
  intro n h i d
  have e : k_v77 m c (ix4 n h i (⟨128 + d.val, by omega⟩ : Fin 256)) = (((D.chunk n h).w i d : ℝ) : EReal) := by
    rw [v77 H]; simp
  show _ = (((D.chunk n h).w i d : ℝ) : EReal)
  rw [k_v79_eq, ← e]
  generalize k_v77 m c = Y
  pointwise []

/-- A product with the states, chunk by chunk and head by head. -/
theorem dotRS {X : FVec Ideal S64x8x64x128 .f32} {Y : FVec Ideal S64x8x128x128 .f32} {f : Fin 64 → Fin 8 → Rows} {g : Fin 64 → Fin 8 → Sq}
    (hX : R4 (a := 64) (b := 8) (c := 64) (d := 128) X f) (hY : R4 (a := 64) (b := 8) (c := 128) (d := 128) Y g) :
    R4 (a := 64) (b := 8) (c := 64) (d := 128) (Host.dotGeneral dot_S64x8x64x128_S64x8x128x128_S64x8x64x128_3_2_2_3_01_01 none X Y)
      fun n h => f n h * g n h := by
  intro n h i d
  show _ = ((((f n h * g n h) i d : ℝ)) : EReal)
  have hx : ∀ i j, X (ix4 n h i j) = ((f n h i j : ℝ) : EReal) := hX n h
  have hy : ∀ i j, Y (ix4 n h i j) = ((g n h i j : ℝ) : EReal) := hY n h
  simp only [Matrix.mul_apply]
  generalize f n h = f' at hx ⊢
  generalize g n h = g' at hy ⊢
  pointwise [hx, hy]
  simp only [← EReal.coe_mul, coe_sum]

theorem subRR {X Y : FVec Ideal S64x8x64x128 .f32} {f g : Fin 64 → Fin 8 → Rows}
    (hX : R4 (a := 64) (b := 8) (c := 64) (d := 128) X f) (hY : R4 (a := 64) (b := 8) (c := 64) (d := 128) Y g) :
    R4 (a := 64) (b := 8) (c := 64) (d := 128) (subf X Y) fun n h => f n h - g n h := by
  intro n h i d
  refine (congrArg₂ (fun a b : EReal => a - b) (hX n h i d) (hY n h i d)).trans ?_
  exact (EReal.coe_sub _ _).symm

theorem v84 (H : Args m c D) : R4 (k_v84 m c) fun n h => (D.chunk n h).vnew := by
  rw [k_v84_eq, k_v83_eq, k_arg7_eq]
  exact subRR (v78 H) (dotRS (v79 H) H.S)

/-! The blocks. -/

/-- The corrected values. -/
theorem v86 (H : Args m c D) (n : Fin 64) (h : Fin 8) (i : Fin 64) (d : Fin 128) :
    k_v86 m c (ix2 (tok n i) (lane h d)) = (((D.chunk n h).vnew i d : ℝ) : EReal) := by
  rw [k_v86_eq, k_v85_eq]; exact (unchunk4 _ _ n h i d).trans (v84 H n h i d)

theorem v88 (H : Args m c D) (n : Fin 64) (h : Fin 8) (i : Fin 64) :
    k_v88 m c (ix2 (tok n i) h) = (((D.chunk n h).gc i : ℝ) : EReal) := by
  rw [k_v88_eq, k_v87_eq]; exact (unchunk3 _ _ n h i).trans (v31 H n h i)

/-- The write strengths are the first eight columns. -/
theorem v90_beta (H : Args m c D) (n : Fin 64) (h : Fin 8) (i : Fin 64) :
    k_v90 m c (ix2 (tok n i) (⟨h.val, by omega⟩ : Fin 128)) = (((D.chunk n h).beta i : ℝ) : EReal) := by
  have e : k_v5 m c (ix2 (tok n i) h) = (((D.chunk n h).beta i : ℝ) : EReal) := v5 H (tok n i) h
  rw [k_v90_eq, ← e]
  generalize k_v5 m c = Y
  generalize k_v14 m c = Y1
  generalize k_v88 m c = Y2
  generalize k_v89 m c = Y3
  pointwise []

/-- The running log-decays are columns 16 to 23. -/
theorem v90_gc (H : Args m c D) (n : Fin 64) (h : Fin 8) (i : Fin 64) :
    k_v90 m c (ix2 (tok n i) (⟨16 + h.val, by omega⟩ : Fin 128)) = (((D.chunk n h).gc i : ℝ) : EReal) := by
  rw [k_v90_eq, ← v88 H]
  generalize k_v5 m c = Y
  generalize k_v14 m c = Y1
  generalize k_v88 m c = Y2
  generalize k_v89 m c = Y3
  pointwise []
  rw [dif_neg (by omega), dif_neg (by omega), dif_pos (by omega)]
  exact congrArg (fun z => Y2 (ix2 (tok n i) z)) (Fin.ext (by show 16 + h.val - 8 - 8 = h.val; omega))

/-- The same as rows. -/
theorem v93_gc (H : Args m c D) (n : Fin 64) (h : Fin 8) (i : Fin 64) :
    k_v93 m c (ix3 n (⟨16 + h.val, by omega⟩ : Fin 32) i) = (((D.chunk n h).gc i : ℝ) : EReal) := by
  rw [k_v93_eq, k_v92_eq, k_v91_eq, ← v90_gc H]
  generalize k_v90 m c = Y
  pointwise []
  rfl

end DeltaRule.Host

end
-- ==== Proof.Grid.lean ====
module

public import proofs.«01_k».proof.Proof.BodyVal
public import proofs.«01_k».proof.Proof.Point
public import proofs.«01_k».proof.Proof.Load
public import proofs.«01_k».proof.Proof.HostVal
public import proofs.«01_k».proof.Proof.Gen.KernelIdeal.Value
public import Idealize.ShloMosaic.Lib.WholeRead
public import Idealize.ShloMosaic.Lib.Pipeline.ReadBack

/-! The kernel's grid: what each point leaves, and the three arrays the call ends with. -/

@[expose] public section

set_option maxRecDepth 16384

noncomputable section

namespace DeltaRule.Ker

open Idealize.ShloMosaic Idealize.ShloMosaic.TcCoe
open Cert.KernelIdeal Cert.KernelIdeal.Gen
open DeltaRule Matrix

/-! What a tile loads. -/

section
variable {F : FTy → Type} [FloatOps F]
variable (arg3 : Memref sig .tc .vmem S128x1024 .f32) (harg3 : arg3.IsWhole) (arg4 : Memref sig .tc .vmem S128x1024 .f32) (harg4 : arg4.IsWhole) (arg6 : Memref sig .tc .vmem S128x128 .f32) (harg6 : arg6.IsWhole) (arg7 : Memref sig .tc .vmem S2x32x64 .f32) (harg7 : arg7.IsWhole) (arg9 : Memref sig .tc .vmem S128x1024 .f32) (harg9 : arg9.IsWhole) (arg10 : Memref sig .tc .vmem S2x8x128x128 .f32) (harg10 : arg10.IsWhole) (arg11 : Memref sig .tc .vmem S2x8x64x64 .f32) (harg11 : arg11.IsWhole) (arg12 : Memref sig .tc .vmem S128x1024 .f32) (harg12 : arg12.IsWhole)
  (x2 : Vec F S128x1024 .f32) (x3 : Vec F S128x1024 .f32) (x5 : Vec F S128x128 .f32) (x6 : Vec F S2x32x64 .f32) (x8 : Vec F S128x1024 .f32) (x9 : Vec F S2x8x128x128 .f32) (x10 : Vec F S2x8x64x64 .f32) (x11 : Vec F S128x1024 .f32)

theorem idxR (cc : Fin 2) (h : Fin 8) (i : Fin 64) (d : Fin 128) :
    (rectR cc h).toLoadRect.idx (ix2 i d) = ix2 (row cc i) (col h d) := by
  funext a
  apply Fin.ext
  match a with
  | ⟨0, _⟩ => show 64 * cc.val + 1 * i.val = 64 * cc.val + i.val; omega
  | ⟨1, _⟩ => show 128 * h.val + 1 * d.val = 128 * h.val + d.val; omega

theorem idxC (cc : Fin 2) (i : Fin 64) (d : Fin 128) :
    (rectC cc).toLoadRect.idx (ix2 i d) = ix2 (row cc i) d := by
  funext a
  apply Fin.ext
  match a with
  | ⟨0, _⟩ => show 64 * cc.val + 1 * i.val = 64 * cc.val + i.val; omega
  | ⟨1, _⟩ => show 0 + 1 * d.val = d.val; omega

theorem idxG (cc : Fin 2) (z : Fin 1) (i : Fin 32) (d : Fin 64) :
    (rectG cc).toLoadRect.idx (ix3 z i d) = ix3 cc i d := by
  funext a
  apply Fin.ext
  match a with
  | ⟨0, _⟩ => show cc.val + 1 * z.val = cc.val; omega
  | ⟨1, _⟩ => show 0 + 1 * i.val = i.val; omega
  | ⟨2, _⟩ => show 0 + 1 * d.val = d.val; omega

theorem idxS (cc : Fin 2) (h : Fin 8) (z w : Fin 1) (i d : Fin 128) :
    (rectS cc h).toLoadRect.idx (ix4 z w i d) = ix4 cc h i d := by
  funext a
  apply Fin.ext
  match a with
  | ⟨0, _⟩ => show cc.val + 1 * z.val = cc.val; omega
  | ⟨1, _⟩ => show h.val + 1 * w.val = h.val; omega
  | ⟨2, _⟩ => show 0 + 1 * i.val = i.val; omega
  | ⟨3, _⟩ => show 0 + 1 * d.val = d.val; omega

theorem idxA (cc : Fin 2) (h : Fin 8) (z w : Fin 1) (i d : Fin 64) :
    (rectA cc h).toLoadRect.idx (ix4 z w i d) = ix4 cc h i d := by
  funext a
  apply Fin.ext
  match a with
  | ⟨0, _⟩ => show cc.val + 1 * z.val = cc.val; omega
  | ⟨1, _⟩ => show h.val + 1 * w.val = h.val; omega
  | ⟨2, _⟩ => show 0 + 1 * i.val = i.val; omega
  | ⟨3, _⟩ => show 0 + 1 * d.val = d.val; omega

theorem idxD (h : Fin 8) (z : Fin 1) (i d : Fin 128) :
    (rectD h).toLoadRect.idx (ix3 z i d) = ix3 h i d := by
  funext a
  apply Fin.ext
  match a with
  | ⟨0, _⟩ => show h.val + 1 * z.val = h.val; omega
  | ⟨1, _⟩ => show 0 + 1 * i.val = i.val; omega
  | ⟨2, _⟩ => show 0 + 1 * d.val = d.val; omega

end

section
variable (arg3 : Memref sig .tc .vmem S128x1024 .f32) (harg3 : arg3.IsWhole) (arg4 : Memref sig .tc .vmem S128x1024 .f32) (harg4 : arg4.IsWhole) (arg6 : Memref sig .tc .vmem S128x128 .f32) (harg6 : arg6.IsWhole) (arg7 : Memref sig .tc .vmem S2x32x64 .f32) (harg7 : arg7.IsWhole) (arg9 : Memref sig .tc .vmem S128x1024 .f32) (harg9 : arg9.IsWhole) (arg10 : Memref sig .tc .vmem S2x8x128x128 .f32) (harg10 : arg10.IsWhole) (arg11 : Memref sig .tc .vmem S2x8x64x64 .f32) (harg11 : arg11.IsWhole) (arg12 : Memref sig .tc .vmem S128x1024 .f32) (harg12 : arg12.IsWhole)
  (x2 : Vec Ideal S128x1024 .f32) (x3 : Vec Ideal S128x1024 .f32) (x5 : Vec Ideal S128x128 .f32) (x6 : Vec Ideal S2x32x64 .f32) (x8 : Vec Ideal S128x1024 .f32) (x9 : Vec Ideal S2x8x128x128 .f32) (x10 : Vec Ideal S2x8x64x64 .f32) (x11 : Vec Ideal S128x1024 .f32)

/-- A tile whose blocks hold the real numbers of a chunk. -/
theorem tile_holds (cc : Fin 2) (h : Fin 8) (x : Chunk)
    (hq : ∀ i d, x2 (ix2 (row cc i) (col h d)) = ((x.q i d : ℝ) : EReal))
    (hk : ∀ i d, x3 (ix2 (row cc i) (col h d)) = ((x.k i d : ℝ) : EReal))
    (hb : ∀ i, x5 (ix2 (row cc i) (⟨h.val, by omega⟩ : Fin 128)) = ((x.beta i : ℝ) : EReal))
    (hg : ∀ i, x5 (ix2 (row cc i) (⟨16 + h.val, by omega⟩ : Fin 128)) = ((x.gc i : ℝ) : EReal))
    (hr : ∀ i, x6 (ix3 cc (⟨16 + h.val, by omega⟩ : Fin 32) i) = ((x.gc i : ℝ) : EReal))
    (hv : ∀ i d, x8 (ix2 (row cc i) (col h d)) = ((x.vnew i d : ℝ) : EReal))
    (hS : ∀ i d, x9 (ix4 cc h i d) = ((x.S i d : ℝ) : EReal))
    (hA : ∀ i d, x10 (ix4 cc h i d) = ((x.A i d : ℝ) : EReal))
    (ho : ∀ i d, x11 (ix2 (row cc i) (col h d)) = ((x.o i d : ℝ) : EReal)) :
    Holds (tile arg3 harg3 arg4 harg4 arg6 harg6 arg7 harg7 arg9 harg9 arg10 harg10 arg11 harg11 arg12 harg12 x2 x3 x5 x6 x8 x9 x10 x11 cc h) x := by
  generalize hT : tile arg3 harg3 arg4 harg4 arg6 harg6 arg7 harg7 arg9 harg9 arg10 harg10 arg11 harg11 arg12 harg12 x2 x3 x5 x6 x8 x9 x10 x11 cc h = T
  have hh : T.h = h := by rw [← hT]; rfl
  have ec : ∀ i d, T.gcol (ix2 i d) = x5 (ix2 (row cc i) d) := fun i d => by
    rw [← hT, ← idxC cc i d]; exact Memref.IsWhole.readAt_unread harg6 x5 _ _
  have eg : ∀ z i d, T.grow (ix3 z i d) = x6 (ix3 cc i d) := fun z i d => by
    rw [← hT, ← idxG cc z i d]; exact Memref.IsWhole.readAt_unread harg7 x6 _ _
  have ev : ∀ i d, T.vn (ix2 i d) = x8 (ix2 (row cc i) (col h d)) := fun i d => by
    rw [← hT, ← idxR cc h i d]; exact Memref.IsWhole.readAt_unread harg9 x8 _ _
  have es : ∀ z w i d, T.st (ix4 z w i d) = x9 (ix4 cc h i d) := fun z w i d => by
    rw [← hT, ← idxS cc h z w i d]; exact Memref.IsWhole.readAt_unread harg10 x9 _ _
  have ea : ∀ z w i d, T.a (ix4 z w i d) = x10 (ix4 cc h i d) := fun z w i d => by
    rw [← hT, ← idxA cc h z w i d]; exact Memref.IsWhole.readAt_unread harg11 x10 _ _
  constructor
  · intro i d
    rw [← hT, ← hq, ← idxR cc h i d]; exact Memref.IsWhole.readAt_unread harg3 x2 _ _
  · intro i d
    rw [← hT, ← hk, ← idxR cc h i d]; exact Memref.IsWhole.readAt_unread harg4 x3 _ _
  · intro i d
    rw [← hT, ← ho, ← idxR cc h i d]; exact Memref.IsWhole.readAt_unread harg12 x11 _ _
  · intro i d
    rw [← hv, ← ev]
    unfold Tile.v_new
    generalize T.vn = Y
    pointwise []
  · intro i z
    rw [← hb, ← ec]
    unfold Tile.beta
    subst hh
    generalize T.gcol = Y
    pointwise []
  · intro i z
    rw [← hg, ← ec]
    unfold Tile.gc
    subst hh
    generalize T.gcol = Y
    pointwise []
  · intro z i
    rw [← hr, ← eg 0]
    unfold Tile.gr
    subst hh
    generalize T.grow = Y
    pointwise []
  · intro i d
    rw [← hS, ← es 0 0]
    unfold Tile.S
    generalize T.st = Y
    pointwise []
  · intro i d
    rw [← hA, ← ea 0 0]
    unfold Tile.A
    generalize T.a = Y
    pointwise []

end

/-! One point. -/

variable {m : (ℓ : Loc nD τ sig) → Buf (Elt Ideal) ℓ} {c : Dev nD} {D : Data}

theorem lt32 (t : Fin cfg0.N) : t.val < 32 := lt_of_lt_of_eq t.isLt (show cfg0.N = 32 from N_0)

/-- What point `t` loads. -/
abbrev tileAt (m : (ℓ : Loc nD τ sig) → Buf (Elt Ideal) ℓ) (c : Dev nD) (t : Fin cfg0.N) : Fin 2 → Fin 8 → Tile Ideal :=
  tile (ms0_2 t) (hs0_2 t) (ms0_3 t) (hs0_3 t) (ms0_5 t) (hs0_5 t) (ms0_6 t) (hs0_6 t) (ms0_8 t) (hs0_8 t) (ms0_9 t) (hs0_9 t) (ms0_10 t) (hs0_10 t) (ms0_11 t) (hs0_11 t)
    (iblk m c 2 t) (iblk m c 3 t) (iblk m c 5 t) (iblk m c 6 t) (iblk m c 8 t) (iblk m c 9 t) (iblk m c 10 t) (iblk m c 11 t)

theorem tileAt_holds (H : Host.Args m c D) (t : Fin cfg0.N) (cc : Fin 2) (h : Fin 8) :
    Holds (tileAt m c t cc h) (D.chunk (num t cc) h) := by
  refine tile_holds _ _ _ _ _ _ _ _ _ _ _ _ _ _ _ _ _ _ _ _ _ _ _ _ cc h _ ?_ ?_ ?_ ?_ ?_ ?_ ?_ ?_ ?_
  · intro i d
    refine (load2 t (Host.k_arg0 m c) cc h i d).trans ?_
    rw [Host.k_arg0_eq]; exact H.q _ _
  · intro i d
    refine (load3 t (Host.k_arg1 m c) cc h i d).trans ?_
    rw [Host.k_arg1_eq]; exact H.k _ _
  · intro i
    exact (load5 t (Host.k_v90 m c) cc i _).trans (Host.v90_beta H _ _ _)
  · intro i
    exact (load5 t (Host.k_v90 m c) cc i _).trans (Host.v90_gc H _ _ _)
  · intro i
    exact (load6 t (Host.k_v93 m c) cc _ i).trans (Host.v93_gc H _ _ _)
  · intro i d
    exact (load8 t (Host.k_v86 m c) cc h i d).trans (Host.v86 H _ _ _ _)
  · intro i d
    refine (load9 t (Host.k_arg7 m c) cc h i d).trans ?_
    rw [Host.k_arg7_eq]; exact H.S _ _ _ _
  · intro i d
    exact (load10 t (Host.k_v120 m c) cc h i d).trans (Host.v120 H _ _ _ _)
  · intro i d
    refine (load11 t (Host.k_arg8 m c) cc h i d).trans ?_
    rw [Host.k_arg8_eq]; exact H.o _ _

/-- The state cotangents the two chunks of a point are worked on with. -/
theorem ds_real (H : Host.Args m c D) (t : Fin cfg0.N) {s : Fin 8 → Vec Ideal S1x128x128 .f32}
    (hs : ∀ h a d, s h (ix3 (0 : Fin 1) a d) = ((D.dS (2 * t.val) h a d : ℝ) : EReal)) (cc : Fin 2) (h : Fin 8) :
    R2 (a := 128) (b := 128) (ds (tileAt m c t) s cc h) (D.dS (63 - (num t cc).val) h) := by
  have ht := lt32 t
  have h1 : R2 (a := 128) (b := 128) (shapeCast S128x128 (s h) shapeCasts_S1x128x128_S128x128) (D.dS (2 * t.val) h) := by
    intro a d
    rw [← hs]
    generalize s h = Y
    pointwise []
  match cc with
  | ⟨1, _⟩ =>
    have e : 63 - (num t (1 : Fin 2)).val = 2 * t.val := by show 63 - (2 * (31 - t.val) + 1) = _; omega
    show R2 (a := 128) (b := 128) (ds (tileAt m c t) s 1 h) (D.dS (63 - (num t (1 : Fin 2)).val) h)
    rw [e]; exact h1
  | ⟨0, _⟩ =>
    have e : 63 - (num t (0 : Fin 2)).val = 2 * t.val + 1 := by show 63 - (2 * (31 - t.val) + 0) = _; omega
    have e1 : (⟨63 - 2 * t.val, by omega⟩ : Fin 64) = num t 1 := Fin.ext (by show 63 - 2 * t.val = 2 * (31 - t.val) + 1; omega)
    show R2 (a := 128) (b := 128) (ds (tileAt m c t) s 0 h) (D.dS (63 - (num t (0 : Fin 2)).val) h)
    rw [e]
    show R2 (a := 128) (b := 128) _ ((D.chunk ⟨63 - 2 * t.val, by omega⟩ h).back (D.dS (2 * t.val) h))
    rw [e1]
    exact (tileAt_holds H t 1 h).back h1

/-- What point `t` leaves: the gradients of its two chunks, and the state cotangents after them. -/
structure Left (D : Data) (t : Fin cfg0.N) (o : Vec Ideal S128x1024 .f32 × Vec Ideal S128x1024 .f32 × Vec Ideal S128x1024 .f32 × Vec Ideal S128x128 .bf16 × Vec Ideal S8x128 .f32 × Vec Ideal S8x128x128 .f32) : Prop where
  dq : ∀ cc h i d, o.1 (ix2 (row cc i) (col h d)) = ((D.dq (num t cc) h i d : ℝ) : EReal)
  dk : ∀ cc h i d, o.2.1 (ix2 (row cc i) (col h d)) = ((D.dk (num t cc) h i d : ℝ) : EReal)
  dv : ∀ cc h i d, o.2.2.1 (ix2 (row cc i) (col h d)) = ((D.dv (num t cc) h i d : ℝ) : EReal)
  dS : ∀ h a d, o.2.2.2.2.2 (ix3 h a d) = ((D.dS (2 * (t.val + 1)) h a d : ℝ) : EReal)

theorem Left.of {t : Fin cfg0.N} {a b e : Vec Ideal S128x1024 .f32} {f : Vec Ideal S128x128 .bf16} {g : Vec Ideal S8x128 .f32} {s : Vec Ideal S8x128x128 .f32}
    (dq : ∀ cc h i d, a (ix2 (row cc i) (col h d)) = ((D.dq (num t cc) h i d : ℝ) : EReal))
    (dk : ∀ cc h i d, b (ix2 (row cc i) (col h d)) = ((D.dk (num t cc) h i d : ℝ) : EReal))
    (dv : ∀ cc h i d, e (ix2 (row cc i) (col h d)) = ((D.dv (num t cc) h i d : ℝ) : EReal))
    (dS : ∀ h a d, s (ix3 h a d) = ((D.dS (2 * (t.val + 1)) h a d : ℝ) : EReal)) :
    Left D t (a, b, e, f, g, s) :=
  ⟨dq, dk, dv, dS⟩

theorem back_real (H : Host.Args m c D) (t : Fin cfg0.N) {s : Fin 8 → Vec Ideal S1x128x128 .f32}
    (hs : ∀ h a d, s h (ix3 (0 : Fin 1) a d) = ((D.dS (2 * t.val) h a d : ℝ) : EReal)) (h : Fin 8) :
    R2 (a := 128) (b := 128) ((tileAt m c t 0 h).back (ds (tileAt m c t) s 0 h)) (D.dS (2 * (t.val + 1)) h) := by
  have ht := lt32 t
  have e : 63 - (num t (0 : Fin 2)).val = 2 * t.val + 1 := by show 63 - (2 * (31 - t.val) + 0) = _; omega
  have e1 : (⟨63 - (2 * t.val + 1), by omega⟩ : Fin 64) = num t 0 := Fin.ext (by show 63 - (2 * t.val + 1) = 2 * (31 - t.val) + 0; omega)
  show R2 (a := 128) (b := 128) _ ((D.chunk ⟨63 - (2 * t.val + 1), by omega⟩ h).back (D.dS (2 * t.val + 1) h))
  rw [e1, ← e]
  exact (tileAt_holds H t 0 h).back (ds_real H t hs 0 h)

theorem zero_fill (h : Fin 8) (a d : Fin 128) :
    (View.readCov (Val := Elt Ideal) (scM0_0 : Memref sig .tc .vmem S8x128x128 .f32).view [⟨rect0, (k0_pay3 : FVec Ideal S8x128x128 .f32)⟩] (rectD h).toLoadRect : FVec Ideal S1x128x128 .f32) (ix3 (0 : Fin 1) a d) = ((D.dS (2 * 0) h a d : ℝ) : EReal) := by
  have e := View.readCov_fill (Val := Elt Ideal) (scM0_0 : Memref sig .tc .vmem S8x128x128 .f32).view inb_S8x128x128_S8x128x128_0_0_0 (k0_pay3 : FVec Ideal S8x128x128 .f32) [] (rectD h)
    (fun a => by fin_cases a <;> rfl)
  refine (congrFun e _).trans ?_
  refine Eq.trans (b := (0 : EReal)) ?_ EReal.coe_zero.symm
  show k0_pay3 (F := Ideal) _ = _
  unfold k0_pay3
  pointwise []

theorem left_A (H : Host.Args m c D) (t : Fin cfg0.N) (h0 : t.val % 32 = 0) : Left D t (outsAt0 m c t.val t.isLt) := by
  have ht := lt32 t
  have hz : t.val = 0 := by omega
  rw [outsAt0_A m c t h0]
  have hs : ∀ (h : Fin 8) (a d : Fin 128), (View.readCov (Val := Elt Ideal) (scM0_0 : Memref sig .tc .vmem S8x128x128 .f32).view [⟨rect0, (k0_pay3 : FVec Ideal S8x128x128 .f32)⟩] (rectD h).toLoadRect : FVec Ideal S1x128x128 .f32) (ix3 (0 : Fin 1) a d) = ((D.dS (2 * t.val) h a d : ℝ) : EReal) := by
    rw [hz]; exact zero_fill
  refine Left.of ?_ ?_ ?_ ?_
  · intro cc h i d
    have e1 := outA_dq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) cc h i d
    have e2 := (tileAt_holds H t cc h).dq i d
    exact e1.trans e2
  · intro cc h i d
    have e1 := outA_dk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) cc h i d
    have e2 := (tileAt_holds H t cc h).dk (ds_real H t (s := fun h => View.readCov (Val := Elt Ideal) (scM0_0 : Memref sig .tc .vmem S8x128x128 .f32).view [⟨rect0, (k0_pay3 : FVec Ideal S8x128x128 .f32)⟩] (rectD h).toLoadRect) hs cc h) i d
    exact e1.trans e2
  · intro cc h i d
    have e1 := outA_dv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) cc h i d
    have e2 := (tileAt_holds H t cc h).dv (ds_real H t (s := fun h => View.readCov (Val := Elt Ideal) (scM0_0 : Memref sig .tc .vmem S8x128x128 .f32).view [⟨rect0, (k0_pay3 : FVec Ideal S8x128x128 .f32)⟩] (rectD h).toLoadRect) hs cc h) i d
    exact e1.trans e2
  · intro h a d
    have e1 := outA_dS c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) h a d
    have e2 := back_real H t (s := fun h => View.readCov (Val := Elt Ideal) (scM0_0 : Memref sig .tc .vmem S8x128x128 .f32).view [⟨rect0, (k0_pay3 : FVec Ideal S8x128x128 .f32)⟩] (rectD h).toLoadRect) hs h a d
    exact e1.trans e2

theorem left_B (H : Host.Args m c D) (t : Fin cfg0.N) (h0 : ¬t.val % 32 = 0)
    (L : ∀ h a d, (outsAt0 m c (t.val - 1) (Nat.lt_of_le_of_lt (Nat.sub_le _ _) t.isLt)).2.2.2.2.2 (ix3 h a d) = ((D.dS (2 * t.val) h a d : ℝ) : EReal)) :
    Left D t (outsAt0 m c t.val t.isLt) := by
  rw [outsAt0_B m c t h0]
  generalize (outsAt0 m c (t.val - 1) (Nat.lt_of_le_of_lt (Nat.sub_le _ _) t.isLt)).2.2.2.2.2 = X at L ⊢
  generalize (outsAt0 m c (t.val - 1) (Nat.lt_of_le_of_lt (Nat.sub_le _ _) t.isLt)).2.2.2.2.1 = Y
  have hs : ∀ (h : Fin 8) (a d : Fin 128), View.readAt (Elt Ideal) (scM0_0 : Memref sig .tc .vmem S8x128x128 .f32).view (rectD h).toLoadRect ((Memref.isWhole_whole _ : (scM0_0 : Memref sig .tc .vmem S8x128x128 .f32).IsWhole).unread X) (ix3 (0 : Fin 1) a d) = ((D.dS (2 * t.val) h a d : ℝ) : EReal) := by
    intro h a d
    rw [← L, ← idxD h 0 a d]
    exact Memref.IsWhole.readAt_unread _ X _ _
  refine Left.of ?_ ?_ ?_ ?_
  · intro cc h i d
    have e1 := outB_dq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Y X cc h i d
    have e2 := (tileAt_holds H t cc h).dq i d
    exact e1.trans e2
  · intro cc h i d
    have e1 := outB_dk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Y X cc h i d
    have e2 := (tileAt_holds H t cc h).dk (ds_real H t (s := fun h => View.readAt (Elt Ideal) (scM0_0 : Memref sig .tc .vmem S8x128x128 .f32).view (rectD h).toLoadRect ((Memref.isWhole_whole _ : (scM0_0 : Memref sig .tc .vmem S8x128x128 .f32).IsWhole).unread X)) hs cc h) i d
    exact e1.trans e2
  · intro cc h i d
    have e1 := outB_dv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Y X cc h i d
    have e2 := (tileAt_holds H t cc h).dv (ds_real H t (s := fun h => View.readAt (Elt Ideal) (scM0_0 : Memref sig .tc .vmem S8x128x128 .f32).view (rectD h).toLoadRect ((Memref.isWhole_whole _ : (scM0_0 : Memref sig .tc .vmem S8x128x128 .f32).IsWhole).unread X)) hs cc h) i d
    exact e1.trans e2
  · intro h a d
    have e1 := outB_dS c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Y X h a d
    have e2 := back_real H t (s := fun h => View.readAt (Elt Ideal) (scM0_0 : Memref sig .tc .vmem S8x128x128 .f32).view (rectD h).toLoadRect ((Memref.isWhole_whole _ : (scM0_0 : Memref sig .tc .vmem S8x128x128 .f32).IsWhole).unread X)) hs h a d
    exact e1.trans e2

theorem left_all (H : Host.Args m c D) : ∀ (n : ℕ) (hn : n < cfg0.N), Left D ⟨n, hn⟩ (outsAt0 m c n hn)
  | 0, hn => left_A H ⟨0, hn⟩ rfl
  | n + 1, hn => by
    have h32 : n + 1 < 32 := lt32 ⟨n + 1, hn⟩
    have ih := left_all H n (Nat.lt_of_succ_lt hn)
    exact left_B H ⟨n + 1, hn⟩ (by show ¬(n + 1) % 32 = 0; omega) ih.dS

/-! The arrays the call ends with. -/

theorem exists_point (n : Fin 64) : ∃ t cc, n = num t cc := by
  refine ⟨⟨31 - n.val / 2, by rw [show cfg0.N = 32 from N_0]; omega⟩, ⟨n.val % 2, by omega⟩, Fin.ext ?_⟩
  show n.val = 2 * (31 - (31 - n.val / 2)) + n.val % 2
  omega

theorem end_dq (H : Host.Args m c D) (n : Fin 64) (h : Fin 8) (i : Fin 64) (d : Fin 128) :
    ((dats m 0 c).arrAt 12 cfg0.N : FVec Ideal S4096x1024 .f32) (ix2 (tok n i) (lane h d)) = ((D.dq n h i d : ℝ) : EReal) := by
  obtain ⟨t, cc, rfl⟩ := exists_point n
  refine (load12 (F := Ideal) t _ cc h i d).symm.trans ?_
  refine (congrFun ((Cert.KernelIdeal.Value.blocks12 (F := Ideal) m c t (flush0_12 t)).trans (Cert.KernelIdeal.Value.flushed12 (F := Ideal) m c t)) _).trans ?_
  exact (left_all H t.val t.isLt).dq cc h i d

theorem end_dk (H : Host.Args m c D) (n : Fin 64) (h : Fin 8) (i : Fin 64) (d : Fin 128) :
    ((dats m 0 c).arrAt 13 cfg0.N : FVec Ideal S4096x1024 .f32) (ix2 (tok n i) (lane h d)) = ((D.dk n h i d : ℝ) : EReal) := by
  obtain ⟨t, cc, rfl⟩ := exists_point n
  refine (load13 (F := Ideal) t _ cc h i d).symm.trans ?_
  refine (congrFun ((Cert.KernelIdeal.Value.blocks13 (F := Ideal) m c t (flush0_13 t)).trans (Cert.KernelIdeal.Value.flushed13 (F := Ideal) m c t)) _).trans ?_
  exact (left_all H t.val t.isLt).dk cc h i d

theorem end_dv (H : Host.Args m c D) (n : Fin 64) (h : Fin 8) (i : Fin 64) (d : Fin 128) :
    ((dats m 0 c).arrAt 14 cfg0.N : FVec Ideal S4096x1024 .f32) (ix2 (tok n i) (lane h d)) = ((D.dv n h i d : ℝ) : EReal) := by
  obtain ⟨t, cc, rfl⟩ := exists_point n
  refine (load14 (F := Ideal) t _ cc h i d).symm.trans ?_
  refine (congrFun ((Cert.KernelIdeal.Value.blocks14 (F := Ideal) m c t (flush0_14 t)).trans (Cert.KernelIdeal.Value.flushed14 (F := Ideal) m c t)) _).trans ?_
  exact (left_all H t.val t.isLt).dv cc h i d

end DeltaRule.Ker

end
-- ==== Proof.GradW.lean ====
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Lib.Pointwise
public import Idealize.ShloMosaic.Lib.Claim

/-!
The gradient of the output projection's weights: the kernel sums the product's 4096 rows in four blocks of 1024,
carrying the sum in a scratch; the reference sums all rows at once.
-/

@[expose] public section

set_option maxRecDepth 16384

noncomputable section

namespace GradW

open Idealize.ShloMosaic Idealize.ShloMosaic.TcCoe Idealize.SL.Sem
open Cert.Kernel3Ideal Cert.Kernel3Ideal.Gen Cert.Kernel3Ideal.Value

/-- One block's part of the product, at one entry. -/
def part (x : Vec Ideal S1024x512 .bf16) (y : Vec Ideal S1024x2048 .bf16) (j : S512x2048.Idx) : EReal :=
  ∑ k : Fin 1024, x (ix2 k (j 0)) * y (ix2 k (j 1))

theorem pay2 (x : Vec Ideal S1024x512 .bf16) (y : Vec Ideal S1024x2048 .bf16) (j : S512x2048.Idx) :
    k0_pay2 x y j = part x y j := by
  unfold k0_pay2 k0_pay1 part
  pointwise []
  try simp only [zero_add]

theorem pay3 (x : Vec Ideal S1024x512 .bf16) (y : Vec Ideal S1024x2048 .bf16) (z : Vec Ideal S512x2048 .f32) (j : S512x2048.Idx) :
    k0_pay3 x y z j = z j + part x y j := by
  unfold k0_pay3 k0_pay1 part
  pointwise []
  try simp only [zero_add]

theorem pay4 (z : Vec Ideal S512x2048 .f32) (j : S512x2048.Idx) : k0_pay4 z j = z j := by
  unfold k0_pay4
  pointwise []

variable (m : (ℓ : Loc nD τ sig) → Buf (Elt Ideal) ℓ)

/-- What the scratch holds after a point: the parts of its run so far. -/
theorem carried (c : Dev nD) (t : Fin cfg0.N) (h2 : t.val % 4 = 0) (j : S512x2048.Idx) :
    (outsAt0 m c t.val t.isLt).2 j = part (iblk m c 0 t) (iblk m c 1 t) j := by
  rw [outsAt0_A m c t h2 (by omega) (by omega)]
  frame_out
  exact pay2 _ _ _

theorem carriedB (c : Dev nD) (t : Fin cfg0.N) (h2 : ¬ t.val % 4 = 0) (h3 : ¬ t.val % 4 = 3) (j : S512x2048.Idx) :
    (outsAt0 m c t.val t.isLt).2 j = (outsAt0 m c (t.val - 1) (Nat.lt_of_le_of_lt (Nat.sub_le _ _) t.isLt)).2 j + part (iblk m c 0 t) (iblk m c 1 t) j := by
  rw [outsAt0_B m c t h2 (by omega) h3]
  frame_out
  simp only [read_unread_whole]
  exact pay3 _ _ _ _

theorem stored (c : Dev nD) (t : Fin cfg0.N) (h3 : t.val % 4 = 3) (j : S512x2048.Idx) :
    (outsAt0 m c t.val t.isLt).1 j = (outsAt0 m c (t.val - 1) (Nat.lt_of_le_of_lt (Nat.sub_le _ _) t.isLt)).2 j + part (iblk m c 0 t) (iblk m c 1 t) j := by
  rw [outsAt0_C m c t (by omega) (by omega) h3]
  frame_out
  simp only [read_unread_whole]
  exact (pay4 _ _).trans (pay3 _ _ _ _)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The product of the two arguments' entries in row `r`, for one entry of the result. -/
def term (A B : Vec Ideal S4096x2048 .f32) (j : S2048x2048.Idx) (r : Fin 4096) : EReal :=
  A (ix2 r (j 0)) * B (ix2 r (j 1))

theorem lhs_at (c : Dev nD) (t : Fin cfg0.N) (k : Fin 1024) (y0 : Fin 512) (r : Fin 4096) (q : Fin 2048) (hr : r.val = t.val % 4 * 1024 + k.val) (hq : q.val = t.val / 4 * 512 + y0.val) :
    iblk m c 0 t (ix2 k y0) = (m ((c : Thread nD τ).loc main_arg0) : Vec Ideal S4096x2048 .f32) (ix2 r q) := by
  blk_simp [iblk, idx t]
  entry_read
  pointwise
  blk_ext [idx t]

theorem rhs_at (c : Dev nD) (t : Fin cfg0.N) (k : Fin 1024) (y0 : Fin 2048) (r : Fin 4096) (hr : r.val = t.val % 4 * 1024 + k.val) :
    iblk m c 1 t (ix2 k y0) = (m ((c : Thread nD τ).loc main_arg1) : Vec Ideal S4096x2048 .f32) (ix2 r y0) := by
  blk_simp [iblk, idx t]
  entry_read
  pointwise
  blk_ext [idx t]

/-- The parts of a run of four points are the blocks of 1024 rows of the product. -/
theorem part_at (c : Dev nD) (t : Fin cfg0.N) (j : S2048x2048.Idx) (y : S512x2048.Idx) (q : Fin 4) (hq : t.val % 4 = q.val)
    (h0 : (j 0).val = t.val / 4 * 512 + (y 0).val) (h1 : (j 1).val = (y 1).val) :
    part (iblk m c 0 t) (iblk m c 1 t) y
      = ∑ k : Fin 1024, term (m ((c : Thread nD τ).loc main_arg0)) (m ((c : Thread nD τ).loc main_arg1)) j ⟨q.val * 1024 + k.val, by omega⟩ := by
  refine Finset.sum_congr rfl fun k _ => ?_
  unfold term
  have e : y 1 = j 1 := Fin.ext h1.symm
  rw [lhs_at m c t k (y 0) ⟨q.val * 1024 + k.val, by omega⟩ (j 0) (by simp only [hq]) h0,
    rhs_at m c t k (y 1) ⟨q.val * 1024 + k.val, by omega⟩ (by simp only [hq]), e]

/-- A sum over 4096 rows, in four blocks of 1024. -/
theorem sum_blocks (f : Fin 4096 → EReal) :
    ∑ r, f r = ∑ q : Fin 4, ∑ k : Fin 1024, f ⟨q.val * 1024 + k.val, by omega⟩ := by
  rw [← (finProdFinEquiv (m := 4) (n := 1024)).sum_comp, Fintype.sum_prod_type]
  refine Finset.sum_congr rfl fun q _ => Finset.sum_congr rfl fun k _ => congrArg f (Fin.ext ?_)
  simp only [finProdFinEquiv_apply_val]
  omega

/-- What the last point of a run stores: the whole product's entry. -/
theorem stored_sum (c : Dev nD) (t : Fin cfg0.N) (h3 : t.val % 4 = 3) (j : S2048x2048.Idx) (y : S512x2048.Idx)
    (h0 : (j 0).val = t.val / 4 * 512 + (y 0).val) (h1 : (j 1).val = (y 1).val) :
    (outsAt0 m c t.val t.isLt).1 y
      = ∑ r, term (m ((c : Thread nD τ).loc main_arg0)) (m ((c : Thread nD τ).loc main_arg1)) j r := by
  have l1 : t.val - 1 < cfg0.N := Nat.lt_of_le_of_lt (Nat.sub_le _ _) t.isLt
  have l2 : t.val - 1 - 1 < cfg0.N := Nat.lt_of_le_of_lt (Nat.sub_le _ _) l1
  have l3 : t.val - 1 - 1 - 1 < cfg0.N := Nat.lt_of_le_of_lt (Nat.sub_le _ _) l2
  rw [stored m c t h3, carriedB m c ⟨t.val - 1, l1⟩ (by show ¬ (t.val - 1) % 4 = 0; omega) (by show ¬ (t.val - 1) % 4 = 3; omega),
    carriedB m c ⟨t.val - 1 - 1, l2⟩ (by show ¬ (t.val - 1 - 1) % 4 = 0; omega) (by show ¬ (t.val - 1 - 1) % 4 = 3; omega),
    carried m c ⟨t.val - 1 - 1 - 1, l3⟩ (by show (t.val - 1 - 1 - 1) % 4 = 0; omega), sum_blocks, Fin.sum_univ_four,
    part_at m c t j y 3 (by simpa using h3) h0 h1,
    part_at m c ⟨t.val - 1, l1⟩ j y 2 (by show (t.val - 1) % 4 = 2; omega) (by show _ = (t.val - 1) / 4 * 512 + _; omega) h1,
    part_at m c ⟨t.val - 1 - 1, l2⟩ j y 1 (by show (t.val - 1 - 1) % 4 = 1; omega) (by show _ = (t.val - 1 - 1) / 4 * 512 + _; omega) h1,
    part_at m c ⟨t.val - 1 - 1 - 1, l3⟩ j y 0 (by show (t.val - 1 - 1 - 1) % 4 = 0; omega) (by show _ = (t.val - 1 - 1 - 1) / 4 * 512 + _; omega) h1]

/-- The kernel's result array: the whole product at every entry. -/
theorem final (c : Dev nD) (G : Vec Ideal S2048x2048 .bf16)
    (hG : ∀ j, G j = ∑ r, term (m ((c : Thread nD τ).loc main_arg0)) (m ((c : Thread nD τ).loc main_arg1)) j r) :
    (dats m 0 c).arrAt 2 cfg0.N = G := by
  refine (dats m 0 c).arrAt_eq_of_covers 2 _ (by decide +kernel) fun t hf y => ?_
  have h3 : t.val % 4 = 3 := by
    revert hf
    exact (by decide +kernel : ∀ t : Fin grid0.N, win0_2.flush t = true → t.val % 4 = 3) t
  blk_simp
  rw [after0_2]
  rw [hG]
  refine stored_sum m c t h3 _ _ ?_ ?_
  · blk_simp [idx t]
  · blk_simp [idx t]

end GradW

namespace GradW

open Idealize.ShloMosaic Cert.Reference3Ideal Cert.Reference3Ideal.Gen

/-- The reference's term is the same product at every entry. -/
theorem reference (A B : FVec Ideal S4096x2048 .f32) (j : S2048x2048.Idx) :
    (truncf .bf16 (transpose S2048x2048 [1, 0] (Host.dotGeneral (φ₁ := .f32) (φ₂ := .f32) dot_S4096x2048_S4096x2048_S2048x2048_0_0_1_1_n_n none B A) transposes_S2048x2048_S2048x2048_1_0) bitsLt_bf16_f32 : FVec Ideal S2048x2048 .bf16) j
      = ∑ r, term A B j r := by
  unfold term
  pointwise []
  exact Finset.sum_congr rfl fun r _ => mul_comm _ _

end GradW
end
-- ==== Proof.Row.lean ====
module

public import Idealize.ShloMosaic.Lib.Pointwise
public import Idealize.ShloMosaic.Lib.IdealHost

/-!
One row of the root-mean-square norm and of its derivative, over the extended reals. The kernels use the closed form
`r (a - y mean(a y))`, where `y` is the normalised row; the derivative of the forward pass sums the part through
the scale twice. They are equal for every row, infinite entries included: the scale `r` is a positive real
number or, when the sum of squares is infinite, zero.
-/

@[expose] public section

noncomputable section

namespace Row

open Idealize.ShloMosaic

/-- The constants of the norm, as the programs hold them. -/
abbrev len : EReal := Ideal.ofBits .f32 0x45000000#32
abbrev eps : EReal := Ideal.ofBits .f32 0x358637BD#32

theorem len_eq : len = ((2048 : ℝ) : EReal) := by
  unfold len
  simp [Ideal.ofBits, Ideal.ieee]
  rw [← EReal.coe_mul]
  norm_num

theorem inv_len_eq : Ideal.ofBits .f32 0x3A000000#32 = ((1 / 2048 : ℝ) : EReal) := by
  simp [Ideal.ofBits, Ideal.ieee]
  rw [← EReal.coe_mul]
  norm_num

theorem half_eq : Ideal.ofBits .f32 0x3F000000#32 = ((1 / 2 : ℝ) : EReal) := by
  simp [Ideal.ofBits, Ideal.ieee]
  rw [← EReal.coe_mul]
  norm_num

theorem neg_half_eq : Ideal.ofBits .f32 0xBF000000#32 = ((-(1 / 2) : ℝ) : EReal) := by
  simp [Ideal.ofBits, Ideal.ieee]
  rw [← EReal.coe_mul]
  norm_num

theorem two_eq : Ideal.ofBits .f32 0x40000000#32 = ((2 : ℝ) : EReal) := by
  simp [Ideal.ofBits, Ideal.ieee]
  rw [← EReal.coe_mul]
  norm_num

theorem eps_eq : ∃ r : ℝ, 0 < r ∧ eps = (r : EReal) := by
  refine ⟨(2 ^ 23 + 407485 : ℕ) * (2 : ℝ) ^ (-43 : ℤ), by positivity, ?_⟩
  unfold eps
  simp [Ideal.ofBits, Ideal.ieee]

theorem div_len (x : EReal) : Ideal.div x len = x * ((1 / 2048 : ℝ) : EReal) := by
  unfold Ideal.div
  rw [len_eq, if_neg (by norm_num), ← EReal.coe_inv]
  norm_num

variable {n : ℕ}

/-- The mean of the squares, and the constant that keeps it off zero. -/
def ms (h : Fin n → EReal) : EReal := Ideal.div (∑ x, h x * h x) len + eps

/-- The scale of the row. -/
def rs (h : Fin n → EReal) : EReal := Ideal.rsqrt (ms h)

/-- The derivative through the norm, closed form. -/
def back (a h : Fin n → EReal) (j : Fin n) : EReal :=
  rs h * (a j - h j * rs h * Ideal.div (∑ x, a x * (h x * rs h)) len)

/-- What the derivative adds through the scale. -/
def through (a h : Fin n → EReal) : EReal :=
  Ideal.div ((∑ x, h x * a x) * (Ideal.ofBits .f32 0xBF000000#32 * Ideal.div (rs h) (ms h))) len

theorem ms_cases (h : Fin n → EReal) : ms h = ⊤ ∨ ∃ r : ℝ, 0 < r ∧ ms h = (r : EReal) := by
  obtain ⟨e, he, hee⟩ := eps_eq
  unfold ms
  rw [div_len, hee]
  have h0 : (0 : EReal) ≤ (∑ x, h x * h x) * ((1 / 2048 : ℝ) : EReal) := by
    refine mul_nonneg (Finset.sum_nonneg fun x _ => ?_) (by exact_mod_cast (by norm_num : (0 : ℝ) ≤ 1 / 2048))
    induction h x with
    | bot => simp
    | top => simp
    | coe r => exact_mod_cast mul_self_nonneg r
  generalize (∑ x, h x * h x) * ((1 / 2048 : ℝ) : EReal) = s at h0
  induction s with
  | bot => simp at h0
  | top => left; simp
  | coe r =>
    right
    refine ⟨r + e, ?_, by norm_cast⟩
    have : 0 ≤ r := by exact_mod_cast h0
    linarith

theorem sum_mul_coe {ι : Type*} (s : Finset ι) (f : ι → EReal) (q : ℝ) (hq : 0 ≤ q) :
    ∑ x ∈ s, f x * (q : EReal) = (∑ x ∈ s, f x) * (q : EReal) := by
  classical
  induction s using Finset.induction_on with
  | empty => simp
  | insert a s ha ih =>
    rw [Finset.sum_insert ha, Finset.sum_insert ha, ih, mul_comm (f a), mul_comm (∑ x ∈ s, f x), mul_comm (f a + _),
      EReal.left_distrib_of_nonneg_of_ne_top (by exact_mod_cast hq) (EReal.coe_ne_top q)]

theorem twice (x : EReal) (k : ℝ) : x * (k : EReal) + x * (k : EReal) = x * ((k + k : ℝ) : EReal) := by
  rcases lt_trichotomy k 0 with hk | hk | hk
  · induction x with
    | bot => rw [EReal.bot_mul_coe_of_neg hk, EReal.bot_mul_coe_of_neg (by linarith)]; rfl
    | top => rw [EReal.top_mul_coe_of_neg hk, EReal.top_mul_coe_of_neg (by linarith)]; rfl
    | coe r => norm_cast; ring
  · subst hk; simp
  · induction x with
    | bot => rw [EReal.bot_mul_coe_of_pos hk, EReal.bot_mul_coe_of_pos (by linarith)]; rfl
    | top => rw [EReal.top_mul_coe_of_pos hk, EReal.top_mul_coe_of_pos (by linarith)]; rfl
    | coe r => norm_cast; ring

/-- The two forms of the derivative through the norm. -/
theorem back_eq (a h : Fin n → EReal) (j : Fin n) :
    back a h j = a j * rs h + h j * through a h + through a h * h j := by
  unfold back through
  rcases ms_cases h with ht | ⟨r, hr, hm⟩
  · have e : rs h = 0 := by unfold rs; rw [ht]; rfl
    have e2 : Ideal.div (rs h) (ms h) = 0 := by
      rw [e, ht]; unfold Ideal.div; simp
    rw [e2, e]
    simp [div_len]
  · obtain ⟨q, hq, hrs, hqq⟩ : ∃ q : ℝ, 0 < q ∧ rs h = (q : EReal) ∧ q * q = 1 / r := by
      refine ⟨(Real.sqrt r)⁻¹, by positivity, ?_, ?_⟩
      · unfold rs; rw [hm]
        show (if r < 0 then ⊥ else if r = 0 then ⊤ else (((Real.sqrt r)⁻¹ : ℝ) : EReal)) = _
        rw [if_neg (by linarith), if_neg (by linarith)]
      · rw [← mul_inv, Real.mul_self_sqrt hr.le, one_div]
    have e2 : Ideal.div (rs h) (ms h) = ((q / r : ℝ) : EReal) := by
      rw [hrs, hm]; unfold Ideal.div
      rw [if_neg (by exact_mod_cast hr.ne'), ← EReal.coe_inv, ← EReal.coe_mul, div_eq_mul_inv]
    have e1 : ∑ x, a x * (h x * rs h) = (∑ x, h x * a x) * (q : EReal) := by
      rw [← sum_mul_coe _ _ _ hq.le]
      exact Finset.sum_congr rfl fun x _ => by rw [hrs, ← mul_assoc, mul_comm (a x)]
    rw [e2, e1, div_len, div_len, neg_half_eq, hrs]
    generalize ∑ x, h x * a x = S
    have e3 : S * (((-(1 / 2) : ℝ) : EReal) * ((q / r : ℝ) : EReal)) * ((1 / 2048 : ℝ) : EReal)
        = S * ((-(1 / 2) * (q / r) * (1 / 2048) : ℝ) : EReal) := by
      rw [mul_assoc]; norm_cast
    have e4 : h j * (q : EReal) * (S * (q : EReal) * ((1 / 2048 : ℝ) : EReal))
        = h j * S * ((q * q * (1 / 2048) : ℝ) : EReal) := by
      rw [EReal.coe_mul, EReal.coe_mul]
      generalize (q : EReal) = u
      generalize ((1 / 2048 : ℝ) : EReal) = d
      rw [mul_assoc, mul_assoc (h j), ← mul_assoc u, ← mul_assoc u, mul_comm u S]
      simp only [mul_assoc]
    rw [e3, e4, sub_eq_add_neg, EReal.left_distrib_of_nonneg_of_ne_top (by exact_mod_cast hq.le) (EReal.coe_ne_top q),
      mul_comm (q : EReal) (a j), add_assoc, mul_comm (S * _) (h j), ← mul_assoc, twice, ← mul_neg, mul_comm (q : EReal),
      ← EReal.coe_neg, mul_assoc (h j * S), ← EReal.coe_mul, hqq]
    congr 4
    field_simp
    ring

/-- The error of the row's normalised, weighted entries against the target. -/
def err (h w t : Fin n → EReal) (j : Fin n) : EReal := h j * rs h * w j - t j

/-- The loss's derivative by the row. -/
def grad (h w t : Fin n → EReal) (j : Fin n) : EReal :=
  back (fun x => err h w t x * Ideal.ofBits .f32 0x3A000000#32 * w x) h j

/-- The row's part of the loss. -/
def loss (h w t : Fin n → EReal) : EReal :=
  Ideal.ofBits .f32 0x3F000000#32 * Ideal.div (∑ x, err h w t x * err h w t x) len

/-- The row's part of the gradient of the norm's weights. -/
def gw (h w t : Fin n → EReal) (j : Fin n) : EReal :=
  err h w t j * Ideal.ofBits .f32 0x3A000000#32 * (h j * rs h)

/-- The scaled error: the kernel multiplies by one constant, the derivative by two. -/
theorem scale_eq (x : EReal) :
    Ideal.div (Ideal.ofBits .f32 0x3F000000#32) len * (Ideal.ofBits .f32 0x40000000#32 * x) = x * Ideal.ofBits .f32 0x3A000000#32 := by
  rw [div_len, half_eq, two_eq, inv_len_eq, mul_comm x, ← mul_assoc]
  norm_cast
  norm_num

/-- Half of a sum is the sum of the halves. -/
theorem half_sum {ι : Type*} (s : Finset ι) (f : ι → EReal) :
    Ideal.ofBits .f32 0x3F000000#32 * ∑ x ∈ s, f x = ∑ x ∈ s, Ideal.ofBits .f32 0x3F000000#32 * f x := by
  rw [half_eq, mul_comm, ← sum_mul_coe _ _ _ (by norm_num)]
  exact Finset.sum_congr rfl fun x _ => mul_comm _ _

end Row

end
-- ==== Proof.Head.lean ====
module

public import proofs.«01_k».proof.Defs
public import proofs.«01_k».proof.Proof.Gen.Kernel2Ideal.Value
public import proofs.«01_k».proof.Proof.Row
public import Idealize.ShloMosaic.Lib.Pipeline.ValueKit
public import Idealize.ShloMosaic.Lib.Pipeline.ReadBack
public import Idealize.ShloMosaic.Lib.WritesUnit
public import Idealize.ShloMosaic.Lib.Pointwise
public import Idealize.ShloMosaic.Lib.Claim

/-!
The head of the step: the output projection, the residual, the final norm, the loss, and their gradients. The kernel
works on 256 rows a point and carries the loss and the gradient of the norm's weights through its 16 points.
-/

@[expose] public section

set_option maxRecDepth 16384

noncomputable section

namespace Head

open Idealize.ShloMosaic Idealize.ShloMosaic.TcCoe Idealize.SL.Sem
open Cert.Kernel2Ideal Cert.Kernel2Ideal.Gen Cert.Kernel2Ideal.Value

/-! ## One block of 256 rows -/

section Block

variable (w : Vec Ideal S2048x2048 .bf16) (x : Vec Ideal S256x2048 .f32) (oc : Vec Ideal S256x2048 .bf16) (fw : Vec Ideal S1x2048 .f32) (tg : Vec Ideal S256x2048 .f32)

/-- A row of the residual stream after the projection. -/
def hb (i : Fin 256) : Fin 2048 → EReal := fun j => x (ix2 i j) + ∑ k : Fin 2048, oc (ix2 i k) * w (ix2 k j)

abbrev fwr : Fin 2048 → EReal := fun j => fw (ix2 0 j)

abbrev tgr (i : Fin 256) : Fin 2048 → EReal := fun j => tg (ix2 i j)

theorem p10 (i : Fin 256) (j : Fin 2048) : k0_pay10 w x oc (ix2 i j) = hb w x oc i j := by
  unfold k0_pay10 k0_pay9 hb
  pointwise

theorem p11 (i : Fin 256) (j : Fin 1) : k0_pay11 w x oc (ix2 i j) = Row.rs (hb w x oc i) := by
  unfold k0_pay11 Row.rs Row.ms
  simp only [← p10]
  generalize k0_pay10 w x oc = h
  pointwise

theorem p12 (i : Fin 256) (j : Fin 2048) : k0_pay12 w x oc (ix2 i j) = hb w x oc i j * Row.rs (hb w x oc i) := by
  unfold k0_pay12
  rw [← p10, ← p11 w x oc i 0]
  generalize k0_pay10 w x oc = h
  generalize k0_pay11 w x oc = r
  pointwise

theorem p13 (i : Fin 1) (j : Fin 2048) : k0_pay13 fw (ix2 i j) = fw (ix2 i j) := by
  unfold k0_pay13
  pointwise

theorem p14 (i : Fin 256) (j : Fin 2048) : k0_pay14 w x oc fw tg (ix2 i j) = Row.err (hb w x oc i) (fwr fw) (tgr tg i) j := by
  unfold k0_pay14 Row.err fwr tgr
  rw [← p12, ← p13 fw 0 j]
  generalize k0_pay12 w x oc = h
  generalize k0_pay13 fw = r
  pointwise

theorem p16 (j : Fin 1) : k0_pay16 w x oc fw tg (ix1 j) = ∑ i : Fin 256, Row.loss (hb w x oc i) (fwr fw) (tgr tg i) := by
  unfold k0_pay16 Row.loss
  simp only [← p14]
  generalize k0_pay14 w x oc fw tg = h
  pointwise

theorem p1 (a : FVec Ideal S8x128 .f32) (b : FVec Ideal S1 .f32) (i : Fin 8) (j : Fin 128) : k0_pay1 a b (ix2 i j) = a (ix2 i j) + b (ix1 0) := by
  unfold k0_pay1
  pointwise

theorem p3 (c : Vec Ideal S1x2048 .f32) (i : Fin 1) (j : Fin 2048) :
    k0_pay3 (k0_pay12 w x oc) (k0_pay14 w x oc fw tg) c (ix2 i j) = c (ix2 i j) + ∑ i : Fin 256, Row.gw (hb w x oc i) (fwr fw) (tgr tg i) j := by
  unfold k0_pay3 k0_pay2 Row.gw
  simp only [← p14, ← p12]
  generalize k0_pay14 w x oc fw tg = b
  generalize k0_pay12 w x oc = a
  pointwise

theorem p4 (i : Fin 256) (j : Fin 2048) :
    k0_pay4 (k0_pay11 w x oc) (k0_pay12 w x oc) (k0_pay13 fw) (k0_pay14 w x oc fw tg) (ix2 i j) = Row.grad (hb w x oc i) (fwr fw) (tgr tg i) j := by
  unfold k0_pay4 k0_pay2 Row.grad Row.back
  simp only [← p14, ← p12]
  rw [← p11 w x oc i 0, show fwr fw = fun j => k0_pay13 fw (ix2 0 j) from funext fun j => (p13 fw 0 j).symm]
  generalize k0_pay14 w x oc fw tg = b
  generalize k0_pay12 w x oc = a
  generalize k0_pay11 w x oc = r
  generalize k0_pay13 fw = f
  pointwise

theorem p5 (i : Fin 256) (j : Fin 2048) :
    k0_pay5 (k0_pay11 w x oc) (k0_pay12 w x oc) (k0_pay13 fw) (k0_pay14 w x oc fw tg) (ix2 i j) = Row.grad (hb w x oc i) (fwr fw) (tgr tg i) j := by
  unfold k0_pay5
  rw [← p4]
  generalize k0_pay4 (k0_pay11 w x oc) _ _ _ = d
  pointwise

theorem p6 (i : Fin 256) (k : Fin 2048) :
    k0_pay6 (k0_pay9 w) (k0_pay11 w x oc) (k0_pay12 w x oc) (k0_pay13 fw) (k0_pay14 w x oc fw tg) (ix2 i k)
      = ∑ j, Row.grad (hb w x oc i) (fwr fw) (tgr tg i) j * w (ix2 k j) := by
  unfold k0_pay6 k0_pay9
  simp only [← p5]
  generalize k0_pay5 (k0_pay11 w x oc) _ _ _ = d
  pointwise

end Block

/-! ## The blocks of the arguments -/

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![t.val, 0] ∧ win0_8.index t = ![0, 0] ∧ win0_9.index t = ![0, 0] :=
  (by decide +kernel : ∀ t : Fin grid0.N, _)

/-- A row of the residual stream, of the whole arrays. -/
def hr (oc : FVec Ideal S4096x2048 .f32) (w : FVec Ideal S2048x2048 .f32) (x : FVec Ideal S4096x2048 .f32) (i : Fin 4096) : Fin 2048 → EReal :=
  fun j => x (ix2 i j) + ∑ k : Fin 2048, oc (ix2 i k) * w (ix2 k j)

abbrev A0 (c : Dev nD) : FVec Ideal S4096x2048 .f32 := m ((c : Thread nD τ).loc main_arg0)
abbrev A1 (c : Dev nD) : FVec Ideal S2048x2048 .f32 := m ((c : Thread nD τ).loc main_arg1)
abbrev A2 (c : Dev nD) : FVec Ideal S4096x2048 .f32 := m ((c : Thread nD τ).loc main_arg2)
abbrev A3 (c : Dev nD) : FVec Ideal S4096x2048 .f32 := m ((c : Thread nD τ).loc main_arg3)
abbrev A4 (c : Dev nD) : FVec Ideal S2048 .f32 := m ((c : Thread nD τ).loc main_arg4)

theorem N_eq : cfg0.N = 16 := rfl

/-- The row of the arrays that a point's block holds as its row `i`. -/
abbrev row (t : Fin cfg0.N) (i : Fin 256) : Fin 4096 := ⟨t.val * 256 + i.val, by have : t.val < 16 := t.isLt; omega⟩

theorem oc_at (c : Dev nD) (t : Fin cfg0.N) (i : Fin 256) (j : Fin 2048) : iblk m c 0 t (ix2 i j) = A0 m c (ix2 (row t i) j) := by
  blk_simp [iblk, idx t]
  entry_read
  pointwise
  blk_ext [idx t]

theorem w_at (c : Dev nD) (t : Fin cfg0.N) (i j : Fin 2048) : iblk m c 1 t (ix2 i j) = A1 m c (ix2 i j) := by
  blk_simp [iblk, idx t]
  entry_read
  pointwise
  blk_ext [idx t]

theorem x_at (c : Dev nD) (t : Fin cfg0.N) (i : Fin 256) (j : Fin 2048) : iblk m c 2 t (ix2 i j) = A2 m c (ix2 (row t i) j) := by
  blk_ext [iblk, V, idx t]

theorem t_at (c : Dev nD) (t : Fin cfg0.N) (i : Fin 256) (j : Fin 2048) : iblk m c 3 t (ix2 i j) = A3 m c (ix2 (row t i) j) := by
  blk_ext [iblk, V, idx t]

theorem fw_at (c : Dev nD) (t : Fin cfg0.N) (j : Fin 2048) : iblk m c 4 t (ix2 0 j) = A4 m c (ix1 j) := by
  blk_simp [iblk, idx t]
  entry_read
  pointwise
  blk_ext [idx t]

theorem hb_at (c : Dev nD) (t : Fin cfg0.N) (i : Fin 256) :
    hb (iblk m c 1 t) (iblk m c 2 t) (iblk m c 0 t) i = hr (A0 m c) (A1 m c) (A2 m c) (row t i) := by
  funext j
  unfold hb hr
  rw [x_at]
  simp only [oc_at, w_at]

theorem fwr_at (c : Dev nD) (t : Fin cfg0.N) : fwr (iblk m c 4 t) = fun j => A4 m c (ix1 j) := funext fun j => fw_at m c t j

theorem tgr_at (c : Dev nD) (t : Fin cfg0.N) (i : Fin 256) : tgr (iblk m c 3 t) i = fun j => A3 m c (ix2 (row t i) j) :=
  funext fun j => t_at m c t i j

/-! ## What each point writes -/

/-- The loss's derivative by a row of the residual stream. -/
def gradRow (c : Dev nD) (r : Fin 4096) : Fin 2048 → EReal :=
  Row.grad (hr (A0 m c) (A1 m c) (A2 m c) r) (fun j => A4 m c (ix1 j)) (fun j => A3 m c (ix2 r j))

def lossRow (c : Dev nD) (r : Fin 4096) : EReal :=
  Row.loss (hr (A0 m c) (A1 m c) (A2 m c) r) (fun j => A4 m c (ix1 j)) (fun j => A3 m c (ix2 r j))

def gwRow (c : Dev nD) (r : Fin 4096) : Fin 2048 → EReal :=
  Row.gw (hr (A0 m c) (A1 m c) (A2 m c) r) (fun j => A4 m c (ix1 j)) (fun j => A3 m c (ix2 r j))

theorem out1 (c : Dev nD) (t : Fin cfg0.N) (i : Fin 256) (j : Fin 2048) :
    (outsAt0 m c t.val t.isLt).1 (ix2 i j) = gradRow m c (row t i) j := by
  by_cases h : t.val % 16 = 0
  · rw [outsAt0_A m c t h]
    frame_out
    rw [p4, hb_at, fwr_at, tgr_at]
    rfl
  · rw [outsAt0_B m c t h]
    frame_out
    rw [p4, hb_at, fwr_at, tgr_at]
    rfl

theorem out2 (c : Dev nD) (t : Fin cfg0.N) (i : Fin 256) (j : Fin 2048) :
    (outsAt0 m c t.val t.isLt).2.1 (ix2 i j) = gradRow m c (row t i) j := by
  by_cases h : t.val % 16 = 0
  · rw [outsAt0_A m c t h]
    frame_out
    rw [p5, hb_at, fwr_at, tgr_at]
    rfl
  · rw [outsAt0_B m c t h]
    frame_out
    rw [p5, hb_at, fwr_at, tgr_at]
    rfl

theorem out3 (c : Dev nD) (t : Fin cfg0.N) (i : Fin 256) (k : Fin 2048) :
    (outsAt0 m c t.val t.isLt).2.2.1 (ix2 i k) = ∑ j, gradRow m c (row t i) j * A1 m c (ix2 k j) := by
  by_cases h : t.val % 16 = 0
  · rw [outsAt0_A m c t h]
    frame_out
    rw [p6, hb_at, fwr_at, tgr_at]
    simp only [w_at]
    rfl
  · rw [outsAt0_B m c t h]
    frame_out
    rw [p6, hb_at, fwr_at, tgr_at]
    simp only [w_at]
    rfl

theorem loss_first (c : Dev nD) (t : Fin cfg0.N) (h : t.val % 16 = 0) (i : Fin 8) (j : Fin 128) :
    (outsAt0 m c t.val t.isLt).2.2.2.1 (ix2 i j) = 0 + ∑ i : Fin 256, lossRow m c (row t i) := by
  rw [outsAt0_A m c t h]
  frame_out
  rw [p1, p16]
  simp only [hb_at, fwr_at, tgr_at]
  refine congrArg₂ (· + ·) ?_ rfl
  unfold k0_pay15 k0_pay7
  pointwise

theorem loss_next (c : Dev nD) (t : Fin cfg0.N) (h : ¬t.val % 16 = 0) (i : Fin 8) (j : Fin 128) :
    (outsAt0 m c t.val t.isLt).2.2.2.1 (ix2 i j)
      = (outsAt0 m c (t.val - 1) (by omega)).2.2.2.1 (ix2 i j) + ∑ i : Fin 256, lossRow m c (row t i) := by
  rw [outsAt0_B m c t h]
  frame_out
  rw [p1, p16]
  simp only [hb_at, fwr_at, tgr_at]
  refine congrArg₂ (· + ·) ?_ rfl
  unfold k0_pay15
  pointwise

/-- The rectangle of an accumulator's first row. -/
abbrev R1 : Rect S8x2048 := Rect.unit ![0, 0] ![1, 2048] inb_S8x2048_S1x2048_0_0

theorem R1_emb (j : Fin 2048) : (ix2 (0 : Fin 8) j : S8x2048.Idx) = R1.emb (ix2 (0 : Fin 1) j) := by
  funext a
  refine Fin.ext ?_
  match a with
  | 0 => simp [R1]
  | 1 => simp [R1]

theorem ld_R1 (u : Vec Ideal S8x2048 .f32) (j : Fin 2048) :
    View.ld u R1 (ix2 (0 : Fin 1) j) = u (ix2 (0 : Fin 8) j) := by
  rw [R1_emb]
  rfl

theorem R1_not_mem (i : Fin 8) (j : Fin 2048) (h : ¬i.val = 0) : (ix2 i j : S8x2048.Idx) ∉ R1.set := by
  rw [Rect.mem_set_unit]
  intro hh
  have := (hh 0).2
  simp at this
  omega

/-- The rectangle of a whole accumulator. -/
abbrev R8 : Rect S8x2048 := Rect.unit ![0, 0] ![8, 2048] inb_S8x2048_S8x2048_0_0

section Writes

variable {κ : Kind} {sp : Space} (v : View sig κ sp S8x2048 .f32) (a : Vec Ideal S1x2048 .f32) (Z : Vec Ideal S8x2048 .f32)

theorem canon_row (i : Fin 8) (j : Fin 2048) :
    (View.canon [⟨R1, a⟩, ⟨R8, Z⟩] : Vec Ideal S8x2048 .f32) (ix2 i j) = if i.val = 0 then a (ix2 0 j) else Z (ix2 i j) := by
  by_cases hi : i.val = 0
  · obtain rfl : i = 0 := Fin.ext hi
    rw [if_pos hi, R1_emb]
    exact View.canon_cons_emb _ _ _ _
  · rw [if_neg hi]
    refine (View.canon_cons_of_not_mem _ _ (R1_not_mem i j hi)).trans ?_
    exact congrFun (View.canon_unit_zero (by funext a; match a with | 0 => rfl | 1 => rfl) inb_S8x2048_S8x2048_0_0 Z) _

theorem readCov_row (j : Fin 2048) :
    (v.readCov [⟨R8, Z⟩] R1.toLoadRect : Vec Ideal S1x2048 .f32) (ix2 0 j) = Z (ix2 0 j) := by
  refine (congrFun (View.readCov_fill v inb_S8x2048_S8x2048_0_0 Z [] R1 (by decide)) _).trans ?_
  exact ld_R1 Z j

theorem writes_row (f : v.ty.Contents (Elt Ideal)) (i : Fin 8) (j : Fin 2048) :
    (v.read (Elt Ideal) (v.writes (Elt Ideal) f [⟨R1, a⟩]) : Vec Ideal S8x2048 .f32) (ix2 i j)
      = if i.val = 0 then a (ix2 0 j) else v.read (Elt Ideal) f (ix2 i j) := by
  by_cases hi : i.val = 0
  · rw [if_pos hi]
    exact View.read_writes_cons_rows_of_mem (o := 0) v f inb_S8x2048_S1x2048_0_0 a [] (ix2 i j) (ix2 (0 : Fin 1) j) rfl (by simp [hi]) rfl
  · rw [if_neg hi]
    exact View.read_writes_cons_rows_of_not_mem (o := 0) (W := 1) v f inb_S8x2048_S1x2048_0_0 a [] (ix2 i j) rfl rfl
      (Or.inr (by simp only [ix2_0]; omega))

end Writes

theorem zero8 (y : S8x2048.Idx) : k0_pay8 (F := Ideal) y = (0 : EReal) := by
  rw [eq_ix2 y]
  unfold k0_pay8
  pointwise

theorem gw_first (c : Dev nD) (t : Fin cfg0.N) (h : t.val % 16 = 0) (i : Fin 8) (j : Fin 2048) :
    (outsAt0 m c t.val t.isLt).2.2.2.2 (ix2 i j) = 0 + (if i.val = 0 then ∑ i : Fin 256, gwRow m c (row t i) j else 0) := by
  rw [outsAt0_A m c t h]
  frame_out
  refine (canon_row _ _ i j).trans ?_
  by_cases hi : i.val = 0
  · rw [if_pos hi, if_pos hi]
    refine (p3 _ _ _ _ _ _ 0 j).trans ?_
    simp only [hb_at, fwr_at, tgr_at]
    exact congrArg₂ (· + ·) ((readCov_row _ _ j).trans (zero8 _)) rfl
  · rw [if_neg hi, if_neg hi, add_zero]
    exact zero8 _

theorem gw_next (c : Dev nD) (t : Fin cfg0.N) (h : ¬t.val % 16 = 0) (i : Fin 8) (j : Fin 2048) :
    (outsAt0 m c t.val t.isLt).2.2.2.2 (ix2 i j)
      = (outsAt0 m c (t.val - 1) (by omega)).2.2.2.2 (ix2 i j) + (if i.val = 0 then ∑ i : Fin 256, gwRow m c (row t i) j else 0) := by
  rw [outsAt0_B m c t h]
  frame_out
  generalize outsAt0 m c (t.val - 1) _ = q
  refine (writes_row _ _ _ i j).trans ?_
  by_cases hi : i.val = 0
  · rw [if_pos hi, if_pos hi]
    refine (p3 _ _ _ _ _ _ 0 j).trans ?_
    simp only [hb_at, fwr_at, tgr_at]
    refine congrArg₂ (· + ·) ((ld_R1 _ j).trans ?_) rfl
    rw [show i = 0 from Fin.ext hi]
  · rw [if_neg hi, if_neg hi, add_zero]
    exact congrFun ((hs0_9 t).read_unread _) _

/-! ## The results -/

theorem sum_rows (f : Fin 4096 → EReal) : ∑ t : Fin 16, ∑ i : Fin 256, f ⟨t.val * 256 + i.val, by omega⟩ = ∑ r : Fin 4096, f r := by
  rw [← (finProdFinEquiv (m := 16) (n := 256)).sum_comp, Fintype.sum_prod_type]
  refine Finset.sum_congr rfl fun t _ => Finset.sum_congr rfl fun i _ => congrArg f (Fin.ext ?_)
  simp only [finProdFinEquiv_apply_val]
  omega

theorem loss_last (c : Dev nD) (t : Fin cfg0.N) (ht : t.val + 1 = 16) (y : S8x128.Idx) :
    (outsAt0 m c t.val t.isLt).2.2.2.1 y = ∑ r, lossRow m c r := by
  rw [← sum_rows]
  refine (Pipeline.eq_sum_fin_of_reset_step_apply_last (N := 16) (f := fun n h => (outsAt0 m c n h).2.2.2.1) 16 (fun _ => (0 : EReal))
    (fun t _ => ∑ i : Fin 256, lossRow m c (row t i)) (fun t h i => ?_) (fun t h i => ?_) (le_refl _) t ht y).trans (zero_add _)
  · rw [eq_ix2 i]
    exact loss_first m c t h _ _
  · rw [eq_ix2 i]
    exact loss_next m c t h _ _

theorem gw_last (c : Dev nD) (t : Fin cfg0.N) (ht : t.val + 1 = 16) (i : Fin 8) (j : Fin 2048) :
    (outsAt0 m c t.val t.isLt).2.2.2.2 (ix2 i j) = if i.val = 0 then ∑ r, gwRow m c r j else 0 := by
  refine (Pipeline.eq_sum_fin_of_reset_step_apply_last (N := 16) (f := fun n h => (outsAt0 m c n h).2.2.2.2) 16 (fun _ => (0 : EReal))
    (fun t y => if (y 0).val = 0 then ∑ i : Fin 256, gwRow m c (row t i) (y 1) else 0) (fun t h i => ?_) (fun t h i => ?_) (le_refl _) t ht (ix2 i j)).trans ?_
  · rw [eq_ix2 i]
    exact gw_first m c t h _ _
  · rw [eq_ix2 i]
    exact gw_next m c t h _ _
  · rw [zero_add]
    by_cases hi : i.val = 0
    · simp only [ix2, hi]
      exact sum_rows fun r => gwRow m c r j
    · simp [ix2, hi]

/-- The three arrays written a block of rows a point: a value of each row that every block holds. -/
theorem final5 (c : Dev nD) (G : Vec Ideal S4096x2048 .f32) (hG : ∀ y, G y = gradRow m c (y 0) (y 1)) :
    (dats m 0 c).arrAt 5 cfg0.N = G := by
  refine (dats m 0 c).arrAt_eq_of_covers 5 _ (by decide +kernel) fun t hf y => ?_
  blk_simp
  rw [after0_5, hG, eq_ix2 y]
  refine (out1 m c t _ _).trans (congrArg₂ (gradRow m c) (Fin.ext ?_) (Fin.ext ?_))
  · blk_simp [idx t]
  · blk_simp [idx t]

theorem final6 (c : Dev nD) (G : Vec Ideal S4096x2048 .bf16) (hG : ∀ y, G y = gradRow m c (y 0) (y 1)) :
    (dats m 0 c).arrAt 6 cfg0.N = G := by
  refine (dats m 0 c).arrAt_eq_of_covers 6 _ (by decide +kernel) fun t hf y => ?_
  blk_simp
  rw [after0_6, hG, eq_ix2 y]
  refine (out2 m c t _ _).trans (congrArg₂ (gradRow m c) (Fin.ext ?_) (Fin.ext ?_))
  · blk_simp [idx t]
  · blk_simp [idx t]

theorem final7 (c : Dev nD) (G : Vec Ideal S4096x2048 .f32) (hG : ∀ y, G y = ∑ j, gradRow m c (y 0) j * A1 m c (ix2 (y 1) j)) :
    (dats m 0 c).arrAt 7 cfg0.N = G := by
  refine (dats m 0 c).arrAt_eq_of_covers 7 _ (by decide +kernel) fun t hf y => ?_
  blk_simp
  rw [after0_7, hG, eq_ix2 y]
  refine (out3 m c t _ _).trans (congrArg₂ (fun r k => ∑ j, gradRow m c r j * A1 m c (ix2 k j)) (Fin.ext ?_) (Fin.ext ?_))
  · blk_simp [idx t]
  · blk_simp [idx t]

/-- The last point. -/
abbrev tl : Fin cfg0.N := ⟨15, by decide⟩

/-- The two arrays written once, after the last point. -/
theorem final8 (c : Dev nD) (G : Vec Ideal S8x128 .f32) (hG : ∀ y, G y = ∑ r, lossRow m c r) :
    (dats m 0 c).arrAt 8 cfg0.N = G := by
  refine (dats m 0 c).arrAt_eq_of_after_last 8 tl (by decide +kernel) _ fun j => ?_
  rw [after0_8, hG]
  exact loss_last m c tl rfl j

theorem final9 (c : Dev nD) (G : Vec Ideal S8x2048 .f32) (hG : ∀ y, G y = if (y 0).val = 0 then ∑ r, gwRow m c r (y 1) else 0) :
    (dats m 0 c).arrAt 9 cfg0.N = G := by
  refine (dats m 0 c).arrAt_eq_of_after_last 9 tl (by decide +kernel) _ fun j => ?_
  obtain ⟨a, b, rfl⟩ : ∃ (a : Fin 8) (b : Fin 2048), j = ix2 a b := ⟨j 0, j 1, eq_ix2 j⟩
  rw [after0_9, hG]
  exact gw_last m c tl rfl a b

end Head
end
-- ==== Proof.HeadRef.lean ====
module

public import proofs.«01_k».proof.Proof.Gen.Reference2Ideal.Run
public import proofs.«01_k».proof.Proof.Row
public import Idealize.ShloMosaic.Lib.Pointwise
public import Idealize.ShloMosaic.Lib.Claim

/-!
The head's reference, entry by entry: the loss, and its derivatives by the rows of the residual stream, by the
projection's argument and by the norm's weights, each in the form that the kernel's blocks have.
-/

@[expose] public section

set_option maxRecDepth 16384

noncomputable section

namespace HeadRef

open Idealize.ShloMosaic Idealize.ShloMosaic.TcCoe Idealize.SL.Sem
open Cert.Reference2Ideal Cert.Reference2Ideal.Gen Cert.Reference2Ideal.Value

/-! ## The pieces of the forward pass -/

/-- The residual stream after the projection. -/
def hidV (a0 : FVec Ideal S4096x2048 .f32) (a1 : FVec Ideal S2048x2048 .f32) (a2 : FVec Ideal S4096x2048 .f32) : FVec Ideal S4096x2048 .f32 :=
  addf a2 (Host.dotGeneral (F := Ideal) (φ₁ := .f32) (φ₂ := .f32) dot_S4096x2048_S2048x2048_S4096x2048_1_0_0_1_n_n none a0 a1)

/-- Its normalised rows. -/
def normV (h : FVec Ideal S4096x2048 .f32) : FVec Ideal S4096x2048 .f32 :=
  mulf h (broadcastInDim S4096x2048 ![0, 1] bcast_S4096x1_S4096x2048_0_1 (Host.rsqrt (addf (Host.divf (broadcastInDim S4096x1 ![0] bcast_S4096_S4096x1_0 (Host.reduceAdd (mulf h h) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))

/-- The error against the target. -/
def errV (h : FVec Ideal S4096x2048 .f32) (a4 : FVec Ideal S2048 .f32) (a3 : FVec Ideal S4096x2048 .f32) : FVec Ideal S4096x2048 .f32 :=
  subf (mulf (normV h) (broadcastInDim S4096x2048 ![0, 1] bcast_S1x2048_S4096x2048_0_1 (broadcastInDim S1x2048 ![1] bcast_S2048_S1x2048_1 a4))) a3

def lossV (h : FVec Ideal S4096x2048 .f32) (a4 : FVec Ideal S2048 .f32) (a3 : FVec Ideal S4096x2048 .f32) : FVec Ideal S8x128 .f32 :=
  broadcastInDim S8x128 ![] bcast_S_S8x128 (mulf (constant S_ .f32 0x3F000000#32) (Host.reduceAdd (Host.divf (Host.reduceAdd (mulf (errV h a4 a3) (errV h a4 a3)) (constant S_ .f32 0x00000000#32) reducesTo_S4096x2048_S4096_d1 h_S_) (broadcastInDim S4096 ![] bcast_S_S4096 (constant S_ .f32 0x45000000#32))) (constant S_ .f32 0x00000000#32) reducesTo_S4096_S_d0 h_S_))

def gwV (h : FVec Ideal S4096x2048 .f32) (a4 : FVec Ideal S2048 .f32) (a3 : FVec Ideal S4096x2048 .f32) : FVec Ideal S8x2048 .f32 :=
  pad S8x2048 ![0, 0] ![7, 0] ![0, 0] (shapeCast _ (Host.reduceAdd (shapeCast _ (Host.reduceAdd (mulf (normV h) (mulf (broadcastInDim S4096x2048 ![0] bcast_S4096_S4096x2048_0 (Host.divf (broadcastInDim S4096 ![] bcast_S_S4096 (mulf (constant S_ .f32 0x3F000000#32) (constant S_ .f32 0x3F800000#32))) (broadcastInDim S4096 ![] bcast_S_S4096 (constant S_ .f32 0x45000000#32)))) (mulf (broadcastInDim S4096x2048 ![] bcast_S_S4096x2048 (constant S_ .f32 0x40000000#32)) (errV h a4 a3)))) (constant S_ .f32 0x00000000#32) reducesTo_S4096x2048_S2048_d0 h_S_) shapeCasts_S2048_S1x2048) (constant S_ .f32 0x00000000#32) reducesTo_S1x2048_S2048_d0 h_S_) shapeCasts_S2048_S1x2048) (sitofp .f32 (constantI S_ 32 0#32)) pads_S1x2048_S8x2048_070_000 h_S_

variable (h : FVec Ideal S4096x2048 .f32) (a4 : FVec Ideal S2048 .f32) (a3 : FVec Ideal S4096x2048 .f32)

theorem hid_at (a0 : FVec Ideal S4096x2048 .f32) (a1 : FVec Ideal S2048x2048 .f32) (a2 : FVec Ideal S4096x2048 .f32) (i : Fin 4096) (j : Fin 2048) :
    hidV a0 a1 a2 (ix2 i j) = a2 (ix2 i j) + ∑ k : Fin 2048, a0 (ix2 i k) * a1 (ix2 k j) := by
  unfold hidV
  pointwise

/-- A row of an array. -/
abbrev rowOf (h : FVec Ideal S4096x2048 .f32) (i : Fin 4096) : Fin 2048 → EReal := fun j => h (ix2 i j)

theorem norm_at (i : Fin 4096) (j : Fin 2048) : normV h (ix2 i j) = h (ix2 i j) * Row.rs (rowOf h i) := by
  unfold normV Row.rs Row.ms
  pointwise

theorem err_at (i : Fin 4096) (j : Fin 2048) :
    errV h a4 a3 (ix2 i j) = Row.err (rowOf h i) (fun j => a4 (ix1 j)) (rowOf a3 i) j := by
  unfold errV Row.err
  rw [← norm_at]
  generalize normV h = y
  pointwise

theorem loss_at (y : S8x128.Idx) : lossV h a4 a3 y = ∑ r, Row.loss (rowOf h r) (fun j => a4 (ix1 j)) (rowOf a3 r) := by
  unfold lossV Row.loss
  simp only [← err_at]
  generalize errV h a4 a3 = e
  rw [← Row.half_sum]
  pointwise

theorem gw_at (i : Fin 8) (j : Fin 2048) :
    gwV h a4 a3 (ix2 i j) = if i.val = 0 then ∑ r, Row.gw (rowOf h r) (fun j => a4 (ix1 j)) (rowOf a3 r) j else 0 := by
  unfold gwV Row.gw
  simp only [← err_at, ← norm_at]
  generalize errV h a4 a3 = e
  generalize normV h = y
  pointwise
  by_cases hi : i.val = 0
  · rw [dif_pos (by omega), if_pos hi, Fin.sum_univ_one]
    refine Finset.sum_congr rfl fun r _ => ?_
    rw [← Row.scale_eq, mul_comm]
  · rw [dif_neg (by omega), if_neg hi]
    simp [FloatOps.sitofp]

variable (m : (ℓ : Loc nD τ sig) → Buf (Elt Ideal) ℓ)

/-- The residual stream of the arguments. -/
abbrev hid (c : Dev nD) : FVec Ideal S4096x2048 .f32 :=
  hidV (m ((c.tc : Thread nD τ).loc main_arg0)) (m ((c.tc : Thread nD τ).loc main_arg1)) (m ((c.tc : Thread nD τ).loc main_arg2))

theorem grad_at (c : Dev nD) (i : Fin 4096) (j : Fin 2048) :
    (res_main_v52 m c : FVec Ideal S4096x2048 .f32) (ix2 i j)
      = Row.grad (rowOf (hid m c) i) (fun j => (m ((c.tc : Thread nD τ).loc main_arg4) : FVec Ideal S2048 .f32) (ix1 j))
          (rowOf (m ((c.tc : Thread nD τ).loc main_arg3)) i) j := by
  unfold res_main_v52
  generalize hh : hid m c = h
  unfold hid hidV at hh
  rw [hh]
  unfold Row.grad
  rw [Row.back_eq]
  unfold Row.through Row.rs Row.ms Row.err Row.rs Row.ms
  simp only [← Row.scale_eq]
  pointwise
  simp only [Finset.univ_unique, Finset.sum_singleton]

abbrev gradV (c : Dev nD) : FVec Ideal S4096x2048 .f32 := res_main_v52 m c

abbrev wV (c : Dev nD) : FVec Ideal S2048x2048 .f32 := m ((c.tc : Thread nD τ).loc main_arg1)

/-- The same derivative, rounded. -/
theorem grad16_at (c : Dev nD) (i : Fin 4096) (j : Fin 2048) :
    (res_main_v54 m c : FVec Ideal S4096x2048 .bf16) (ix2 i j) = (res_main_v52 m c : FVec Ideal S4096x2048 .f32) (ix2 i j) := by
  have : res_main_v54 m c = (truncf .bf16 (res_main_v52 m c : FVec Ideal S4096x2048 .f32) bitsLt_bf16_f32 : FVec Ideal S4096x2048 .bf16) := by
    unfold res_main_v54 res_main_v52
    rfl
  rw [this]
  generalize res_main_v52 m c = d
  pointwise

/-- The derivative by the projection's argument. -/
theorem ocat_at (c : Dev nD) (i : Fin 4096) (k : Fin 2048) :
    (res_main_v53 m c : FVec Ideal S4096x2048 .f32) (ix2 i k)
      = ∑ j : Fin 2048, gradV m c (ix2 i j) * wV m c (ix2 k j) := by
  have : res_main_v53 m c = (Host.dotGeneral (F := Ideal) (φ₁ := .f32) (φ₂ := .f32) dot_S4096x2048_S2048x2048_S4096x2048_1_1_0_0_n_n none (gradV m c) (wV m c) : FVec Ideal S4096x2048 .f32) := by
    unfold gradV res_main_v53 res_main_v52
    rfl
  rw [this]
  generalize gradV m c = d
  generalize wV m c = w
  pointwise

end HeadRef
end
-- ==== Proof.Dx4.lean ====
module

public import proofs.«01_k».proof.Defs
public import proofs.«01_k».proof.Proof.Gen.Kernel4Ideal.Value
public import proofs.«01_k».proof.Proof.Row
public import Idealize.ShloMosaic.Lib.Pipeline.ValueKit
public import Idealize.ShloMosaic.Lib.Pipeline.ReadBack
public import Idealize.ShloMosaic.Lib.WritesUnit
public import Idealize.ShloMosaic.Lib.Pointwise
public import Idealize.ShloMosaic.Lib.Claim

/-!
The gradient of the layer's input, first call: the first four blocks of 512 rows. A run of seven points sums one block's
rows of the product in a scratch; its last point takes the rows through the norm, sixteen at a time, and adds their part
of the gradient of the norm's weights.
-/

@[expose] public section

set_option maxRecDepth 16384

noncomputable section

namespace Dx4

open Idealize.ShloMosaic Idealize.ShloMosaic.TcCoe Idealize.SL.Sem
open Cert.Kernel4Ideal Cert.Kernel4Ideal.Gen Cert.Kernel4Ideal.Value

/-! ## Sixteen rows through the norm -/

section Rows

variable (nw : Vec Ideal S1x2048 .f32) (x a d : Vec Ideal S16x2048 .f32) (g : FVec Ideal S8x2048 .f32)

/-- An entry of the gradient of the input. -/
def ent (i : Fin 16) (j : Fin 2048) : EReal :=
  d (ix2 i j) + Row.back (fun u => a (ix2 i u) * nw (ix2 0 u)) (fun u => x (ix2 i u)) j

/-- A row's part of the gradient of the norm's weights. -/
def gwe (i : Fin 16) (j : Fin 2048) : EReal := a (ix2 i j) * (x (ix2 i j) * Row.rs (fun u => x (ix2 i u)))

theorem p4 (j : Fin 2048) : k0_pay4 nw (ix2 (0 : Fin 1) j) = nw (ix2 0 j) := by
  unfold k0_pay4
  pointwise

theorem p9 (i : Fin 16) (j : Fin 1) : k0_pay9 x (ix2 i j) = Row.rs (fun u => x (ix2 i u)) := by
  unfold k0_pay9 Row.rs Row.ms
  pointwise

theorem p10 (i : Fin 16) (j : Fin 2048) : k0_pay10 x (ix2 i j) = x (ix2 i j) * Row.rs (fun u => x (ix2 i u)) := by
  unfold k0_pay10
  rw [← p9 x i 0]
  generalize k0_pay9 x = r
  pointwise

theorem p11 (i : Fin 16) (j : Fin 2048) : k0_pay11 (k0_pay4 nw) x a d (ix2 i j) = ent nw x a d i j := by
  unfold k0_pay11 ent Row.back
  simp only [← p10 x, ← p4 nw]
  rw [← p9 x i 0]
  generalize k0_pay9 x = r
  generalize k0_pay10 x = y
  generalize k0_pay4 nw = n
  pointwise

theorem p12 (i : Fin 8) (j : Fin 2048) :
    k0_pay12 g x a (ix2 i j) = g (ix2 i j) + gwe x a ⟨i.val, by omega⟩ j + gwe x a ⟨8 + i.val, by omega⟩ j := by
  unfold k0_pay12 gwe
  simp only [← p10 x]
  generalize k0_pay10 x = y
  pointwise

theorem e15 : @k0_pay15 Ideal _ = k0_pay11 := rfl
theorem e16 : @k0_pay16 Ideal _ = k0_pay12 := rfl
theorem e21 (n : FVec Ideal S1x2048 .f32) : k0_pay21 n x (k0_pay17 x) k0_pay18 a d = k0_pay11 n x a d := rfl
theorem e22 : k0_pay22 g x (k0_pay17 x) k0_pay18 a = k0_pay12 g x a := rfl
theorem e6 (n : FVec Ideal S1x2048 .f32) : k0_pay6 (k0_pay23 x) (k0_pay24 x) (k0_pay25 n a) d = k0_pay11 n x a d := rfl
theorem e7 : k0_pay7 g (k0_pay24 x) a = k0_pay12 g x a := rfl

end Rows

/-! ## One trip of the loop over a block's rows -/

theorem off0 : ∀ k : Fin k0_t1_loop.trips, k0_off1 k 0#32 = ![64 * k.val, 0] := by decide +kernel
theorem off1 : ∀ k : Fin k0_t1_loop.trips, k0_off1 k 16#32 = ![64 * k.val + 16, 0] := by decide +kernel
theorem off2 : ∀ k : Fin k0_t1_loop.trips, k0_off1 k 32#32 = ![64 * k.val + 32, 0] := by decide +kernel
theorem off3 : ∀ k : Fin k0_t1_loop.trips, k0_off1 k 48#32 = ![64 * k.val + 48, 0] := by decide +kernel

/-- Sixteen rows of a block, from row `b`. -/
abbrev R16 (o : Fin 2 → ℕ) (h : ∀ a, o a + ![16, 2048] a ≤ S512x2048.size a) : Rect S512x2048 := Rect.unit o ![16, 2048] h

/-- An array's rows in a rectangle of sixteen. -/
def rows (X : Vec Ideal S512x2048 .f32) (b : ℕ) (hb : b + 16 ≤ 512) : Vec Ideal S16x2048 .f32 :=
  fun y => X (ix2 ⟨b + (y 0).val, by have : (y 0).val < 16 := (y 0).isLt; omega⟩ (y 1))

theorem R16_emb {o : Fin 2 → ℕ} {b : ℕ} (h : ∀ a, o a + ![16, 2048] a ≤ S512x2048.size a) (ho : o = ![b, 0]) (hb : b + 16 ≤ 512) (y : S16x2048.Idx) :
    (R16 o h).emb y = ix2 ⟨b + (y 0).val, by have : (y 0).val < 16 := (y 0).isLt; omega⟩ (y 1) := by
  subst ho
  funext a
  refine Fin.ext ?_
  match a with
  | 0 => simp [R16]
  | 1 => simp [R16]

theorem read16 {σ : RefSig} {κ : Kind} {sp : Space} (v : View σ κ sp S512x2048 .f32) (X : v.ty.Contents (Elt Ideal)) {o : Fin 2 → ℕ} {b : ℕ}
    (h : ∀ a, o a + ![16, 2048] a ≤ S512x2048.size a) (ho : o = ![b, 0]) (hb : b + 16 ≤ 512) :
    v.readAt (Elt Ideal) (R16 o h).toLoadRect X = rows (v.read (Elt Ideal) X) b hb := by
  funext y
  rw [View.readAt_eq_ld]
  exact congrArg (v.read (Elt Ideal) X) (R16_emb h ho hb y)

/-- An entry of the gradient of the input, of a block's rows. -/
def full (nw : Vec Ideal S1x2048 .f32) (x a d : Vec Ideal S512x2048 .f32) (y : S512x2048.Idx) : EReal :=
  d y + Row.back (fun u => a (ix2 (y 0) u) * nw (ix2 0 u)) (fun u => x (ix2 (y 0) u)) (y 1)

/-- A row's part of the gradient of the norm's weights, of a block's rows. -/
def gwf (x a : Vec Ideal S512x2048 .f32) (i : Fin 512) (j : Fin 2048) : EReal :=
  a (ix2 i j) * (x (ix2 i j) * Row.rs (fun u => x (ix2 i u)))

theorem piece (nw : Vec Ideal S1x2048 .f32) (x a d : Vec Ideal S512x2048 .f32) {o : Fin 2 → ℕ} {b : ℕ}
    (h : ∀ a, o a + ![16, 2048] a ≤ S512x2048.size a) (ho : o = ![b, 0]) (hb : b + 16 ≤ 512) (y : S16x2048.Idx) :
    k0_pay11 (k0_pay4 nw) (rows x b hb) (rows a b hb) (rows d b hb) y = full nw x a d ((R16 o h).emb y) := by
  rw [R16_emb h ho hb]
  exact (congrArg _ (eq_ix2 y)).trans (p11 nw _ _ _ (y 0) (y 1))

theorem p11_congr (n : FVec Ideal S1x2048 .f32) {x x' a a' d d' : Vec Ideal S16x2048 .f32} (hx : x = x') (ha : a = a') (hd : d = d')
    (y : S16x2048.Idx) : k0_pay11 n x a d y = k0_pay11 n x' a' d' y := by rw [hx, ha, hd]

/-- The carried value after one piece of sixteen rows. -/
theorem carry (x a : Vec Ideal S512x2048 .f32) (b : ℕ) (hb : b + 16 ≤ 512) (g : FVec Ideal S8x2048 .f32) (i : Fin 8) (j : Fin 2048) :
    k0_pay12 g (rows x b hb) (rows a b hb) (ix2 i j)
      = g (ix2 i j) + gwf x a ⟨b + i.val, by omega⟩ j + gwf x a ⟨b + (8 + i.val), by omega⟩ j := by
  rw [p12]
  rfl

section Trip

variable (𝒱 : Variants) (c : Dev nD) (bd : Option 𝒱.V) (i : grid0.Coords) (arg2 : Memref sig .tc .vmem S512x1024 .bf16) (harg2 : arg2.IsWhole) (arg3 : Memref sig .tc .vmem S512x128 .bf16) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S512x2048 .f32) (harg6 : arg6.IsWhole) (arg7 : Memref sig .tc .vmem S512x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S8x2048 .f32) (harg10 : arg10.IsWhole) (arg11 : Memref sig .tc .vmem S512x2048 .f32) (harg11 : arg11.IsWhole) (k0_h3 : k0_cond3 i = 1#1) (v21 : Vec Ideal S1x2048 .f32) (X_arg6 : BufTy.Contents (Elt Ideal) arg6.view.ty) (X_arg7 : BufTy.Contents (Elt Ideal) arg7.view.ty) (X_arg11 : BufTy.Contents (Elt Ideal) arg11.view.ty)

theorem tripL_eq (k : Fin k0_t1_loop.trips) (g : FVec Ideal S8x2048 .f32) (p : View.Piece (Elt Ideal) S512x2048 .f32)
    (hp : p ∈ tripL_k0_t1 (F := Ideal) 𝒱 c bd i arg2 harg2 arg3 harg3 arg4 harg4 arg5 harg5 arg6 harg6 arg7 harg7 arg8 harg8 arg9 harg9 arg10 harg10 arg11 harg11 k0_h3 v21 X_arg6 X_arg7 X_arg11 k g) (y : p.1.shape.Idx) :
    p.2 y = full v21 (arg6.view.read (Elt Ideal) X_arg6) (arg11.view.read (Elt Ideal) X_arg11) (arg7.view.read (Elt Ideal) X_arg7) (p.1.emb y) := by
  have hk : k.val < 8 := Nat.lt_of_lt_of_le k.isLt k0_t1_abs.2.1
  unfold tripL_k0_t1 trip_k0_t1 at hp
  simp only [List.mem_cons, List.not_mem_nil, or_false] at hp
  rcases hp with rfl | rfl | rfl | rfl
  · refine Eq.trans ?_ (piece v21 _ _ _ (k0_off1_inb i k k0_h3 3) (off3 k) (by omega) y)
    refine (congrFun (e6 _ _ _ _) y).trans ?_
    exact p11_congr _ (read16 _ _ _ (off3 k) _) (read16 _ _ _ (off3 k) _) (read16 _ _ _ (off3 k) _) y
  · refine Eq.trans ?_ (piece v21 _ _ _ (k0_off1_inb i k k0_h3 2) (off2 k) (by omega) y)
    refine (congrFun (e21 _ _ _ _) y).trans ?_
    exact p11_congr _ (read16 _ _ _ (off2 k) _) (read16 _ _ _ (off2 k) _) (read16 _ _ _ (off2 k) _) y
  · refine Eq.trans ?_ (piece v21 _ _ _ (k0_off1_inb i k k0_h3 1) (off1 k) (by omega) y)
    refine (congrFun (congrFun (congrFun (congrFun (congrFun e15 _) _) _) _) y).trans ?_
    exact p11_congr _ (read16 _ _ _ (off1 k) _) (read16 _ _ _ (off1 k) _) (read16 _ _ _ (off1 k) _) y
  · refine Eq.trans ?_ (piece v21 _ _ _ (k0_off1_inb i k k0_h3 0) (off0 k) (by omega) y)
    exact p11_congr _ (read16 _ _ _ (off0 k) _) (read16 _ _ _ (off0 k) _) (read16 _ _ _ (off0 k) _) y

/-- The carried value after one trip: four pieces' rows more. -/
theorem tripR_eq (k : Fin k0_t1_loop.trips) (hk : k.val < 8) (g : FVec Ideal S8x2048 .f32) :
    tripR_k0_t1 (F := Ideal) 𝒱 c bd i arg2 harg2 arg3 harg3 arg4 harg4 arg5 harg5 arg6 harg6 arg7 harg7 arg8 harg8 arg9 harg9 arg10 harg10 arg11 harg11 k0_h3 v21 X_arg6 X_arg7 X_arg11 k g
      = k0_pay12 (k0_pay12 (k0_pay12 (k0_pay12 g
            (rows (arg6.view.read (Elt Ideal) X_arg6) (64 * k.val) (by omega)) (rows (arg11.view.read (Elt Ideal) X_arg11) (64 * k.val) (by omega)))
            (rows (arg6.view.read (Elt Ideal) X_arg6) (64 * k.val + 16) (by omega)) (rows (arg11.view.read (Elt Ideal) X_arg11) (64 * k.val + 16) (by omega)))
            (rows (arg6.view.read (Elt Ideal) X_arg6) (64 * k.val + 32) (by omega)) (rows (arg11.view.read (Elt Ideal) X_arg11) (64 * k.val + 32) (by omega)))
            (rows (arg6.view.read (Elt Ideal) X_arg6) (64 * k.val + 48) (by omega)) (rows (arg11.view.read (Elt Ideal) X_arg11) (64 * k.val + 48) (by omega)) := by
  unfold tripR_k0_t1 trip_k0_t1
  rw [← read16 arg6.view X_arg6 (k0_off1_inb i k k0_h3 0) (off0 k), ← read16 arg11.view X_arg11 (k0_off1_inb i k k0_h3 0) (off0 k),
    ← read16 arg6.view X_arg6 (k0_off1_inb i k k0_h3 1) (off1 k), ← read16 arg11.view X_arg11 (k0_off1_inb i k k0_h3 1) (off1 k),
    ← read16 arg6.view X_arg6 (k0_off1_inb i k k0_h3 2) (off2 k), ← read16 arg11.view X_arg11 (k0_off1_inb i k k0_h3 2) (off2 k),
    ← read16 arg6.view X_arg6 (k0_off1_inb i k k0_h3 3) (off3 k), ← read16 arg11.view X_arg11 (k0_off1_inb i k k0_h3 3) (off3 k)]
  rfl

theorem trips_eq : k0_t1_loop.trips = 8 := by decide +kernel

/-- Every piece the trips store holds the gradient's entries. -/
theorem stL (init : FVec Ideal S8x2048 .f32) (n : ℕ) (hn : n ≤ 8) : ∀ p ∈ (st_k0_t1 (F := Ideal) 𝒱 c bd i arg2 harg2 arg3 harg3 arg4 harg4 arg5 harg5 arg6 harg6 arg7 harg7 arg8 harg8 arg9 harg9 arg10 harg10 arg11 harg11 k0_h3 v21 X_arg6 X_arg7 X_arg11 init n).2, ∀ y : p.1.shape.Idx,
    p.2 y = full v21 (arg6.view.read (Elt Ideal) X_arg6) (arg11.view.read (Elt Ideal) X_arg11) (arg7.view.read (Elt Ideal) X_arg7) (p.1.emb y) := by
  induction n with
  | zero => intro p hp; exact absurd hp List.not_mem_nil
  | succ n ih =>
    intro p hp y
    have hk : n < k0_t1_loop.trips := by rw [trips_eq]; omega
    rw [st_k0_t1_succ 𝒱 c bd i arg2 harg2 arg3 harg3 arg4 harg4 arg5 harg5 arg6 harg6 arg7 harg7 arg8 harg8 arg9 harg9 arg10 harg10 arg11 harg11 k0_h3 v21 X_arg6 X_arg7 X_arg11 init ⟨n, hk⟩] at hp
    rcases List.mem_append.mp hp with h | h
    · exact tripL_eq 𝒱 c bd i arg2 harg2 arg3 harg3 arg4 harg4 arg5 harg5 arg6 harg6 arg7 harg7 arg8 harg8 arg9 harg9 arg10 harg10 arg11 harg11 k0_h3 v21 X_arg6 X_arg7 X_arg11 ⟨n, hk⟩ _ p h y
    · exact ih (by omega) p h y

/-- A trip's part of lane `i` of the carried value. -/
def tripSum (x a : Vec Ideal S512x2048 .f32) (k : ℕ) (hk : k < 8) (i : Fin 8) (j : Fin 2048) : EReal :=
  ∑ e : Fin 8, gwf x a ⟨k * 64 + (e.val * 8 + i.val), by omega⟩ j

/-- The carried value before a trip. -/
theorem stR (init : FVec Ideal S8x2048 .f32) (n : ℕ) (hn : n ≤ 8) (l : Fin 8) (j : Fin 2048) : (st_k0_t1 (F := Ideal) 𝒱 c bd i arg2 harg2 arg3 harg3 arg4 harg4 arg5 harg5 arg6 harg6 arg7 harg7 arg8 harg8 arg9 harg9 arg10 harg10 arg11 harg11 k0_h3 v21 X_arg6 X_arg7 X_arg11 init n).1 (ix2 l j)
    = init (ix2 l j) + ∑ k : Fin n, tripSum (arg6.view.read (Elt Ideal) X_arg6) (arg11.view.read (Elt Ideal) X_arg11) k.val (by omega) l j := by
  induction n with
  | zero => rw [Fin.sum_univ_zero, add_zero]; rfl
  | succ n ih =>
    have hk : n < k0_t1_loop.trips := by rw [trips_eq]; omega
    rw [st_k0_t1_succ 𝒱 c bd i arg2 harg2 arg3 harg3 arg4 harg4 arg5 harg5 arg6 harg6 arg7 harg7 arg8 harg8 arg9 harg9 arg10 harg10 arg11 harg11 k0_h3 v21 X_arg6 X_arg7 X_arg11 init ⟨n, hk⟩, Fin.sum_univ_castSucc, ← add_assoc]
    dsimp only [Fin.val_castSucc, Fin.val_last]
    rw [← ih (by omega), tripR_eq 𝒱 c bd i arg2 harg2 arg3 harg3 arg4 harg4 arg5 harg5 arg6 harg6 arg7 harg7 arg8 harg8 arg9 harg9 arg10 harg10 arg11 harg11 k0_h3 v21 X_arg6 X_arg7 X_arg11 ⟨n, hk⟩ (by show n < 8; omega), carry, carry, carry, carry]
    unfold tripSum
    rw [Fin.sum_univ_eight]
    simp only [← add_assoc]
    iterate 8 refine congrArg₂ (· + ·) ?_ (congrArg (fun r => gwf _ _ r j) (Fin.ext (show _ = _ from ?_)))
    · rfl
    all_goals first | omega | (simp <;> omega)

end Trip

/-- The rows of a block, by trip, piece half and lane. -/
theorem sum512 (f : Fin 512 → EReal) : ∑ i : Fin 8, ∑ k : Fin 8, ∑ e : Fin 8, f ⟨k.val * 64 + (e.val * 8 + i.val), by omega⟩ = ∑ r, f r := by
  rw [Finset.sum_comm, ← (finProdFinEquiv (m := 8) (n := 64)).sum_comp, Fintype.sum_prod_type]
  refine Finset.sum_congr rfl fun k _ => ?_
  rw [Finset.sum_comm, ← (finProdFinEquiv (m := 8) (n := 8)).sum_comp, Fintype.sum_prod_type]
  refine Finset.sum_congr rfl fun e _ => Finset.sum_congr rfl fun i _ => congrArg f (Fin.ext ?_)
  simp only [finProdFinEquiv_apply_val]
  omega

/-! ## The rows at a run's last point -/

theorem zero8 (y : S8x2048.Idx) : k0_pay5 (F := Ideal) y = (0 : EReal) := by
  rw [eq_ix2 y]
  unfold k0_pay5
  pointwise

theorem p8 (g : FVec Ideal S8x2048 .f32) (r : Vec Ideal S1x2048 .f32) (j : Fin 2048) :
    k0_pay8 g r (ix2 (0 : Fin 1) j) = r (ix2 0 j) + ∑ i : Fin 8, g (ix2 i j) := by
  unfold k0_pay8
  pointwise

/-- The rectangle of an accumulator's first row. -/
abbrev R1 : Rect S8x2048 := Rect.unit ![0, 0] ![1, 2048] inb_S8x2048_S1x2048_0_0

theorem R1_emb (j : Fin 2048) : (ix2 (0 : Fin 8) j : S8x2048.Idx) = R1.emb (ix2 (0 : Fin 1) j) := by
  funext a
  refine Fin.ext ?_
  match a with
  | 0 => simp [R1]
  | 1 => simp [R1]

theorem ld_R1 (u : Vec Ideal S8x2048 .f32) (j : Fin 2048) :
    View.ld u R1 (ix2 (0 : Fin 1) j) = u (ix2 (0 : Fin 8) j) := by
  rw [R1_emb]
  rfl

theorem R1_not_mem (i : Fin 8) (j : Fin 2048) (h : ¬i.val = 0) : (ix2 i j : S8x2048.Idx) ∉ R1.set := by
  rw [Rect.mem_set_unit]
  intro hh
  have := (hh 0).2
  simp at this
  omega

section Writes

variable {σ : RefSig} {κ : Kind} {sp : Space} (v : View σ κ sp S8x2048 .f32) (a : Vec Ideal S1x2048 .f32)

theorem writes_row (f : v.ty.Contents (Elt Ideal)) (i : Fin 8) (j : Fin 2048) :
    (v.read (Elt Ideal) (v.writes (Elt Ideal) f [⟨R1, a⟩]) : Vec Ideal S8x2048 .f32) (ix2 i j)
      = if i.val = 0 then a (ix2 0 j) else v.read (Elt Ideal) f (ix2 i j) := by
  by_cases hi : i.val = 0
  · rw [if_pos hi]
    exact View.read_writes_cons_rows_of_mem (o := 0) v f inb_S8x2048_S1x2048_0_0 a [] (ix2 i j) (ix2 (0 : Fin 1) j) rfl (by simp [hi]) rfl
  · rw [if_neg hi]
    exact View.read_writes_cons_rows_of_not_mem (o := 0) (W := 1) v f inb_S8x2048_S1x2048_0_0 a [] (ix2 i j) rfl rfl
      (Or.inr (by simp only [ix2_0]; omega))

end Writes

variable (m : (ℓ : Loc nD τ sig) → Buf (Elt Ideal) ℓ)

/-- The scratch after a point. -/
abbrev acc (c : Dev nD) (t : Fin cfg0.N) : Vec Ideal S512x2048 .f32 := (outsAt0 m c t.val t.isLt).2.2

theorem read_scr (P : Vec Ideal S512x2048 .f32) :
    (View.whole cc0_scratch0).read (Elt Ideal) ((View.whole cc0_scratch0).writes (Elt Ideal) (View.whole cc0_scratch0).junk
      [⟨Rect.unit ![0, 0] ![512, 2048] inb_S512x2048_S512x2048_0_0, P⟩]) = P := by
  frame_out
  exact View.canon_unit_zero (by funext a; match a with | 0 => rfl | 1 => rfl) _ P

theorem gx_out (c : Dev nD) (t : Fin cfg0.N) (h : t.val % 7 = 6) (y : S512x2048.Idx) :
    (outsAt0 m c t.val t.isLt).1 y = full (iblk m c 6 t) (iblk m c 4 t) (acc m c t) (iblk m c 5 t) y := by
  unfold acc
  rw [outsAt0_C m c t (by omega) (by omega) h]
  generalize outsAt0 m c (t.val - 1) _ = q
  dsimp only
  unfold out0_C_7
  refine View.read_writes_apply_of_pieces _ _ _ _ (fun p hp x => ?_) y (cover0_C_7 (F := Ideal) c _ _ _ _ _ _ _ _ _ _ _ _ _ _ _ _ _ _ _ _ _ _ _ _ _ _ _ _ _ _ _ _ _ y)
  unfold kernelRun0_C at hp
  refine (stL _ _ _ _ _ _ _ _ _ _ _ _ _ _ _ _ _ _ _ _ _ _ _ _ _ _ _ _ _ _ 8 le_rfl p hp x).trans ?_
  simp only [(hs0_4 t).read_unread, (hs0_5 t).read_unread]
  frame_out

theorem gnw_out (c : Dev nD) (t : Fin cfg0.N) (h : t.val % 7 = 6) (i : Fin 8) (j : Fin 2048) :
    (outsAt0 m c t.val t.isLt).2.1 (ix2 i j) = (outsAt0 m c (t.val - 1) (Nat.lt_of_le_of_lt (Nat.sub_le _ _) t.isLt)).2.1 (ix2 i j)
      + if i.val = 0 then ∑ r, gwf (iblk m c 4 t) (acc m c t) r j else 0 := by
  unfold acc
  rw [outsAt0_C m c t (by omega) (by omega) h]
  generalize outsAt0 m c (t.val - 1) _ = q
  frame_out
  refine (writes_row _ _ _ i j).trans ?_
  by_cases hi : i.val = 0
  · rw [if_pos hi, if_pos hi]
    refine (p8 _ _ j).trans ?_
    obtain rfl : i = 0 := Fin.ext hi
    refine congrArg₂ (· + ·) (ld_R1 _ j) ?_
    rw [← sum512]
    refine Finset.sum_congr rfl fun i _ => ?_
    refine (stR _ _ _ _ _ _ _ _ _ _ _ _ _ _ _ _ _ _ _ _ _ _ _ _ _ _ _ _ _ _ 8 le_rfl i j).trans ?_
    rw [zero8, zero_add]
    refine Finset.sum_congr rfl fun k _ => ?_
    unfold tripSum
    simp only [(hs0_4 t).read_unread]
    rw [read_scr]
  · rw [if_neg hi, if_neg hi, add_zero]
    exact congrFun ((hs0_8 t).read_unread _) _

/-! ## The sum in the scratch -/

theorem p2 (x : Vec Ideal S512x128 .bf16) (y : Vec Ideal S2048x128 .bf16) (i : Fin 512) (j : Fin 2048) :
    k0_pay2 x y (ix2 i j) = ∑ l : Fin 128, x (ix2 i l) * y (ix2 j l) := by
  unfold k0_pay2
  pointwise

theorem p3 (s : Vec Ideal S512x2048 .f32) (x : Vec Ideal S512x1024 .bf16) (y : Vec Ideal S2048x1024 .bf16) (i : Fin 512) (j : Fin 2048) :
    k0_pay3 s x y (ix2 i j) = s (ix2 i j) + ∑ k : Fin 1024, x (ix2 i k) * y (ix2 j k) := by
  unfold k0_pay3
  pointwise

/-- A point's block of the product. -/
abbrev part (c : Dev nD) (t : Fin cfg0.N) (i : Fin 512) (j : Fin 2048) : EReal :=
  ∑ k : Fin 1024, (show EReal from iblk m c 0 t (ix2 i k)) * (show EReal from iblk m c 2 t (ix2 j k))

abbrev gates (c : Dev nD) (t : Fin cfg0.N) (i : Fin 512) (j : Fin 2048) : EReal :=
  ∑ l : Fin 128, (show EReal from iblk m c 1 t (ix2 i l)) * (show EReal from iblk m c 3 t (ix2 j l))

theorem acc_first (c : Dev nD) (t : Fin cfg0.N) (h : t.val % 7 = 0) (i : Fin 512) (j : Fin 2048) :
    acc m c t (ix2 i j) = gates m c t i j + part m c t i j := by
  unfold acc
  by_cases h0 : t.val % 28 = 0
  · rw [outsAt0_A m c t h0 h (by omega)]
    frame_out
    rw [p3, p2]
  · rw [outsAt0_D m c t h0 h (by omega)]
    frame_out
    rw [p3, p2]

theorem acc_next (c : Dev nD) (t : Fin cfg0.N) (h : ¬t.val % 7 = 0) (i : Fin 512) (j : Fin 2048) :
    acc m c t (ix2 i j) = acc m c ⟨t.val - 1, Nat.lt_of_le_of_lt (Nat.sub_le _ _) t.isLt⟩ (ix2 i j) + part m c t i j := by
  unfold acc
  by_cases h6 : t.val % 7 = 6
  · rw [outsAt0_C m c t (by omega) h h6]
    generalize outsAt0 m c (t.val - 1) _ = q
    frame_out
    simp only [read_unread_whole]
    rw [p3]
  · rw [outsAt0_B m c t (by omega) h h6]
    generalize outsAt0 m c (t.val - 1) _ = q
    frame_out
    simp only [read_unread_whole]
    rw [p3]

/-! ## The blocks of the arguments -/

theorem idx : ∀ t : Fin cfg0.N, win0_0.index t = ![t.val / 7, t.val % 7] ∧ win0_1.index t = ![t.val / 7, 0] ∧ win0_2.index t = ![0, t.val % 7]
    ∧ win0_3.index t = ![0, 0] ∧ win0_4.index t = ![t.val / 7, 0] ∧ win0_5.index t = ![t.val / 7, 0] ∧ win0_6.index t = ![0, 0]
    ∧ win0_7.index t = ![t.val / 7, 0] ∧ win0_8.index t = ![0, 0] :=
  (by decide +kernel : ∀ t : Fin grid0.N, _)

abbrev A0 (c : Dev nD) : FVec Ideal S2048x7184 .f32 := m ((c : Thread nD τ).loc main_arg0)
abbrev A1 (c : Dev nD) : FVec Ideal S2048x7184 .f32 := m ((c : Thread nD τ).loc main_arg1)
abbrev A2 (c : Dev nD) : FVec Ideal S2048x2048 .f32 := m ((c : Thread nD τ).loc main_arg2)
abbrev A3 (c : Dev nD) : FVec Ideal S2048x2048 .f32 := m ((c : Thread nD τ).loc main_arg3)
abbrev A4 (c : Dev nD) : FVec Ideal S2048 .f32 := m ((c : Thread nD τ).loc main_arg4)

theorem t_lt (t : Fin cfg0.N) : t.val < 28 := t.isLt

/-- The row of the arrays that a point's blocks hold as their row `i`. -/
abbrev row (t : Fin cfg0.N) (i : Fin 512) : Fin 2048 := ⟨t.val / 7 * 512 + i.val, by have := t_lt t; omega⟩

theorem x_at (c : Dev nD) (t : Fin cfg0.N) (i : Fin 512) (j : Fin 2048) : iblk m c 4 t (ix2 i j) = A2 m c (ix2 (row t i) j) := by
  blk_ext [iblk, V, idx t]

theorem d_at (c : Dev nD) (t : Fin cfg0.N) (i : Fin 512) (j : Fin 2048) : iblk m c 5 t (ix2 i j) = A3 m c (ix2 (row t i) j) := by
  blk_ext [iblk, V, idx t]

/-- The column of the projection that a column of the main array is. -/
abbrev mcol (k : Fin 7168) : Fin 7184 := if h : k.val < 4096 then ⟨k.val, by omega⟩ else ⟨k.val + 16, by omega⟩

/-- The main columns of an array of the projection's, and the gates' columns, padded with zeros. -/
def mainOf (A : FVec Ideal S2048x7184 .f32) : FVec Ideal S2048x7168 .bf16 :=
  truncf .bf16 (concatenate S2048x7168 1 [⟨S2048x4096, extractStridedSlice S2048x4096 ![0, 0] A slices_S2048x7184_S2048x4096_0_0⟩,
    ⟨S2048x3072, extractStridedSlice S2048x3072 ![0, 4112] A slices_S2048x7184_S2048x3072_0_4112⟩]
    concatenates_S2048x4096_S2048x3072_S2048x7168_d1 : FVec Ideal S2048x7168 .f32) bitsLt_bf16_f32

def gatesOf (A : FVec Ideal S2048x7184 .f32) : FVec Ideal S2048x128 .bf16 :=
  truncf .bf16 (pad S2048x128 ![0, 0] ![0, 112] ![0, 0] (extractStridedSlice S2048x16 ![0, 4096] A slices_S2048x7184_S2048x16_0_4096)
    (sitofp .f32 (constantI S_ 32 0#32)) pads_S2048x16_S2048x128_000_01120 h_S_ : FVec Ideal S2048x128 .f32) bitsLt_bf16_f32

theorem main_at (A : FVec Ideal S2048x7184 .f32) (i : Fin 2048) (k : Fin 7168) : mainOf A (ix2 i k) = A (ix2 i (mcol k)) := by
  unfold mainOf mcol
  pointwise
  split
  · rfl
  · exact congrArg (fun u => A (ix2 i u)) (Fin.ext (show 4112 + (k.val - 4096) = k.val + 16 by omega))

theorem gates_at (A : FVec Ideal S2048x7184 .f32) (i : Fin 2048) (l : Fin 128) :
    gatesOf A (ix2 i l) = if h : l.val < 16 then A (ix2 i ⟨4096 + l.val, by omega⟩) else 0 := by
  unfold gatesOf
  pointwise
  split
  · rfl
  · simp [FloatOps.sitofp]

theorem V_v5 (c : Dev nD) : V m c main_v5 = mainOf (A0 m c) := by
  funext y
  unfold V
  simp only [hostOps0, hostOps0_1, hostOps0_2, hostOps0_3, hostOps0_4, List.flatten_cons, List.flatten_nil, List.append_nil, List.cons_append, List.nil_append]
  entry_read
  rfl

theorem V_v6 (c : Dev nD) : V m c main_v6 = gatesOf (A0 m c) := by
  funext y
  unfold V
  simp only [hostOps0, hostOps0_1, hostOps0_2, hostOps0_3, hostOps0_4, List.flatten_cons, List.flatten_nil, List.append_nil, List.cons_append, List.nil_append]
  entry_read
  rfl

theorem V_v12 (c : Dev nD) : V m c main_v12 = mainOf (A1 m c) := by
  funext y
  unfold V
  simp only [hostOps0, hostOps0_1, hostOps0_2, hostOps0_3, hostOps0_4, List.flatten_cons, List.flatten_nil, List.append_nil, List.cons_append, List.nil_append]
  entry_read
  rfl

theorem V_v13 (c : Dev nD) : V m c main_v13 = gatesOf (A1 m c) := by
  funext y
  unfold V
  simp only [hostOps0, hostOps0_1, hostOps0_2, hostOps0_3, hostOps0_4, List.flatten_cons, List.flatten_nil, List.append_nil, List.cons_append, List.nil_append]
  entry_read
  rfl

theorem V_v14 (c : Dev nD) : V m c main_v14 = shapeCast S1x2048 (A4 m c) shapeCasts_S2048_S1x2048 := by
  funext y
  unfold V
  simp only [hostOps0, hostOps0_1, hostOps0_2, hostOps0_3, hostOps0_4, List.flatten_cons, List.flatten_nil, List.append_nil, List.cons_append, List.nil_append]
  entry_read
  rfl

theorem nw_at (c : Dev nD) (t : Fin cfg0.N) (j : Fin 2048) : iblk m c 6 t (ix2 0 j) = A4 m c (ix1 j) := by
  have e : iblk m c 6 t (ix2 0 j) = V m c main_v14 (ix2 0 j) := by
    blk_ext [iblk, idx t]
  rw [e, V_v14]
  pointwise

theorem dm_at (c : Dev nD) (t : Fin cfg0.N) (i : Fin 512) (k : Fin 1024) :
    iblk m c 0 t (ix2 i k) = A0 m c (ix2 (row t i) (mcol ⟨t.val % 7 * 1024 + k.val, by omega⟩)) := by
  have e : iblk m c 0 t (ix2 i k) = V m c main_v5 (ix2 (row t i) ⟨t.val % 7 * 1024 + k.val, by omega⟩) := by
    blk_ext [iblk, idx t]
  rw [e, V_v5]
  exact main_at _ _ _

theorem w_at (c : Dev nD) (t : Fin cfg0.N) (j : Fin 2048) (k : Fin 1024) :
    iblk m c 2 t (ix2 j k) = A1 m c (ix2 j (mcol ⟨t.val % 7 * 1024 + k.val, by omega⟩)) := by
  have e : iblk m c 2 t (ix2 j k) = V m c main_v12 (ix2 j ⟨t.val % 7 * 1024 + k.val, by omega⟩) := by
    blk_ext [iblk, idx t]
  rw [e, V_v12]
  exact main_at _ _ _

theorem dba_at (c : Dev nD) (t : Fin cfg0.N) (i : Fin 512) (l : Fin 128) : iblk m c 1 t (ix2 i l) = gatesOf (A0 m c) (ix2 (row t i) l) := by
  have e : iblk m c 1 t (ix2 i l) = V m c main_v6 (ix2 (row t i) l) := by
    blk_ext [iblk, idx t]
  rw [e, V_v6]

theorem wba_at (c : Dev nD) (t : Fin cfg0.N) (j : Fin 2048) (l : Fin 128) : iblk m c 3 t (ix2 j l) = gatesOf (A1 m c) (ix2 j l) := by
  have e : iblk m c 3 t (ix2 j l) = V m c main_v13 (ix2 j l) := by
    blk_ext [iblk, idx t]
  rw [e, V_v13]

/-! ## The sum at a run's last point -/

theorem sum7168 (f : Fin 7184 → EReal) :
    ∑ k : Fin 7168, f (mcol k) = ∑ a : Fin 4096, f ⟨a.val, by omega⟩ + ∑ b : Fin 3072, f ⟨4112 + b.val, by omega⟩ := by
  refine (Fin.sum_univ_add (a := 4096) (b := 3072) fun k => f (mcol k)).trans (congrArg₂ (· + ·) ?_ ?_)
  · refine Finset.sum_congr rfl fun a _ => congrArg f ?_
    exact dif_pos (show a.val < 4096 from a.isLt)
  · refine Finset.sum_congr rfl fun b _ => congrArg f ?_
    refine (dif_neg (show ¬ 4096 + b.val < 4096 by omega)).trans (Fin.ext ?_)
    show 4096 + b.val + 16 = 4112 + b.val
    omega

theorem sum7184 (f : Fin 7184 → EReal) :
    ∑ r, f r = ∑ a : Fin 4096, f ⟨a.val, by omega⟩ + (∑ l : Fin 16, f ⟨4096 + l.val, by omega⟩ + ∑ b : Fin 3072, f ⟨4112 + b.val, by omega⟩) := by
  refine (Fin.sum_univ_add (a := 4096) (b := 3088) f).trans (congrArg₂ (· + ·) rfl ?_)
  refine (Fin.sum_univ_add (a := 16) (b := 3072) fun b => f (Fin.natAdd 4096 b)).trans (congrArg₂ (· + ·) rfl ?_)
  refine Finset.sum_congr rfl fun b _ => congrArg f (Fin.ext ?_)
  show 4096 + (16 + b.val) = 4112 + b.val
  omega

theorem sum128 (f : Fin 16 → EReal) : ∑ l : Fin 128, (if h : l.val < 16 then f ⟨l.val, h⟩ else 0) = ∑ l, f l := by
  refine (Fin.sum_univ_add (a := 16) (b := 112) fun l : Fin 128 => if h : l.val < 16 then f ⟨l.val, h⟩ else 0).trans ?_
  rw [show ∑ l, f l = ∑ l, f l + 0 from (add_zero _).symm]
  refine congrArg₂ (· + ·) (Finset.sum_congr rfl fun l _ => dif_pos l.isLt) (Finset.sum_eq_zero fun b _ => ?_)
  exact dif_neg (show ¬ 16 + b.val < 16 by omega)

theorem sum_main (f : Fin 7168 → EReal) : ∑ k, f k = ∑ q : Fin 7, ∑ k : Fin 1024, f ⟨q.val * 1024 + k.val, by omega⟩ := by
  rw [← (finProdFinEquiv (m := 7) (n := 1024)).sum_comp, Fintype.sum_prod_type]
  refine Finset.sum_congr rfl fun q _ => Finset.sum_congr rfl fun k _ => congrArg f (Fin.ext ?_)
  simp only [finProdFinEquiv_apply_val]
  omega

/-- The gradient before the norm, an entry: the product over all the projection's columns. -/
def dxn (A B : FVec Ideal S2048x7184 .f32) (r j : Fin 2048) : EReal := ∑ u : Fin 7184, A (ix2 r u) * B (ix2 j u)

def blockPart (A B : FVec Ideal S2048x7184 .f32) (r j : Fin 2048) (q : ℕ) : EReal :=
  ∑ k : Fin 1024, A (ix2 r (mcol ⟨q % 7 * 1024 + k.val, by omega⟩)) * B (ix2 j (mcol ⟨q % 7 * 1024 + k.val, by omega⟩))

def gatePart (A B : FVec Ideal S2048x7184 .f32) (r j : Fin 2048) : EReal :=
  ∑ l : Fin 128, gatesOf A (ix2 r l) * gatesOf B (ix2 j l)

theorem parts (A B : FVec Ideal S2048x7184 .f32) (r j : Fin 2048) :
    gatePart A B r j + ∑ q ∈ Finset.range 7, blockPart A B r j q = dxn A B r j := by
  have e1 : gatePart A B r j = ∑ l : Fin 16, A (ix2 r ⟨4096 + l.val, by omega⟩) * B (ix2 j ⟨4096 + l.val, by omega⟩) := by
    refine Eq.trans ?_ (sum128 _)
    refine Finset.sum_congr rfl fun l _ => ?_
    rw [gates_at, gates_at]
    split
    · rfl
    · exact mul_zero _
  have e2 : ∑ q ∈ Finset.range 7, blockPart A B r j q = ∑ k : Fin 7168, A (ix2 r (mcol k)) * B (ix2 j (mcol k)) := by
    rw [Finset.sum_range, sum_main]
    refine Finset.sum_congr rfl fun q _ => Finset.sum_congr rfl fun k _ => ?_
    have e : q.val % 7 = q.val := Nat.mod_eq_of_lt q.isLt
    simp only [e]
  rw [e1, e2, sum7168 fun u => A (ix2 r u) * B (ix2 j u)]
  unfold dxn
  rw [sum7184, add_left_comm]

theorem acc_sum (c : Dev nD) (n : ℕ) : ∀ (t : Fin cfg0.N), t.val % 7 = n → ∀ (i : Fin 512) (j : Fin 2048),
    acc m c t (ix2 i j) = gatePart (A0 m c) (A1 m c) (row t i) j + ∑ q ∈ Finset.range (n + 1), blockPart (A0 m c) (A1 m c) (row t i) j q := by
  have hp : ∀ (t : Fin cfg0.N) (i : Fin 512) (j : Fin 2048), part m c t i j = blockPart (A0 m c) (A1 m c) (row t i) j (t.val % 7) := by
    intro t i j
    refine Finset.sum_congr rfl fun k _ => ?_
    refine (congrArg₂ (fun a b : EReal => a * b) (dm_at m c t i k) (w_at m c t j k)).trans ?_
    simp only [Nat.mod_mod]
  induction n with
  | zero =>
    intro t h i j
    rw [acc_first m c t h, Finset.sum_range_one, hp, h]
    refine congrArg₂ (· + ·) ?_ rfl
    exact Finset.sum_congr rfl fun l _ => congrArg₂ (fun a b : EReal => a * b) (dba_at m c t i l) (wba_at m c t j l)
  | succ n ih =>
    intro t h i j
    have ht := t_lt t
    rw [acc_next m c t (by omega), ih ⟨t.val - 1, _⟩ (by show (t.val - 1) % 7 = n; omega), hp, Finset.sum_range_succ _ (n + 1), ← add_assoc, h]
    have er : row ⟨t.val - 1, Nat.lt_of_le_of_lt (Nat.sub_le _ _) t.isLt⟩ i = row t i := Fin.ext (by
      show (t.val - 1) / 7 * 512 + i.val = t.val / 7 * 512 + i.val
      have : (t.val - 1) / 7 = t.val / 7 := by omega
      rw [this])
    rw [er]

theorem acc_last (c : Dev nD) (t : Fin cfg0.N) (h : t.val % 7 = 6) (i : Fin 512) (j : Fin 2048) :
    acc m c t (ix2 i j) = dxn (A0 m c) (A1 m c) (row t i) j := by
  rw [acc_sum m c 6 t h, parts]

/-! ## The results -/

/-- An entry of the gradient of the input, of the whole arrays. -/
def gx (A B : FVec Ideal S2048x7184 .f32) (X D : FVec Ideal S2048x2048 .f32) (W : FVec Ideal S2048 .f32) (r j : Fin 2048) : EReal :=
  D (ix2 r j) + Row.back (fun u => dxn A B r u * W (ix1 u)) (fun u => X (ix2 r u)) j

/-- A row's part of the gradient of the norm's weights, of the whole arrays. -/
def gwr (A B : FVec Ideal S2048x7184 .f32) (X : FVec Ideal S2048x2048 .f32) (r j : Fin 2048) : EReal :=
  dxn A B r j * (X (ix2 r j) * Row.rs (fun u => X (ix2 r u)))

theorem gx_at (c : Dev nD) (t : Fin cfg0.N) (h : t.val % 7 = 6) (i : Fin 512) (j : Fin 2048) :
    (outsAt0 m c t.val t.isLt).1 (ix2 i j) = gx (A0 m c) (A1 m c) (A2 m c) (A3 m c) (A4 m c) (row t i) j := by
  rw [gx_out m c t h]
  unfold full gx
  refine congrArg₂ (· + ·) (d_at m c t i j) ?_
  refine congrArg₂ (fun a b => Row.back a b j) (funext fun u => ?_) (funext fun u => x_at m c t i u)
  exact congrArg₂ (· * ·) (acc_last m c t h i u) (nw_at m c t u)

theorem gwf_at (c : Dev nD) (t : Fin cfg0.N) (h : t.val % 7 = 6) (r : Fin 512) (j : Fin 2048) :
    gwf (iblk m c 4 t) (acc m c t) r j = gwr (A0 m c) (A1 m c) (A2 m c) (row t r) j := by
  unfold gwf gwr
  refine congrArg₂ (· * ·) (acc_last m c t h r j) (congrArg₂ (· * ·) (x_at m c t r j) (congrArg Row.rs (funext fun u => x_at m c t r u)))

/-- The rows of one block. -/
def blockGw (A B : FVec Ideal S2048x7184 .f32) (X : FVec Ideal S2048x2048 .f32) (j : Fin 2048) (b : ℕ) : EReal :=
  ∑ r : Fin 512, gwr A B X ⟨b % 4 * 512 + r.val, by omega⟩ j

theorem zero8' (y : S8x2048.Idx) : k0_pay1 (F := Ideal) y = (0 : EReal) := by
  rw [eq_ix2 y]
  unfold k0_pay1
  pointwise

theorem gnw_first (c : Dev nD) (t : Fin cfg0.N) (h : t.val % 28 = 0) (i : Fin 8) (j : Fin 2048) :
    (outsAt0 m c t.val t.isLt).2.1 (ix2 i j) = 0 := by
  rw [outsAt0_A m c t h (by omega) (by omega)]
  frame_out
  exact zero8' _

theorem gnw_keep (c : Dev nD) (t : Fin cfg0.N) (h : ¬t.val % 28 = 0) (h6 : ¬t.val % 7 = 6) (i : Fin 8) (j : Fin 2048) :
    (outsAt0 m c t.val t.isLt).2.1 (ix2 i j) = (outsAt0 m c (t.val - 1) (Nat.lt_of_le_of_lt (Nat.sub_le _ _) t.isLt)).2.1 (ix2 i j) := by
  by_cases h0 : t.val % 7 = 0
  · rw [outsAt0_D m c t h h0 h6]
    generalize outsAt0 m c (t.val - 1) _ = q
    dsimp only
    unfold out0_D_8
    rfl
  · rw [outsAt0_B m c t h h0 h6]
    generalize outsAt0 m c (t.val - 1) _ = q
    dsimp only
    unfold out0_B_8
    rfl

theorem gnw_at (c : Dev nD) (n : ℕ) : ∀ (hn : n < cfg0.N) (i : Fin 8) (j : Fin 2048), (outsAt0 m c n hn).2.1 (ix2 i j)
    = if i.val = 0 then ∑ b ∈ Finset.range ((n + 1) / 7), blockGw (A0 m c) (A1 m c) (A2 m c) j b else 0 := by
  induction n with
  | zero =>
    intro hn i j
    rw [gnw_first m c ⟨0, hn⟩ rfl]
    simp
  | succ n ih =>
    intro hn i j
    have hN : n + 1 < 28 := hn
    by_cases h6 : (n + 1) % 7 = 6
    · refine (gnw_out m c ⟨n + 1, hn⟩ h6 i j).trans ?_
      simp only [Nat.add_sub_cancel]
      rw [ih]
      have e : (n + 1 + 1) / 7 = (n + 1) / 7 + 1 := by omega
      rw [e, Finset.sum_range_succ]
      split
      · refine congrArg₂ (· + ·) rfl (Finset.sum_congr rfl fun r _ => (gwf_at m c ⟨n + 1, hn⟩ h6 r j).trans ?_)
        refine congrArg (fun r => gwr _ _ _ r j) (Fin.ext ?_)
        show (n + 1) / 7 * 512 + r.val = (n + 1) / 7 % 4 * 512 + r.val
        rw [Nat.mod_eq_of_lt (by omega)]
      · exact add_zero _
    · refine (gnw_keep m c ⟨n + 1, hn⟩ (by show ¬(n + 1) % 28 = 0; omega) h6 i j).trans ?_
      simp only [Nat.add_sub_cancel]
      rw [ih]
      have e : (n + 1 + 1) / 7 = (n + 1) / 7 := by omega
      rw [e]

theorem sum2048 (f : Fin 2048 → EReal) : ∑ b ∈ Finset.range 4, ∑ r : Fin 512, f ⟨b % 4 * 512 + r.val, by omega⟩ = ∑ r, f r := by
  rw [← (finProdFinEquiv (m := 4) (n := 512)).sum_comp, Fintype.sum_prod_type, Finset.sum_range]
  refine Finset.sum_congr rfl fun b _ => Finset.sum_congr rfl fun r _ => congrArg f (Fin.ext ?_)
  simp only [finProdFinEquiv_apply_val]
  omega

/-- The first result. -/
theorem final_gx (c : Dev nD) (G : FVec Ideal S2048x2048 .f32)
    (hG : ∀ y, G y = gx (A0 m c) (A1 m c) (A2 m c) (A3 m c) (A4 m c) (y 0) (y 1)) : (dats m 0 c).arrAt 7 cfg0.N = G := by
  refine (dats m 0 c).arrAt_eq_of_covers 7 _ (by decide +kernel) fun t hf y => ?_
  have h : t.val % 7 = 6 := by
    revert hf
    exact (by decide +kernel : ∀ t : Fin grid0.N, win0_7.flush t = true → t.val % 7 = 6) t
  obtain ⟨i, j, rfl⟩ : ∃ (i : Fin 512) (j : Fin 2048), y = ix2 i j := ⟨y 0, y 1, eq_ix2 y⟩
  blk_simp
  rw [after0_7]
  refine (gx_at m c t h i j).trans ?_
  rw [hG]
  refine congrArg₂ (gx _ _ _ _ _) (Fin.ext ?_) (Fin.ext ?_)
  · blk_simp [idx t]
  · blk_simp [idx t]

/-- The second result. -/
theorem final_gnw (c : Dev nD) (G : FVec Ideal S8x2048 .f32)
    (hG : ∀ y, G y = if (y 0).val = 0 then ∑ r, gwr (A0 m c) (A1 m c) (A2 m c) r (y 1) else 0) : (dats m 0 c).arrAt 8 cfg0.N = G := by
  refine (dats m 0 c).arrAt_eq_of_after_last 8 ⟨27, by decide⟩ (by decide +kernel) _ fun y => ?_
  obtain ⟨i, j, rfl⟩ : ∃ (i : Fin 8) (j : Fin 2048), y = ix2 i j := ⟨y 0, y 1, eq_ix2 y⟩
  rw [after0_8, hG]
  refine (gnw_at m c 27 (by decide) i j).trans ?_
  exact if_congr Iff.rfl (sum2048 fun r => gwr (A0 m c) (A1 m c) (A2 m c) r j) rfl

end Dx4
end
-- ==== Proof.DxRef4.lean ====
module

public import proofs.«01_k».proof.Proof.Gen.Reference4Ideal.Run
public import proofs.«01_k».proof.Proof.Dx4

/-!
The reference of the gradient of the layer's input, entry by entry, in the form that the kernel's blocks have.
-/

@[expose] public section

set_option maxRecDepth 16384

noncomputable section

namespace DxRef4

open Idealize.ShloMosaic Idealize.ShloMosaic.TcCoe Idealize.SL.Sem
open Cert.Reference4Ideal Cert.Reference4Ideal.Gen Cert.Reference4Ideal.Value

/-- The gradient before the norm. -/
def dxnV (A B : FVec Ideal S2048x7184 .f32) : FVec Ideal S2048x2048 .f32 :=
  Host.dotGeneral (F := Ideal) (φ₁ := .f32) (φ₂ := .f32) dot_S2048x7184_S2048x7184_S2048x2048_1_1_0_0_n_n none A B

/-- The normalised rows. -/
def normV (h : FVec Ideal S2048x2048 .f32) : FVec Ideal S2048x2048 .f32 :=
  mulf h (broadcastInDim S2048x2048 ![0, 1] bcast_S2048x1_S2048x2048_0_1 (Host.rsqrt (addf (Host.divf (broadcastInDim S2048x1 ![0] bcast_S2048_S2048x1_0 (Host.reduceAdd (mulf h h) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))

/-- The gradient of the norm's weights, padded to eight rows. -/
def gwV (A B : FVec Ideal S2048x7184 .f32) (h : FVec Ideal S2048x2048 .f32) : FVec Ideal S8x2048 .f32 :=
  pad S8x2048 ![0, 0] ![7, 0] ![0, 0] (shapeCast _ (Host.reduceAdd (shapeCast _ (Host.reduceAdd (mulf (normV h) (dxnV A B)) (constant S_ .f32 0x00000000#32) reducesTo_S2048x2048_S2048_d0 h_S_) shapeCasts_S2048_S1x2048) (constant S_ .f32 0x00000000#32) reducesTo_S1x2048_S2048_d0 h_S_) shapeCasts_S2048_S1x2048) (sitofp .f32 (constantI S_ 32 0#32)) pads_S1x2048_S8x2048_070_000 h_S_

theorem dxn_at (A B : FVec Ideal S2048x7184 .f32) (r j : Fin 2048) : dxnV A B (ix2 r j) = Dx4.dxn A B r j := by
  unfold dxnV Dx4.dxn
  pointwise

theorem norm_at (h : FVec Ideal S2048x2048 .f32) (r j : Fin 2048) : normV h (ix2 r j) = h (ix2 r j) * Row.rs (fun u => h (ix2 r u)) := by
  unfold normV Row.rs Row.ms
  pointwise

theorem gw_at (A B : FVec Ideal S2048x7184 .f32) (h : FVec Ideal S2048x2048 .f32) (i : Fin 8) (j : Fin 2048) :
    gwV A B h (ix2 i j) = if i.val = 0 then ∑ r, Dx4.gwr A B h r j else 0 := by
  unfold gwV Dx4.gwr
  simp only [← dxn_at, ← norm_at h]
  generalize dxnV A B = e
  generalize normV h = y
  pointwise
  by_cases hi : i.val = 0
  · rw [dif_pos (by omega), if_pos hi, Fin.sum_univ_one]
    exact Finset.sum_congr rfl fun r _ => mul_comm _ _
  · rw [dif_neg (by omega), if_neg hi]
    simp [FloatOps.sitofp]

variable (m : (ℓ : Loc nD τ sig) → Buf (Elt Ideal) ℓ)

abbrev A0 (c : Dev nD) : FVec Ideal S2048x7184 .f32 := m ((c.tc : Thread nD τ).loc main_arg0)
abbrev A1 (c : Dev nD) : FVec Ideal S2048x7184 .f32 := m ((c.tc : Thread nD τ).loc main_arg1)
abbrev A2 (c : Dev nD) : FVec Ideal S2048x2048 .f32 := m ((c.tc : Thread nD τ).loc main_arg2)
abbrev A3 (c : Dev nD) : FVec Ideal S2048x2048 .f32 := m ((c.tc : Thread nD τ).loc main_arg3)
abbrev A4 (c : Dev nD) : FVec Ideal S2048 .f32 := m ((c.tc : Thread nD τ).loc main_arg4)

theorem gx_at (c : Dev nD) (r j : Fin 2048) :
    (res_main_v38 m c : FVec Ideal S2048x2048 .f32) (ix2 r j) = Dx4.gx (A0 m c) (A1 m c) (A2 m c) (A3 m c) (A4 m c) r j := by
  unfold res_main_v38 Dx4.gx
  simp only [← dxn_at]
  generalize he : dxnV (A0 m c) (A1 m c) = e
  unfold dxnV at he
  rw [he]
  rw [Row.back_eq, add_comm]
  unfold Row.through Row.rs Row.ms
  pointwise
  simp only [Finset.univ_unique, Finset.sum_singleton]

end DxRef4
end
-- ==== Proof.Dx5.lean ====
module

public import proofs.«01_k».proof.Defs
public import proofs.«01_k».proof.Proof.Gen.Kernel5Ideal.Value
public import proofs.«01_k».proof.Proof.Dx4
public import Idealize.ShloMosaic.Lib.Pipeline.ValueKit
public import Idealize.ShloMosaic.Lib.Pipeline.ReadBack
public import Idealize.ShloMosaic.Lib.WritesUnit
public import Idealize.ShloMosaic.Lib.Pointwise
public import Idealize.ShloMosaic.Lib.Claim

/-!
The gradient of the layer's input, second call: the last four blocks of 512 rows of the whole arrays. The body is the
first call's; the gradient of the norm's weights starts at the first call's, and the rows of the first half stay as
they were.
-/

@[expose] public section

set_option maxRecDepth 16384

noncomputable section

namespace Dx5

open Idealize.ShloMosaic Idealize.ShloMosaic.TcCoe Idealize.SL.Sem
open Cert.Kernel5Ideal Cert.Kernel5Ideal.Gen Cert.Kernel5Ideal.Value

/-! ## The body's terms are the first call's -/

section Rows

variable (x a d : Vec Ideal S16x2048 .f32) (g : FVec Ideal S8x2048 .f32) (n : FVec Ideal S1x2048 .f32)

theorem e1 : @k0_pay1 Ideal _ = Cert.Kernel4Ideal.Gen.k0_pay2 := rfl
theorem e2 : @k0_pay2 Ideal _ = Cert.Kernel4Ideal.Gen.k0_pay3 := rfl
theorem e3 : @k0_pay3 Ideal = Cert.Kernel4Ideal.Gen.k0_pay4 := rfl
theorem e4 : @k0_pay4 Ideal _ = Cert.Kernel4Ideal.Gen.k0_pay5 := rfl
theorem e7 : @k0_pay7 Ideal _ = Cert.Kernel4Ideal.Gen.k0_pay8 := rfl
theorem e10 : @k0_pay10 Ideal _ = Cert.Kernel4Ideal.Gen.k0_pay11 := rfl
theorem e11 : @k0_pay11 Ideal _ = Cert.Kernel4Ideal.Gen.k0_pay12 := rfl
theorem e14 : @k0_pay14 Ideal _ = Cert.Kernel4Ideal.Gen.k0_pay11 := rfl
theorem e15 : @k0_pay15 Ideal _ = Cert.Kernel4Ideal.Gen.k0_pay12 := rfl
theorem e20 : k0_pay20 n x (k0_pay16 x) k0_pay17 a d = Cert.Kernel4Ideal.Gen.k0_pay11 n x a d := rfl
theorem e21 : k0_pay21 g x (k0_pay16 x) k0_pay17 a = Cert.Kernel4Ideal.Gen.k0_pay12 g x a := rfl
theorem e5 : k0_pay5 (k0_pay22 x) (k0_pay23 x) (k0_pay24 n a) d = Cert.Kernel4Ideal.Gen.k0_pay11 n x a d := rfl
theorem e6 : k0_pay6 g (k0_pay23 x) a = Cert.Kernel4Ideal.Gen.k0_pay12 g x a := rfl

end Rows

/-! ## One trip of the loop over a block's rows -/

theorem off0 : ∀ k : Fin k0_t1_loop.trips, k0_off1 k 0#32 = ![64 * k.val, 0] := by decide +kernel
theorem off1 : ∀ k : Fin k0_t1_loop.trips, k0_off1 k 16#32 = ![64 * k.val + 16, 0] := by decide +kernel
theorem off2 : ∀ k : Fin k0_t1_loop.trips, k0_off1 k 32#32 = ![64 * k.val + 32, 0] := by decide +kernel
theorem off3 : ∀ k : Fin k0_t1_loop.trips, k0_off1 k 48#32 = ![64 * k.val + 48, 0] := by decide +kernel

section Trip

variable (𝒱 : Variants) (c : Dev nD) (bd : Option 𝒱.V) (i : grid0.Coords) (arg2 : Memref sig .tc .vmem S512x1024 .bf16) (harg2 : arg2.IsWhole) (arg3 : Memref sig .tc .vmem S512x128 .bf16) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S512x2048 .f32) (harg6 : arg6.IsWhole) (arg7 : Memref sig .tc .vmem S512x2048 .f32) (harg7 : arg7.IsWhole) (arg8 : Memref sig .tc .vmem S1x2048 .f32) (harg8 : arg8.IsWhole) (arg9 : Memref sig .tc .vmem S8x2048 .f32) (harg9 : arg9.IsWhole) (arg10 : Memref sig .tc .hbm S4096x2048 .f32) (harg10 : arg10.IsWhole) (arg11 : Memref sig .tc .vmem S512x2048 .f32) (harg11 : arg11.IsWhole) (arg12 : Memref sig .tc .vmem S8x2048 .f32) (harg12 : arg12.IsWhole) (arg13 : Memref sig .tc .vmem S512x2048 .f32) (harg13 : arg13.IsWhole) (k0_h3 : k0_cond3 i = 1#1) (v21 : Vec Ideal S1x2048 .f32) (X_arg6 : BufTy.Contents (Elt Ideal) arg6.view.ty) (X_arg7 : BufTy.Contents (Elt Ideal) arg7.view.ty) (X_arg13 : BufTy.Contents (Elt Ideal) arg13.view.ty)

theorem tripL_eq (k : Fin k0_t1_loop.trips) (g : FVec Ideal S8x2048 .f32) (p : View.Piece (Elt Ideal) S512x2048 .f32)
    (hp : p ∈ tripL_k0_t1 (F := Ideal) 𝒱 c bd i arg2 harg2 arg3 harg3 arg4 harg4 arg5 harg5 arg6 harg6 arg7 harg7 arg8 harg8 arg9 harg9 arg10 harg10 arg11 harg11 arg12 harg12 arg13 harg13 k0_h3 v21 X_arg6 X_arg7 X_arg13 k g) (y : p.1.shape.Idx) :
    p.2 y = Dx4.full v21 (arg6.view.read (Elt Ideal) X_arg6) (arg13.view.read (Elt Ideal) X_arg13) (arg7.view.read (Elt Ideal) X_arg7) (p.1.emb y) := by
  have hk : k.val < 8 := Nat.lt_of_lt_of_le k.isLt k0_t1_abs.2.1
  unfold tripL_k0_t1 trip_k0_t1 at hp
  simp only [List.mem_cons, List.not_mem_nil, or_false] at hp
  rcases hp with rfl | rfl | rfl | rfl
  · refine Eq.trans ?_ (Dx4.piece v21 _ _ _ (k0_off1_inb i k k0_h3 3) (off3 k) (by omega) y)
    refine (congrFun (e5 _ _ _ _) y).trans ?_
    exact Dx4.p11_congr _ (Dx4.read16 _ _ _ (off3 k) _) (Dx4.read16 _ _ _ (off3 k) _) (Dx4.read16 _ _ _ (off3 k) _) y
  · refine Eq.trans ?_ (Dx4.piece v21 _ _ _ (k0_off1_inb i k k0_h3 2) (off2 k) (by omega) y)
    refine (congrFun (e20 _ _ _ _) y).trans ?_
    exact Dx4.p11_congr _ (Dx4.read16 _ _ _ (off2 k) _) (Dx4.read16 _ _ _ (off2 k) _) (Dx4.read16 _ _ _ (off2 k) _) y
  · refine Eq.trans ?_ (Dx4.piece v21 _ _ _ (k0_off1_inb i k k0_h3 1) (off1 k) (by omega) y)
    refine (congrFun (congrFun (congrFun (congrFun (congrFun e14 _) _) _) _) y).trans ?_
    exact Dx4.p11_congr _ (Dx4.read16 _ _ _ (off1 k) _) (Dx4.read16 _ _ _ (off1 k) _) (Dx4.read16 _ _ _ (off1 k) _) y
  · refine Eq.trans ?_ (Dx4.piece v21 _ _ _ (k0_off1_inb i k k0_h3 0) (off0 k) (by omega) y)
    refine (congrFun (congrFun (congrFun (congrFun (congrFun e10 _) _) _) _) y).trans ?_
    exact Dx4.p11_congr _ (Dx4.read16 _ _ _ (off0 k) _) (Dx4.read16 _ _ _ (off0 k) _) (Dx4.read16 _ _ _ (off0 k) _) y

/-- The carried value after one trip: four pieces' rows more. -/
theorem tripR_eq (k : Fin k0_t1_loop.trips) (hk : k.val < 8) (g : FVec Ideal S8x2048 .f32) :
    tripR_k0_t1 (F := Ideal) 𝒱 c bd i arg2 harg2 arg3 harg3 arg4 harg4 arg5 harg5 arg6 harg6 arg7 harg7 arg8 harg8 arg9 harg9 arg10 harg10 arg11 harg11 arg12 harg12 arg13 harg13 k0_h3 v21 X_arg6 X_arg7 X_arg13 k g
      = Cert.Kernel4Ideal.Gen.k0_pay12 (Cert.Kernel4Ideal.Gen.k0_pay12 (Cert.Kernel4Ideal.Gen.k0_pay12 (Cert.Kernel4Ideal.Gen.k0_pay12 g
            (Dx4.rows (arg6.view.read (Elt Ideal) X_arg6) (64 * k.val) (by omega)) (Dx4.rows (arg13.view.read (Elt Ideal) X_arg13) (64 * k.val) (by omega)))
            (Dx4.rows (arg6.view.read (Elt Ideal) X_arg6) (64 * k.val + 16) (by omega)) (Dx4.rows (arg13.view.read (Elt Ideal) X_arg13) (64 * k.val + 16) (by omega)))
            (Dx4.rows (arg6.view.read (Elt Ideal) X_arg6) (64 * k.val + 32) (by omega)) (Dx4.rows (arg13.view.read (Elt Ideal) X_arg13) (64 * k.val + 32) (by omega)))
            (Dx4.rows (arg6.view.read (Elt Ideal) X_arg6) (64 * k.val + 48) (by omega)) (Dx4.rows (arg13.view.read (Elt Ideal) X_arg13) (64 * k.val + 48) (by omega)) := by
  unfold tripR_k0_t1 trip_k0_t1
  rw [← Dx4.read16 arg6.view X_arg6 (k0_off1_inb i k k0_h3 0) (off0 k), ← Dx4.read16 arg13.view X_arg13 (k0_off1_inb i k k0_h3 0) (off0 k),
    ← Dx4.read16 arg6.view X_arg6 (k0_off1_inb i k k0_h3 1) (off1 k), ← Dx4.read16 arg13.view X_arg13 (k0_off1_inb i k k0_h3 1) (off1 k),
    ← Dx4.read16 arg6.view X_arg6 (k0_off1_inb i k k0_h3 2) (off2 k), ← Dx4.read16 arg13.view X_arg13 (k0_off1_inb i k k0_h3 2) (off2 k),
    ← Dx4.read16 arg6.view X_arg6 (k0_off1_inb i k k0_h3 3) (off3 k), ← Dx4.read16 arg13.view X_arg13 (k0_off1_inb i k k0_h3 3) (off3 k)]
  rfl

theorem trips_eq : k0_t1_loop.trips = 8 := by decide +kernel

/-- Every piece the trips store holds the gradient's entries. -/
theorem stL (init : FVec Ideal S8x2048 .f32) (n : ℕ) (hn : n ≤ 8) : ∀ p ∈ (st_k0_t1 (F := Ideal) 𝒱 c bd i arg2 harg2 arg3 harg3 arg4 harg4 arg5 harg5 arg6 harg6 arg7 harg7 arg8 harg8 arg9 harg9 arg10 harg10 arg11 harg11 arg12 harg12 arg13 harg13 k0_h3 v21 X_arg6 X_arg7 X_arg13 init n).2, ∀ y : p.1.shape.Idx,
    p.2 y = Dx4.full v21 (arg6.view.read (Elt Ideal) X_arg6) (arg13.view.read (Elt Ideal) X_arg13) (arg7.view.read (Elt Ideal) X_arg7) (p.1.emb y) := by
  induction n with
  | zero => intro p hp; exact absurd hp List.not_mem_nil
  | succ n ih =>
    intro p hp y
    have hk : n < k0_t1_loop.trips := by rw [trips_eq]; omega
    rw [st_k0_t1_succ 𝒱 c bd i arg2 harg2 arg3 harg3 arg4 harg4 arg5 harg5 arg6 harg6 arg7 harg7 arg8 harg8 arg9 harg9 arg10 harg10 arg11 harg11 arg12 harg12 arg13 harg13 k0_h3 v21 X_arg6 X_arg7 X_arg13 init ⟨n, hk⟩] at hp
    rcases List.mem_append.mp hp with h | h
    · exact tripL_eq 𝒱 c bd i arg2 harg2 arg3 harg3 arg4 harg4 arg5 harg5 arg6 harg6 arg7 harg7 arg8 harg8 arg9 harg9 arg10 harg10 arg11 harg11 arg12 harg12 arg13 harg13 k0_h3 v21 X_arg6 X_arg7 X_arg13 ⟨n, hk⟩ _ p h y
    · exact ih (by omega) p h y

/-- The carried value before a trip. -/
theorem stR (init : FVec Ideal S8x2048 .f32) (n : ℕ) (hn : n ≤ 8) (l : Fin 8) (j : Fin 2048) : (st_k0_t1 (F := Ideal) 𝒱 c bd i arg2 harg2 arg3 harg3 arg4 harg4 arg5 harg5 arg6 harg6 arg7 harg7 arg8 harg8 arg9 harg9 arg10 harg10 arg11 harg11 arg12 harg12 arg13 harg13 k0_h3 v21 X_arg6 X_arg7 X_arg13 init n).1 (ix2 l j)
    = init (ix2 l j) + ∑ k : Fin n, Dx4.tripSum (arg6.view.read (Elt Ideal) X_arg6) (arg13.view.read (Elt Ideal) X_arg13) k.val (by omega) l j := by
  induction n with
  | zero => rw [Fin.sum_univ_zero, add_zero]; rfl
  | succ n ih =>
    have hk : n < k0_t1_loop.trips := by rw [trips_eq]; omega
    rw [st_k0_t1_succ 𝒱 c bd i arg2 harg2 arg3 harg3 arg4 harg4 arg5 harg5 arg6 harg6 arg7 harg7 arg8 harg8 arg9 harg9 arg10 harg10 arg11 harg11 arg12 harg12 arg13 harg13 k0_h3 v21 X_arg6 X_arg7 X_arg13 init ⟨n, hk⟩, Fin.sum_univ_castSucc, ← add_assoc]
    dsimp only [Fin.val_castSucc, Fin.val_last]
    rw [← ih (by omega), tripR_eq 𝒱 c bd i arg2 harg2 arg3 harg3 arg4 harg4 arg5 harg5 arg6 harg6 arg7 harg7 arg8 harg8 arg9 harg9 arg10 harg10 arg11 harg11 arg12 harg12 arg13 harg13 k0_h3 v21 X_arg6 X_arg7 X_arg13 ⟨n, hk⟩ (by show n < 8; omega), Dx4.carry, Dx4.carry, Dx4.carry, Dx4.carry]
    unfold Dx4.tripSum
    rw [Fin.sum_univ_eight]
    simp only [← add_assoc]
    iterate 8 refine congrArg₂ (· + ·) ?_ (congrArg (fun r => Dx4.gwf _ _ r j) (Fin.ext (show _ = _ from ?_)))
    · rfl
    all_goals first | omega | (simp <;> omega)

end Trip

/-! ## The rows at a run's last point -/

variable (m : (ℓ : Loc nD τ sig) → Buf (Elt Ideal) ℓ)

/-- The scratch after a point. -/
abbrev acc (c : Dev nD) (t : Fin cfg0.N) : Vec Ideal S512x2048 .f32 := (outsAt0 m c t.val t.isLt).2.2

theorem read_scr (P : Vec Ideal S512x2048 .f32) :
    (View.whole cc0_scratch0).read (Elt Ideal) ((View.whole cc0_scratch0).writes (Elt Ideal) (View.whole cc0_scratch0).junk
      [⟨Rect.unit ![0, 0] ![512, 2048] inb_S512x2048_S512x2048_0_0, P⟩]) = P := by
  frame_out
  exact View.canon_unit_zero (by funext a; match a with | 0 => rfl | 1 => rfl) _ P

theorem gx_out (c : Dev nD) (t : Fin cfg0.N) (h : t.val % 7 = 6) (y : S512x2048.Idx) :
    (outsAt0 m c t.val t.isLt).1 y = Dx4.full (iblk m c 6 t) (iblk m c 4 t) (acc m c t) (iblk m c 5 t) y := by
  unfold acc
  rw [outsAt0_C m c t (by omega) (by omega) h]
  generalize outsAt0 m c (t.val - 1) _ = q
  dsimp only
  unfold out0_C_8
  refine View.read_writes_apply_of_pieces _ _ _ _ (fun p hp x => ?_) y (cover0_C_8 (F := Ideal) c _ _ _ _ _ _ _ _ _ _ _ _ _ _ _ _ _ _ _ _ _ _ _ _ _ _ _ _ _ _ _ _ _ _ _ _ y)
  unfold kernelRun0_C at hp
  refine (stL _ _ _ _ _ _ _ _ _ _ _ _ _ _ _ _ _ _ _ _ _ _ _ _ _ _ _ _ _ _ _ _ _ _ 8 le_rfl p hp x).trans ?_
  simp only [(hs0_4 t).read_unread, (hs0_5 t).read_unread]
  frame_out

theorem gnw_out (c : Dev nD) (t : Fin cfg0.N) (h : t.val % 7 = 6) (i : Fin 8) (j : Fin 2048) :
    (outsAt0 m c t.val t.isLt).2.1 (ix2 i j) = (outsAt0 m c (t.val - 1) (Nat.lt_of_le_of_lt (Nat.sub_le _ _) t.isLt)).2.1 (ix2 i j)
      + if i.val = 0 then ∑ r, Dx4.gwf (iblk m c 4 t) (acc m c t) r j else 0 := by
  unfold acc
  rw [outsAt0_C m c t (by omega) (by omega) h]
  generalize outsAt0 m c (t.val - 1) _ = q
  frame_out
  refine (Dx4.writes_row _ _ _ i j).trans ?_
  by_cases hi : i.val = 0
  · rw [if_pos hi, if_pos hi]
    refine ((congrFun (congrFun (congrFun e7 _) _) _).trans (Dx4.p8 _ _ j)).trans ?_
    obtain rfl : i = 0 := Fin.ext hi
    refine congrArg₂ (· + ·) (Dx4.ld_R1 _ j) ?_
    rw [← Dx4.sum512]
    refine Finset.sum_congr rfl fun i _ => ?_
    refine (stR _ _ _ _ _ _ _ _ _ _ _ _ _ _ _ _ _ _ _ _ _ _ _ _ _ _ _ _ _ _ _ _ _ _ 8 le_rfl i j).trans ?_
    rw [e4, Dx4.zero8, zero_add]
    refine Finset.sum_congr rfl fun k _ => ?_
    unfold Dx4.tripSum
    simp only [(hs0_4 t).read_unread]
    rw [read_scr]
  · rw [if_neg hi, if_neg hi, add_zero]
    exact congrFun ((hs0_9 t).read_unread _) _

/-! ## The sum in the scratch -/

/-- A point's block of the product. -/
abbrev part (c : Dev nD) (t : Fin cfg0.N) (i : Fin 512) (j : Fin 2048) : EReal :=
  ∑ k : Fin 1024, (show EReal from iblk m c 0 t (ix2 i k)) * (show EReal from iblk m c 2 t (ix2 j k))

abbrev gates (c : Dev nD) (t : Fin cfg0.N) (i : Fin 512) (j : Fin 2048) : EReal :=
  ∑ l : Fin 128, (show EReal from iblk m c 1 t (ix2 i l)) * (show EReal from iblk m c 3 t (ix2 j l))

theorem acc_first (c : Dev nD) (t : Fin cfg0.N) (h : t.val % 7 = 0) (i : Fin 512) (j : Fin 2048) :
    acc m c t (ix2 i j) = gates m c t i j + part m c t i j := by
  unfold acc
  by_cases h0 : t.val % 28 = 0
  · rw [outsAt0_A m c t h0 h (by omega)]
    frame_out
    rw [e2, e1, Dx4.p3, Dx4.p2]
  · rw [outsAt0_D m c t h0 h (by omega)]
    frame_out
    rw [e2, e1, Dx4.p3, Dx4.p2]

theorem acc_next (c : Dev nD) (t : Fin cfg0.N) (h : ¬t.val % 7 = 0) (i : Fin 512) (j : Fin 2048) :
    acc m c t (ix2 i j) = acc m c ⟨t.val - 1, Nat.lt_of_le_of_lt (Nat.sub_le _ _) t.isLt⟩ (ix2 i j) + part m c t i j := by
  unfold acc
  by_cases h6 : t.val % 7 = 6
  · rw [outsAt0_C m c t (by omega) h h6]
    generalize outsAt0 m c (t.val - 1) _ = q
    frame_out
    simp only [read_unread_whole]
    rw [e2, Dx4.p3]
  · rw [outsAt0_B m c t (by omega) h h6]
    generalize outsAt0 m c (t.val - 1) _ = q
    frame_out
    simp only [read_unread_whole]
    rw [e2, Dx4.p3]

/-! ## The blocks of the arguments -/

theorem idx : ∀ t : Fin cfg0.N, win0_0.index t = ![4 + t.val / 7, t.val % 7] ∧ win0_1.index t = ![4 + t.val / 7, 0] ∧ win0_2.index t = ![0, t.val % 7]
    ∧ win0_3.index t = ![0, 0] ∧ win0_4.index t = ![4 + t.val / 7, 0] ∧ win0_5.index t = ![4 + t.val / 7, 0] ∧ win0_6.index t = ![0, 0]
    ∧ win0_7.index t = ![0, 0] ∧ win0_8.index t = ![4 + t.val / 7, 0] ∧ win0_9.index t = ![0, 0] :=
  (by decide +kernel : ∀ t : Fin grid0.N, _)

abbrev A0 (c : Dev nD) : FVec Ideal S4096x7184 .f32 := m ((c : Thread nD τ).loc main_arg0)
abbrev A1 (c : Dev nD) : FVec Ideal S2048x7184 .f32 := m ((c : Thread nD τ).loc main_arg1)
abbrev A2 (c : Dev nD) : FVec Ideal S4096x2048 .f32 := m ((c : Thread nD τ).loc main_arg2)
abbrev A3 (c : Dev nD) : FVec Ideal S4096x2048 .f32 := m ((c : Thread nD τ).loc main_arg3)
abbrev A4 (c : Dev nD) : FVec Ideal S2048 .f32 := m ((c : Thread nD τ).loc main_arg4)
abbrev A5 (c : Dev nD) : FVec Ideal S4096x2048 .f32 := m ((c : Thread nD τ).loc main_arg5)
abbrev A6 (c : Dev nD) : FVec Ideal S8x2048 .f32 := m ((c : Thread nD τ).loc main_arg6)

/-- A row of the second half. -/
abbrev low (r : Fin 2048) : Fin 4096 := ⟨2048 + r.val, by omega⟩

/-- The second half of an array's rows. -/
def half7184 (A : FVec Ideal S4096x7184 .f32) : FVec Ideal S2048x7184 .f32 := fun y => A (ix2 (low (y 0)) (y 1))

def half2048 (A : FVec Ideal S4096x2048 .f32) : FVec Ideal Cert.Kernel4Ideal.S2048x2048 .f32 := fun y => A (ix2 (low (y 0)) (y 1))

theorem half7184_at (A : FVec Ideal S4096x7184 .f32) (r : Fin 2048) (k : Fin 7184) : half7184 A (ix2 r k) = A (ix2 (low r) k) := rfl

theorem half2048_at (A : FVec Ideal S4096x2048 .f32) (r j : Fin 2048) : half2048 A (ix2 r j) = A (ix2 (low r) j) := rfl

theorem t_lt (t : Fin cfg0.N) : t.val < 28 := t.isLt

/-- The row of the second half that a point's blocks hold as their row `i`. -/
abbrev row (t : Fin cfg0.N) (i : Fin 512) : Fin 2048 := ⟨t.val / 7 * 512 + i.val, by have := t_lt t; omega⟩

/-- The same row of the whole arrays. -/
abbrev wrow (t : Fin cfg0.N) (i : Fin 512) : Fin 4096 := ⟨(4 + t.val / 7) * 512 + i.val, by have := t_lt t; omega⟩

theorem wrow_eq (t : Fin cfg0.N) (i : Fin 512) : wrow t i = low (row t i) := Fin.ext (by
  show (4 + t.val / 7) * 512 + i.val = 2048 + (t.val / 7 * 512 + i.val)
  omega)

theorem x_at (c : Dev nD) (t : Fin cfg0.N) (i : Fin 512) (j : Fin 2048) : iblk m c 4 t (ix2 i j) = half2048 (A2 m c) (ix2 (row t i) j) := by
  rw [half2048_at, ← wrow_eq t i]
  blk_ext [iblk, V, idx t]

theorem d_at (c : Dev nD) (t : Fin cfg0.N) (i : Fin 512) (j : Fin 2048) : iblk m c 5 t (ix2 i j) = half2048 (A3 m c) (ix2 (row t i) j) := by
  rw [half2048_at, ← wrow_eq t i]
  blk_ext [iblk, V, idx t]

theorem g_at (c : Dev nD) (t : Fin cfg0.N) (i : Fin 8) (j : Fin 2048) : iblk m c 7 t (ix2 i j) = A6 m c (ix2 i j) := by
  blk_ext [iblk, V, idx t]

/-- The main columns of the cotangent, and the gates' columns, padded with zeros. -/
def mainOf (A : FVec Ideal S4096x7184 .f32) : FVec Ideal S4096x7168 .bf16 :=
  truncf .bf16 (concatenate S4096x7168 1 [⟨S4096x4096, extractStridedSlice S4096x4096 ![0, 0] A slices_S4096x7184_S4096x4096_0_0⟩,
    ⟨S4096x3072, extractStridedSlice S4096x3072 ![0, 4112] A slices_S4096x7184_S4096x3072_0_4112⟩]
    concatenates_S4096x4096_S4096x3072_S4096x7168_d1 : FVec Ideal S4096x7168 .f32) bitsLt_bf16_f32

def gatesOf (A : FVec Ideal S4096x7184 .f32) : FVec Ideal S4096x128 .bf16 :=
  truncf .bf16 (pad S4096x128 ![0, 0] ![0, 112] ![0, 0] (extractStridedSlice S4096x16 ![0, 4096] A slices_S4096x7184_S4096x16_0_4096)
    (sitofp .f32 (constantI S_ 32 0#32)) pads_S4096x16_S4096x128_000_01120 h_S_ : FVec Ideal S4096x128 .f32) bitsLt_bf16_f32

theorem main_at (A : FVec Ideal S4096x7184 .f32) (i : Fin 4096) (k : Fin 7168) : mainOf A (ix2 i k) = A (ix2 i (Dx4.mcol k)) := by
  unfold mainOf Dx4.mcol
  pointwise
  split
  · rfl
  · exact congrArg (fun u => A (ix2 i u)) (Fin.ext (show 4112 + (k.val - 4096) = k.val + 16 by omega))

theorem gates_at (A : FVec Ideal S4096x7184 .f32) (r : Fin 2048) (l : Fin 128) :
    gatesOf A (ix2 (low r) l) = Dx4.gatesOf (half7184 A) (ix2 r l) := by
  rw [Dx4.gates_at]
  simp only [half7184_at]
  unfold gatesOf
  pointwise
  split <;> rename_i h
  · rw [dif_pos h.2]
  · rw [dif_neg fun h' => h ⟨by omega, h'⟩]
    simp [FloatOps.sitofp]

theorem V_v5 (c : Dev nD) : V m c main_v5 = mainOf (A0 m c) := by
  funext y
  unfold V
  simp only [hostOps0, hostOps0_1, hostOps0_2, hostOps0_3, hostOps0_4, List.flatten_cons, List.flatten_nil, List.append_nil, List.cons_append, List.nil_append]
  entry_read
  rfl

theorem V_v6 (c : Dev nD) : V m c main_v6 = gatesOf (A0 m c) := by
  funext y
  unfold V
  simp only [hostOps0, hostOps0_1, hostOps0_2, hostOps0_3, hostOps0_4, List.flatten_cons, List.flatten_nil, List.append_nil, List.cons_append, List.nil_append]
  entry_read
  rfl

theorem V_v12 (c : Dev nD) : V m c main_v12 = Dx4.mainOf (A1 m c) := by
  funext y
  unfold V
  simp only [hostOps0, hostOps0_1, hostOps0_2, hostOps0_3, hostOps0_4, List.flatten_cons, List.flatten_nil, List.append_nil, List.cons_append, List.nil_append]
  entry_read
  rfl

theorem V_v13 (c : Dev nD) : V m c main_v13 = Dx4.gatesOf (A1 m c) := by
  funext y
  unfold V
  simp only [hostOps0, hostOps0_1, hostOps0_2, hostOps0_3, hostOps0_4, List.flatten_cons, List.flatten_nil, List.append_nil, List.cons_append, List.nil_append]
  entry_read
  rfl

theorem V_v14 (c : Dev nD) : V m c main_v14 = shapeCast S1x2048 (A4 m c) shapeCasts_S2048_S1x2048 := by
  funext y
  unfold V
  simp only [hostOps0, hostOps0_1, hostOps0_2, hostOps0_3, hostOps0_4, List.flatten_cons, List.flatten_nil, List.append_nil, List.cons_append, List.nil_append]
  entry_read
  rfl

theorem V_v15_0 (c : Dev nD) : V m c main_v15_0 = A5 m c := by
  funext y
  unfold V
  simp only [hostOps0, hostOps0_1, hostOps0_2, hostOps0_3, hostOps0_4, List.flatten_cons, List.flatten_nil, List.append_nil, List.cons_append, List.nil_append]
  entry_read
  rfl

theorem nw_at (c : Dev nD) (t : Fin cfg0.N) (j : Fin 2048) : iblk m c 6 t (ix2 0 j) = A4 m c (ix1 j) := by
  have e : iblk m c 6 t (ix2 0 j) = V m c main_v14 (ix2 0 j) := by
    blk_ext [iblk, idx t]
  rw [e, V_v14]
  pointwise

theorem dm_at (c : Dev nD) (t : Fin cfg0.N) (i : Fin 512) (k : Fin 1024) :
    iblk m c 0 t (ix2 i k) = half7184 (A0 m c) (ix2 (row t i) (Dx4.mcol ⟨t.val % 7 * 1024 + k.val, by omega⟩)) := by
  have e : iblk m c 0 t (ix2 i k) = V m c main_v5 (ix2 (wrow t i) ⟨t.val % 7 * 1024 + k.val, by omega⟩) := by
    blk_ext [iblk, idx t]
  rw [e, V_v5, half7184_at, ← wrow_eq t i]
  exact main_at _ _ _

theorem w_at (c : Dev nD) (t : Fin cfg0.N) (j : Fin 2048) (k : Fin 1024) :
    iblk m c 2 t (ix2 j k) = A1 m c (ix2 j (Dx4.mcol ⟨t.val % 7 * 1024 + k.val, by omega⟩)) := by
  have e : iblk m c 2 t (ix2 j k) = V m c main_v12 (ix2 j ⟨t.val % 7 * 1024 + k.val, by omega⟩) := by
    blk_ext [iblk, idx t]
  rw [e, V_v12]
  exact Dx4.main_at _ _ _

theorem dba_at (c : Dev nD) (t : Fin cfg0.N) (i : Fin 512) (l : Fin 128) :
    iblk m c 1 t (ix2 i l) = Dx4.gatesOf (half7184 (A0 m c)) (ix2 (row t i) l) := by
  have e : iblk m c 1 t (ix2 i l) = V m c main_v6 (ix2 (wrow t i) l) := by
    blk_ext [iblk, idx t]
  rw [e, V_v6, wrow_eq]
  exact gates_at _ _ _

theorem wba_at (c : Dev nD) (t : Fin cfg0.N) (j : Fin 2048) (l : Fin 128) : iblk m c 3 t (ix2 j l) = Dx4.gatesOf (A1 m c) (ix2 j l) := by
  have e : iblk m c 3 t (ix2 j l) = V m c main_v13 (ix2 j l) := by
    blk_ext [iblk, idx t]
  rw [e, V_v13]

/-! ## The sum at a run's last point -/

theorem acc_sum (c : Dev nD) (n : ℕ) : ∀ (t : Fin cfg0.N), t.val % 7 = n → ∀ (i : Fin 512) (j : Fin 2048),
    acc m c t (ix2 i j) = Dx4.gatePart (half7184 (A0 m c)) (A1 m c) (row t i) j + ∑ q ∈ Finset.range (n + 1), Dx4.blockPart (half7184 (A0 m c)) (A1 m c) (row t i) j q := by
  have hp : ∀ (t : Fin cfg0.N) (i : Fin 512) (j : Fin 2048), part m c t i j = Dx4.blockPart (half7184 (A0 m c)) (A1 m c) (row t i) j (t.val % 7) := by
    intro t i j
    refine Finset.sum_congr rfl fun k _ => ?_
    refine (congrArg₂ (fun a b : EReal => a * b) (dm_at m c t i k) (w_at m c t j k)).trans ?_
    simp only [Nat.mod_mod]
  induction n with
  | zero =>
    intro t h i j
    rw [acc_first m c t h, Finset.sum_range_one, hp, h]
    refine congrArg₂ (· + ·) ?_ rfl
    exact Finset.sum_congr rfl fun l _ => congrArg₂ (fun a b : EReal => a * b) (dba_at m c t i l) (wba_at m c t j l)
  | succ n ih =>
    intro t h i j
    have ht := t_lt t
    rw [acc_next m c t (by omega), ih ⟨t.val - 1, _⟩ (by show (t.val - 1) % 7 = n; omega), hp, Finset.sum_range_succ _ (n + 1), ← add_assoc, h]
    have er : row ⟨t.val - 1, Nat.lt_of_le_of_lt (Nat.sub_le _ _) t.isLt⟩ i = row t i := Fin.ext (by
      show (t.val - 1) / 7 * 512 + i.val = t.val / 7 * 512 + i.val
      have : (t.val - 1) / 7 = t.val / 7 := by omega
      rw [this])
    rw [er]

theorem acc_last (c : Dev nD) (t : Fin cfg0.N) (h : t.val % 7 = 6) (i : Fin 512) (j : Fin 2048) :
    acc m c t (ix2 i j) = Dx4.dxn (half7184 (A0 m c)) (A1 m c) (row t i) j := by
  rw [acc_sum m c 6 t h, Dx4.parts]

theorem gx_at (c : Dev nD) (t : Fin cfg0.N) (h : t.val % 7 = 6) (i : Fin 512) (j : Fin 2048) :
    (outsAt0 m c t.val t.isLt).1 (ix2 i j) = Dx4.gx (half7184 (A0 m c)) (A1 m c) (half2048 (A2 m c)) (half2048 (A3 m c)) (A4 m c) (row t i) j := by
  rw [gx_out m c t h]
  unfold Dx4.full Dx4.gx
  refine congrArg₂ (· + ·) (d_at m c t i j) ?_
  refine congrArg₂ (fun a b => Row.back a b j) (funext fun u => ?_) (funext fun u => x_at m c t i u)
  exact congrArg₂ (· * ·) (acc_last m c t h i u) (nw_at m c t u)

theorem gwf_at (c : Dev nD) (t : Fin cfg0.N) (h : t.val % 7 = 6) (r : Fin 512) (j : Fin 2048) :
    Dx4.gwf (iblk m c 4 t) (acc m c t) r j = Dx4.gwr (half7184 (A0 m c)) (A1 m c) (half2048 (A2 m c)) (row t r) j := by
  unfold Dx4.gwf Dx4.gwr
  refine congrArg₂ (· * ·) (acc_last m c t h r j) (congrArg₂ (· * ·) (x_at m c t r j) (congrArg Row.rs (funext fun u => x_at m c t r u)))

theorem gnw_first (c : Dev nD) (t : Fin cfg0.N) (h : t.val % 28 = 0) (i : Fin 8) (j : Fin 2048) :
    (outsAt0 m c t.val t.isLt).2.1 (ix2 i j) = A6 m c (ix2 i j) := by
  rw [outsAt0_A m c t h (by omega) (by omega)]
  frame_out
  exact g_at m c t i j

theorem gnw_keep (c : Dev nD) (t : Fin cfg0.N) (h : ¬t.val % 28 = 0) (h6 : ¬t.val % 7 = 6) (i : Fin 8) (j : Fin 2048) :
    (outsAt0 m c t.val t.isLt).2.1 (ix2 i j) = (outsAt0 m c (t.val - 1) (Nat.lt_of_le_of_lt (Nat.sub_le _ _) t.isLt)).2.1 (ix2 i j) := by
  by_cases h0 : t.val % 7 = 0
  · rw [outsAt0_D m c t h h0 h6]
    generalize outsAt0 m c (t.val - 1) _ = q
    dsimp only
    unfold out0_D_9
    rfl
  · rw [outsAt0_B m c t h h0 h6]
    generalize outsAt0 m c (t.val - 1) _ = q
    dsimp only
    unfold out0_B_9
    rfl

theorem gnw_at (c : Dev nD) (n : ℕ) : ∀ (hn : n < cfg0.N) (i : Fin 8) (j : Fin 2048), (outsAt0 m c n hn).2.1 (ix2 i j)
    = A6 m c (ix2 i j) + if i.val = 0 then ∑ b ∈ Finset.range ((n + 1) / 7), Dx4.blockGw (half7184 (A0 m c)) (A1 m c) (half2048 (A2 m c)) j b else 0 := by
  induction n with
  | zero =>
    intro hn i j
    rw [gnw_first m c ⟨0, hn⟩ rfl]
    simp
  | succ n ih =>
    intro hn i j
    have hN : n + 1 < 28 := hn
    by_cases h6 : (n + 1) % 7 = 6
    · refine (gnw_out m c ⟨n + 1, hn⟩ h6 i j).trans ?_
      simp only [Nat.add_sub_cancel]
      rw [ih, add_assoc]
      have e : (n + 1 + 1) / 7 = (n + 1) / 7 + 1 := by omega
      rw [e, Finset.sum_range_succ]
      refine congrArg₂ (· + ·) rfl ?_
      split
      · refine congrArg₂ (· + ·) rfl (Finset.sum_congr rfl fun r _ => (gwf_at m c ⟨n + 1, hn⟩ h6 r j).trans ?_)
        refine congrArg (fun r => Dx4.gwr _ _ _ r j) (Fin.ext ?_)
        show (n + 1) / 7 * 512 + r.val = (n + 1) / 7 % 4 * 512 + r.val
        rw [Nat.mod_eq_of_lt (by omega)]
      · exact add_zero _
    · refine (gnw_keep m c ⟨n + 1, hn⟩ (by show ¬(n + 1) % 28 = 0; omega) h6 i j).trans ?_
      simp only [Nat.add_sub_cancel]
      rw [ih]
      have e : (n + 1 + 1) / 7 = (n + 1) / 7 := by omega
      rw [e]

/-! ## The results -/

/-- The first result: the second half of the rows computed, the first half kept. -/
theorem final_gx (c : Dev nD) (G : FVec Ideal S4096x2048 .f32)
    (hlow : ∀ r j : Fin 2048, G (ix2 (low r) j) = Dx4.gx (half7184 (A0 m c)) (A1 m c) (half2048 (A2 m c)) (half2048 (A3 m c)) (A4 m c) r j)
    (hup : ∀ (i : Fin 4096) (j : Fin 2048), i.val < 2048 → G (ix2 i j) = A5 m c (ix2 i j)) : (dats m 0 c).arrAt 8 cfg0.N = G := by
  refine (dats m 0 c).arrAt_eq_of_coversWhere_of_agree 8 _ (fun β => 4 ≤ β (0 : Fin 2)) (by decide +kernel) (fun t hf y => ?_) (fun y hy => ?_)
  · have h : t.val % 7 = 6 := by
      revert hf
      exact (by decide +kernel : ∀ t : Fin grid0.N, win0_8.flush t = true → t.val % 7 = 6) t
    obtain ⟨i, j, rfl⟩ : ∃ (i : Fin 512) (j : Fin 2048), y = ix2 i j := ⟨y 0, y 1, eq_ix2 y⟩
    blk_simp
    rw [after0_8]
    refine (gx_at m c t h i j).trans ?_
    rw [← hlow, ← wrow_eq t i]
    refine congrArg G (funext fun a => Fin.ext ?_)
    match a with
    | 0 => blk_simp [idx t]
    | 1 => blk_simp [idx t]
  · obtain ⟨i, j, rfl⟩ : ∃ (i : Fin 4096) (j : Fin 2048), y = ix2 i j := ⟨y 0, y 1, eq_ix2 y⟩
    have hi : i.val < 2048 := by
      blk_simp [Pipeline.Window.cell_apply] at hy
      omega
    refine (congrFun (V_v15_0 m c) (ix2 i j)).trans (hup i j hi).symm

/-- The second result. -/
theorem final_gnw (c : Dev nD) (G : FVec Ideal S8x2048 .f32)
    (hG : ∀ y, G y = A6 m c y + if (y 0).val = 0 then ∑ r, Dx4.gwr (half7184 (A0 m c)) (A1 m c) (half2048 (A2 m c)) r (y 1) else 0) :
    (dats m 0 c).arrAt 9 cfg0.N = G := by
  refine (dats m 0 c).arrAt_eq_of_after_last 9 ⟨27, by decide⟩ (by decide +kernel) _ fun y => ?_
  obtain ⟨i, j, rfl⟩ : ∃ (i : Fin 8) (j : Fin 2048), y = ix2 i j := ⟨y 0, y 1, eq_ix2 y⟩
  rw [after0_9, hG]
  refine (gnw_at m c 27 (by decide) i j).trans ?_
  exact congrArg₂ (· + ·) rfl (if_congr Iff.rfl (Dx4.sum2048 fun r => Dx4.gwr (half7184 (A0 m c)) (A1 m c) (half2048 (A2 m c)) r j) rfl)

end Dx5
end
-- ==== Proof.InProj.lean ====
/- The run of the forward projection: what the body leaves at every point of the grid, over any floats. -/
module

public import proofs.«01_k».proof.Proof.Gen.Kernel6Ideal
public import proofs.«01_k».proof.Proof.Gen.Kernel6Ideal.Skeleton
public import proofs.«01_k».proof.Proof.Gen.Kernel6Ideal.Frame
public import Idealize.ShloMosaic.Lib.Pipeline.TableIdle
public import Idealize.ShloMosaic.Lib.Pipeline.ValueKit

@[expose] public section

set_option maxRecDepth 16384

noncomputable section

namespace InProj

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-! ## The body -/

theorem load_whole {S : Shape} {e : EltTy} (a : Memref sig .tc .vmem S e) (w : a.IsWhole) {o : Fin S.rank → ℕ}
    (inb : ∀ x, o x + S.size x ≤ S.size x) (h : ∀ x, o x = 0) (v : S.Idx → Elt F e) :
    View.readAt (Elt F) a.view (Rect.unit o S.size inb).toLoadRect (w.unread v) = v :=
  (congrArg (fun u => View.ld u (Rect.unit o S.size inb)) (w.read_unread v)).trans (View.ld_unit_lit inb v h)

theorem store_whole {S : Shape} {e : EltTy} (a : Memref sig .tc .vmem S e) (f : a.view.ty.Contents (Elt F)) {o : Fin S.rank → ℕ}
    (inb : ∀ x, o x + S.size x ≤ S.size x) (h : ∀ x, o x = 0) (v : S.Idx → Elt F e) :
    View.read (Elt F) a.view (a.view.writes (Elt F) f [⟨Rect.unit o S.size inb, v⟩]) = v := by
  refine (View.read_writes_eq_canon _ _ _ fun y => ⟨_, List.mem_singleton.mpr rfl, ?_⟩).trans (View.canon_cons_unit_lit inb v [] h)
  exact (Rect.mem_set_unit (inb := inb)).mpr fun x => ⟨by rw [h x]; exact Nat.zero_le _, by rw [h x, Nat.zero_add]; exact (y x).isLt⟩

section Body

variable (c : Dev nD) (i : grid0.Coords) (a0 : Memref sig .tc .vmem S2048x2048 .bf16) (w0 : a0.IsWhole)
  (a1 : Memref sig .tc .vmem S2048x1024 .bf16) (w1 : a1.IsWhole) (a2 : Memref sig .tc .vmem S2048x128 .bf16) (w2 : a2.IsWhole)
  (a3 : Memref sig .tc .vmem S2048x1024 .f32) (w3 : a3.IsWhole) (a4 : Memref sig .tc .vmem S2048x128 .f32) (w4 : a4.IsWhole)
  (x0 : Vec F S2048x2048 .bf16) (x1 : Vec F S2048x1024 .bf16) (x2 : Vec F S2048x128 .bf16)

/-- The five buffers, the two outputs at `p` and `q`. -/
abbrev held (p : Vec F S2048x1024 .f32) (q : Vec F S2048x128 .f32) : sProp 𝕄 :=
  iprop(owns (c : Thread nD τ) a0 fullShare x0 ∗ owns (c : Thread nD τ) a1 fullShare x1 ∗ owns (c : Thread nD τ) a2 fullShare x2
    ∗ owns (c : Thread nD τ) a3 fullShare p ∗ owns (c : Thread nD τ) a4 fullShare q)

set_option maxHeartbeats 1000000 in
/-- At the first column tile the body stores both products. -/
theorem body_first (h : k0_cond1 i = 1#1) (E : Set ℕ) (p : Vec F S2048x1024 .f32) (q : Vec F S2048x128 .f32) (K : PUnit → sProp 𝕄) :
    iprop(held c a0 a1 a2 a3 a4 x0 x1 x2 p q ∗ (held c a0 a1 a2 a3 a4 x0 x1 x2 (k0_pay2 x0 x1) (k0_pay1 x0 x2) -∗ K ⟨⟩))
      ⊢ wp frame (wpE (defs₀ (F := F)) Variants.none c none) E
        (cc0_in_proj i a0 w0 a1 w1 a2 w2 (Memref.whole main_arg2) (Memref.isWhole_whole _) a3 w3 a4 w4) K := by
  simp only [cc0_in_proj_eq_skeleton]; unfold cc0_in_proj_skel
  unfold held owns
  iintro ⟨⟨⟨%f0, %e0, H0⟩, ⟨%f1, %e1, H1⟩, ⟨%f2, %e2, H2⟩, ⟨%f3, -, H3⟩, ⟨%f4, -, H4⟩⟩, Hk⟩
  obtain rfl := w0.eq_unread e0; obtain rfl := w1.eq_unread e1; obtain rfl := w2.eq_unread e2
  sl_exec (disch := first | sl_exact h)
  sl_step
  iapply Hk
  isplitl [H0]
  · iexists _; isplitr; · ipureintro; exact e0
    iexact H0
  isplitl [H1]
  · iexists _; isplitr; · ipureintro; exact e1
    iexact H1
  isplitl [H2]
  · iexists _; isplitr; · ipureintro; exact e2
    iexact H2
  isplitl [H3]
  · iexists _; isplitr
    swap; · iexact H3
    ipureintro
    refine (store_whole a3 _ _ (by decide) _).trans ?_
    rw [load_whole a0 w0 _ (by decide), load_whole a1 w1 _ (by decide)]
  iexists _; isplitr
  swap; · iexact H4
  ipureintro
  refine (store_whole a4 _ _ (by decide) _).trans ?_
  rw [load_whole a0 w0 _ (by decide), load_whole a2 w2 _ (by decide)]

set_option maxHeartbeats 1000000 in
/-- At a later one it stores the tile of the main product, and leaves the gates as they are. -/
theorem body_later (h : ¬k0_cond1 i = 1#1) (E : Set ℕ) (p : Vec F S2048x1024 .f32) (q : Vec F S2048x128 .f32) (K : PUnit → sProp 𝕄) :
    iprop(held c a0 a1 a2 a3 a4 x0 x1 x2 p q ∗ (held c a0 a1 a2 a3 a4 x0 x1 x2 (k0_pay2 x0 x1) q -∗ K ⟨⟩))
      ⊢ wp frame (wpE (defs₀ (F := F)) Variants.none c none) E
        (cc0_in_proj i a0 w0 a1 w1 a2 w2 (Memref.whole main_arg2) (Memref.isWhole_whole _) a3 w3 a4 w4) K := by
  simp only [cc0_in_proj_eq_skeleton]; unfold cc0_in_proj_skel
  unfold held owns
  iintro ⟨⟨⟨%f0, %e0, H0⟩, ⟨%f1, %e1, H1⟩, ⟨%f2, %e2, H2⟩, ⟨%f3, -, H3⟩, ⟨%f4, %e4, H4⟩⟩, Hk⟩
  obtain rfl := w0.eq_unread e0; obtain rfl := w1.eq_unread e1; obtain rfl := w2.eq_unread e2
  sl_exec (disch := first | sl_exact h)
  sl_step
  iapply Hk
  isplitl [H0]
  · iexists _; isplitr; · ipureintro; exact e0
    iexact H0
  isplitl [H1]
  · iexists _; isplitr; · ipureintro; exact e1
    iexact H1
  isplitl [H2]
  · iexists _; isplitr; · ipureintro; exact e2
    iexact H2
  isplitl [H3]
  · iexists _; isplitr
    swap; · iexact H3
    ipureintro
    refine (store_whole a3 _ _ (by decide) _).trans ?_
    rw [load_whole a0 w0 _ (by decide), load_whole a1 w1 _ (by decide)]
  iexists _; isplitr
  swap; · iexact H4
  ipureintro; exact e4

end Body

/-! ## The data of the pipeline -/

variable (m : (ℓ : Loc nD τ sig) → Buf (Elt F) ℓ) (ρ : Dev nD → PrngReg)

/-- The point at which the row tile of point `t` begins. -/
def base (t : Fin cfg0.N) : Fin cfg0.N := ⟨6 * (t.val / 6), Nat.lt_of_le_of_lt (Nat.mul_div_le _ _) t.isLt⟩

/-- The main product's tile at point `t`, -/
def tile (c : Dev nD) (t : Fin cfg0.N) : Vec F S2048x1024 .f32 := k0_pay2 (iblk m c 0 t) (iblk m c 1 t)
/-- and the gates', stored where the row tile begins and kept to its end. -/
def gate (c : Dev nD) (t : Fin cfg0.N) : Vec F S2048x128 .f32 := k0_pay1 (iblk m c 0 (base t)) (iblk m c 2 (base t))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tile m c t
    | ⟨4, _⟩ => gate m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_tile (c : Dev nD) (t : Fin cfg0.N) : (dats m 0 c).after 3 t = tile m c t := by dsimp only [dats]
theorem after_gate (c : Dev nD) (t : Fin cfg0.N) : (dats m 0 c).after 4 t = gate m c t := by dsimp only [dats]

theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d

/-! ## Where the gates are stored, and what the buffer holds between -/

theorem first_iff : ∀ t : Fin cfg0.N, k0_cond1 (grid0.coords t) = 1#1 ↔ t.val % 6 = 0 := by decide +kernel
theorem idle_iff : ∀ t : Fin cfg0.N, cfg0.idle 4 (grid0.coords t) = true ↔ t.val % 6 ≠ 0 := by decide +kernel
theorem fresh_of : ∀ t : Fin cfg0.N, t.val % 6 ≠ 0 → cfg0.fresh 4 t.val = false := by decide +kernel

theorem base_first (t : Fin cfg0.N) (h : t.val % 6 = 0) : base t = t := Fin.ext (by show 6 * (t.val / 6) = t.val; omega)

theorem base_before (t : Fin cfg0.N) (h : t.val % 6 ≠ 0) : base ⟨t.val - 1, Nat.lt_of_le_of_lt (Nat.sub_le _ _) t.isLt⟩ = base t :=
  Fin.ext (by show 6 * ((t.val - 1) / 6) = 6 * (t.val / 6); omega)

theorem gate_before (c : Dev nD) (t : Fin cfg0.N) (h : t.val % 6 ≠ 0) :
    gate m c ⟨t.val - 1, Nat.lt_of_le_of_lt (Nat.sub_le _ _) t.isLt⟩ = gate m c t := by
  unfold gate; rw [base_before t h]

/-- At a later column tile the gates' buffer holds the product stored at the first. -/
theorem before_gate (c : Dev nD) (t : Fin cfg0.N) (h : t.val % 6 ≠ 0) (d) : (dats m 0 c).before 4 t d = gate m c t := by
  rw [(dats m 0 c).before_out_traj 4 rfl (fun _ _ => rfl) (fun s _ hs _ => by
      rw [after_gate, after_gate]; exact (gate_before m c s ((idle_iff s).mp hs)).symm) t.val t rfl d,
    fresh_of t h, if_neg Bool.false_ne_true, after_gate]
  exact gate_before m c t h

/-! ## The body at every point -/

abbrev b0 (t : Fin cfg0.N) : Memref sig .tc .vmem S2048x2048 .bf16 := win0_0.stage (cfg0.slots t 0)
abbrev b1 (t : Fin cfg0.N) : Memref sig .tc .vmem S2048x1024 .bf16 := win0_1.stage (cfg0.slots t 1)
abbrev b2 (t : Fin cfg0.N) : Memref sig .tc .vmem S2048x128 .bf16 := win0_2.stage (cfg0.slots t 2)
abbrev b3 (t : Fin cfg0.N) : Memref sig .tc .vmem S2048x1024 .f32 := win0_3.stage (cfg0.slots t 3)
abbrev b4 (t : Fin cfg0.N) : Memref sig .tc .vmem S2048x128 .f32 := win0_4.stage (cfg0.slots t 4)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The gates' buffer at the product is what the point must leave, whether it stores it, keeps it or writes it back. -/
theorem leaves_gate (c : Dev nD) (t : Fin cfg0.N) :
    owns (c : Thread nD τ) (b4 t) fullShare (gate m c t) ⊢ (dats m 0 c).leavesExact 4 t := by
  by_cases h : t.val % 6 = 0
  · rw [leaves_live m c 4 t (Bool.eq_false_iff.mpr fun e => (idle_iff t).mp e h), after_gate]
  · cases hf : (cfg0.win 4).flush t
    · rw [(dats m 0 c).leavesExact_idle 4 t ((idle_iff t).mpr h) hf]
      iintro H
      iexists (gate m c t)
      rw [before_gate m c t h]
      iexact H
    · rw [show (dats m 0 c).leavesExact 4 t = owns (c : Thread nD τ) (b4 t) fullShare ((dats m 0 c).after 4 t) from by
        unfold Dat.leavesExact; rw [(idle_iff t).mpr h, hf], after_gate]

def Pre (c : Dev nD) (t : Fin cfg0.N) : sProp 𝕄 :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d))
    ∗ (∃ d, owns (c : Thread nD τ) (b4 t) fullShare ((dats m 0 c).before 4 t d)))

def Post (c : Dev nD) (t : Fin cfg0.N) : sProp 𝕄 :=
  iprop((dats m 0 c).Φ t.succ ∗ (dats m 0 c).owesAt () t.succ ∗ (dats m 0 c).leavesExact 0 t ∗ (dats m 0 c).leavesExact 1 t
    ∗ (dats m 0 c).leavesExact 2 t ∗ (dats m 0 c).leavesExact 3 t ∗ (dats m 0 c).leavesExact 4 t)

/-- The buffers at the point's blocks and products are what it must leave. -/
theorem post_of (c : Dev nD) (t : Fin cfg0.N) :
    iprop((dats m 0 c).Φ t.castSucc ∗ (dats m 0 c).owesAt () t.castSucc
      ∗ held c (b0 t) (b1 t) (b2 t) (b3 t) (b4 t) (iblk m c 0 t) (iblk m c 1 t) (iblk m c 2 t) (tile m c t) (gate m c t))
      ⊢ Post m c t := by
  unfold Post held
  rw [leaves_live m c 0 t rfl, leaves_live m c 1 t rfl, leaves_live m c 2 t rfl, leaves_live m c 3 t rfl,
    after_in0, after_in1, after_in2, after_tile, show (dats m 0 c).Φ t.succ = (dats m 0 c).Φ t.castSucc from rfl,
    show (dats m 0 c).owesAt () t.succ = (dats m 0 c).owesAt () t.castSucc from rfl]
  iintro ⟨HΦ, Ho, H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iapply (leaves_gate m c t)
  iexact H4

set_option maxHeartbeats 800000 in
theorem sound (c : Dev nD) (t : Fin cfg0.N) :
    Pre m c t ⊢ wp frame (wpE (defs₀ (F := F)) Variants.none c none) Set.univ (bodyAt0 t) (fun _ => Post m c t) := by
  unfold Pre bodyAt0
  simp only [before_in0, before_in1, before_in2]
  by_cases h : t.val % 6 = 0
  · iintro ⟨HΦ, Ho, ⟨%d0, H0⟩, ⟨%d1, H1⟩, ⟨%d2, H2⟩, ⟨%d3, H3⟩, ⟨%d4, H4⟩⟩
    iapply (body_first c (grid0.coords t) (b0 t) _ (b1 t) _ (b2 t) _ (b3 t) _ (b4 t) _ (iblk m c 0 t) (iblk m c 1 t) (iblk m c 2 t)
      ((first_iff t).mpr h) Set.univ ((dats m 0 c).before 3 t d3) ((dats m 0 c).before 4 t d4) _)
    isplitl [H0 H1 H2 H3 H4]
    · isplitl [H0]; · iexact H0
      isplitl [H1]; · iexact H1
      isplitl [H2]; · iexact H2
      isplitl [H3]; · iexact H3
      iexact H4
    iintro Hh
    iapply (post_of m c t)
    isplitl [HΦ]; · iexact HΦ
    isplitl [Ho]; · iexact Ho
    unfold gate tile; rw [base_first t h]
    iexact Hh
  · simp only [before_gate m c t h]
    iintro ⟨HΦ, Ho, ⟨%d0, H0⟩, ⟨%d1, H1⟩, ⟨%d2, H2⟩, ⟨%d3, H3⟩, ⟨%d4, H4⟩⟩
    iapply (body_later c (grid0.coords t) (b0 t) _ (b1 t) _ (b2 t) _ (b3 t) _ (b4 t) _ (iblk m c 0 t) (iblk m c 1 t) (iblk m c 2 t)
      (fun e => h ((first_iff t).mp e)) Set.univ ((dats m 0 c).before 3 t d3) (gate m c t) _)
    isplitl [H0 H1 H2 H3 H4]
    · isplitl [H0]; · iexact H0
      isplitl [H1]; · iexact H1
      isplitl [H2]; · iexact H2
      isplitl [H3]; · iexact H3
      iexact H4
    iintro Hh
    iapply (post_of m c t)
    isplitl [HΦ]; · iexact HΦ
    isplitl [Ho]; · iexact Ho
    unfold tile
    iexact Hh

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound m c t) rfl .rfl fun _ => .rfl

/-! ## The run -/

set_option backward.isDefEq.respectTransparency.types false in
theorem run_still : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_still m ρ)

/-- The arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_still m ρ))

/-- The two results are the arrays the pipeline leaves, the arguments as they were. -/
theorem results : θ_run defs (onTc (τ := τ) (main (F := F))) ⟨m, fun _ => 0, ρ⟩ fun r => ∀ c : Dev nD,
      r.2.mem ((c : Thread nD τ).loc main_v8_0) = (dats m 0 c).arrAt 3 cfg0.N
      ∧ r.2.mem ((c : Thread nD τ).loc main_v8_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).1 3, (h.1 c).1 4, h.2.1 c⟩)
    (θ_run_and (run m ρ) (frame m ρ))

end InProj

end
-- ==== Proof.InProjVal.lean ====
module

public import proofs.«01_k».proof.Defs
public import proofs.«01_k».proof.Proof.InProj
public import proofs.«01_k».proof.Proof.Dx4
public import Idealize.ShloMosaic.Lib.Pipeline.ValueKit
public import Idealize.ShloMosaic.Lib.Pointwise
public import Idealize.ShloMosaic.Lib.Claim

/-!
The values of the input projection: each tile of a row block is the rows times a tile of the weights' main columns, the
first column tile is what it was, and the gates' columns are the rows times the gates' weights.
-/

@[expose] public section

set_option maxRecDepth 16384

noncomputable section

namespace InProjVal

open Idealize.ShloMosaic Idealize.ShloMosaic.TcCoe Idealize.SL.Sem
open Cert.Kernel6Ideal Cert.Kernel6Ideal.Gen InProj

theorem p1 (x : Vec Ideal S2048x2048 .bf16) (y : Vec Ideal S2048x128 .bf16) (i : Fin 2048) (l : Fin 128) :
    k0_pay1 x y (ix2 i l) = ∑ k : Fin 2048, x (ix2 i k) * y (ix2 k l) := by
  unfold k0_pay1
  pointwise

theorem p2 (x : Vec Ideal S2048x2048 .bf16) (y : Vec Ideal S2048x1024 .bf16) (i : Fin 2048) (j : Fin 1024) :
    k0_pay2 x y (ix2 i j) = ∑ k : Fin 2048, x (ix2 i k) * y (ix2 k j) := by
  unfold k0_pay2
  pointwise

variable (m : (ℓ : Loc nD τ sig) → Buf (Elt Ideal) ℓ)

abbrev A0 (c : Dev nD) : FVec Ideal S4096x2048 .f32 := m ((c : Thread nD τ).loc main_arg0)
abbrev A1 (c : Dev nD) : FVec Ideal S2048x7184 .f32 := m ((c : Thread nD τ).loc main_arg1)
abbrev A2 (c : Dev nD) : FVec Ideal S4096x7168 .f32 := m ((c : Thread nD τ).loc main_arg2)

theorem idx : ∀ t : Fin cfg0.N, win0_0.index t = ![t.val / 6, 0] ∧ win0_1.index t = ![0, 1 + t.val % 6] ∧ win0_2.index t = ![0, 0]
    ∧ win0_3.index t = ![t.val / 6, 1 + t.val % 6] ∧ win0_4.index t = ![t.val / 6, 0] :=
  (by decide +kernel : ∀ t : Fin grid0.N, _)

theorem lt12 (t : Fin cfg0.N) : t.val < 12 := t.isLt

/-- The array's row at a point's row. -/
def wrow (t : Fin cfg0.N) (i : Fin 2048) : Fin 4096 := ⟨t.val / 6 * 2048 + i.val, by have := lt12 t; omega⟩
/-- The main column at a point's column. -/
def wcol (t : Fin cfg0.N) (j : Fin 1024) : Fin 7168 := ⟨(1 + t.val % 6) * 1024 + j.val, by omega⟩

/-- An entry of the whole product. -/
def prod (x : FVec Ideal S4096x2048 .f32) (w : FVec Ideal S2048x7184 .f32) (r : Fin 4096) (u : Fin 7184) : EReal :=
  ∑ k : Fin 2048, x (ix2 r k) * w (ix2 k u)

theorem V_v7 (c : Dev nD) : V m c main_v7 = truncf .bf16 (A0 m c) bitsLt_bf16_f32 := by
  funext y
  unfold V
  simp only [hostOps0, hostOps0_1, hostOps0_2, List.flatten_cons, List.flatten_nil, List.append_nil, List.cons_append, List.nil_append]
  entry_read
  rfl

theorem V_v5 (c : Dev nD) : V m c main_v5 = Dx4.mainOf (A1 m c) := by
  funext y
  unfold V
  simp only [hostOps0, hostOps0_1, hostOps0_2, List.flatten_cons, List.flatten_nil, List.append_nil, List.cons_append, List.nil_append]
  entry_read
  rfl

theorem V_v6 (c : Dev nD) : V m c main_v6 = Dx4.gatesOf (A1 m c) := by
  funext y
  unfold V
  simp only [hostOps0, hostOps0_1, hostOps0_2, List.flatten_cons, List.flatten_nil, List.append_nil, List.cons_append, List.nil_append]
  entry_read
  rfl

theorem V_v8_0 (c : Dev nD) : V m c main_v8_0 = A2 m c := by
  funext y
  unfold V
  simp only [hostOps0, hostOps0_1, hostOps0_2, List.flatten_cons, List.flatten_nil, List.append_nil, List.cons_append, List.nil_append]
  entry_read
  rfl

theorem x_at (c : Dev nD) (t : Fin cfg0.N) (i k : Fin 2048) : iblk m c 0 t (ix2 i k) = A0 m c (ix2 (wrow t i) k) := by
  have e : iblk m c 0 t (ix2 i k) = V m c main_v7 (ix2 (wrow t i) k) := by
    blk_ext [iblk, wrow, idx t]
  rw [e, V_v7]
  rfl

theorem w_at (c : Dev nD) (t : Fin cfg0.N) (k : Fin 2048) (j : Fin 1024) :
    iblk m c 1 t (ix2 k j) = A1 m c (ix2 k (Dx4.mcol (wcol t j))) := by
  have e : iblk m c 1 t (ix2 k j) = V m c main_v5 (ix2 k (wcol t j)) := by
    blk_ext [iblk, wcol, idx t]
  rw [e, V_v5]
  exact Dx4.main_at _ _ _

theorem wba_at (c : Dev nD) (t : Fin cfg0.N) (k : Fin 2048) (l : Fin 128) : iblk m c 2 t (ix2 k l) = Dx4.gatesOf (A1 m c) (ix2 k l) := by
  have e : iblk m c 2 t (ix2 k l) = V m c main_v6 (ix2 k l) := by
    blk_ext [iblk, idx t]
  rw [e, V_v6]

/-- A tile's entries. -/
theorem tile_at (c : Dev nD) (t : Fin cfg0.N) (i : Fin 2048) (j : Fin 1024) :
    tile m c t (ix2 i j) = prod (A0 m c) (A1 m c) (wrow t i) (Dx4.mcol (wcol t j)) := by
  unfold tile prod
  refine (p2 _ _ i j).trans (Finset.sum_congr rfl fun k _ => ?_)
  rw [x_at, w_at]

theorem wrow_base (t : Fin cfg0.N) (i : Fin 2048) : wrow (base t) i = wrow t i := by
  refine Fin.ext ?_
  show 6 * (t.val / 6) / 6 * 2048 + i.val = t.val / 6 * 2048 + i.val
  omega

/-- The gates' entries: sixteen columns of the product, zeros after them. -/
theorem gate_at (c : Dev nD) (t : Fin cfg0.N) (i : Fin 2048) (l : Fin 128) :
    gate m c t (ix2 i l) = if h : l.val < 16 then prod (A0 m c) (A1 m c) (wrow t i) ⟨4096 + l.val, by omega⟩ else 0 := by
  unfold gate prod
  refine (p1 _ _ i l).trans ?_
  split <;> rename_i h
  · refine Finset.sum_congr rfl fun k _ => ?_
    rw [x_at, wba_at, wrow_base, Dx4.gates_at, dif_pos h]
  · refine Finset.sum_eq_zero fun k _ => ?_
    rw [wba_at, Dx4.gates_at, dif_neg h]
    exact mul_zero _

/-- The first result. -/
theorem final_main (c : Dev nD) (G : FVec Ideal S4096x7168 .f32)
    (hnew : ∀ (i : Fin 4096) (j : Fin 7168), 1024 ≤ j.val → G (ix2 i j) = prod (A0 m c) (A1 m c) i (Dx4.mcol j))
    (hold : ∀ (i : Fin 4096) (j : Fin 7168), j.val < 1024 → G (ix2 i j) = A2 m c (ix2 i j)) : (dats m 0 c).arrAt 3 cfg0.N = G := by
  refine (dats m 0 c).arrAt_eq_of_coversWhere_of_agree 3 _ (fun β => 1 ≤ β (1 : Fin 2)) (by decide +kernel) (fun t hf y => ?_) (fun y hy => ?_)
  · obtain ⟨i, j, rfl⟩ : ∃ (i : Fin 2048) (j : Fin 1024), y = ix2 i j := ⟨y 0, y 1, eq_ix2 y⟩
    blk_simp
    rw [after_tile]
    refine (tile_at m c t i j).trans ?_
    rw [← hnew (wrow t i) (wcol t j) (by show 1024 ≤ (1 + t.val % 6) * 1024 + j.val; omega)]
    refine congrArg G (funext fun a => Fin.ext ?_)
    match a with
    | 0 => blk_simp [wrow, idx t]
    | 1 => blk_simp [wcol, idx t]
  · obtain ⟨i, j, rfl⟩ : ∃ (i : Fin 4096) (j : Fin 7168), y = ix2 i j := ⟨y 0, y 1, eq_ix2 y⟩
    have hj : j.val < 1024 := by
      blk_simp [Pipeline.Window.cell_apply] at hy
      omega
    refine (congrFun (V_v8_0 m c) (ix2 i j)).trans (hold i j hj).symm

/-- The second result. -/
theorem final_gates (c : Dev nD) (G : FVec Ideal S4096x128 .f32)
    (hG : ∀ (i : Fin 4096) (l : Fin 128), G (ix2 i l) = if h : l.val < 16 then prod (A0 m c) (A1 m c) i ⟨4096 + l.val, by omega⟩ else 0) :
    (dats m 0 c).arrAt 4 cfg0.N = G := by
  refine (dats m 0 c).arrAt_eq_of_covers 4 _ (by decide +kernel) fun t hf y => ?_
  obtain ⟨i, l, rfl⟩ : ∃ (i : Fin 2048) (l : Fin 128), y = ix2 i l := ⟨y 0, y 1, eq_ix2 y⟩
  blk_simp
  rw [after_gate]
  refine (gate_at m c t i l).trans ?_
  rw [← hG (wrow t i) l]
  refine congrArg G (funext fun a => Fin.ext ?_)
  match a with
  | 0 => blk_simp [wrow, idx t]
  | 1 => blk_simp [idx t]

end InProjVal

end
-- ==== Proof.InProjRef.lean ====
module

public import proofs.«01_k».proof.Defs
public import proofs.«01_k».proof.Proof.Gen.Reference6Ideal.Run
public import proofs.«01_k».proof.Proof.Dx4
public import Idealize.ShloMosaic.Lib.Pointwise
public import Idealize.ShloMosaic.Lib.Claim

/-!
The reference of the input projection: the whole product's columns, cut into the main columns and the gates'.
-/

@[expose] public section

set_option maxRecDepth 16384

noncomputable section

namespace InProjRef

open Idealize.ShloMosaic Idealize.ShloMosaic.TcCoe Idealize.SL.Sem
open Cert.Reference6Ideal Cert.Reference6Ideal.Gen Cert.Reference6Ideal.Value

/-- The whole product. -/
def prodV (x : FVec Ideal S4096x2048 .f32) (w : FVec Ideal S2048x7184 .f32) : FVec Ideal S4096x7184 .f32 :=
  Host.dotGeneral (F := Ideal) (φ₁ := .f32) (φ₂ := .f32) dot_S4096x2048_S2048x7184_S4096x7184_1_0_0_1_n_n none x w

theorem prod_at (x : FVec Ideal S4096x2048 .f32) (w : FVec Ideal S2048x7184 .f32) (r : Fin 4096) (u : Fin 7184) :
    prodV x w (ix2 r u) = ∑ k : Fin 2048, x (ix2 r k) * w (ix2 k u) := by
  unfold prodV
  pointwise

/-- The main columns of the product. -/
def cut (P : FVec Ideal S4096x7184 .f32) : FVec Ideal S4096x7168 .f32 :=
  concatenate S4096x7168 1 [⟨S4096x4096, (extractStridedSlice S4096x4096 ![0, 0] P slices_S4096x7184_S4096x4096_0_0 : FVec Ideal S4096x4096 .f32)⟩,
    ⟨S4096x3072, (extractStridedSlice S4096x3072 ![0, 4112] P slices_S4096x7184_S4096x3072_0_4112 : FVec Ideal S4096x3072 .f32)⟩]
    concatenates_S4096x4096_S4096x3072_S4096x7168_d1

theorem cut_at (P : FVec Ideal S4096x7184 .f32) (i : Fin 4096) (k : Fin 7168) : cut P (ix2 i k) = P (ix2 i (Dx4.mcol k)) := by
  unfold cut Dx4.mcol
  pointwise
  split
  · rfl
  · exact congrArg (fun u => P (ix2 i u)) (Fin.ext (show 4112 + (k.val - 4096) = k.val + 16 by omega))

/-- The first result: the columns kept beside the others of `Y`. -/
def beside (A Y : FVec Ideal S4096x7168 .f32) : FVec Ideal S4096x7168 .f32 :=
  concatenate S4096x7168 1 [⟨S4096x1024, (extractStridedSlice S4096x1024 ![0, 0] A slices_S4096x7168_S4096x1024_0_0 : FVec Ideal S4096x1024 .f32)⟩,
    ⟨S4096x6144, (extractStridedSlice S4096x6144 ![0, 1024] Y slices_S4096x7168_S4096x6144_0_1024 : FVec Ideal S4096x6144 .f32)⟩]
    concatenates_S4096x1024_S4096x6144_S4096x7168_d1

theorem beside_old (A Y : FVec Ideal S4096x7168 .f32) (i : Fin 4096) (j : Fin 7168) (hj : j.val < 1024) :
    beside A Y (ix2 i j) = A (ix2 i j) := by
  unfold beside
  pointwise
  rw [dif_pos hj]

theorem beside_new (A Y : FVec Ideal S4096x7168 .f32) (i : Fin 4096) (j : Fin 7168) (hj : 1024 ≤ j.val) :
    beside A Y (ix2 i j) = Y (ix2 i j) := by
  unfold beside
  pointwise
  rw [dif_neg (by omega)]
  exact congrArg (fun u => Y (ix2 i u)) (Fin.ext (show 1024 + (j.val - 1024) = j.val by omega))

/-- The second result: the gates' columns and zeros. -/
def gates (P : FVec Ideal S4096x7184 .f32) : FVec Ideal S4096x128 .f32 :=
  pad S4096x128 ![0, 0] ![0, 112] ![0, 0] (extractStridedSlice S4096x16 ![0, 4096] P slices_S4096x7184_S4096x16_0_4096)
    (sitofp .f32 (constantI S_ 32 0#32)) pads_S4096x16_S4096x128_000_01120 h_S_

theorem gates_at (P : FVec Ideal S4096x7184 .f32) (i : Fin 4096) (l : Fin 128) :
    gates P (ix2 i l) = if h : l.val < 16 then P (ix2 i ⟨4096 + l.val, by omega⟩) else 0 := by
  unfold gates
  pointwise
  split
  · rfl
  · simp [FloatOps.sitofp]

end InProjRef

end
-- ==== Proof.DxRef5.lean ====
module

public import proofs.«01_k».proof.Proof.Gen.Reference5Ideal.Run
public import proofs.«01_k».proof.Proof.Dx5
public import proofs.«01_k».proof.Proof.DxRef4

/-!
The reference of the second call: the gradient of the second half's rows under the rows kept, and the gradient of the
norm's weights added to the one so far.
-/

@[expose] public section

set_option maxRecDepth 16384

noncomputable section

namespace DxRef5

open Idealize.ShloMosaic Idealize.ShloMosaic.TcCoe Idealize.SL.Sem
open Cert.Reference5Ideal Cert.Reference5Ideal.Gen Cert.Reference5Ideal.Value

/-- The gradient of the rows. -/
def gxV (A B : FVec Ideal S2048x7184 .f32) (X D : FVec Ideal S2048x2048 .f32) (W : FVec Ideal S2048 .f32) : FVec Ideal S2048x2048 .f32 :=
  (addf (addf (addf (mulf (mulf (Host.dotGeneral dot_S2048x7184_S2048x7184_S2048x2048_1_1_0_0_n_n none A B) (broadcastInDim S2048x2048 ![0, 1] bcast_S1x2048_S2048x2048_0_1 (broadcastInDim S1x2048 ![1] bcast_S2048_S1x2048_1 W))) (broadcastInDim S2048x2048 ![0, 1] bcast_S2048x1_S2048x2048_0_1 (Host.rsqrt (addf (Host.divf (broadcastInDim S2048x1 ![0] bcast_S2048_S2048x1_0 (Host.reduceAdd (mulf X X) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (mulf X (broadcastInDim S2048x2048 ![0] bcast_S2048_S2048x2048_0 (Host.reduceAdd (Host.divf (mulf (shapeCast _ (Host.reduceAdd (mulf X (mulf (Host.dotGeneral dot_S2048x7184_S2048x7184_S2048x2048_1_1_0_0_n_n none A B) (broadcastInDim S2048x2048 ![0, 1] bcast_S1x2048_S2048x2048_0_1 (broadcastInDim S1x2048 ![1] bcast_S2048_S1x2048_1 W)))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf X X) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf X X) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)))) (mulf (broadcastInDim S2048x2048 ![0] bcast_S2048_S2048x2048_0 (Host.reduceAdd (Host.divf (mulf (shapeCast _ (Host.reduceAdd (mulf X (mulf (Host.dotGeneral dot_S2048x7184_S2048x7184_S2048x2048_1_1_0_0_n_n none A B) (broadcastInDim S2048x2048 ![0, 1] bcast_S1x2048_S2048x2048_0_1 (broadcastInDim S1x2048 ![1] bcast_S2048_S1x2048_1 W)))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf X X) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf X X) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)) X)) D)

theorem gxV_at (A B : FVec Ideal S2048x7184 .f32) (X D : FVec Ideal S2048x2048 .f32) (W : FVec Ideal S2048 .f32) (r j : Fin 2048) :
    gxV A B X D W (ix2 r j) = Dx4.gx A B X D W r j := by
  unfold gxV Dx4.gx
  simp only [← DxRef4.dxn_at]
  generalize he : DxRef4.dxnV A B = e
  unfold DxRef4.dxnV at he
  have he' : Host.dotGeneral (F := Ideal) (φ₁ := .f32) (φ₂ := .f32) dot_S2048x7184_S2048x7184_S2048x2048_1_1_0_0_n_n none A B = e := he
  rw [he']
  rw [Row.back_eq, add_comm]
  unfold Row.through Row.rs Row.ms
  pointwise
  simp only [Finset.univ_unique, Finset.sum_singleton]

theorem half7184_eq (A : FVec Ideal S4096x7184 .f32) :
    (extractStridedSlice S2048x7184 ![2048, 0] A slices_S4096x7184_S2048x7184_2048_0 : FVec Ideal S2048x7184 .f32) = Dx5.half7184 A := by
  funext y
  obtain ⟨r, k, rfl⟩ : ∃ (r : Fin 2048) (k : Fin 7184), y = ix2 r k := ⟨y 0, y 1, eq_ix2 y⟩
  rw [Dx5.half7184_at]
  pointwise

theorem half2048_eq (A : FVec Ideal S4096x2048 .f32) :
    (extractStridedSlice S2048x2048 ![2048, 0] A slices_S4096x2048_S2048x2048_2048_0 : FVec Ideal S2048x2048 .f32) = Dx5.half2048 A := by
  funext y
  obtain ⟨r, k, rfl⟩ : ∃ (r : Fin 2048) (k : Fin 2048), y = ix2 r k := ⟨y 0, y 1, eq_ix2 y⟩
  rw [Dx5.half2048_at]
  pointwise

/-- The rows kept, over rows of the second half. -/
def over (P : FVec Ideal S4096x2048 .f32) (Y : FVec Ideal S2048x2048 .f32) : FVec Ideal S4096x2048 .f32 :=
  concatenate S4096x2048 0 [⟨S2048x2048, (extractStridedSlice S2048x2048 ![0, 0] P slices_S4096x2048_S2048x2048_0_0 : FVec Ideal S2048x2048 .f32)⟩, ⟨S2048x2048, Y⟩] concatenates_S2048x2048_S2048x2048_S4096x2048_d0

theorem over_low (P : FVec Ideal S4096x2048 .f32) (Y : FVec Ideal S2048x2048 .f32) (r j : Fin 2048) : over P Y (ix2 (Dx5.low r) j) = Y (ix2 r j) := by
  unfold over
  pointwise

theorem over_up (P : FVec Ideal S4096x2048 .f32) (Y : FVec Ideal S2048x2048 .f32) (i : Fin 4096) (j : Fin 2048) (hi : i.val < 2048) :
    over P Y (ix2 i j) = P (ix2 i j) := by
  unfold over
  pointwise
  rw [dif_pos hi]

variable (m : (ℓ : Loc nD τ sig) → Buf (Elt Ideal) ℓ)

abbrev A0 (c : Dev nD) : FVec Ideal S4096x7184 .f32 := m ((c.tc : Thread nD τ).loc main_arg0)
abbrev A1 (c : Dev nD) : FVec Ideal S2048x7184 .f32 := m ((c.tc : Thread nD τ).loc main_arg1)
abbrev A2 (c : Dev nD) : FVec Ideal S4096x2048 .f32 := m ((c.tc : Thread nD τ).loc main_arg2)
abbrev A3 (c : Dev nD) : FVec Ideal S4096x2048 .f32 := m ((c.tc : Thread nD τ).loc main_arg3)
abbrev A4 (c : Dev nD) : FVec Ideal S2048 .f32 := m ((c.tc : Thread nD τ).loc main_arg4)
abbrev A5 (c : Dev nD) : FVec Ideal S4096x2048 .f32 := m ((c.tc : Thread nD τ).loc main_arg5)

theorem out0_eq (c : Dev nD) : res_main_v45 m c
    = over (A5 m c) (gxV (Dx5.half7184 (A0 m c)) (A1 m c) (Dx5.half2048 (A2 m c)) (Dx5.half2048 (A3 m c)) (A4 m c)) := by
  rw [← half7184_eq, ← half2048_eq, ← half2048_eq]
  rfl

/-- The second result's entries. -/
theorem gnw_at (P : FVec Ideal S8x2048 .f32) (A : FVec Ideal S4096x7184 .f32) (B : FVec Ideal S2048x7184 .f32) (X : FVec Ideal S4096x2048 .f32) (i : Fin 8) (j : Fin 2048) :
    addf P (DxRef4.gwV (extractStridedSlice S2048x7184 ![2048, 0] A slices_S4096x7184_S2048x7184_2048_0) B
      (extractStridedSlice S2048x2048 ![2048, 0] X slices_S4096x2048_S2048x2048_2048_0)) (ix2 i j)
      = P (ix2 i j) + if i.val = 0 then ∑ r, Dx4.gwr (Dx5.half7184 A) B (Dx5.half2048 X) r j else 0 := by
  rw [half7184_eq, half2048_eq]
  exact congrArg₂ (fun a b : EReal => a + b) rfl (DxRef4.gw_at _ _ _ i j)

end DxRef5
end
-- ==== Proof.Adam.lean ====
module

public import proofs.«01_k».proof.Defs
public import Idealize.ShloMosaic.Lib.Pointwise

/-!
The optimiser's step of one weight: the two moments and the update, as both programs compute them.
-/

@[expose] public section

noncomputable section

namespace Adam

open Idealize.ShloMosaic

/-- The new first moment from the old one and the gradient, -/
def mom (m g : EReal) : EReal := Ideal.ofBits .f32 0x3F666666#32 * m + Ideal.ofBits .f32 0x3DCCCCCD#32 * g
/-- the new second moment, -/
def mom2 (v g : EReal) : EReal := Ideal.ofBits .f32 0x3F7FBE77#32 * v + Ideal.ofBits .f32 0x3A83126F#32 * (g * g)
/-- and the update of the weight from the new moments. -/
def step (w m v : EReal) : EReal :=
  Ideal.ofBits .f32 0xBA83126F#32 * (Ideal.div (Ideal.div m (Ideal.ofBits .f32 0x3F26BD02#32))
      (Ideal.sqrt (Ideal.div v (Ideal.ofBits .f32 0x3C231ACC#32)) + Ideal.ofBits .f32 0x322BCC77#32)
    + Ideal.ofBits .f32 0x3C23D70A#32 * w)

/-- The gradient's four parts, summed one after another or the three received first. -/
theorem sum_parts (x : EReal) (f : Fin 3 → EReal) : x + ∑ q, f q = x + f 0 + f 1 + f 2 := by
  rw [Fin.sum_univ_three, ← add_assoc, ← add_assoc]

end Adam

end
-- ==== Proof.Adam7.lean ====
module

public import proofs.«01_k».proof.Defs
public import proofs.«01_k».proof.Proof.Adam
public import proofs.«01_k».proof.Proof.Gen.Kernel7Ideal.Value
public import Idealize.ShloMosaic.Lib.Pipeline.ValueKit
public import Idealize.ShloMosaic.Lib.Pointwise
public import Idealize.ShloMosaic.Lib.Claim

/-!
The optimiser's step of the output projection's weights: four blocks of 64 rows, the gradient summed
over the chips' parts.
-/

@[expose] public section

set_option maxRecDepth 16384

noncomputable section

namespace Adam7

open Idealize.ShloMosaic Idealize.ShloMosaic.TcCoe Idealize.SL.Sem
open Cert.Kernel7Ideal Cert.Kernel7Ideal.Gen Cert.Kernel7Ideal.Value

section Block

variable (a b d e : Vec Ideal S1x64x2048 .bf16) (w m v : Vec Ideal S64x2048 .f32) (i : Fin 64) (j : Fin 2048)

theorem p2 : k0_pay2 a b d e (ix2 i j) = a (ix3 0 i j) + b (ix3 0 i j) + d (ix3 0 i j) + e (ix3 0 i j) := by
  unfold k0_pay2
  pointwise

theorem p3 : k0_pay3 a b d e m (ix2 i j) = Adam.mom (m (ix2 i j)) (k0_pay2 a b d e (ix2 i j)) := by
  unfold k0_pay3 Adam.mom
  generalize k0_pay2 a b d e = g
  pointwise

theorem p4 : k0_pay4 a b d e v (ix2 i j) = Adam.mom2 (v (ix2 i j)) (k0_pay2 a b d e (ix2 i j)) := by
  unfold k0_pay4 Adam.mom2
  generalize k0_pay2 a b d e = g
  pointwise

theorem p1 : k0_pay1 w v (k0_pay5 a b d e m) (Scalar.ofBits .f32 0x3C231ACC#32) (ix2 i j)
    = Adam.step (w (ix2 i j)) (k0_pay3 a b d e m (ix2 i j)) (v (ix2 i j)) := by
  unfold k0_pay1 k0_pay5 Adam.step
  generalize k0_pay3 a b d e m = g
  pointwise

end Block

variable (m : (ℓ : Loc nD τ sig) → Buf (Elt Ideal) ℓ)

abbrev A0 (c : Dev nD) : FVec Ideal S4x256x2048 .f32 := m ((c : Thread nD τ).loc main_arg0)
abbrev A1 (c : Dev nD) : FVec Ideal S3x256x2048 .f32 := m ((c : Thread nD τ).loc main_arg1)
abbrev A2 (c : Dev nD) : FVec Ideal S256x2048 .f32 := m ((c : Thread nD τ).loc main_arg2)
abbrev A3 (c : Dev nD) : FVec Ideal S256x2048 .f32 := m ((c : Thread nD τ).loc main_arg3)
abbrev A4 (c : Dev nD) : FVec Ideal S256x2048 .f32 := m ((c : Thread nD τ).loc main_arg4)

/-- The gradient's entries. -/
def grad (x : FVec Ideal S4x256x2048 .f32) (r : FVec Ideal S3x256x2048 .f32) (i : Fin 256) (j : Fin 2048) : EReal :=
  x (ix3 0 i j) + r (ix3 0 i j) + r (ix3 1 i j) + r (ix3 2 i j)

theorem idx : ∀ t : Fin cfg0.N, win0_0.index t = ![0, t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The array's row at a point's. -/
def at_ (t : Fin cfg0.N) (i : Fin 64) : Fin 256 := ⟨t.val * 64 + i.val, by have : t.val < 4 := t.isLt; omega⟩

theorem V_v0 (c : Dev nD) : V m c main_v0 = truncf .bf16 (A0 m c) bitsLt_bf16_f32 := by
  funext y
  unfold V
  simp only [hostOps0]
  entry_read
  rfl

theorem V_v1 (c : Dev nD) : V m c main_v1 = truncf .bf16 (A1 m c) bitsLt_bf16_f32 := by
  funext y
  unfold V
  simp only [hostOps0]
  entry_read
  rfl

theorem own_at (c : Dev nD) (t : Fin cfg0.N) (i : Fin 64) (j : Fin 2048) :
    iblk m c 0 t (ix3 0 i j) = A0 m c (ix3 0 (at_ t i) j) := by
  have e : iblk m c 0 t (ix3 0 i j) = V m c main_v0 (ix3 0 (at_ t i) j) := by
    blk_ext [iblk, at_, idx t]
  rw [e, V_v0]
  rfl

theorem got_at (c : Dev nD) (t : Fin cfg0.N) (q : Fin 3) (i : Fin 64) (j : Fin 2048) :
    iblk m c 1 t (ix3 q i j) = A1 m c (ix3 q (at_ t i) j) := by
  have e : iblk m c 1 t (ix3 q i j) = V m c main_v1 (ix3 q (at_ t i) j) := by
    blk_ext [iblk, at_, idx t]
  rw [e, V_v1]
  rfl

theorem w_at (c : Dev nD) (t : Fin cfg0.N) (i : Fin 64) (j : Fin 2048) : iblk m c 2 t (ix2 i j) = A2 m c (ix2 (at_ t i) j) := by
  have e : iblk m c 2 t (ix2 i j) = V m c main_arg2 (ix2 (at_ t i) j) := by
    blk_ext [iblk, at_, idx t]
  rw [e, V_main_arg2]

theorem m_at (c : Dev nD) (t : Fin cfg0.N) (i : Fin 64) (j : Fin 2048) : iblk m c 3 t (ix2 i j) = A3 m c (ix2 (at_ t i) j) := by
  have e : iblk m c 3 t (ix2 i j) = V m c main_arg3 (ix2 (at_ t i) j) := by
    blk_ext [iblk, at_, idx t]
  rw [e, V_main_arg3]

theorem v_at (c : Dev nD) (t : Fin cfg0.N) (i : Fin 64) (j : Fin 2048) : iblk m c 4 t (ix2 i j) = A4 m c (ix2 (at_ t i) j) := by
  have e : iblk m c 4 t (ix2 i j) = V m c main_arg4 (ix2 (at_ t i) j) := by
    blk_ext [iblk, at_, idx t]
  rw [e, V_main_arg4]

/-- One of the three parts read out of their block. -/
theorem ld_at (x : Vec Ideal S3x64x2048 .bf16) (q : Fin 3) (i : Fin 64) (j : Fin 2048)
    (inb : ∀ a, (![q.val, 0, 0] : Fin 3 → ℕ) a + S1x64x2048.size a ≤ S3x64x2048.size a) :
    View.ld x (Rect.unit (s := S3x64x2048) ![q.val, 0, 0] S1x64x2048.size inb) (ix3 0 i j) = x (ix3 q i j) := by
  refine congrArg x (funext fun a => Fin.ext ?_)
  match a with
  | 0 => simp
  | 1 => simp
  | 2 => simp

/-- The block's sum is the gradient at its place. -/
theorem sum_at (c : Dev nD) (t : Fin cfg0.N) (i : Fin 64) (j : Fin 2048) :
    k0_pay2 (iblk m c 0 t) (View.ld (iblk m c 1 t) r0_1) (View.ld (iblk m c 1 t) r0_2) (View.ld (iblk m c 1 t) r0_3) (ix2 i j)
      = grad (A0 m c) (A1 m c) (at_ t i) j := by
  rw [p2]
  unfold grad
  rw [own_at, ← got_at m c t 0, ← got_at m c t 1, ← got_at m c t 2]
  exact congrArg₂ (· + ·) (congrArg₂ (· + ·) (congrArg₂ (· + ·) rfl (ld_at _ 0 i j _)) (ld_at _ 1 i j _)) (ld_at _ 2 i j _)

theorem out5 (c : Dev nD) (t : Fin cfg0.N) (i : Fin 64) (j : Fin 2048) :
    (dats m 0 c).after 5 t (ix2 i j) = grad (A0 m c) (A1 m c) (at_ t i) j := by
  rw [after0_5]
  unfold out0_5
  frame_out
  exact sum_at m c t i j

theorem out6 (c : Dev nD) (t : Fin cfg0.N) (i : Fin 64) (j : Fin 2048) :
    (dats m 0 c).after 6 t (ix2 i j) = Adam.step (A2 m c (ix2 (at_ t i) j))
      (Adam.mom (A3 m c (ix2 (at_ t i) j)) (grad (A0 m c) (A1 m c) (at_ t i) j)) (Adam.mom2 (A4 m c (ix2 (at_ t i) j)) (grad (A0 m c) (A1 m c) (at_ t i) j)) := by
  rw [after0_6]
  unfold out0_6 k0_pay6
  frame_out
  refine (p1 _ _ _ _ _ _ _ i j).trans ?_
  rw [p3, p4, w_at, m_at, v_at]
  exact congrArg₂ (Adam.step _) (congrArg (Adam.mom _) (sum_at m c t i j)) (congrArg (Adam.mom2 _) (sum_at m c t i j))

theorem out7 (c : Dev nD) (t : Fin cfg0.N) (i : Fin 64) (j : Fin 2048) :
    (dats m 0 c).after 7 t (ix2 i j) = Adam.mom (A3 m c (ix2 (at_ t i) j)) (grad (A0 m c) (A1 m c) (at_ t i) j) := by
  rw [after0_7]
  unfold out0_7
  frame_out
  rw [p3, m_at]
  exact congrArg (Adam.mom _) (sum_at m c t i j)

theorem out8 (c : Dev nD) (t : Fin cfg0.N) (i : Fin 64) (j : Fin 2048) :
    (dats m 0 c).after 8 t (ix2 i j) = Adam.mom2 (A4 m c (ix2 (at_ t i) j)) (grad (A0 m c) (A1 m c) (at_ t i) j) := by
  rw [after0_8]
  unfold out0_8 k0_pay6
  frame_out
  rw [p4, v_at]
  exact congrArg (Adam.mom2 _) (sum_at m c t i j)

/-! ## The four results -/

theorem final5 (c : Dev nD) (G : FVec Ideal S256x2048 .f32)
    (hG : ∀ (i : Fin 256) (j : Fin 2048), G (ix2 i j) = grad (A0 m c) (A1 m c) i j) : (dats m 0 c).arrAt 5 cfg0.N = G := by
  refine (dats m 0 c).arrAt_eq_of_covers 5 _ (by decide +kernel) fun t hf y => ?_
  obtain ⟨i, j, rfl⟩ : ∃ (i : Fin 64) (j : Fin 2048), y = ix2 i j := ⟨y 0, y 1, eq_ix2 y⟩
  blk_simp
  refine (out5 m c t i j).trans ?_
  rw [← hG]
  refine congrArg G (funext fun a => Fin.ext ?_)
  match a with
  | 0 => blk_simp [at_, idx t]
  | 1 => blk_simp [at_, idx t]

theorem final6 (c : Dev nD) (G : FVec Ideal S256x2048 .f32)
    (hG : ∀ (i : Fin 256) (j : Fin 2048), G (ix2 i j) = Adam.step (A2 m c (ix2 i j)) (Adam.mom (A3 m c (ix2 i j)) (grad (A0 m c) (A1 m c) i j)) (Adam.mom2 (A4 m c (ix2 i j)) (grad (A0 m c) (A1 m c) i j))) : (dats m 0 c).arrAt 6 cfg0.N = G := by
  refine (dats m 0 c).arrAt_eq_of_covers 6 _ (by decide +kernel) fun t hf y => ?_
  obtain ⟨i, j, rfl⟩ : ∃ (i : Fin 64) (j : Fin 2048), y = ix2 i j := ⟨y 0, y 1, eq_ix2 y⟩
  blk_simp
  refine (out6 m c t i j).trans ?_
  rw [← hG]
  refine congrArg G (funext fun a => Fin.ext ?_)
  match a with
  | 0 => blk_simp [at_, idx t]
  | 1 => blk_simp [at_, idx t]

theorem final7 (c : Dev nD) (G : FVec Ideal S256x2048 .f32)
    (hG : ∀ (i : Fin 256) (j : Fin 2048), G (ix2 i j) = Adam.mom (A3 m c (ix2 i j)) (grad (A0 m c) (A1 m c) i j)) : (dats m 0 c).arrAt 7 cfg0.N = G := by
  refine (dats m 0 c).arrAt_eq_of_covers 7 _ (by decide +kernel) fun t hf y => ?_
  obtain ⟨i, j, rfl⟩ : ∃ (i : Fin 64) (j : Fin 2048), y = ix2 i j := ⟨y 0, y 1, eq_ix2 y⟩
  blk_simp
  refine (out7 m c t i j).trans ?_
  rw [← hG]
  refine congrArg G (funext fun a => Fin.ext ?_)
  match a with
  | 0 => blk_simp [at_, idx t]
  | 1 => blk_simp [at_, idx t]

theorem final8 (c : Dev nD) (G : FVec Ideal S256x2048 .f32)
    (hG : ∀ (i : Fin 256) (j : Fin 2048), G (ix2 i j) = Adam.mom2 (A4 m c (ix2 i j)) (grad (A0 m c) (A1 m c) i j)) : (dats m 0 c).arrAt 8 cfg0.N = G := by
  refine (dats m 0 c).arrAt_eq_of_covers 8 _ (by decide +kernel) fun t hf y => ?_
  obtain ⟨i, j, rfl⟩ : ∃ (i : Fin 64) (j : Fin 2048), y = ix2 i j := ⟨y 0, y 1, eq_ix2 y⟩
  blk_simp
  refine (out8 m c t i j).trans ?_
  rw [← hG]
  refine congrArg G (funext fun a => Fin.ext ?_)
  match a with
  | 0 => blk_simp [at_, idx t]
  | 1 => blk_simp [at_, idx t]

end Adam7

end
-- ==== Proof.AdamRef7.lean ====
module

public import proofs.«01_k».proof.Defs
public import proofs.«01_k».proof.Proof.Adam
public import proofs.«01_k».proof.Proof.Gen.Reference7Ideal.Run
public import Idealize.ShloMosaic.Lib.Pointwise
public import Idealize.ShloMosaic.Lib.Claim

/-!
The reference of the optimiser's step of the output projection's weights, entry by entry.
-/

@[expose] public section

set_option maxRecDepth 16384

noncomputable section

namespace AdamRef7

open Idealize.ShloMosaic Idealize.ShloMosaic.TcCoe Idealize.SL.Sem
open Cert.Reference7Ideal Cert.Reference7Ideal.Gen Cert.Reference7Ideal.Value

/-- The gradient, -/
def gradV (X : FVec Ideal S4x256x2048 .f32) (R : FVec Ideal S3x256x2048 .f32) : FVec Ideal S256x2048 .f32 :=
  (addf (shapeCast _ (extractStridedSlice S1x256x2048 ![0, 0, 0] X slices_S4x256x2048_S1x256x2048_0_0_0) shapeCasts_S1x256x2048_S256x2048) (Host.reduceAdd R (constant S_ .f32 0x00000000#32) reducesTo_S3x256x2048_S256x2048_d0 h_S_) : FVec Ideal S256x2048 .f32)

/-- the new moments, -/
def momV (M G : FVec Ideal S256x2048 .f32) : FVec Ideal S256x2048 .f32 :=
  addf (mulf (broadcastInDim S256x2048 ![] bcast_S_S256x2048 (constant S_ .f32 0x3F666666#32)) M) (mulf (broadcastInDim S256x2048 ![] bcast_S_S256x2048 (constant S_ .f32 0x3DCCCCCD#32)) G)

def mom2V (V G : FVec Ideal S256x2048 .f32) : FVec Ideal S256x2048 .f32 :=
  addf (mulf (broadcastInDim S256x2048 ![] bcast_S_S256x2048 (constant S_ .f32 0x3F7FBE77#32)) V) (mulf (broadcastInDim S256x2048 ![] bcast_S_S256x2048 (constant S_ .f32 0x3A83126F#32)) (mulf G G))

/-- and the update. -/
def stepV (W M V : FVec Ideal S256x2048 .f32) : FVec Ideal S256x2048 .f32 :=
  mulf (broadcastInDim S256x2048 ![] bcast_S_S256x2048 (constant S_ .f32 0xBA83126F#32))
    (addf (Host.divf (Host.divf M (broadcastInDim S256x2048 ![] bcast_S_S256x2048 (constant S_ .f32 0x3F26BD02#32)))
      (addf (Host.sqrt (Host.divf V (broadcastInDim S256x2048 ![] bcast_S_S256x2048 (constant S_ .f32 0x3C231ACC#32))))
        (broadcastInDim S256x2048 ![] bcast_S_S256x2048 (constant S_ .f32 0x322BCC77#32))))
      (mulf (broadcastInDim S256x2048 ![] bcast_S_S256x2048 (constant S_ .f32 0x3C23D70A#32)) W))

variable (i : Fin 256) (j : Fin 2048)

theorem grad_at (X : FVec Ideal S4x256x2048 .f32) (R : FVec Ideal S3x256x2048 .f32) :
    gradV X R (ix2 i j) = X (ix3 0 i j) + R (ix3 0 i j) + R (ix3 1 i j) + R (ix3 2 i j) := by
  refine Eq.trans ?_ (Adam.sum_parts (X (ix3 0 i j)) fun q => R (ix3 q i j))
  unfold gradV
  pointwise

theorem mom_at (M G : FVec Ideal S256x2048 .f32) : momV M G (ix2 i j) = Adam.mom (M (ix2 i j)) (G (ix2 i j)) := by
  unfold momV Adam.mom
  pointwise

theorem mom2_at (V G : FVec Ideal S256x2048 .f32) : mom2V V G (ix2 i j) = Adam.mom2 (V (ix2 i j)) (G (ix2 i j)) := by
  unfold mom2V Adam.mom2
  pointwise

theorem step_at (W M V : FVec Ideal S256x2048 .f32) : stepV W M V (ix2 i j) = Adam.step (W (ix2 i j)) (M (ix2 i j)) (V (ix2 i j)) := by
  unfold stepV Adam.step
  pointwise

/-- The new moments and the update out of the arguments. -/
theorem mom_of (X : FVec Ideal S4x256x2048 .f32) (R : FVec Ideal S3x256x2048 .f32) (M : FVec Ideal S256x2048 .f32) :
    momV M (gradV X R) (ix2 i j) = Adam.mom (M (ix2 i j)) (X (ix3 0 i j) + R (ix3 0 i j) + R (ix3 1 i j) + R (ix3 2 i j)) := by
  rw [mom_at, grad_at]

theorem mom2_of (X : FVec Ideal S4x256x2048 .f32) (R : FVec Ideal S3x256x2048 .f32) (V : FVec Ideal S256x2048 .f32) :
    mom2V V (gradV X R) (ix2 i j) = Adam.mom2 (V (ix2 i j)) (X (ix3 0 i j) + R (ix3 0 i j) + R (ix3 1 i j) + R (ix3 2 i j)) := by
  rw [mom2_at, grad_at]

theorem step_of (X : FVec Ideal S4x256x2048 .f32) (R : FVec Ideal S3x256x2048 .f32) (W M V : FVec Ideal S256x2048 .f32) :
    stepV W (momV M (gradV X R)) (mom2V V (gradV X R)) (ix2 i j) = Adam.step (W (ix2 i j))
      (Adam.mom (M (ix2 i j)) (X (ix3 0 i j) + R (ix3 0 i j) + R (ix3 1 i j) + R (ix3 2 i j)))
      (Adam.mom2 (V (ix2 i j)) (X (ix3 0 i j) + R (ix3 0 i j) + R (ix3 1 i j) + R (ix3 2 i j))) := by
  rw [step_at, mom_of, mom2_of]

end AdamRef7

end
-- ==== Proof.Adam8.lean ====
module

public import proofs.«01_k».proof.Defs
public import proofs.«01_k».proof.Proof.Adam
public import proofs.«01_k».proof.Proof.Gen.Kernel8Ideal.Value
public import Idealize.ShloMosaic.Lib.Pipeline.ValueKit
public import Idealize.ShloMosaic.Lib.Pointwise
public import Idealize.ShloMosaic.Lib.Claim

/-!
The optimiser's step of the input projection's weights: eight blocks of 256 columns, the gradient summed
over the chips' parts and transposed.
-/

@[expose] public section

set_option maxRecDepth 16384

noncomputable section

namespace Adam8

open Idealize.ShloMosaic Idealize.ShloMosaic.TcCoe Idealize.SL.Sem
open Cert.Kernel8Ideal Cert.Kernel8Ideal.Gen Cert.Kernel8Ideal.Value

section Block

variable (a b d e : Vec Ideal S1x256x898 .bf16) (w m v : Vec Ideal S898x256 .f32) (i : Fin 898) (j : Fin 256)

theorem p2 : k0_pay2 a b d e (ix2 i j) = a (ix3 0 j i) + b (ix3 0 j i) + d (ix3 0 j i) + e (ix3 0 j i) := by
  unfold k0_pay2
  pointwise

theorem p3 : k0_pay3 a b d e m (ix2 i j) = Adam.mom (m (ix2 i j)) (k0_pay2 a b d e (ix2 i j)) := by
  unfold k0_pay3 Adam.mom
  generalize k0_pay2 a b d e = g
  pointwise

theorem p4 : k0_pay4 a b d e v (ix2 i j) = Adam.mom2 (v (ix2 i j)) (k0_pay2 a b d e (ix2 i j)) := by
  unfold k0_pay4 Adam.mom2
  generalize k0_pay2 a b d e = g
  pointwise

theorem p1 : k0_pay1 w v (k0_pay5 a b d e m) (ix2 i j)
    = Adam.step (w (ix2 i j)) (k0_pay3 a b d e m (ix2 i j)) (v (ix2 i j)) := by
  unfold k0_pay1 k0_pay5 Adam.step
  generalize k0_pay3 a b d e m = g
  pointwise

end Block

variable (m : (ℓ : Loc nD τ sig) → Buf (Elt Ideal) ℓ)

abbrev A0 (c : Dev nD) : FVec Ideal S4x2048x898 .f32 := m ((c : Thread nD τ).loc main_arg0)
abbrev A1 (c : Dev nD) : FVec Ideal S3x2048x898 .f32 := m ((c : Thread nD τ).loc main_arg1)
abbrev A2 (c : Dev nD) : FVec Ideal S898x2048 .f32 := m ((c : Thread nD τ).loc main_arg2)
abbrev A3 (c : Dev nD) : FVec Ideal S898x2048 .f32 := m ((c : Thread nD τ).loc main_arg3)
abbrev A4 (c : Dev nD) : FVec Ideal S898x2048 .f32 := m ((c : Thread nD τ).loc main_arg4)

/-- The gradient's entries. -/
def grad (x : FVec Ideal S4x2048x898 .f32) (r : FVec Ideal S3x2048x898 .f32) (i : Fin 898) (j : Fin 2048) : EReal :=
  x (ix3 0 j i) + r (ix3 0 j i) + r (ix3 1 j i) + r (ix3 2 j i)

theorem idx : ∀ t : Fin cfg0.N, win0_0.index t = ![0, t.val, 0] ∧ win0_1.index t = ![0, t.val, 0] ∧ win0_2.index t = ![0, t.val]
    ∧ win0_3.index t = ![0, t.val] ∧ win0_4.index t = ![0, t.val] ∧ win0_5.index t = ![0, t.val] ∧ win0_6.index t = ![0, t.val]
    ∧ win0_7.index t = ![0, t.val] ∧ win0_8.index t = ![0, t.val] :=
  (by decide +kernel : ∀ t : Fin grid0.N, _)

/-- The array's column at a point's. -/
def at_ (t : Fin cfg0.N) (i : Fin 256) : Fin 2048 := ⟨t.val * 256 + i.val, by have : t.val < 8 := t.isLt; omega⟩

theorem V_v0 (c : Dev nD) : V m c main_v0 = truncf .bf16 (A0 m c) bitsLt_bf16_f32 := by
  funext y
  unfold V
  simp only [hostOps0]
  entry_read
  rfl

theorem V_v1 (c : Dev nD) : V m c main_v1 = truncf .bf16 (A1 m c) bitsLt_bf16_f32 := by
  funext y
  unfold V
  simp only [hostOps0]
  entry_read
  rfl

theorem own_at (c : Dev nD) (t : Fin cfg0.N) (i : Fin 898) (j : Fin 256) :
    iblk m c 0 t (ix3 0 j i) = A0 m c (ix3 0 (at_ t j) i) := by
  have e : iblk m c 0 t (ix3 0 j i) = V m c main_v0 (ix3 0 (at_ t j) i) := by
    blk_ext [iblk, at_, idx t]
  rw [e, V_v0]
  rfl

theorem got_at (c : Dev nD) (t : Fin cfg0.N) (q : Fin 3) (i : Fin 898) (j : Fin 256) :
    iblk m c 1 t (ix3 q j i) = A1 m c (ix3 q (at_ t j) i) := by
  have e : iblk m c 1 t (ix3 q j i) = V m c main_v1 (ix3 q (at_ t j) i) := by
    blk_ext [iblk, at_, idx t]
  rw [e, V_v1]
  rfl

theorem w_at (c : Dev nD) (t : Fin cfg0.N) (i : Fin 898) (j : Fin 256) : iblk m c 2 t (ix2 i j) = A2 m c (ix2 i (at_ t j)) := by
  have e : iblk m c 2 t (ix2 i j) = V m c main_arg2 (ix2 i (at_ t j)) := by
    blk_ext [iblk, at_, idx t]
  rw [e, V_main_arg2]

theorem m_at (c : Dev nD) (t : Fin cfg0.N) (i : Fin 898) (j : Fin 256) : iblk m c 3 t (ix2 i j) = A3 m c (ix2 i (at_ t j)) := by
  have e : iblk m c 3 t (ix2 i j) = V m c main_arg3 (ix2 i (at_ t j)) := by
    blk_ext [iblk, at_, idx t]
  rw [e, V_main_arg3]

theorem v_at (c : Dev nD) (t : Fin cfg0.N) (i : Fin 898) (j : Fin 256) : iblk m c 4 t (ix2 i j) = A4 m c (ix2 i (at_ t j)) := by
  have e : iblk m c 4 t (ix2 i j) = V m c main_arg4 (ix2 i (at_ t j)) := by
    blk_ext [iblk, at_, idx t]
  rw [e, V_main_arg4]

/-- One of the three parts read out of their block. -/
theorem ld_at (x : Vec Ideal S3x256x898 .bf16) (q : Fin 3) (i : Fin 256) (j : Fin 898)
    (inb : ∀ a, (![q.val, 0, 0] : Fin 3 → ℕ) a + S1x256x898.size a ≤ S3x256x898.size a) :
    View.ld x (Rect.unit (s := S3x256x898) ![q.val, 0, 0] S1x256x898.size inb) (ix3 0 i j) = x (ix3 q i j) := by
  refine congrArg x (funext fun a => Fin.ext ?_)
  match a with
  | 0 => simp
  | 1 => simp
  | 2 => simp

/-- The block's sum is the gradient at its place. -/
theorem sum_at (c : Dev nD) (t : Fin cfg0.N) (i : Fin 898) (j : Fin 256) :
    k0_pay2 (iblk m c 0 t) (View.ld (iblk m c 1 t) r0_1) (View.ld (iblk m c 1 t) r0_2) (View.ld (iblk m c 1 t) r0_3) (ix2 i j)
      = grad (A0 m c) (A1 m c) i (at_ t j) := by
  rw [p2]
  unfold grad
  rw [own_at, ← got_at m c t 0, ← got_at m c t 1, ← got_at m c t 2]
  exact congrArg₂ (· + ·) (congrArg₂ (· + ·) (congrArg₂ (· + ·) rfl (ld_at _ 0 j i _)) (ld_at _ 1 j i _)) (ld_at _ 2 j i _)

theorem out5 (c : Dev nD) (t : Fin cfg0.N) (i : Fin 898) (j : Fin 256) :
    (dats m 0 c).after 5 t (ix2 i j) = grad (A0 m c) (A1 m c) i (at_ t j) := by
  rw [after0_5]
  unfold out0_5
  frame_out
  exact sum_at m c t i j

theorem out6 (c : Dev nD) (t : Fin cfg0.N) (i : Fin 898) (j : Fin 256) :
    (dats m 0 c).after 6 t (ix2 i j) = Adam.step (A2 m c (ix2 i (at_ t j)))
      (Adam.mom (A3 m c (ix2 i (at_ t j))) (grad (A0 m c) (A1 m c) i (at_ t j))) (Adam.mom2 (A4 m c (ix2 i (at_ t j))) (grad (A0 m c) (A1 m c) i (at_ t j))) := by
  rw [after0_6]
  unfold out0_6 k0_pay6
  frame_out
  refine (p1 _ _ _ _ _ _ _ i j).trans ?_
  rw [p3, p4, w_at, m_at, v_at]
  exact congrArg₂ (Adam.step _) (congrArg (Adam.mom _) (sum_at m c t i j)) (congrArg (Adam.mom2 _) (sum_at m c t i j))

theorem out7 (c : Dev nD) (t : Fin cfg0.N) (i : Fin 898) (j : Fin 256) :
    (dats m 0 c).after 7 t (ix2 i j) = Adam.mom (A3 m c (ix2 i (at_ t j))) (grad (A0 m c) (A1 m c) i (at_ t j)) := by
  rw [after0_7]
  unfold out0_7
  frame_out
  rw [p3, m_at]
  exact congrArg (Adam.mom _) (sum_at m c t i j)

theorem out8 (c : Dev nD) (t : Fin cfg0.N) (i : Fin 898) (j : Fin 256) :
    (dats m 0 c).after 8 t (ix2 i j) = Adam.mom2 (A4 m c (ix2 i (at_ t j))) (grad (A0 m c) (A1 m c) i (at_ t j)) := by
  rw [after0_8]
  unfold out0_8 k0_pay6
  frame_out
  rw [p4, v_at]
  exact congrArg (Adam.mom2 _) (sum_at m c t i j)

/-! ## The four results -/

theorem final5 (c : Dev nD) (G : FVec Ideal S898x2048 .f32)
    (hG : ∀ (i : Fin 898) (j : Fin 2048), G (ix2 i j) = grad (A0 m c) (A1 m c) i j) : (dats m 0 c).arrAt 5 cfg0.N = G := by
  refine (dats m 0 c).arrAt_eq_of_covers 5 _ (by decide +kernel) fun t hf y => ?_
  obtain ⟨i, j, rfl⟩ : ∃ (i : Fin 898) (j : Fin 256), y = ix2 i j := ⟨y 0, y 1, eq_ix2 y⟩
  blk_simp
  refine (out5 m c t i j).trans ?_
  rw [← hG]
  refine congrArg G (funext fun a => Fin.ext ?_)
  match a with
  | 0 => blk_simp [at_, idx t]
  | 1 => blk_simp [at_, idx t]

theorem final6 (c : Dev nD) (G : FVec Ideal S898x2048 .f32)
    (hG : ∀ (i : Fin 898) (j : Fin 2048), G (ix2 i j) = Adam.step (A2 m c (ix2 i j)) (Adam.mom (A3 m c (ix2 i j)) (grad (A0 m c) (A1 m c) i j)) (Adam.mom2 (A4 m c (ix2 i j)) (grad (A0 m c) (A1 m c) i j))) : (dats m 0 c).arrAt 6 cfg0.N = G := by
  refine (dats m 0 c).arrAt_eq_of_covers 6 _ (by decide +kernel) fun t hf y => ?_
  obtain ⟨i, j, rfl⟩ : ∃ (i : Fin 898) (j : Fin 256), y = ix2 i j := ⟨y 0, y 1, eq_ix2 y⟩
  blk_simp
  refine (out6 m c t i j).trans ?_
  rw [← hG]
  refine congrArg G (funext fun a => Fin.ext ?_)
  match a with
  | 0 => blk_simp [at_, idx t]
  | 1 => blk_simp [at_, idx t]

theorem final7 (c : Dev nD) (G : FVec Ideal S898x2048 .f32)
    (hG : ∀ (i : Fin 898) (j : Fin 2048), G (ix2 i j) = Adam.mom (A3 m c (ix2 i j)) (grad (A0 m c) (A1 m c) i j)) : (dats m 0 c).arrAt 7 cfg0.N = G := by
  refine (dats m 0 c).arrAt_eq_of_covers 7 _ (by decide +kernel) fun t hf y => ?_
  obtain ⟨i, j, rfl⟩ : ∃ (i : Fin 898) (j : Fin 256), y = ix2 i j := ⟨y 0, y 1, eq_ix2 y⟩
  blk_simp
  refine (out7 m c t i j).trans ?_
  rw [← hG]
  refine congrArg G (funext fun a => Fin.ext ?_)
  match a with
  | 0 => blk_simp [at_, idx t]
  | 1 => blk_simp [at_, idx t]

theorem final8 (c : Dev nD) (G : FVec Ideal S898x2048 .f32)
    (hG : ∀ (i : Fin 898) (j : Fin 2048), G (ix2 i j) = Adam.mom2 (A4 m c (ix2 i j)) (grad (A0 m c) (A1 m c) i j)) : (dats m 0 c).arrAt 8 cfg0.N = G := by
  refine (dats m 0 c).arrAt_eq_of_covers 8 _ (by decide +kernel) fun t hf y => ?_
  obtain ⟨i, j, rfl⟩ : ∃ (i : Fin 898) (j : Fin 256), y = ix2 i j := ⟨y 0, y 1, eq_ix2 y⟩
  blk_simp
  refine (out8 m c t i j).trans ?_
  rw [← hG]
  refine congrArg G (funext fun a => Fin.ext ?_)
  match a with
  | 0 => blk_simp [at_, idx t]
  | 1 => blk_simp [at_, idx t]

end Adam8

end
-- ==== Proof.AdamRef8.lean ====
module

public import proofs.«01_k».proof.Defs
public import proofs.«01_k».proof.Proof.Adam
public import proofs.«01_k».proof.Proof.Gen.Reference8Ideal.Run
public import Idealize.ShloMosaic.Lib.Pointwise
public import Idealize.ShloMosaic.Lib.Claim

/-!
The reference of the optimiser's step of the input projection's weights, entry by entry.
-/

@[expose] public section

set_option maxRecDepth 16384

noncomputable section

namespace AdamRef8

open Idealize.ShloMosaic Idealize.ShloMosaic.TcCoe Idealize.SL.Sem
open Cert.Reference8Ideal Cert.Reference8Ideal.Gen Cert.Reference8Ideal.Value

/-- The gradient, -/
def gradV (X : FVec Ideal S4x2048x898 .f32) (R : FVec Ideal S3x2048x898 .f32) : FVec Ideal S898x2048 .f32 :=
  transpose S898x2048 [1, 0] (addf (shapeCast _ (extractStridedSlice S1x2048x898 ![0, 0, 0] X slices_S4x2048x898_S1x2048x898_0_0_0) shapeCasts_S1x2048x898_S2048x898) (Host.reduceAdd R (constant S_ .f32 0x00000000#32) reducesTo_S3x2048x898_S2048x898_d0 h_S_) : FVec Ideal S2048x898 .f32) transposes_S2048x898_S898x2048_1_0

/-- the new moments, -/
def momV (M G : FVec Ideal S898x2048 .f32) : FVec Ideal S898x2048 .f32 :=
  addf (mulf (broadcastInDim S898x2048 ![] bcast_S_S898x2048 (constant S_ .f32 0x3F666666#32)) M) (mulf (broadcastInDim S898x2048 ![] bcast_S_S898x2048 (constant S_ .f32 0x3DCCCCCD#32)) G)

def mom2V (V G : FVec Ideal S898x2048 .f32) : FVec Ideal S898x2048 .f32 :=
  addf (mulf (broadcastInDim S898x2048 ![] bcast_S_S898x2048 (constant S_ .f32 0x3F7FBE77#32)) V) (mulf (broadcastInDim S898x2048 ![] bcast_S_S898x2048 (constant S_ .f32 0x3A83126F#32)) (mulf G G))

/-- and the update. -/
def stepV (W M V : FVec Ideal S898x2048 .f32) : FVec Ideal S898x2048 .f32 :=
  mulf (broadcastInDim S898x2048 ![] bcast_S_S898x2048 (constant S_ .f32 0xBA83126F#32))
    (addf (Host.divf (Host.divf M (broadcastInDim S898x2048 ![] bcast_S_S898x2048 (constant S_ .f32 0x3F26BD02#32)))
      (addf (Host.sqrt (Host.divf V (broadcastInDim S898x2048 ![] bcast_S_S898x2048 (constant S_ .f32 0x3C231ACC#32))))
        (broadcastInDim S898x2048 ![] bcast_S_S898x2048 (constant S_ .f32 0x322BCC77#32))))
      (mulf (broadcastInDim S898x2048 ![] bcast_S_S898x2048 (constant S_ .f32 0x3C23D70A#32)) W))

variable (i : Fin 898) (j : Fin 2048)

theorem grad_at (X : FVec Ideal S4x2048x898 .f32) (R : FVec Ideal S3x2048x898 .f32) :
    gradV X R (ix2 i j) = X (ix3 0 j i) + R (ix3 0 j i) + R (ix3 1 j i) + R (ix3 2 j i) := by
  refine Eq.trans ?_ (Adam.sum_parts (X (ix3 0 j i)) fun q => R (ix3 q j i))
  unfold gradV
  pointwise

theorem mom_at (M G : FVec Ideal S898x2048 .f32) : momV M G (ix2 i j) = Adam.mom (M (ix2 i j)) (G (ix2 i j)) := by
  unfold momV Adam.mom
  pointwise

theorem mom2_at (V G : FVec Ideal S898x2048 .f32) : mom2V V G (ix2 i j) = Adam.mom2 (V (ix2 i j)) (G (ix2 i j)) := by
  unfold mom2V Adam.mom2
  pointwise

theorem step_at (W M V : FVec Ideal S898x2048 .f32) : stepV W M V (ix2 i j) = Adam.step (W (ix2 i j)) (M (ix2 i j)) (V (ix2 i j)) := by
  unfold stepV Adam.step
  pointwise

/-- The new moments and the update out of the arguments. -/
theorem mom_of (X : FVec Ideal S4x2048x898 .f32) (R : FVec Ideal S3x2048x898 .f32) (M : FVec Ideal S898x2048 .f32) :
    momV M (gradV X R) (ix2 i j) = Adam.mom (M (ix2 i j)) (X (ix3 0 j i) + R (ix3 0 j i) + R (ix3 1 j i) + R (ix3 2 j i)) := by
  rw [mom_at, grad_at]

theorem mom2_of (X : FVec Ideal S4x2048x898 .f32) (R : FVec Ideal S3x2048x898 .f32) (V : FVec Ideal S898x2048 .f32) :
    mom2V V (gradV X R) (ix2 i j) = Adam.mom2 (V (ix2 i j)) (X (ix3 0 j i) + R (ix3 0 j i) + R (ix3 1 j i) + R (ix3 2 j i)) := by
  rw [mom2_at, grad_at]

theorem step_of (X : FVec Ideal S4x2048x898 .f32) (R : FVec Ideal S3x2048x898 .f32) (W M V : FVec Ideal S898x2048 .f32) :
    stepV W (momV M (gradV X R)) (mom2V V (gradV X R)) (ix2 i j) = Adam.step (W (ix2 i j))
      (Adam.mom (M (ix2 i j)) (X (ix3 0 j i) + R (ix3 0 j i) + R (ix3 1 j i) + R (ix3 2 j i)))
      (Adam.mom2 (V (ix2 i j)) (X (ix3 0 j i) + R (ix3 0 j i) + R (ix3 1 j i) + R (ix3 2 j i))) := by
  rw [step_at, mom_of, mom2_of]

end AdamRef8

end
-- ==== Proof.Mix.lean ====
module

public import proofs.«01_k».proof.Defs
public import Idealize.ShloMosaic.Lib.Pointwise

/-!
The entries of the concatenated mixers' output: a head's normalised and gated row, and the spatial gating unit's.
-/

@[expose] public section

noncomputable section

namespace Mix

open Idealize.ShloMosaic

/-- The row of a block, -/
def row (t : Fin 32) (i : Fin 128) : Fin 4096 := ⟨t.val * 128 + i.val, by omega⟩
/-- the column of a head or a group, -/
def col (k : Fin 8) (j : Fin 128) : Fin 1024 := ⟨k.val * 128 + j.val, by omega⟩
/-- and one of the projection's blocks of 1024 columns. -/
def part (p : Fin 7) (c : Fin 1024) : Fin 7168 := ⟨p.val * 1024 + c.val, by omega⟩

/-- A head's column of the result, -/
def left (k : Fin 8) (j : Fin 128) : Fin 2048 := ⟨k.val * 128 + j.val, by omega⟩
/-- and a group's. -/
def right (k : Fin 8) (j : Fin 128) : Fin 2048 := ⟨1024 + (k.val * 128 + j.val), by omega⟩

/-- The gating function. -/
def silu (z : EReal) : EReal := z * Ideal.div 1 (1 + Ideal.exp (-z))

/-- A head's entry `j`: the row `o` over its root mean square, times the weight, gated. -/
def head (o : Fin 128 → EReal) (j : Fin 128) (w z : EReal) : EReal :=
  o j * Ideal.rsqrt (Ideal.div (∑ x, o x * o x) (Ideal.ofBits .f32 0x43000000#32) + Ideal.ofBits .f32 0x358637BD#32) * w * silu z

/-- The mean of a row. -/
def mean (x : Fin 1024 → EReal) : EReal := Ideal.div (∑ c, x c) (Ideal.ofBits .f32 0x44800000#32)

/-- The layer norm's entry `c`. -/
def norm (x : Fin 1024 → EReal) (c : Fin 1024) (w b : EReal) : EReal :=
  (x c - mean x) * Ideal.rsqrt (mean (fun d => (x d - mean x) * (x d - mean x)) + Ideal.ofBits .f32 0x358637BD#32) * w + b

/-- Whether row `s` reaches row `i`. -/
def sees (i s : Fin 128) : BitVec 1 := IntOp.cmpi .sge (BitVec.ofNat 32 i.val) (BitVec.ofNat 32 s.val)

/-- A group's entry in row `i`: the rows up to it mixed, with the bias, times `u`, gated. -/
def gate (i : Fin 128) (w v : Fin 128 → EReal) (b u z : EReal) : EReal :=
  u * (∑ s, Scalar.select (sees i s) (w s * v s) 0 + b) * silu z

end Mix

end
-- ==== Proof.MixVal.lean ====
module

public import proofs.«01_k».proof.Defs
public import proofs.«01_k».proof.Proof.Mix
public import proofs.«01_k».proof.Proof.Gen.Kernel9Ideal.Value
public import Idealize.ShloMosaic.Lib.Pipeline.ValueKit
public import Idealize.ShloMosaic.Lib.Pointwise
public import Idealize.ShloMosaic.Lib.Claim

/-!
The mixers' forward call: 32 blocks of 128 rows, each written as eight heads and eight groups of 128 columns.
-/

@[expose] public section

set_option maxRecDepth 16384

noncomputable section

namespace MixVal

open Idealize.ShloMosaic Idealize.ShloMosaic.TcCoe Idealize.SL.Sem
open Cert.Kernel9Ideal Cert.Kernel9Ideal.Gen Cert.Kernel9Ideal.Value

section Block

/-- A group's rows, of the normalised rows `n`. -/
def gateV (n : FVec Ideal S128x128 .f32) (w : Vec Ideal S1x128x128 .f32) (b : FVec Ideal S128x1 .f32) (u z : Vec Ideal S128x128 .f32) : FVec Ideal S128x128 .bf16 :=
  have s := addf (matmul dot_S128x128_S128x128_S128x128_1_0_0_1_n_n none (k0_pay19 w) (truncf .bf16 n bitsLt_bf16_f32) (constant S128x128 .f32 0x00000000#32)) (broadcastTo S128x128 b broadcasts_S128x1_S128x128)
  truncf .bf16 (mulf (mulf u s) (mulf z (divf (broadcast S128x128 (Scalar.ofBits .f32 0x3F800000#32)) (addf (broadcast S128x128 (Scalar.ofBits .f32 0x3F800000#32)) (exp (subf (broadcast S128x128 (Scalar.ofBits .f32 0x00000000#32)) z)))))) bitsLt_bf16_f32

variable (hw : Vec Ideal S1x128 .f32) (o z u : Vec Ideal S128x128 .f32) (i j : Fin 128)

theorem head_at : k0_pay2 hw o z (ix2 i j) = Mix.head (fun d => o (ix2 i d)) j (hw (ix2 0 j)) (z (ix2 i j)) := by
  unfold k0_pay2 Mix.head Mix.silu
  rw [← zero_sub]
  pointwise

theorem gate_at (n : FVec Ideal S128x128 .f32) (w : Vec Ideal S1x128x128 .f32) (b : FVec Ideal S128x1 .f32) :
    gateV n w b u z (ix2 i j)
      = Mix.gate i (fun s => w (ix3 0 i s)) (fun s => n (ix2 s j)) (b (ix2 i 0)) (u (ix2 i j)) (z (ix2 i j)) := by
  unfold gateV k0_pay19 Mix.gate Mix.silu Mix.sees
  rw [← zero_sub]
  pointwise

theorem norm_at (x : Vec Ideal S128x1024 .f32) (w b : Vec Ideal S1x1024 .f32) (c : Fin 1024) :
    k0_pay17 x w b (ix2 i c) = Mix.norm (fun d => x (ix2 i d)) c (w (ix2 0 c)) (b (ix2 0 c)) := by
  unfold k0_pay17 Mix.norm Mix.mean
  pointwise

/-- Parts read out of their block: a head's columns, -/
theorem ldc (x : Vec Ideal S128x1024 .f32) (k : Fin 8) (inb : ∀ a, (![0, k.val * 128] : Fin 2 → ℕ) a + S128x128.size a ≤ S128x1024.size a) :
    View.ld x (Rect.unit (s := S128x1024) ![0, k.val * 128] S128x128.size inb) (ix2 i j) = x (ix2 i (Mix.col k j)) := by
  refine congrArg x (funext fun a => Fin.ext ?_)
  match a with
  | 0 => simp
  | 1 => simp [Mix.col]

/-- a group's weights, -/
theorem ldw (x : Vec Ideal S8x128x128 .f32) (k : Fin 8) (inb : ∀ a, (![k.val, 0, 0] : Fin 3 → ℕ) a + S1x128x128.size a ≤ S8x128x128.size a) :
    View.ld x (Rect.unit (s := S8x128x128) ![k.val, 0, 0] S1x128x128.size inb) (ix3 0 i j) = x (ix3 k i j) := by
  refine congrArg x (funext fun a => Fin.ext ?_)
  match a with
  | 0 => simp
  | 1 => simp
  | 2 => simp

/-- a group's columns of the normalised rows, -/
theorem slc (x : FVec Ideal S128x1024 .f32) (k : Fin 8) (h : S128x1024.Slices ![0, k.val * 128] S128x128) :
    extractStridedSlice S128x128 ![0, k.val * 128] x h (ix2 i j) = x (ix2 i (Mix.col k j)) := by
  refine congrArg x (funext fun a => Fin.ext ?_)
  match a with
  | 0 => simp
  | 1 => simp [Mix.col]

/-- a group's biases, -/
theorem slb (x : FVec Ideal S128x8 .f32) (k : Fin 8) (h : S128x8.Slices ![0, k.val] S128x1) :
    extractStridedSlice S128x1 ![0, k.val] x h (ix2 i 0) = x (ix2 i k) := by
  refine congrArg x (funext fun a => Fin.ext ?_)
  match a with
  | 0 => simp
  | 1 => simp

/-- and the blocks read whole. -/
theorem ld1 (x : Vec Ideal S1x128 .f32) : View.ld x r0_0 = x := by
  funext y
  refine congrArg x (funext fun a => Fin.ext ?_)
  match a with
  | 0 => simp
  | 1 => simp

theorem ld2 (x : Vec Ideal S128x1024 .f32) : View.ld x r0_17 = x := by
  funext y
  refine congrArg x (funext fun a => Fin.ext ?_)
  match a with
  | 0 => simp
  | 1 => simp

theorem ld3 (x : Vec Ideal S1x1024 .f32) : View.ld x r0_18 = x := by
  funext y
  refine congrArg x (funext fun a => Fin.ext ?_)
  match a with
  | 0 => simp
  | 1 => simp

theorem ld4 (x : Vec Ideal S128x8 .f32) : View.ld x r0_19 = x := by
  funext y
  refine congrArg x (funext fun a => Fin.ext ?_)
  match a with
  | 0 => simp
  | 1 => simp

theorem bias_at (x : Vec Ideal S128x8 .f32) : k0_pay18 x = x := by
  funext y
  unfold k0_pay18
  exact shapeCast_apply x _ _ _ rfl

end Block

variable (m : (ℓ : Loc nD τ sig) → Buf (Elt Ideal) ℓ)

abbrev A0 (c : Dev nD) : FVec Ideal S4096x1024 .f32 := m ((c : Thread nD τ).loc main_arg0)
abbrev A1 (c : Dev nD) : FVec Ideal S4096x7168 .f32 := m ((c : Thread nD τ).loc main_arg1)
abbrev A2 (c : Dev nD) : FVec Ideal S1x128 .f32 := m ((c : Thread nD τ).loc main_arg2)
abbrev A3 (c : Dev nD) : FVec Ideal S1x1024 .f32 := m ((c : Thread nD τ).loc main_arg3)
abbrev A4 (c : Dev nD) : FVec Ideal S1x1024 .f32 := m ((c : Thread nD τ).loc main_arg4)
abbrev A5 (c : Dev nD) : FVec Ideal S1x8x128x128 .f32 := m ((c : Thread nD τ).loc main_arg5)
abbrev A6 (c : Dev nD) : FVec Ideal S1x8x128 .f32 := m ((c : Thread nD τ).loc main_arg6)

theorem idx : ∀ t : Fin cfg0.N, win0_0.index t = ![t.val, 0] ∧ win0_1.index t = ![t.val, 3] ∧ win0_2.index t = ![t.val, 4]
    ∧ win0_3.index t = ![t.val, 5] ∧ win0_4.index t = ![t.val, 6] ∧ win0_5.index t = ![0, 0] ∧ win0_6.index t = ![0, 0]
    ∧ win0_7.index t = ![0, 0] ∧ win0_8.index t = ![0, 0, 0] ∧ win0_9.index t = ![0, 0] ∧ win0_10.index t = ![t.val, 0] :=
  (by decide +kernel : ∀ t : Fin grid0.N, _)

/-- A point's chunk. -/
def at_ (t : Fin cfg0.N) : Fin 32 := ⟨t.val, t.isLt⟩

theorem o_at (c : Dev nD) (t : Fin cfg0.N) (i : Fin 128) (d : Fin 1024) :
    iblk m c 0 t (ix2 i d) = A0 m c (ix2 (Mix.row (at_ t) i) d) := by
  have e : iblk m c 0 t (ix2 i d) = V m c main_arg0 (ix2 (Mix.row (at_ t) i) d) := by
    blk_ext [iblk, at_, Mix.row, idx t]
  rw [e, V_main_arg0]

theorem z_at (c : Dev nD) (t : Fin cfg0.N) (i : Fin 128) (d : Fin 1024) :
    iblk m c 1 t (ix2 i d) = A1 m c (ix2 (Mix.row (at_ t) i) (Mix.part 3 d)) := by
  have e : iblk m c 1 t (ix2 i d) = V m c main_arg1 (ix2 (Mix.row (at_ t) i) (Mix.part 3 d)) := by
    blk_ext [iblk, at_, Mix.row, Mix.part, idx t]
  rw [e, V_main_arg1]

theorem u_at (c : Dev nD) (t : Fin cfg0.N) (i : Fin 128) (d : Fin 1024) :
    iblk m c 2 t (ix2 i d) = A1 m c (ix2 (Mix.row (at_ t) i) (Mix.part 4 d)) := by
  have e : iblk m c 2 t (ix2 i d) = V m c main_arg1 (ix2 (Mix.row (at_ t) i) (Mix.part 4 d)) := by
    blk_ext [iblk, at_, Mix.row, Mix.part, idx t]
  rw [e, V_main_arg1]

theorem x_at (c : Dev nD) (t : Fin cfg0.N) (i : Fin 128) (d : Fin 1024) :
    iblk m c 3 t (ix2 i d) = A1 m c (ix2 (Mix.row (at_ t) i) (Mix.part 5 d)) := by
  have e : iblk m c 3 t (ix2 i d) = V m c main_arg1 (ix2 (Mix.row (at_ t) i) (Mix.part 5 d)) := by
    blk_ext [iblk, at_, Mix.row, Mix.part, idx t]
  rw [e, V_main_arg1]

theorem y_at (c : Dev nD) (t : Fin cfg0.N) (i : Fin 128) (d : Fin 1024) :
    iblk m c 4 t (ix2 i d) = A1 m c (ix2 (Mix.row (at_ t) i) (Mix.part 6 d)) := by
  have e : iblk m c 4 t (ix2 i d) = V m c main_arg1 (ix2 (Mix.row (at_ t) i) (Mix.part 6 d)) := by
    blk_ext [iblk, at_, Mix.row, Mix.part, idx t]
  rw [e, V_main_arg1]

theorem hw_at (c : Dev nD) (t : Fin cfg0.N) (j : Fin 128) : iblk m c 5 t (ix2 0 j) = A2 m c (ix2 0 j) := by
  have e : iblk m c 5 t (ix2 0 j) = V m c main_arg2 (ix2 0 j) := by
    blk_ext [iblk, idx t]
  rw [e, V_main_arg2]

theorem lw_at (c : Dev nD) (t : Fin cfg0.N) (j : Fin 1024) : iblk m c 6 t (ix2 0 j) = A3 m c (ix2 0 j) := by
  have e : iblk m c 6 t (ix2 0 j) = V m c main_arg3 (ix2 0 j) := by
    blk_ext [iblk, idx t]
  rw [e, V_main_arg3]

theorem lb_at (c : Dev nD) (t : Fin cfg0.N) (j : Fin 1024) : iblk m c 7 t (ix2 0 j) = A4 m c (ix2 0 j) := by
  have e : iblk m c 7 t (ix2 0 j) = V m c main_arg4 (ix2 0 j) := by
    blk_ext [iblk, idx t]
  rw [e, V_main_arg4]

theorem V_v0 (c : Dev nD) : V m c main_v0 = shapeCast S8x128x128 (A5 m c) shapeCasts_S1x8x128x128_S8x128x128 := by
  funext y
  unfold V
  simp only [hostOps0]
  entry_read
  rfl

theorem V_v2 (c : Dev nD) : V m c main_v2 = transpose S128x8 [1, 0] (shapeCast S8x128 (A6 m c) shapeCasts_S1x8x128_S8x128) transposes_S8x128_S128x8_1_0 := by
  funext y
  unfold V
  simp only [hostOps0]
  entry_read
  rfl

theorem w_at (c : Dev nD) (t : Fin cfg0.N) (k : Fin 8) (i s : Fin 128) : iblk m c 8 t (ix3 k i s) = A5 m c (ix4 0 k i s) := by
  have e : iblk m c 8 t (ix3 k i s) = V m c main_v0 (ix3 k i s) := by
    blk_ext [iblk, idx t]
  rw [e, V_v0]
  pointwise

theorem b_at (c : Dev nD) (t : Fin cfg0.N) (i : Fin 128) (k : Fin 8) : iblk m c 9 t (ix2 i k) = A6 m c (ix3 0 k i) := by
  have e : iblk m c 9 t (ix2 i k) = V m c main_v2 (ix2 i k) := by
    blk_ext [iblk, idx t]
  rw [e, V_v2]
  pointwise

/-- The result's entries in a head's columns, -/
def headE (c : Dev nD) (n : Fin 32) (i : Fin 128) (k : Fin 8) (j : Fin 128) : EReal :=
  Mix.head (fun d => A0 m c (ix2 (Mix.row n i) (Mix.col k d))) j (A2 m c (ix2 0 j)) (A1 m c (ix2 (Mix.row n i) (Mix.part 3 (Mix.col k j))))

/-- and in a group's. -/
def gateE (c : Dev nD) (n : Fin 32) (i : Fin 128) (k : Fin 8) (j : Fin 128) : EReal :=
  Mix.gate i (fun s => A5 m c (ix4 0 k i s)) (fun s => Mix.norm (fun d => A1 m c (ix2 (Mix.row n s) (Mix.part 5 d))) (Mix.col k j)
      (A3 m c (ix2 0 (Mix.col k j))) (A4 m c (ix2 0 (Mix.col k j)))) (A6 m c (ix3 0 k i))
      (A1 m c (ix2 (Mix.row n i) (Mix.part 4 (Mix.col k j)))) (A1 m c (ix2 (Mix.row n i) (Mix.part 6 (Mix.col k j))))

theorem head_blk (c : Dev nD) (t : Fin cfg0.N) (i : Fin 128) (k : Fin 8) (j : Fin 128)
    (inb : ∀ a, (![0, k.val * 128] : Fin 2 → ℕ) a + S128x128.size a ≤ S128x1024.size a) :
    k0_pay2 (View.ld (iblk m c 5 t) r0_0) (View.ld (iblk m c 0 t) (Rect.unit (s := S128x1024) ![0, k.val * 128] S128x128.size inb))
      (View.ld (iblk m c 1 t) (Rect.unit (s := S128x1024) ![0, k.val * 128] S128x128.size inb)) (ix2 i j) = headE m c (at_ t) i k j := by
  refine (head_at _ _ _ i j).trans ?_
  unfold headE
  have eo : (fun d => View.ld (iblk m c 0 t) (Rect.unit (s := S128x1024) ![0, k.val * 128] S128x128.size inb) (ix2 i d))
      = fun d => A0 m c (ix2 (Mix.row (at_ t) i) (Mix.col k d)) := funext fun d => (ldc i d _ k inb).trans (o_at m c t i _)
  have ez := (ldc i j (iblk m c 1 t) k inb).trans (z_at m c t i _)
  have eh := (congrFun (ld1 (iblk m c 5 t)) (ix2 0 j)).trans (hw_at m c t j)
  exact (congrArg (fun q => Mix.head q j _ _) eo).trans (congrArg₂ (Mix.head _ j) eh ez)

theorem gate_blk (c : Dev nD) (t : Fin cfg0.N) (i : Fin 128) (k : Fin 8) (j : Fin 128)
    (inb : ∀ a, (![0, k.val * 128] : Fin 2 → ℕ) a + S128x128.size a ≤ S128x1024.size a)
    (inw : ∀ a, (![k.val, 0, 0] : Fin 3 → ℕ) a + S1x128x128.size a ≤ S8x128x128.size a)
    (h : S128x1024.Slices ![0, k.val * 128] S128x128) (hb : S128x8.Slices ![0, k.val] S128x1) :
    gateV (extractStridedSlice S128x128 ![0, k.val * 128] (k0_pay17 (View.ld (iblk m c 3 t) r0_17) (View.ld (iblk m c 6 t) r0_18) (View.ld (iblk m c 7 t) r0_18)) h)
      (View.ld (iblk m c 8 t) (Rect.unit (s := S8x128x128) ![k.val, 0, 0] S1x128x128.size inw))
      (extractStridedSlice S128x1 ![0, k.val] (k0_pay18 (View.ld (iblk m c 9 t) r0_19)) hb)
      (View.ld (iblk m c 2 t) (Rect.unit (s := S128x1024) ![0, k.val * 128] S128x128.size inb))
      (View.ld (iblk m c 4 t) (Rect.unit (s := S128x1024) ![0, k.val * 128] S128x128.size inb)) (ix2 i j) = gateE m c (at_ t) i k j := by
  refine (gate_at _ _ i j _ _ _).trans ?_
  unfold gateE
  have ew : (fun s => View.ld (iblk m c 8 t) (Rect.unit (s := S8x128x128) ![k.val, 0, 0] S1x128x128.size inw) (ix3 0 i s))
      = fun s => A5 m c (ix4 0 k i s) := funext fun s => (ldw i s _ k inw).trans (w_at m c t k i s)
  have en : (fun s => extractStridedSlice S128x128 ![0, k.val * 128] (k0_pay17 (View.ld (iblk m c 3 t) r0_17) (View.ld (iblk m c 6 t) r0_18) (View.ld (iblk m c 7 t) r0_18)) h (ix2 s j))
      = fun s => Mix.norm (fun d => A1 m c (ix2 (Mix.row (at_ t) s) (Mix.part 5 d))) (Mix.col k j)
      (A3 m c (ix2 0 (Mix.col k j))) (A4 m c (ix2 0 (Mix.col k j))) := funext fun s => by
    refine (slc s j _ k h).trans ((norm_at s _ _ _ _).trans ?_)
    have ex : (fun d => View.ld (iblk m c 3 t) r0_17 (ix2 s d)) = fun d => A1 m c (ix2 (Mix.row (at_ t) s) (Mix.part 5 d)) :=
      funext fun d => (congrFun (ld2 (iblk m c 3 t)) (ix2 s d)).trans (x_at m c t s d)
    exact (congrArg (fun q => Mix.norm q _ _ _) ex).trans (congrArg₂ (Mix.norm _ _)
      ((congrFun (ld3 (iblk m c 6 t)) _).trans (lw_at m c t _)) ((congrFun (ld3 (iblk m c 7 t)) _).trans (lb_at m c t _)))
  have eb : extractStridedSlice S128x1 ![0, k.val] (k0_pay18 (View.ld (iblk m c 9 t) r0_19)) hb (ix2 i 0) = A6 m c (ix3 0 k i) :=
    (slb i _ k hb).trans ((congrFun (bias_at _) _).trans ((congrFun (ld4 (iblk m c 9 t)) _).trans (b_at m c t i k)))
  have eu := (ldc i j (iblk m c 2 t) k inb).trans (u_at m c t i _)
  have ez := (ldc i j (iblk m c 4 t) k inb).trans (y_at m c t i _)
  refine (congrArg (fun q => Mix.gate i q _ _ _ _) ew).trans ((congrArg (fun q => Mix.gate i _ q _ _ _) en).trans ?_)
  exact (congrArg (fun q => Mix.gate i _ _ q _ _) eb).trans (congrArg₂ (Mix.gate i _ _ _) eu ez)

/-- A piece's place in the block's columns. -/
theorem emb_at (q : ℕ) (inb : ∀ a, (![0, q] : Fin 2 → ℕ) a + S128x128.size a ≤ S128x2048.size a) (i j : Fin 128) (r : Fin 2048)
    (hr : r.val = q + j.val) : (Rect.unit (s := S128x2048) ![0, q] S128x128.size inb).emb (ix2 i j) = ix2 i r := by
  refine funext fun a => Fin.ext ?_
  match a with
  | 0 => simp
  | 1 => simp [hr]

/-- The block a point leaves is the result's at its rows. -/
theorem out10 (c : Dev nD) (G : FVec Ideal S4096x2048 .bf16)
    (hl : ∀ n i k j, G (ix2 (Mix.row n i) (Mix.left k j)) = headE m c n i k j)
    (hr : ∀ n i k j, G (ix2 (Mix.row n i) (Mix.right k j)) = gateE m c n i k j)
    (t : Fin cfg0.N) (i : Fin 128) (d : Fin 2048) :
    (dats m 0 c).after 10 t (ix2 i d) = G (ix2 (Mix.row (at_ t) i) d) := by
  have L : ∀ (k : Fin 8) (inb : ∀ a, (![0, k.val * 128] : Fin 2 → ℕ) a + S128x128.size a ≤ S128x2048.size a) (a b : Fin 128) (p : Ideal .bf16),
      p = headE m c (at_ t) a k b →
      p = (fun y : S128x2048.Idx => G (ix2 (Mix.row (at_ t) (y 0)) (y 1))) ((Rect.unit (s := S128x2048) ![0, k.val * 128] S128x128.size inb).emb (ix2 a b)) := by
    intro k inb a b p e
    rw [emb_at _ inb a b (Mix.left k b) rfl]
    exact e.trans (hl (at_ t) a k b).symm
  have R : ∀ (k : Fin 8) (inb : ∀ a, (![0, 1024 + k.val * 128] : Fin 2 → ℕ) a + S128x128.size a ≤ S128x2048.size a) (a b : Fin 128) (p : Ideal .bf16),
      p = gateE m c (at_ t) a k b →
      p = (fun y : S128x2048.Idx => G (ix2 (Mix.row (at_ t) (y 0)) (y 1))) ((Rect.unit (s := S128x2048) ![0, 1024 + k.val * 128] S128x128.size inb).emb (ix2 a b)) := by
    intro k inb a b p e
    rw [emb_at _ inb a b (Mix.right k b) (by show 1024 + (k.val * 128 + b.val) = 1024 + k.val * 128 + b.val; omega)]
    exact e.trans (hr (at_ t) a k b).symm
  rw [after0_10]
  unfold out0_10
  refine View.canon_apply_of_pieces (Val := Elt Ideal) (S := S128x2048) (e := .bf16) (fun y : S128x2048.Idx => G (ix2 (Mix.row (at_ t) (y 0)) (y 1))) _ ?_ (ix2 i d) (cover0_10 _ _ _ _ _ _ _ _ _ _ _ _ _ _ _ _ _)
  intro p hp
  simp only [List.mem_cons, List.not_mem_nil, or_false] at hp
  rcases hp with rfl | rfl | rfl | rfl | rfl | rfl | rfl | rfl | rfl | rfl | rfl | rfl | rfl | rfl | rfl | rfl
  · intro x
    obtain ⟨a, b, rfl⟩ : ∃ (a b : Fin 128), x = ix2 a b := ⟨x 0, x 1, eq_ix2 x⟩
    exact R 7 inb_S128x2048_S128x128_0_1920 a b _ (gate_blk m c t a 7 b inb_S128x1024_S128x128_0_896 inb_S8x128x128_S1x128x128_7_0_0 slices_S128x1024_o0_896_S128x128 slices_S128x8_o0_7_S128x1)
  · intro x
    obtain ⟨a, b, rfl⟩ : ∃ (a b : Fin 128), x = ix2 a b := ⟨x 0, x 1, eq_ix2 x⟩
    exact R 6 inb_S128x2048_S128x128_0_1792 a b _ (gate_blk m c t a 6 b inb_S128x1024_S128x128_0_768 inb_S8x128x128_S1x128x128_6_0_0 slices_S128x1024_o0_768_S128x128 slices_S128x8_o0_6_S128x1)
  · intro x
    obtain ⟨a, b, rfl⟩ : ∃ (a b : Fin 128), x = ix2 a b := ⟨x 0, x 1, eq_ix2 x⟩
    exact R 5 inb_S128x2048_S128x128_0_1664 a b _ (gate_blk m c t a 5 b inb_S128x1024_S128x128_0_640 inb_S8x128x128_S1x128x128_5_0_0 slices_S128x1024_o0_640_S128x128 slices_S128x8_o0_5_S128x1)
  · intro x
    obtain ⟨a, b, rfl⟩ : ∃ (a b : Fin 128), x = ix2 a b := ⟨x 0, x 1, eq_ix2 x⟩
    exact R 4 inb_S128x2048_S128x128_0_1536 a b _ (gate_blk m c t a 4 b inb_S128x1024_S128x128_0_512 inb_S8x128x128_S1x128x128_4_0_0 slices_S128x1024_o0_512_S128x128 slices_S128x8_o0_4_S128x1)
  · intro x
    obtain ⟨a, b, rfl⟩ : ∃ (a b : Fin 128), x = ix2 a b := ⟨x 0, x 1, eq_ix2 x⟩
    exact R 3 inb_S128x2048_S128x128_0_1408 a b _ (gate_blk m c t a 3 b inb_S128x1024_S128x128_0_384 inb_S8x128x128_S1x128x128_3_0_0 slices_S128x1024_o0_384_S128x128 slices_S128x8_o0_3_S128x1)
  · intro x
    obtain ⟨a, b, rfl⟩ : ∃ (a b : Fin 128), x = ix2 a b := ⟨x 0, x 1, eq_ix2 x⟩
    exact R 2 inb_S128x2048_S128x128_0_1280 a b _ (gate_blk m c t a 2 b inb_S128x1024_S128x128_0_256 inb_S8x128x128_S1x128x128_2_0_0 slices_S128x1024_o0_256_S128x128 slices_S128x8_o0_2_S128x1)
  · intro x
    obtain ⟨a, b, rfl⟩ : ∃ (a b : Fin 128), x = ix2 a b := ⟨x 0, x 1, eq_ix2 x⟩
    exact R 1 inb_S128x2048_S128x128_0_1152 a b _ (gate_blk m c t a 1 b inb_S128x1024_S128x128_0_128 inb_S8x128x128_S1x128x128_1_0_0 slices_S128x1024_o0_128_S128x128 slices_S128x8_o0_1_S128x1)
  · intro x
    obtain ⟨a, b, rfl⟩ : ∃ (a b : Fin 128), x = ix2 a b := ⟨x 0, x 1, eq_ix2 x⟩
    exact R 0 inb_S128x2048_S128x128_0_1024 a b _ (gate_blk m c t a 0 b inb_S128x1024_S128x128_0_0 inb_S8x128x128_S1x128x128_0_0_0 slices_S128x1024_o0_0_S128x128 slices_S128x8_o0_0_S128x1)
  · intro x
    obtain ⟨a, b, rfl⟩ : ∃ (a b : Fin 128), x = ix2 a b := ⟨x 0, x 1, eq_ix2 x⟩
    exact L 7 inb_S128x2048_S128x128_0_896 a b _ (head_blk m c t a 7 b inb_S128x1024_S128x128_0_896)
  · intro x
    obtain ⟨a, b, rfl⟩ : ∃ (a b : Fin 128), x = ix2 a b := ⟨x 0, x 1, eq_ix2 x⟩
    exact L 6 inb_S128x2048_S128x128_0_768 a b _ (head_blk m c t a 6 b inb_S128x1024_S128x128_0_768)
  · intro x
    obtain ⟨a, b, rfl⟩ : ∃ (a b : Fin 128), x = ix2 a b := ⟨x 0, x 1, eq_ix2 x⟩
    exact L 5 inb_S128x2048_S128x128_0_640 a b _ (head_blk m c t a 5 b inb_S128x1024_S128x128_0_640)
  · intro x
    obtain ⟨a, b, rfl⟩ : ∃ (a b : Fin 128), x = ix2 a b := ⟨x 0, x 1, eq_ix2 x⟩
    exact L 4 inb_S128x2048_S128x128_0_512 a b _ (head_blk m c t a 4 b inb_S128x1024_S128x128_0_512)
  · intro x
    obtain ⟨a, b, rfl⟩ : ∃ (a b : Fin 128), x = ix2 a b := ⟨x 0, x 1, eq_ix2 x⟩
    exact L 3 inb_S128x2048_S128x128_0_384 a b _ (head_blk m c t a 3 b inb_S128x1024_S128x128_0_384)
  · intro x
    obtain ⟨a, b, rfl⟩ : ∃ (a b : Fin 128), x = ix2 a b := ⟨x 0, x 1, eq_ix2 x⟩
    exact L 2 inb_S128x2048_S128x128_0_256 a b _ (head_blk m c t a 2 b inb_S128x1024_S128x128_0_256)
  · intro x
    obtain ⟨a, b, rfl⟩ : ∃ (a b : Fin 128), x = ix2 a b := ⟨x 0, x 1, eq_ix2 x⟩
    exact L 1 inb_S128x2048_S128x128_0_128 a b _ (head_blk m c t a 1 b inb_S128x1024_S128x128_0_128)
  · intro x
    obtain ⟨a, b, rfl⟩ : ∃ (a b : Fin 128), x = ix2 a b := ⟨x 0, x 1, eq_ix2 x⟩
    exact L 0 inb_S128x2048_S128x128_0_0 a b _ (head_blk m c t a 0 b inb_S128x1024_S128x128_0_0)

theorem final (c : Dev nD) (G : FVec Ideal S4096x2048 .bf16)
    (hl : ∀ n i k j, G (ix2 (Mix.row n i) (Mix.left k j)) = headE m c n i k j)
    (hr : ∀ n i k j, G (ix2 (Mix.row n i) (Mix.right k j)) = gateE m c n i k j) : (dats m 0 c).arrAt 10 cfg0.N = G := by
  refine (dats m 0 c).arrAt_eq_of_covers 10 _ (by decide +kernel) fun t hf y => ?_
  obtain ⟨i, j, rfl⟩ : ∃ (i : Fin 128) (j : Fin 2048), y = ix2 i j := ⟨y 0, y 1, eq_ix2 y⟩
  blk_simp
  refine (out10 m c G hl hr t i j).trans ?_
  refine congrArg G (funext fun a => Fin.ext ?_)
  match a with
  | 0 => blk_simp [at_, Mix.row, idx t]
  | 1 => blk_simp [idx t]

end MixVal

end
-- ==== Proof.MixRef.lean ====
module

public import proofs.«01_k».proof.Defs
public import proofs.«01_k».proof.Proof.Mix
public import proofs.«01_k».proof.Proof.Gen.Reference9Ideal.Run
public import Idealize.ShloMosaic.Lib.Pointwise
public import Idealize.ShloMosaic.Lib.Pipeline.Value
public import Idealize.ShloMosaic.Lib.Claim

/-!
The reference of the mixers' forward call, entry by entry.
-/

@[expose] public section

set_option maxRecDepth 16384

noncomputable section

namespace MixRef

open Idealize.ShloMosaic Idealize.ShloMosaic.TcCoe Idealize.SL.Sem
open Cert.Reference9Ideal Cert.Reference9Ideal.Gen Cert.Reference9Ideal.Value

variable (O Z U X Y : FVec Ideal S4096x1024 .f32) (P : FVec Ideal S4096x7168 .f32) (hw : FVec Ideal S1x128 .f32) (lw lb : FVec Ideal S1x1024 .f32)
  (w : FVec Ideal S1x8x128x128 .f32) (b : FVec Ideal S1x8x128 .f32)

/-- The projection's four parts: the first mixer's gate, -/
def zV : FVec Ideal S4096x1024 .f32 :=
  extractStridedSlice S4096x1024 ![0, 0] (extractStridedSlice S4096x4096 ![0, 3072] P slices_S4096x7168_S4096x4096_0_3072) slices_S4096x4096_S4096x1024_0_0
/-- the second's factor, -/
def uV : FVec Ideal S4096x1024 .f32 :=
  extractStridedSlice S4096x1024 ![0, 1024] (extractStridedSlice S4096x4096 ![0, 3072] P slices_S4096x7168_S4096x4096_0_3072) slices_S4096x4096_S4096x1024_0_1024
/-- what it mixes, -/
def xV : FVec Ideal S4096x1024 .f32 :=
  extractStridedSlice S4096x1024 ![0, 2048] (extractStridedSlice S4096x4096 ![0, 3072] P slices_S4096x7168_S4096x4096_0_3072) slices_S4096x4096_S4096x1024_0_2048
/-- and its gate. -/
def yV : FVec Ideal S4096x1024 .f32 :=
  extractStridedSlice S4096x1024 ![0, 3072] (extractStridedSlice S4096x4096 ![0, 3072] P slices_S4096x7168_S4096x4096_0_3072) slices_S4096x4096_S4096x1024_0_3072

/-- The heads' rows, normalised and gated, of the rows and gates cut by heads. -/
def headV (o z : FVec Ideal S4096x8x128 .f32) : FVec Ideal S4096x8x128 .f32 :=
  mulf (mulf (mulf o (broadcastInDim S4096x8x128 ![0, 1, 2] bcast_S4096x8x1_S4096x8x128_0_1_2 (Host.rsqrt (addf (Host.divf (broadcastInDim S4096x8x1 ![0, 1] bcast_S4096x8_S4096x8x1_0_1 (Host.reduceAdd (mulf o o) (constant S_ .f32 0x00000000#32) reducesTo_S4096x8x128_S4096x8_d2 h_S_)) (broadcastInDim S4096x8x1 ![] bcast_S_S4096x8x1 (constant S_ .f32 0x43000000#32))) (broadcastInDim S4096x8x1 ![] bcast_S_S4096x8x1 (constant S_ .f32 0x358637BD#32)))))) (broadcastInDim S4096x8x128 ![0, 1, 2] bcast_S1x1x128_S4096x8x128_0_1_2 (broadcastInDim S1x1x128 ![2] bcast_S128_S1x1x128_2 (shapeCast _ hw shapeCasts_S1x128_S128)))) (mulf z (Host.divf (broadcastInDim S4096x8x128 ![] bcast_S_S4096x8x128 (constant S_ .f32 0x3F800000#32)) (addf (broadcastInDim S4096x8x128 ![] bcast_S_S4096x8x128 (constant S_ .f32 0x3F800000#32)) (Host.exp (Host.negf z)))))

/-- The layer norm. -/
def meanV : FVec Ideal S4096x1 .f32 :=
  Host.divf (broadcastInDim S4096x1 ![0] bcast_S4096_S4096x1_0 (Host.reduceAdd X (constant S_ .f32 0x00000000#32) reducesTo_S4096x1024_S4096_d1 h_S_)) (broadcastInDim S4096x1 ![] bcast_S_S4096x1 (constant S_ .f32 0x44800000#32))

def centV : FVec Ideal S4096x1024 .f32 := subf X (broadcastInDim S4096x1024 ![0, 1] bcast_S4096x1_S4096x1024_0_1 (meanV X))

def normV : FVec Ideal S4096x1024 .f32 :=
  addf (mulf (mulf (centV X) (broadcastInDim S4096x1024 ![0, 1] bcast_S4096x1_S4096x1024_0_1 (Host.rsqrt (addf (meanV (mulf (centV X) (centV X))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (shapeCast _ lw shapeCasts_S1x1024_S1024)))) (broadcastInDim S4096x1024 ![0, 1] bcast_S1x1024_S4096x1024_0_1 (broadcastInDim S1x1024 ![1] bcast_S1024_S1x1024_1 (shapeCast _ lb shapeCasts_S1x1024_S1024)))

/-- The rows of each chunk mixed, of the normalised rows cut by chunks and groups. -/
def mixV (v : FVec Ideal S32x128x8x128 .f32) : FVec Ideal S32x128x8x128 .f32 :=
  addf (transpose S32x128x8x128 [1, 3, 0, 2] (Host.dotGeneral dot_S32x128x8x128_S8x128x128_S8x32x128x128_1_2_03_1_2_0 none v (select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (shapeCast _ w shapeCasts_S1x8x128x128_S8x128x128) (broadcastInDim S8x128x128 ![] bcast_S_S8x128x128 (id (constant S_ .f32 0x00000000#32))))) transposes_S8x32x128x128_S32x128x8x128_1_3_0_2) (broadcastInDim S32x128x8x128 ![0, 1, 2, 3] bcast_S1x128x8x1_S32x128x8x128_0_1_2_3 (broadcastInDim S1x128x8x1 ![1, 2] bcast_S128x8_S1x128x8x1_1_2 (transpose S128x8 [1, 0] (shapeCast _ b shapeCasts_S1x8x128_S8x128) transposes_S8x128_S128x8_1_0)))

/-- The second mixer's rows. -/
def gateV (s : FVec Ideal S4096x1024 .f32) : FVec Ideal S4096x1024 .f32 :=
  mulf (mulf U s) (mulf Y (Host.divf (broadcastInDim S4096x1024 ![] bcast_S_S4096x1024 (constant S_ .f32 0x3F800000#32)) (addf (broadcastInDim S4096x1024 ![] bcast_S_S4096x1024 (constant S_ .f32 0x3F800000#32)) (Host.exp (Host.negf Y)))))

/-- The two side by side. -/
def outV : FVec Ideal S4096x2048 .bf16 :=
  truncf .bf16 (concatenate S4096x2048 1 [⟨S4096x1024, (shapeCast _ (headV hw (shapeCast _ O shapeCasts_S4096x1024_S4096x8x128) (shapeCast _ (zV P) shapeCasts_S4096x1024_S4096x8x128)) shapeCasts_S4096x8x128_S4096x1024)⟩,
    ⟨S4096x1024, gateV (uV P) (yV P) (shapeCast _ (mixV w b (shapeCast _ (normV (xV P) lw lb) shapeCasts_S4096x1024_S32x128x8x128)) shapeCasts_S32x128x8x128_S4096x1024)⟩]
    concatenates_S4096x1024_S4096x1024_S4096x2048_d1) bitsLt_bf16_f32

theorem result (m : (ℓ : Loc nD τ sig) → Buf (Elt Ideal) ℓ) (c : Dev nD) :
    res_main_v68 m c = outV (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := rfl

theorem headV_at (o z : FVec Ideal S4096x8x128 .f32) (r : Fin 4096) (k : Fin 8) (j : Fin 128) :
    headV hw o z (ix3 r k j) = Mix.head (fun d => o (ix3 r k d)) j (hw (ix2 0 j)) (z (ix3 r k j)) := by
  unfold headV Mix.head Mix.silu
  pointwise

theorem meanV_at (r : Fin 4096) : meanV X (ix2 r 0) = Mix.mean fun c => X (ix2 r c) := by
  unfold meanV Mix.mean
  pointwise

theorem centV_at (r : Fin 4096) (c : Fin 1024) : centV X (ix2 r c) = X (ix2 r c) - Mix.mean fun c => X (ix2 r c) := by
  rw [← meanV_at]
  unfold centV
  generalize meanV X = q
  pointwise

theorem normV_at (r : Fin 4096) (c : Fin 1024) :
    normV X lw lb (ix2 r c) = Mix.norm (fun c => X (ix2 r c)) c (lw (ix2 0 c)) (lb (ix2 0 c)) := by
  unfold Mix.norm
  simp only [← centV_at]
  have e : Mix.mean (fun d => centV X (ix2 r d) * centV X (ix2 r d)) = meanV (mulf (centV X) (centV X)) (ix2 r 0) := by
    rw [meanV_at]
    rfl
  rw [e]
  unfold normV
  generalize meanV (mulf (centV X) (centV X)) = q
  generalize centV X = p
  pointwise

theorem mixV_at (v : FVec Ideal S32x128x8x128 .f32) (n : Fin 32) (i : Fin 128) (k : Fin 8) (j : Fin 128) :
    mixV w b v (ix4 n i k j) = ∑ s, Scalar.select (Mix.sees i s) (w (ix4 0 k i s) * v (ix4 n s k j)) 0 + b (ix3 0 k i) := by
  have e : ∀ s, v (ix4 n s k j) * Scalar.select (Scalar.select (IntOp.cmpi CmpIPredicate.sge (IntOp.addi (BitVec.ofNat 32 i.val) 0#32)
      (BitVec.ofNat 32 s.val)) 1#1 0#1) (w (ix4 0 k i s)) (id (constant (F := Ideal) S_ .f32 0#32) ix0)
      = Scalar.select (Mix.sees i s) (w (ix4 0 k i s) * v (ix4 n s k j)) 0 := by
    intro s
    have ez : id (constant (F := Ideal) S_ .f32 0#32) ix0 = (0 : EReal) := by
      show constant (F := Ideal) S_ .f32 0#32 ix0 = (0 : EReal)
      pointwise
    have ea : IntOp.addi (BitVec.ofNat 32 i.val) 0#32 = BitVec.ofNat 32 i.val := BitVec.add_zero _
    rw [ez, ea]
    show _ * Scalar.select (Scalar.select (Mix.sees i s) 1#1 0#1) _ _ = _
    generalize Mix.sees i s = q
    unfold Scalar.select
    by_cases h : q = 1#1
    · simp [h, mul_comm]
    · simp [h]
  refine Eq.trans ?_ (congrArg (· + _) (Finset.sum_congr rfl fun s _ => e s))
  unfold mixV
  pointwise

theorem gateV_at (s : FVec Ideal S4096x1024 .f32) (r : Fin 4096) (c : Fin 1024) :
    gateV U Y s (ix2 r c) = U (ix2 r c) * s (ix2 r c) * Mix.silu (Y (ix2 r c)) := by
  unfold gateV Mix.silu
  pointwise

theorem zV_at (r : Fin 4096) (c : Fin 1024) : zV P (ix2 r c) = P (ix2 r (Mix.part 3 c)) := by
  unfold zV Mix.part
  pointwise

theorem uV_at (r : Fin 4096) (c : Fin 1024) : uV P (ix2 r c) = P (ix2 r (Mix.part 4 c)) := by
  unfold uV
  pointwise
  exact congrArg (fun q => P (ix2 r q)) (Fin.ext (by show 3072 + (1024 + c.val) = 4 * 1024 + c.val; omega))

theorem xV_at (r : Fin 4096) (c : Fin 1024) : xV P (ix2 r c) = P (ix2 r (Mix.part 5 c)) := by
  unfold xV
  pointwise
  exact congrArg (fun q => P (ix2 r q)) (Fin.ext (by show 3072 + (2048 + c.val) = 5 * 1024 + c.val; omega))

theorem yV_at (r : Fin 4096) (c : Fin 1024) : yV P (ix2 r c) = P (ix2 r (Mix.part 6 c)) := by
  unfold yV
  pointwise
  exact congrArg (fun q => P (ix2 r q)) (Fin.ext (by show 3072 + (3072 + c.val) = 6 * 1024 + c.val; omega))

theorem byHeads (x : FVec Ideal S4096x1024 .f32) (r : Fin 4096) (k : Fin 8) (j : Fin 128) :
    shapeCast S4096x8x128 x shapeCasts_S4096x1024_S4096x8x128 (ix3 r k j) = x (ix2 r (Mix.col k j)) := by
  refine shapeCast_apply x _ _ _ ?_
  rw [Shape.rowMajor_val_three, Shape.rowMajor_val_two]
  show r.val * 1024 + (k.val * 128 + j.val) = (r.val * 8 + k.val) * 128 + j.val
  omega

theorem ofHeads (x : FVec Ideal S4096x8x128 .f32) (r : Fin 4096) (k : Fin 8) (j : Fin 128) :
    shapeCast S4096x1024 x shapeCasts_S4096x8x128_S4096x1024 (ix2 r (Mix.col k j)) = x (ix3 r k j) := by
  refine shapeCast_apply x _ _ _ ?_
  rw [Shape.rowMajor_val_three, Shape.rowMajor_val_two]
  show (r.val * 8 + k.val) * 128 + j.val = r.val * 1024 + (k.val * 128 + j.val)
  omega

theorem byChunks (x : FVec Ideal S4096x1024 .f32) (n : Fin 32) (i : Fin 128) (k : Fin 8) (j : Fin 128) :
    shapeCast S32x128x8x128 x shapeCasts_S4096x1024_S32x128x8x128 (ix4 n i k j) = x (ix2 (Mix.row n i) (Mix.col k j)) := by
  refine shapeCast_apply x _ _ _ ?_
  rw [Shape.rowMajor_val_four, Shape.rowMajor_val_two]
  show (n.val * 128 + i.val) * 1024 + (k.val * 128 + j.val) = ((n.val * 128 + i.val) * 8 + k.val) * 128 + j.val
  omega

theorem ofChunks (x : FVec Ideal S32x128x8x128 .f32) (n : Fin 32) (i : Fin 128) (k : Fin 8) (j : Fin 128) :
    shapeCast S4096x1024 x shapeCasts_S32x128x8x128_S4096x1024 (ix2 (Mix.row n i) (Mix.col k j)) = x (ix4 n i k j) := by
  refine shapeCast_apply x _ _ _ ?_
  rw [Shape.rowMajor_val_four, Shape.rowMajor_val_two]
  show ((n.val * 128 + i.val) * 8 + k.val) * 128 + j.val = (n.val * 128 + i.val) * 1024 + (k.val * 128 + j.val)
  omega

/-- The left half of the result, -/
theorem left (n : Fin 32) (i : Fin 128) (k : Fin 8) (j : Fin 128) :
    outV O P hw lw lb w b (ix2 (Mix.row n i) (Mix.left k j))
      = Mix.head (fun d => O (ix2 (Mix.row n i) (Mix.col k d))) j (hw (ix2 0 j)) (P (ix2 (Mix.row n i) (Mix.part 3 (Mix.col k j)))) := by
  have e : outV O P hw lw lb w b (ix2 (Mix.row n i) (Mix.left k j))
      = shapeCast S4096x1024 (headV hw (shapeCast _ O shapeCasts_S4096x1024_S4096x8x128) (shapeCast _ (zV P) shapeCasts_S4096x1024_S4096x8x128)) shapeCasts_S4096x8x128_S4096x1024 (ix2 (Mix.row n i) (Mix.col k j)) := by
    unfold outV
    generalize shapeCast S4096x1024 (headV hw (shapeCast _ O shapeCasts_S4096x1024_S4096x8x128) (shapeCast _ (zV P) shapeCasts_S4096x1024_S4096x8x128)) shapeCasts_S4096x8x128_S4096x1024 = p
    generalize gateV _ _ _ = q
    pointwise
    rw [dif_pos (show (Mix.left k j).val < 1024 by show k.val * 128 + j.val < 1024; omega)]
    rfl
  rw [e, ofHeads, headV_at]
  simp only [byHeads, zV_at]

/-- and the right half. -/
theorem right (n : Fin 32) (i : Fin 128) (k : Fin 8) (j : Fin 128) :
    outV O P hw lw lb w b (ix2 (Mix.row n i) (Mix.right k j))
      = Mix.gate i (fun s => w (ix4 0 k i s)) (fun s => Mix.norm (fun c => P (ix2 (Mix.row n s) (Mix.part 5 c))) (Mix.col k j)
          (lw (ix2 0 (Mix.col k j))) (lb (ix2 0 (Mix.col k j)))) (b (ix3 0 k i))
          (P (ix2 (Mix.row n i) (Mix.part 4 (Mix.col k j)))) (P (ix2 (Mix.row n i) (Mix.part 6 (Mix.col k j)))) := by
  have e : outV O P hw lw lb w b (ix2 (Mix.row n i) (Mix.right k j))
      = gateV (uV P) (yV P) (shapeCast _ (mixV w b (shapeCast _ (normV (xV P) lw lb) shapeCasts_S4096x1024_S32x128x8x128)) shapeCasts_S32x128x8x128_S4096x1024) (ix2 (Mix.row n i) (Mix.col k j)) := by
    unfold outV
    generalize shapeCast S4096x1024 (headV hw (shapeCast _ O shapeCasts_S4096x1024_S4096x8x128) (shapeCast _ (zV P) shapeCasts_S4096x1024_S4096x8x128)) shapeCasts_S4096x8x128_S4096x1024 = p
    generalize gateV _ _ _ = q
    pointwise
    rw [dif_neg (show ¬ (Mix.right k j).val < 1024 by show ¬ 1024 + (k.val * 128 + j.val) < 1024; omega)]
    exact congrArg (fun c => q (ix2 (Mix.row n i) c)) (Fin.ext (by show 1024 + (k.val * 128 + j.val) - 1024 = k.val * 128 + j.val; omega))
  rw [e, gateV_at, ofChunks, mixV_at]
  simp only [byChunks, normV_at, xV_at, uV_at, yV_at]
  rfl

end MixRef

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Finite
public import proofs.«01_k».proof.Proof.Ref
public import proofs.«01_k».proof.Proof.Grid
public import proofs.«01_k».proof.Proof.GradW
public import proofs.«01_k».proof.Proof.Head
public import proofs.«01_k».proof.Proof.HeadRef
public import proofs.«01_k».proof.Proof.Dx4
public import proofs.«01_k».proof.Proof.DxRef4
public import proofs.«01_k».proof.Proof.Dx5
public import proofs.«01_k».proof.Proof.InProj
public import proofs.«01_k».proof.Proof.InProjVal
public import proofs.«01_k».proof.Proof.InProjRef
public import proofs.«01_k».proof.Proof.DxRef5
public import proofs.«01_k».proof.Proof.Adam7
public import proofs.«01_k».proof.Proof.AdamRef7
public import proofs.«01_k».proof.Proof.Adam8
public import proofs.«01_k».proof.Proof.AdamRef8
public import proofs.«01_k».proof.Proof.MixVal
public import proofs.«01_k».proof.Proof.MixRef
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem
open DeltaRule

/-- The kernel's arguments on a device as real numbers. -/
def dataOf (m : (ℓ : Loc Cert.KernelIdeal.nD Cert.KernelIdeal.τ Cert.KernelIdeal.sig) → Buf (Elt Ideal) ℓ) (c : Dev Cert.KernelIdeal.nD) : Data :=
  Finite.data (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))

theorem host_args (m : (ℓ : Loc Cert.KernelIdeal.nD Cert.KernelIdeal.τ Cert.KernelIdeal.sig) → Buf (Elt Ideal) ℓ)
    (hpre : Cert.Pre_KernelIdeal_finite_inputs (hPre_finite_inputs := Finite.facts) m) (c : Dev Cert.KernelIdeal.nD) : Host.Args m c (dataOf m c) := by
  haveI : Cert.Pre_finite_inputs.Facts := Finite.facts
  have F := Finite.all_args _ _ _ _ _ _ _ _ _ (hpre c)
  exact {
    q := fun i j => F.1 _
    k := fun i j => F.2.1 _
    v := fun i j => F.2.2.1 _
    b := fun i j => F.2.2.2.1 _
    a := fun i j => F.2.2.2.2.1 _
    al := fun i => F.2.2.2.2.2.1 _
    dt := fun i => F.2.2.2.2.2.2.1 _
    S := fun n h i j => F.2.2.2.2.2.2.2.1 _
    o := fun i j => F.2.2.2.2.2.2.2.2 _ }

/-- Two arrays of token rows and lanes that hold the same real numbers are equal. -/
theorem ext_tok {X Y : FVec Ideal ⟨2, ![4096, 1024]⟩ .f32} {f : Fin 64 → Fin 8 → Fin 64 → Fin 128 → ℝ}
    (hX : ∀ n h i d, X (ix2 (tok n i) (lane h d)) = ((f n h i d : ℝ) : EReal))
    (hY : ∀ n h i d, Y (ix2 (tok n i) (lane h d)) = ((f n h i d : ℝ) : EReal)) : X = Y := by
  funext p
  obtain ⟨n, i, hr⟩ := exists_tok (p 0)
  obtain ⟨h, d, hl⟩ := exists_lane (p 1)
  have e : p = ix2 (tok n i) (lane h d) := by
    funext a
    match a with
    | ⟨0, _⟩ => exact hr
    | ⟨1, _⟩ => exact hl
  rw [e, hX, hY]

theorem algebraic : Cert.algebraic_KernelIdeal_ReferenceIdeal_pre_finite_inputs (hKernelIdeal := Cert.KernelIdeal.Gen.facts)
    (hReferenceIdeal := Cert.ReferenceIdeal.Gen.facts) (hPre_finite_inputs := Finite.facts) := by
  intro m g m' g' hpre hag
  have HK : ∀ c, Host.Args m c (dataOf m c) := host_args m hpre
  have HR : ∀ c : Dev Cert.ReferenceIdeal.nD, Ref.Args m' c (dataOf m c) := fun c => by
    haveI : Cert.Pre_finite_inputs.Facts := Finite.facts
    have F := Finite.all_args _ _ _ _ _ _ _ _ _ (hpre c)
    have A := hag c
    exact {
    q := fun i j => (congrFun A.1 _).trans (F.1 _)
    k := fun i j => (congrFun A.2.1 _).trans (F.2.1 _)
    v := fun i j => (congrFun A.2.2.1 _).trans (F.2.2.1 _)
    b := fun i j => (congrFun A.2.2.2.1 _).trans (F.2.2.2.1 _)
    a := fun i j => (congrFun A.2.2.2.2.1 _).trans (F.2.2.2.2.1 _)
    al := fun i => (congrFun A.2.2.2.2.2.1 _).trans (F.2.2.2.2.2.1 _)
    dt := fun i => (congrFun A.2.2.2.2.2.2.1 _).trans (F.2.2.2.2.2.2.1 _)
    S := fun n h i j => (congrFun A.2.2.2.2.2.2.2.1 _).trans (F.2.2.2.2.2.2.2.1 _)
    o := fun i j => (congrFun A.2.2.2.2.2.2.2.2 _).trans (F.2.2.2.2.2.2.2.2 _) }
  refine ⟨fun c => (Cert.KernelIdeal.Gen.dats m 0 c).arrAt 12 Cert.KernelIdeal.cfg0.N, fun c => (Cert.KernelIdeal.Gen.dats m 0 c).arrAt 13 Cert.KernelIdeal.cfg0.N,
    fun c => (Cert.KernelIdeal.Gen.dats m 0 c).arrAt 14 Cert.KernelIdeal.cfg0.N, ?_, ?_⟩
  · exact (θ_run _ _ _).mono (fun _ h c => ⟨(h c).1, (h c).2.1, (h c).2.2.1, (h c).2.2.2.2.2⟩) (Cert.KernelIdeal.Value.run_blocks (F := Ideal) m g)
  · have e0 := fun c : Dev Cert.ReferenceIdeal.nD => ext_tok (Ref.out_dq (HR c)) (Ker.end_dq (HK c))
    have e1 := fun c : Dev Cert.ReferenceIdeal.nD => ext_tok (Ref.out_dk (HR c)) (Ker.end_dk (HK c))
    have e2 := fun c : Dev Cert.ReferenceIdeal.nD => ext_tok (Ref.out_dv (HR c)) (Ker.end_dv (HK c))
    refine (θ_run _ _ _).mono ?_ (Cert.ReferenceIdeal.Value.run (F := Ideal) m' g')
    intro r h c
    obtain ⟨h0, h1, h2, h3⟩ := h c
    exact ⟨h0.trans (e0 c), h1.trans (e1 c), h2.trans (e2 c), h3⟩

theorem frame_r (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0) :=
  (θ_run _ _ _).mono (fun r h => ⟨fun c => (h c).2.2.2, sem_eq_zero_of_no_sems (by decide) r.2⟩) (Cert.ReferenceIdeal.Value.run (F := Ideal) m g)

/-! ## The head -/

section Head

open Cert.Reference2Ideal.Value

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ)
  (c : Dev Cert.Kernel2Ideal.nD)
  (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
  (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
  (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
  (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
  (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))

include h0 h1 h2 in
theorem hid_eq (i : Fin 4096) : HeadRef.rowOf (HeadRef.hid m' c) i = Head.hr (Head.A0 m c) (Head.A1 m c) (Head.A2 m c) i := by
  funext j
  unfold HeadRef.rowOf HeadRef.hid
  rw [h0, h1, h2]
  exact HeadRef.hid_at _ _ _ i j

include h0 h1 h2 h3 h4 in
theorem grad_eq (i : Fin 4096) (j : Fin 2048) : HeadRef.gradV m' c (ix2 i j) = Head.gradRow m c i j := by
  refine (HeadRef.grad_at m' c i j).trans ?_
  rw [hid_eq m m' c h0 h1 h2, h3, h4]
  rfl

include h0 h1 h2 h3 h4 in
theorem head_dh : (Cert.Kernel2Ideal.Gen.dats m 0 c).arrAt 5 Cert.Kernel2Ideal.cfg0.N = res_main_v52 m' c :=
  Head.final5 m c _ fun y => by
    obtain ⟨i, j, rfl⟩ : ∃ (i : Fin 4096) (j : Fin 2048), y = ix2 i j := ⟨y 0, y 1, eq_ix2 y⟩
    exact grad_eq m m' c h0 h1 h2 h3 h4 i j

include h0 h1 h2 h3 h4 in
theorem head_dhb : (Cert.Kernel2Ideal.Gen.dats m 0 c).arrAt 6 Cert.Kernel2Ideal.cfg0.N = res_main_v54 m' c :=
  Head.final6 m c _ fun y => by
    obtain ⟨i, j, rfl⟩ : ∃ (i : Fin 4096) (j : Fin 2048), y = ix2 i j := ⟨y 0, y 1, eq_ix2 y⟩
    exact (HeadRef.grad16_at m' c i j).trans (grad_eq m m' c h0 h1 h2 h3 h4 i j)

include h0 h1 h2 h3 h4 in
theorem head_ocat : (Cert.Kernel2Ideal.Gen.dats m 0 c).arrAt 7 Cert.Kernel2Ideal.cfg0.N = res_main_v53 m' c :=
  Head.final7 m c _ fun y => by
    obtain ⟨i, k, rfl⟩ : ∃ (i : Fin 4096) (k : Fin 2048), y = ix2 i k := ⟨y 0, y 1, eq_ix2 y⟩
    have e : ∑ j : Fin 2048, HeadRef.gradV m' c (ix2 i j) * HeadRef.wV m' c (ix2 k j) = ∑ j : Fin 2048, Head.gradRow m c i j * Head.A1 m c (ix2 k j) :=
      Finset.sum_congr rfl fun j _ => congrArg₂ (· * ·) (grad_eq m m' c h0 h1 h2 h3 h4 i j) (congrFun h1 _)
    exact (HeadRef.ocat_at m' c i k).trans e

include h0 h1 h2 h3 h4 in
theorem head_loss : (Cert.Kernel2Ideal.Gen.dats m 0 c).arrAt 8 Cert.Kernel2Ideal.cfg0.N
    = HeadRef.lossV (HeadRef.hid m' c) (m' ((c.tc : Thread Cert.Reference2Ideal.nD Cert.Reference2Ideal.τ).loc Cert.Reference2Ideal.main_arg4))
        (m' ((c.tc : Thread Cert.Reference2Ideal.nD Cert.Reference2Ideal.τ).loc Cert.Reference2Ideal.main_arg3)) :=
  Head.final8 m c _ fun y => by
    refine (HeadRef.loss_at _ _ _ y).trans (Finset.sum_congr rfl fun r _ => ?_)
    rw [hid_eq m m' c h0 h1 h2, h3, h4]
    rfl

include h0 h1 h2 h3 h4 in
theorem head_gw : (Cert.Kernel2Ideal.Gen.dats m 0 c).arrAt 9 Cert.Kernel2Ideal.cfg0.N
    = HeadRef.gwV (HeadRef.hid m' c) (m' ((c.tc : Thread Cert.Reference2Ideal.nD Cert.Reference2Ideal.τ).loc Cert.Reference2Ideal.main_arg4))
        (m' ((c.tc : Thread Cert.Reference2Ideal.nD Cert.Reference2Ideal.τ).loc Cert.Reference2Ideal.main_arg3)) :=
  Head.final9 m c _ fun y => by
    obtain ⟨i, j, rfl⟩ : ∃ (i : Fin 8) (j : Fin 2048), y = ix2 i j := ⟨y 0, y 1, eq_ix2 y⟩
    refine (HeadRef.gw_at _ _ _ i j).trans ?_
    simp only [hid_eq m m' c h0 h1 h2]
    rw [h3, h4]
    rfl

end Head

theorem algebraic2 : Cert.algebraic_Kernel2Ideal_Reference2Ideal (hKernel2Ideal := Cert.Kernel2Ideal.Gen.facts)
    (hReference2Ideal := Cert.Reference2Ideal.Gen.facts) := by
  intro m g m' g' hpre hag
  refine ⟨fun c => (Cert.Kernel2Ideal.Gen.dats m 0 c).arrAt 5 Cert.Kernel2Ideal.cfg0.N, fun c => (Cert.Kernel2Ideal.Gen.dats m 0 c).arrAt 6 Cert.Kernel2Ideal.cfg0.N,
    fun c => (Cert.Kernel2Ideal.Gen.dats m 0 c).arrAt 7 Cert.Kernel2Ideal.cfg0.N, fun c => (Cert.Kernel2Ideal.Gen.dats m 0 c).arrAt 8 Cert.Kernel2Ideal.cfg0.N,
    fun c => (Cert.Kernel2Ideal.Gen.dats m 0 c).arrAt 9 Cert.Kernel2Ideal.cfg0.N, Cert.Kernel2Ideal.Value.run_blocks (F := Ideal) m g, ?_⟩
  refine (θ_run _ _ _).mono ?_ (Cert.Reference2Ideal.Value.run (F := Ideal) m' g')
  intro r h c
  obtain ⟨e0, e1, e2, e3, e4, h'⟩ := h c
  obtain ⟨h0, h1, h2, h3, h4⟩ := hag c
  exact ⟨e0.trans (head_dh m m' c h0 h1 h2 h3 h4).symm, e1.trans (head_dhb m m' c h0 h1 h2 h3 h4).symm,
    e2.trans (head_ocat m m' c h0 h1 h2 h3 h4).symm, e3.trans (head_loss m m' c h0 h1 h2 h3 h4).symm,
    e4.trans (head_gw m m' c h0 h1 h2 h3 h4).symm, h'⟩

/-! ## The gradient of the output projection's weights -/

theorem algebraic3 : Cert.algebraic_Kernel3Ideal_Reference3Ideal (hKernel3Ideal := Cert.Kernel3Ideal.Gen.facts)
    (hReference3Ideal := Cert.Reference3Ideal.Gen.facts) := by
  intro m g m' g' hpre hag
  refine ⟨fun c => (Cert.Kernel3Ideal.Gen.dats m 0 c).arrAt 2 Cert.Kernel3Ideal.cfg0.N, Cert.Kernel3Ideal.Value.run_blocks (F := Ideal) m g, ?_⟩
  refine (θ_run _ _ _).mono ?_ (Cert.Reference3Ideal.Value.run (F := Ideal) m' g')
  intro r h c
  obtain ⟨e0, h'⟩ := h c
  obtain ⟨h0, h1⟩ := hag c
  refine ⟨e0.trans (GradW.final m c _ fun j => ?_).symm, h'⟩
  rw [h0, h1]
  exact GradW.reference _ _ j

/-! ## The gradient of the layer's input, first half of the rows -/

theorem algebraic4 : Cert.algebraic_Kernel4Ideal_Reference4Ideal (hKernel4Ideal := Cert.Kernel4Ideal.Gen.facts)
    (hReference4Ideal := Cert.Reference4Ideal.Gen.facts) := by
  intro m g m' g' hpre hag
  refine ⟨fun c => (Cert.Kernel4Ideal.Gen.dats m 0 c).arrAt 7 Cert.Kernel4Ideal.cfg0.N, fun c => (Cert.Kernel4Ideal.Gen.dats m 0 c).arrAt 8 Cert.Kernel4Ideal.cfg0.N,
    Cert.Kernel4Ideal.Value.run_blocks (F := Ideal) m g, ?_⟩
  refine (θ_run _ _ _).mono ?_ (Cert.Reference4Ideal.Value.run (F := Ideal) m' g')
  intro r h c
  obtain ⟨e0, e1, h'⟩ := h c
  obtain ⟨h0, h1, h2, h3, h4⟩ := hag c
  refine ⟨e0.trans (Dx4.final_gx m c _ fun y => ?_).symm, e1.trans (Dx4.final_gnw m c _ fun y => ?_).symm, h'⟩
  · obtain ⟨i, j, rfl⟩ : ∃ (i : Fin 2048) (j : Fin 2048), y = ix2 i j := ⟨y 0, y 1, eq_ix2 y⟩
    refine (DxRef4.gx_at m' c i j).trans ?_
    unfold DxRef4.A0 DxRef4.A1 DxRef4.A2 DxRef4.A3 DxRef4.A4
    rw [h0, h1, h2, h3, h4]
    rfl
  · obtain ⟨i, j, rfl⟩ : ∃ (i : Fin 8) (j : Fin 2048), y = ix2 i j := ⟨y 0, y 1, eq_ix2 y⟩
    rw [h0, h1, h2]
    exact DxRef4.gw_at _ _ _ i j

theorem algebraic5 : Cert.algebraic_Kernel5Ideal_Reference5Ideal (hKernel5Ideal := Cert.Kernel5Ideal.Gen.facts)
    (hReference5Ideal := Cert.Reference5Ideal.Gen.facts) := by
  intro m g m' g' hpre hag
  refine ⟨fun c => (Cert.Kernel5Ideal.Gen.dats m 0 c).arrAt 8 Cert.Kernel5Ideal.cfg0.N, fun c => (Cert.Kernel5Ideal.Gen.dats m 0 c).arrAt 9 Cert.Kernel5Ideal.cfg0.N,
    Cert.Kernel5Ideal.Value.run_blocks (F := Ideal) m g, ?_⟩
  refine (θ_run _ _ _).mono ?_ (Cert.Reference5Ideal.Value.run (F := Ideal) m' g')
  intro r h c
  obtain ⟨e0, e1, h'⟩ := h c
  obtain ⟨h0, h1, h2, h3, h4, h5, h6⟩ := hag c
  refine ⟨(e0.trans (DxRef5.out0_eq m' c)).trans (Dx5.final_gx m c _ (fun i j => ?_) fun i j hi => ?_).symm, e1.trans (Dx5.final_gnw m c _ fun y => ?_).symm, h'⟩
  · refine (DxRef5.over_low _ _ i j).trans ((DxRef5.gxV_at _ _ _ _ _ i j).trans ?_)
    unfold DxRef5.A0 DxRef5.A1 DxRef5.A2 DxRef5.A3 DxRef5.A4
    rw [h0, h1, h2, h3, h4]
  · refine (DxRef5.over_up _ _ i j hi).trans ?_
    unfold DxRef5.A5
    rw [h5]
  · obtain ⟨i, j, rfl⟩ : ∃ (i : Fin 8) (j : Fin 2048), y = ix2 i j := ⟨y 0, y 1, eq_ix2 y⟩
    rw [h0, h1, h2, h6]
    exact DxRef5.gnw_at _ _ _ _ i j

/-! ## The input projection -/

theorem algebraic6 : Cert.algebraic_Kernel6Ideal_Reference6Ideal (hKernel6Ideal := Cert.Kernel6Ideal.Gen.facts)
    (hReference6Ideal := Cert.Reference6Ideal.Gen.facts) := by
  intro m g m' g' hpre hag
  refine ⟨fun c => (InProj.dats m 0 c).arrAt 3 Cert.Kernel6Ideal.cfg0.N, fun c => (InProj.dats m 0 c).arrAt 4 Cert.Kernel6Ideal.cfg0.N,
    InProj.results (F := Ideal) m g, ?_⟩
  refine (θ_run _ _ _).mono ?_ (Cert.Reference6Ideal.Value.run (F := Ideal) m' g')
  intro r h c
  obtain ⟨e0, e1, h'⟩ := h c
  obtain ⟨h0, h1, h2⟩ := hag c
  refine ⟨e0.trans (InProjVal.final_main m c _ (fun i j hj => ?_) fun i j hj => ?_).symm, e1.trans (InProjVal.final_gates m c _ fun i l => ?_).symm, h'⟩
  · refine (InProjRef.beside_new _ (InProjRef.cut (InProjRef.prodV _ _)) i j hj).trans ?_
    rw [InProjRef.cut_at, InProjRef.prod_at, h0, h1]
    rfl
  · refine (InProjRef.beside_old _ (InProjRef.cut (InProjRef.prodV _ _)) i j hj).trans ?_
    rw [h2]
  · refine (InProjRef.gates_at (InProjRef.prodV _ _) i l).trans ?_
    simp only [InProjRef.prod_at]
    rw [h0, h1]
    rfl

/-! ## The optimiser's step of the output projection's weights -/

theorem algebraic7 : Cert.algebraic_Kernel7Ideal_Reference7Ideal (hKernel7Ideal := Cert.Kernel7Ideal.Gen.facts)
    (hReference7Ideal := Cert.Reference7Ideal.Gen.facts) := by
  intro m g m' g' hpre hag
  refine ⟨fun c => (Cert.Kernel7Ideal.Gen.dats m 0 c).arrAt 5 Cert.Kernel7Ideal.cfg0.N, fun c => (Cert.Kernel7Ideal.Gen.dats m 0 c).arrAt 6 Cert.Kernel7Ideal.cfg0.N,
    fun c => (Cert.Kernel7Ideal.Gen.dats m 0 c).arrAt 7 Cert.Kernel7Ideal.cfg0.N, fun c => (Cert.Kernel7Ideal.Gen.dats m 0 c).arrAt 8 Cert.Kernel7Ideal.cfg0.N, Cert.Kernel7Ideal.Value.run_blocks (F := Ideal) m g, ?_⟩
  refine (θ_run _ _ _).mono ?_ (Cert.Reference7Ideal.Value.run (F := Ideal) m' g')
  intro r h c
  obtain ⟨e0, e1, e2, e3, h'⟩ := h c
  obtain ⟨h0, h1, h2, h3, h4⟩ := hag c
  rw [h0, h1] at e0
  rw [h0, h1, h2, h3, h4] at e1
  rw [h0, h1, h3] at e2
  rw [h0, h1, h4] at e3
  exact ⟨e0.trans (Adam7.final5 m c _ fun i j => AdamRef7.grad_at i j _ _).symm,
    e1.trans (Adam7.final6 m c _ fun i j => AdamRef7.step_of i j _ _ _ _ _).symm,
    e2.trans (Adam7.final7 m c _ fun i j => AdamRef7.mom_of i j _ _ _).symm,
    e3.trans (Adam7.final8 m c _ fun i j => AdamRef7.mom2_of i j _ _ _).symm, h'⟩

/-! ## The optimiser's step of the input projection's weights -/

theorem algebraic8 : Cert.algebraic_Kernel8Ideal_Reference8Ideal (hKernel8Ideal := Cert.Kernel8Ideal.Gen.facts)
    (hReference8Ideal := Cert.Reference8Ideal.Gen.facts) := by
  intro m g m' g' hpre hag
  refine ⟨fun c => (Cert.Kernel8Ideal.Gen.dats m 0 c).arrAt 5 Cert.Kernel8Ideal.cfg0.N, fun c => (Cert.Kernel8Ideal.Gen.dats m 0 c).arrAt 6 Cert.Kernel8Ideal.cfg0.N,
    fun c => (Cert.Kernel8Ideal.Gen.dats m 0 c).arrAt 7 Cert.Kernel8Ideal.cfg0.N, fun c => (Cert.Kernel8Ideal.Gen.dats m 0 c).arrAt 8 Cert.Kernel8Ideal.cfg0.N, Cert.Kernel8Ideal.Value.run_blocks (F := Ideal) m g, ?_⟩
  refine (θ_run _ _ _).mono ?_ (Cert.Reference8Ideal.Value.run (F := Ideal) m' g')
  intro r h c
  obtain ⟨e0, e1, e2, e3, h'⟩ := h c
  obtain ⟨h0, h1, h2, h3, h4⟩ := hag c
  rw [h0, h1] at e0
  rw [h0, h1, h2, h3, h4] at e1
  rw [h0, h1, h3] at e2
  rw [h0, h1, h4] at e3
  exact ⟨e0.trans (Adam8.final5 m c _ fun i j => AdamRef8.grad_at i j _ _).symm,
    e1.trans (Adam8.final6 m c _ fun i j => AdamRef8.step_of i j _ _ _ _ _).symm,
    e2.trans (Adam8.final7 m c _ fun i j => AdamRef8.mom_of i j _ _ _).symm,
    e3.trans (Adam8.final8 m c _ fun i j => AdamRef8.mom2_of i j _ _ _).symm, h'⟩

/-! ## The mixers' forward call -/

theorem algebraic9 : Cert.algebraic_Kernel9Ideal_Reference9Ideal (hKernel9Ideal := Cert.Kernel9Ideal.Gen.facts)
    (hReference9Ideal := Cert.Reference9Ideal.Gen.facts) := by
  intro m g m' g' hpre hag
  refine ⟨fun c => (Cert.Kernel9Ideal.Gen.dats m 0 c).arrAt 10 Cert.Kernel9Ideal.cfg0.N, Cert.Kernel9Ideal.Value.run_blocks (F := Ideal) m g, ?_⟩
  refine (θ_run _ _ _).mono ?_ (Cert.Reference9Ideal.Value.run (F := Ideal) m' g')
  intro r h c
  obtain ⟨e0, h'⟩ := h c
  obtain ⟨h0, h1, h2, h3, h4, h5, h6⟩ := hag c
  rw [MixRef.result, h0, h1, h2, h3, h4, h5, h6] at e0
  exact ⟨e0.trans (MixVal.final m c _ (fun n i k j => MixRef.left _ _ _ _ _ _ _ n i k j) (fun n i k j => MixRef.right _ _ _ _ _ _ _ n i k j)).symm, h'⟩

/-! ## The claim -/

theorem frame_r2 : Cert.quiescent_Reference2Ideal (hReference2Ideal := Cert.Reference2Ideal.Gen.facts) := fun m g _ =>
  (θ_run _ _ _).mono (fun r h => ⟨fun c => (h c).2.2.2.2.2, sem_eq_zero_of_no_sems (by decide) r.2⟩) (Cert.Reference2Ideal.Value.run (F := Ideal) m g)

theorem frame_r3 : Cert.quiescent_Reference3Ideal (hReference3Ideal := Cert.Reference3Ideal.Gen.facts) := fun m g _ =>
  (θ_run _ _ _).mono (fun r h => ⟨fun c => (h c).2, sem_eq_zero_of_no_sems (by decide) r.2⟩) (Cert.Reference3Ideal.Value.run (F := Ideal) m g)

theorem frame_r4 : Cert.quiescent_Reference4Ideal (hReference4Ideal := Cert.Reference4Ideal.Gen.facts) := fun m g _ =>
  (θ_run _ _ _).mono (fun r h => ⟨fun c => (h c).2.2, sem_eq_zero_of_no_sems (by decide) r.2⟩) (Cert.Reference4Ideal.Value.run (F := Ideal) m g)

theorem frame_r5 : Cert.quiescent_Reference5Ideal (hReference5Ideal := Cert.Reference5Ideal.Gen.facts) := fun m g _ =>
  (θ_run _ _ _).mono (fun r h => ⟨fun c => (h c).2.2, sem_eq_zero_of_no_sems (by decide) r.2⟩) (Cert.Reference5Ideal.Value.run (F := Ideal) m g)

/-- The two programs' body tables are one: their bodies have the same text. -/
theorem bodies6 : @Cert.Kernel6.defs₀ Bits _ Cert.Kernel6.Gen.facts = @Cert.Kernel6Ideal.defs₀ Bits _ Cert.Kernel6Ideal.Gen.facts :=
  congrArg Defs.onTc (funext fun l => match l with
    | 0 => funext fun ⟨_, _⟩ => rfl)

theorem defs6 : @Cert.Kernel6.defs Bits _ Cert.Kernel6.Gen.facts = @Cert.Kernel6Ideal.defs Bits _ Cert.Kernel6Ideal.Gen.facts :=
  congrArg (Pipeline.defs _) bodies6

theorem frame_k6 : Cert.quiescent_Kernel6 (hKernel6 := Cert.Kernel6.Gen.facts) := by
  intro m g _
  rw [defs6]
  exact InProj.frame (F := Bits) m g

theorem frame_r6 : Cert.quiescent_Reference6Ideal (hReference6Ideal := Cert.Reference6Ideal.Gen.facts) := fun m g _ =>
  (θ_run _ _ _).mono (fun r h => ⟨fun c => (h c).2.2, sem_eq_zero_of_no_sems (by decide) r.2⟩) (Cert.Reference6Ideal.Value.run (F := Ideal) m g)

theorem frame_r7 : Cert.quiescent_Reference7Ideal (hReference7Ideal := Cert.Reference7Ideal.Gen.facts) := fun m g _ =>
  (θ_run _ _ _).mono (fun r h => ⟨fun c => (h c).2.2.2.2, sem_eq_zero_of_no_sems (by decide) r.2⟩) (Cert.Reference7Ideal.Value.run (F := Ideal) m g)

theorem frame_r8 : Cert.quiescent_Reference8Ideal (hReference8Ideal := Cert.Reference8Ideal.Gen.facts) := fun m g _ =>
  (θ_run _ _ _).mono (fun r h => ⟨fun c => (h c).2.2.2.2, sem_eq_zero_of_no_sems (by decide) r.2⟩) (Cert.Reference8Ideal.Value.run (F := Ideal) m g)

theorem frame_r9 : Cert.quiescent_Reference9Ideal (hReference9Ideal := Cert.Reference9Ideal.Gen.facts) := fun m g _ =>
  (θ_run _ _ _).mono (fun r h => ⟨fun c => (h c).2, sem_eq_zero_of_no_sems (by decide) r.2⟩) (Cert.Reference9Ideal.Value.run (F := Ideal) m g)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts, Finite.facts,
    fun m g _ => Cert.Kernel.Gen.frame m g, fun m g _ => Cert.KernelIdeal.Gen.frame m g, fun m g _ => Cert.KernelIdeal.Gen.frame m g,
    fun m g _ => frame_r m g, fun m g _ => frame_r m g,
    fun m g _ => Cert.Kernel2.Gen.frame m g, fun m g _ => Cert.Kernel2Ideal.Gen.frame m g, frame_r2,
    fun m g _ => Cert.Kernel3.Gen.frame m g, fun m g _ => Cert.Kernel3Ideal.Gen.frame m g, frame_r3,
    fun m g _ => Cert.Kernel4.Gen.frame m g, fun m g _ => Cert.Kernel4Ideal.Gen.frame m g, frame_r4,
    fun m g _ => Cert.Kernel5.Gen.frame m g, fun m g _ => Cert.Kernel5Ideal.Gen.frame m g, frame_r5,
    frame_k6, fun m g _ => InProj.frame m g, frame_r6,
    fun m g _ => Cert.Kernel7.Gen.frame m g, fun m g _ => Cert.Kernel7Ideal.Gen.frame m g, frame_r7,
    fun m g _ => Cert.Kernel8.Gen.frame m g, fun m g _ => Cert.Kernel8Ideal.Gen.frame m g, frame_r8,
    fun m g _ => Cert.Kernel9.Gen.frame m g, fun m g _ => Cert.Kernel9Ideal.Gen.frame m g, frame_r9,
    trivial, algebraic, trivial, algebraic2, trivial, algebraic3, trivial, algebraic4, trivial, algebraic5, trivial, algebraic6,
    trivial, algebraic7, trivial, algebraic8, trivial, algebraic9⟩

end Cert.Proof

end
